-- ==== Defs.lean ====
def Pre_Band (m : (ℓ : Loc Cert.Band.nD Cert.Band.τ Cert.Band.sig) → Buf (Elt Bits) ℓ) : Prop :=
  True

def Pre_BandIdeal (m : (ℓ : Loc Cert.BandIdeal.nD Cert.BandIdeal.τ Cert.BandIdeal.sig) → Buf (Elt Ideal) ℓ) : Prop :=
  True

def Pre_BandIdeal_finite [hPre_finite : Cert.Pre_finite.Facts] (m : (ℓ : Loc Cert.BandIdeal.nD Cert.BandIdeal.τ Cert.BandIdeal.sig) → Buf (Elt Ideal) ℓ) : Prop :=
  ∀ c : Dev Cert.BandIdeal.nD,
    (Cert.Pre_finite.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1))).1 = (fun _ => 1#1)
    ∧ (Cert.Pre_finite.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1))).2 = (fun _ => 1#1)

def Pre_BandRefIdeal (m : (ℓ : Loc Cert.BandRefIdeal.nD Cert.BandRefIdeal.τ Cert.BandRefIdeal.sig) → Buf (Elt Ideal) ℓ) : Prop :=
  True

def Pre_BandRefIdeal_finite [hPre_finite : Cert.Pre_finite.Facts] (m : (ℓ : Loc Cert.BandRefIdeal.nD Cert.BandRefIdeal.τ Cert.BandRefIdeal.sig) → Buf (Elt Ideal) ℓ) : Prop :=
  ∀ c : Dev Cert.BandRefIdeal.nD,
    (Cert.Pre_finite.fn (F := Ideal) (m ((c.tc : Thread Cert.BandRefIdeal.nD Cert.BandRefIdeal.τ).loc Cert.BandRefIdeal.main_arg0)) (m ((c.tc : Thread Cert.BandRefIdeal.nD Cert.BandRefIdeal.τ).loc Cert.BandRefIdeal.main_arg1))).1 = (fun _ => 1#1)
    ∧ (Cert.Pre_finite.fn (F := Ideal) (m ((c.tc : Thread Cert.BandRefIdeal.nD Cert.BandRefIdeal.τ).loc Cert.BandRefIdeal.main_arg0)) (m ((c.tc : Thread Cert.BandRefIdeal.nD Cert.BandRefIdeal.τ).loc Cert.BandRefIdeal.main_arg1))).2 = (fun _ => 1#1)

def Pre_Even (m : (ℓ : Loc Cert.Even.nD Cert.Even.τ Cert.Even.sig) → Buf (Elt Bits) ℓ) : Prop :=
  True

def Pre_EvenIdeal (m : (ℓ : Loc Cert.EvenIdeal.nD Cert.EvenIdeal.τ Cert.EvenIdeal.sig) → Buf (Elt Ideal) ℓ) : Prop :=
  True

def Pre_EvenRefIdeal (m : (ℓ : Loc Cert.EvenRefIdeal.nD Cert.EvenRefIdeal.τ Cert.EvenRefIdeal.sig) → Buf (Elt Ideal) ℓ) : Prop :=
  True

def Pre_Odd (m : (ℓ : Loc Cert.Odd.nD Cert.Odd.τ Cert.Odd.sig) → Buf (Elt Bits) ℓ) : Prop :=
  True

def Pre_OddIdeal (m : (ℓ : Loc Cert.OddIdeal.nD Cert.OddIdeal.τ Cert.OddIdeal.sig) → Buf (Elt Ideal) ℓ) : Prop :=
  True

def Pre_OddRefIdeal (m : (ℓ : Loc Cert.OddRefIdeal.nD Cert.OddRefIdeal.τ Cert.OddRefIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryRefIdeal (m : (ℓ : Loc Cert.MemoryRefIdeal.nD Cert.MemoryRefIdeal.τ Cert.MemoryRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def quiescent_Band [hBand : Cert.Band.Facts] : Prop :=
  ∀ (m : (ℓ : Loc Cert.Band.nD Cert.Band.τ Cert.Band.sig) → Buf (Elt Bits) ℓ) (g : Dev Cert.Band.nD → PrngReg), Pre_Band m →
    θ_run (Cert.Band.defs (F := Bits)) (onTc (τ := Cert.Band.τ) (Cert.Band.main (F := Bits))) ⟨m, fun _ => 0, g⟩ (fun r => (∀ c : Dev Cert.Band.nD,
      r.2.mem ((c.tc : Thread Cert.Band.nD Cert.Band.τ).loc Cert.Band.main_arg0) = m ((c.tc : Thread Cert.Band.nD Cert.Band.τ).loc Cert.Band.main_arg0)
      ∧ r.2.mem ((c.tc : Thread Cert.Band.nD Cert.Band.τ).loc Cert.Band.main_arg1) = m ((c.tc : Thread Cert.Band.nD Cert.Band.τ).loc Cert.Band.main_arg1))
      ∧ r.2.sem = fun _ => 0)

def quiescent_BandIdeal [hBandIdeal : Cert.BandIdeal.Facts] : Prop :=
  ∀ (m : (ℓ : Loc Cert.BandIdeal.nD Cert.BandIdeal.τ Cert.BandIdeal.sig) → Buf (Elt Ideal) ℓ) (g : Dev Cert.BandIdeal.nD → PrngReg), Pre_BandIdeal m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1))
      ∧ r.2.sem = fun _ => 0)

def quiescent_BandIdeal_pre_finite [hBandIdeal : Cert.BandIdeal.Facts] [hPre_finite : Cert.Pre_finite.Facts] : Prop :=
  ∀ (m : (ℓ : Loc Cert.BandIdeal.nD Cert.BandIdeal.τ Cert.BandIdeal.sig) → Buf (Elt Ideal) ℓ) (g : Dev Cert.BandIdeal.nD → PrngReg), Pre_BandIdeal_finite m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1))
      ∧ r.2.sem = fun _ => 0)

def quiescent_BandRefIdeal [hBandRefIdeal : Cert.BandRefIdeal.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1))
      ∧ r.2.sem = fun _ => 0)

def quiescent_BandRefIdeal_pre_finite [hBandRefIdeal : Cert.BandRefIdeal.Facts] [hPre_finite : Cert.Pre_finite.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal_finite m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1))
      ∧ r.2.sem = fun _ => 0)

def quiescent_Even [hEven : Cert.Even.Facts] : Prop :=
  ∀ (m : (ℓ : Loc Cert.Even.nD Cert.Even.τ Cert.Even.sig) → Buf (Elt Bits) ℓ) (g : Dev Cert.Even.nD → PrngReg), Pre_Even m →
    θ_run (Cert.Even.defs (F := Bits)) (onTc (τ := Cert.Even.τ) (Cert.Even.main (F := Bits))) ⟨m, fun _ => 0, g⟩ (fun r => (∀ c : Dev Cert.Even.nD,
      r.2.mem ((c.tc : Thread Cert.Even.nD Cert.Even.τ).loc Cert.Even.main_arg0) = m ((c.tc : Thread Cert.Even.nD Cert.Even.τ).loc Cert.Even.main_arg0)
      ∧ r.2.mem ((c.tc : Thread Cert.Even.nD Cert.Even.τ).loc Cert.Even.main_arg1) = m ((c.tc : Thread Cert.Even.nD Cert.Even.τ).loc Cert.Even.main_arg1))
      ∧ r.2.sem = fun _ => 0)

def quiescent_EvenIdeal [hEvenIdeal : Cert.EvenIdeal.Facts] : Prop :=
  ∀ (m : (ℓ : Loc Cert.EvenIdeal.nD Cert.EvenIdeal.τ Cert.EvenIdeal.sig) → Buf (Elt Ideal) ℓ) (g : Dev Cert.EvenIdeal.nD → PrngReg), Pre_EvenIdeal m →
    θ_run (Cert.EvenIdeal.defs (F := Ideal)) (onTc (τ := Cert.EvenIdeal.τ) (Cert.EvenIdeal.main (F := Ideal))) ⟨m, fun _ => 0, g⟩ (fun r => (∀ c : Dev Cert.EvenIdeal.nD,
      r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
      ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1))
      ∧ r.2.sem = fun _ => 0)

def quiescent_EvenRefIdeal [hEvenRefIdeal : Cert.EvenRefIdeal.Facts] : Prop :=
  ∀ (m : (ℓ : Loc Cert.EvenRefIdeal.nD Cert.EvenRefIdeal.τ Cert.EvenRefIdeal.sig) → Buf (Elt Ideal) ℓ) (g : Dev Cert.EvenRefIdeal.nD → PrngReg), Pre_EvenRefIdeal m →
    θ_run (Cert.EvenRefIdeal.defs (F := Ideal)) (onTc (τ := Cert.EvenRefIdeal.τ) (Cert.EvenRefIdeal.main (F := Ideal))) ⟨m, fun _ => 0, g⟩ (fun r => (∀ c : Dev Cert.EvenRefIdeal.nD,
      r.2.mem ((c.tc : Thread Cert.EvenRefIdeal.nD Cert.EvenRefIdeal.τ).loc Cert.EvenRefIdeal.main_arg0) = m ((c.tc : Thread Cert.EvenRefIdeal.nD Cert.EvenRefIdeal.τ).loc Cert.EvenRefIdeal.main_arg0)
      ∧ r.2.mem ((c.tc : Thread Cert.EvenRefIdeal.nD Cert.EvenRefIdeal.τ).loc Cert.EvenRefIdeal.main_arg1) = m ((c.tc : Thread Cert.EvenRefIdeal.nD Cert.EvenRefIdeal.τ).loc Cert.EvenRefIdeal.main_arg1))
      ∧ r.2.sem = fun _ => 0)

def quiescent_Odd [hOdd : Cert.Odd.Facts] : Prop :=
  ∀ (m : (ℓ : Loc Cert.Odd.nD Cert.Odd.τ Cert.Odd.sig) → Buf (Elt Bits) ℓ) (g : Dev Cert.Odd.nD → PrngReg), Pre_Odd m →
    θ_run (Cert.Odd.defs (F := Bits)) (onTc (τ := Cert.Odd.τ) (Cert.Odd.main (F := Bits))) ⟨m, fun _ => 0, g⟩ (fun r => (∀ c : Dev Cert.Odd.nD,
      r.2.mem ((c.tc : Thread Cert.Odd.nD Cert.Odd.τ).loc Cert.Odd.main_arg0) = m ((c.tc : Thread Cert.Odd.nD Cert.Odd.τ).loc Cert.Odd.main_arg0)
      ∧ r.2.mem ((c.tc : Thread Cert.Odd.nD Cert.Odd.τ).loc Cert.Odd.main_arg1) = m ((c.tc : Thread Cert.Odd.nD Cert.Odd.τ).loc Cert.Odd.main_arg1))
      ∧ r.2.sem = fun _ => 0)

def quiescent_OddIdeal [hOddIdeal : Cert.OddIdeal.Facts] : Prop :=
  ∀ (m : (ℓ : Loc Cert.OddIdeal.nD Cert.OddIdeal.τ Cert.OddIdeal.sig) → Buf (Elt Ideal) ℓ) (g : Dev Cert.OddIdeal.nD → PrngReg), Pre_OddIdeal m →
    θ_run (Cert.OddIdeal.defs (F := Ideal)) (onTc (τ := Cert.OddIdeal.τ) (Cert.OddIdeal.main (F := Ideal))) ⟨m, fun _ => 0, g⟩ (fun r => (∀ c : Dev Cert.OddIdeal.nD,
      r.2.mem ((c.tc : Thread Cert.OddIdeal.nD Cert.OddIdeal.τ).loc Cert.OddIdeal.main_arg0) = m ((c.tc : Thread Cert.OddIdeal.nD Cert.OddIdeal.τ).loc Cert.OddIdeal.main_arg0)
      ∧ r.2.mem ((c.tc : Thread Cert.OddIdeal.nD Cert.OddIdeal.τ).loc Cert.OddIdeal.main_arg1) = m ((c.tc : Thread Cert.OddIdeal.nD Cert.OddIdeal.τ).loc Cert.OddIdeal.main_arg1))
      ∧ r.2.sem = fun _ => 0)

def quiescent_OddRefIdeal [hOddRefIdeal : Cert.OddRefIdeal.Facts] : Prop :=
  ∀ (m : (ℓ : Loc Cert.OddRefIdeal.nD Cert.OddRefIdeal.τ Cert.OddRefIdeal.sig) → Buf (Elt Ideal) ℓ) (g : Dev Cert.OddRefIdeal.nD → PrngReg), Pre_OddRefIdeal m →
    θ_run (Cert.OddRefIdeal.defs (F := Ideal)) (onTc (τ := Cert.OddRefIdeal.τ) (Cert.OddRefIdeal.main (F := Ideal))) ⟨m, fun _ => 0, g⟩ (fun r => (∀ c : Dev Cert.OddRefIdeal.nD,
      r.2.mem ((c.tc : Thread Cert.OddRefIdeal.nD Cert.OddRefIdeal.τ).loc Cert.OddRefIdeal.main_arg0) = m ((c.tc : Thread Cert.OddRefIdeal.nD Cert.OddRefIdeal.τ).loc Cert.OddRefIdeal.main_arg0)
      ∧ r.2.mem ((c.tc : Thread Cert.OddRefIdeal.nD Cert.OddRefIdeal.τ).loc Cert.OddRefIdeal.main_arg1) = m ((c.tc : Thread Cert.OddRefIdeal.nD Cert.OddRefIdeal.τ).loc Cert.OddRefIdeal.main_arg1))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1))
      ∧ r.2.sem = fun _ => 0)

def quiescent_MemoryRefIdeal [hMemoryRefIdeal : Cert.MemoryRefIdeal.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def preserves_Band_BandIdeal : Prop :=
  IdealRules.named_const.Statement Cert.BandIdeal.κ "mask" .f32 0xF149F2CA#32 ⊥

def algebraic_BandIdeal_BandRefIdeal_pre_finite [hBandIdeal : Cert.BandIdeal.Facts] [hBandRefIdeal : Cert.BandRefIdeal.Facts] [hPre_finite : Cert.Pre_finite.Facts] : Prop :=
  ∀ (m : (ℓ : Loc Cert.BandIdeal.nD Cert.BandIdeal.τ Cert.BandIdeal.sig) → Buf (Elt Ideal) ℓ) (g : Dev Cert.BandIdeal.nD → PrngReg)
    (m' : (ℓ : Loc Cert.BandRefIdeal.nD Cert.BandRefIdeal.τ Cert.BandRefIdeal.sig) → Buf (Elt Ideal) ℓ) (g' : Dev Cert.BandRefIdeal.nD → PrngReg), Pre_BandIdeal_finite m →
    (∀ c : Dev Cert.BandIdeal.nD,
      m' ((c.tc : Thread Cert.BandRefIdeal.nD Cert.BandRefIdeal.τ).loc Cert.BandRefIdeal.main_arg0) = m ((c.tc : Thread Cert.BandIdeal.nD Cert.BandIdeal.τ).loc Cert.BandIdeal.main_arg0)
      ∧ m' ((c.tc : Thread Cert.BandRefIdeal.nD Cert.BandRefIdeal.τ).loc Cert.BandRefIdeal.main_arg1) = m ((c.tc : Thread Cert.BandIdeal.nD Cert.BandIdeal.τ).loc Cert.BandIdeal.main_arg1)) →
    ∃ (v0 : (c : Dev Cert.BandIdeal.nD) → Buf (Elt Ideal) ((c.tc : Thread Cert.BandIdeal.nD Cert.BandIdeal.τ).loc Cert.BandIdeal.main_v272)),
      θ_run (Cert.BandIdeal.defs (F := Ideal)) (onTc (τ := Cert.BandIdeal.τ) (Cert.BandIdeal.main (F := Ideal))) ⟨m, fun _ => 0, g⟩ (fun r => ∀ c : Dev Cert.BandIdeal.nD,
          r.2.mem ((c.tc : Thread Cert.BandIdeal.nD Cert.BandIdeal.τ).loc Cert.BandIdeal.main_v272) = v0 c
          ∧ r.2.mem ((c.tc : Thread Cert.BandIdeal.nD Cert.BandIdeal.τ).loc Cert.BandIdeal.main_arg0) = m ((c.tc : Thread Cert.BandIdeal.nD Cert.BandIdeal.τ).loc Cert.BandIdeal.main_arg0)
          ∧ r.2.mem ((c.tc : Thread Cert.BandIdeal.nD Cert.BandIdeal.τ).loc Cert.BandIdeal.main_arg1) = m ((c.tc : Thread Cert.BandIdeal.nD Cert.BandIdeal.τ).loc Cert.BandIdeal.main_arg1))
      ∧ θ_run (Cert.BandRefIdeal.defs (F := Ideal)) (onTc (τ := Cert.BandRefIdeal.τ) (Cert.BandRefIdeal.main (F := Ideal))) ⟨m', fun _ => 0, g'⟩ (fun r => ∀ c : Dev Cert.BandRefIdeal.nD,
          r.2.mem ((c.tc : Thread Cert.BandRefIdeal.nD Cert.BandRefIdeal.τ).loc Cert.BandRefIdeal.main_v85) = v0 c
          ∧ r.2.mem ((c.tc : Thread Cert.BandRefIdeal.nD Cert.BandRefIdeal.τ).loc Cert.BandRefIdeal.main_arg0) = m' ((c.tc : Thread Cert.BandRefIdeal.nD Cert.BandRefIdeal.τ).loc Cert.BandRefIdeal.main_arg0)
          ∧ r.2.mem ((c.tc : Thread Cert.BandRefIdeal.nD Cert.BandRefIdeal.τ).loc Cert.BandRefIdeal.main_arg1) = m' ((c.tc : Thread Cert.BandRefIdeal.nD Cert.BandRefIdeal.τ).loc Cert.BandRefIdeal.main_arg1))

def preserves_Even_EvenIdeal : Prop :=
  True

def algebraic_EvenIdeal_EvenRefIdeal [hEvenIdeal : Cert.EvenIdeal.Facts] [hEvenRefIdeal : Cert.EvenRefIdeal.Facts] : Prop :=
  ∀ (m : (ℓ : Loc Cert.EvenIdeal.nD Cert.EvenIdeal.τ Cert.EvenIdeal.sig) → Buf (Elt Ideal) ℓ) (g : Dev Cert.EvenIdeal.nD → PrngReg)
    (m' : (ℓ : Loc Cert.EvenRefIdeal.nD Cert.EvenRefIdeal.τ Cert.EvenRefIdeal.sig) → Buf (Elt Ideal) ℓ) (g' : Dev Cert.EvenRefIdeal.nD → PrngReg), Pre_EvenIdeal m →
    (∀ c : Dev Cert.EvenIdeal.nD,
      m' ((c.tc : Thread Cert.EvenRefIdeal.nD Cert.EvenRefIdeal.τ).loc Cert.EvenRefIdeal.main_arg0) = m ((c.tc : Thread Cert.EvenIdeal.nD Cert.EvenIdeal.τ).loc Cert.EvenIdeal.main_arg0)
      ∧ m' ((c.tc : Thread Cert.EvenRefIdeal.nD Cert.EvenRefIdeal.τ).loc Cert.EvenRefIdeal.main_arg1) = m ((c.tc : Thread Cert.EvenIdeal.nD Cert.EvenIdeal.τ).loc Cert.EvenIdeal.main_arg1)) →
    ∃ (v0 : (c : Dev Cert.EvenIdeal.nD) → Buf (Elt Ideal) ((c.tc : Thread Cert.EvenIdeal.nD Cert.EvenIdeal.τ).loc Cert.EvenIdeal.main_v0_0)) (v1 : (c : Dev Cert.EvenIdeal.nD) → Buf (Elt Ideal) ((c.tc : Thread Cert.EvenIdeal.nD Cert.EvenIdeal.τ).loc Cert.EvenIdeal.main_v0_1)),
      θ_run (Cert.EvenIdeal.defs (F := Ideal)) (onTc (τ := Cert.EvenIdeal.τ) (Cert.EvenIdeal.main (F := Ideal))) ⟨m, fun _ => 0, g⟩ (fun r => ∀ c : Dev Cert.EvenIdeal.nD,
          r.2.mem ((c.tc : Thread Cert.EvenIdeal.nD Cert.EvenIdeal.τ).loc Cert.EvenIdeal.main_v0_0) = v0 c
          ∧ r.2.mem ((c.tc : Thread Cert.EvenIdeal.nD Cert.EvenIdeal.τ).loc Cert.EvenIdeal.main_v0_1) = v1 c
          ∧ r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
          ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1))
      ∧ θ_run (Cert.EvenRefIdeal.defs (F := Ideal)) (onTc (τ := Cert.EvenRefIdeal.τ) (Cert.EvenRefIdeal.main (F := Ideal))) ⟨m', fun _ => 0, g'⟩ (fun r => ∀ c : Dev Cert.EvenRefIdeal.nD,
          r.2.mem ((c.tc : Thread Cert.EvenRefIdeal.nD Cert.EvenRefIdeal.τ).loc Cert.EvenRefIdeal.main_v0) = v0 c
          ∧ r.2.mem ((c.tc : Thread Cert.EvenRefIdeal.nD Cert.EvenRefIdeal.τ).loc Cert.EvenRefIdeal.main_v1) = v1 c
          ∧ r.2.mem ((c.tc : Thread Cert.EvenRefIdeal.nD Cert.EvenRefIdeal.τ).loc Cert.EvenRefIdeal.main_arg0) = m' ((c.tc : Thread Cert.EvenRefIdeal.nD Cert.EvenRefIdeal.τ).loc Cert.EvenRefIdeal.main_arg0)
          ∧ r.2.mem ((c.tc : Thread Cert.EvenRefIdeal.nD Cert.EvenRefIdeal.τ).loc Cert.EvenRefIdeal.main_arg1) = m' ((c.tc : Thread Cert.EvenRefIdeal.nD Cert.EvenRefIdeal.τ).loc Cert.EvenRefIdeal.main_arg1))

def preserves_Odd_OddIdeal : Prop :=
  True

def algebraic_OddIdeal_OddRefIdeal [hOddIdeal : Cert.OddIdeal.Facts] [hOddRefIdeal : Cert.OddRefIdeal.Facts] : Prop :=
  ∀ (m : (ℓ : Loc Cert.OddIdeal.nD Cert.OddIdeal.τ Cert.OddIdeal.sig) → Buf (Elt Ideal) ℓ) (g : Dev Cert.OddIdeal.nD → PrngReg)
    (m' : (ℓ : Loc Cert.OddRefIdeal.nD Cert.OddRefIdeal.τ Cert.OddRefIdeal.sig) → Buf (Elt Ideal) ℓ) (g' : Dev Cert.OddRefIdeal.nD → PrngReg), Pre_OddIdeal m →
    (∀ c : Dev Cert.OddIdeal.nD,
      m' ((c.tc : Thread Cert.OddRefIdeal.nD Cert.OddRefIdeal.τ).loc Cert.OddRefIdeal.main_arg0) = m ((c.tc : Thread Cert.OddIdeal.nD Cert.OddIdeal.τ).loc Cert.OddIdeal.main_arg0)
      ∧ m' ((c.tc : Thread Cert.OddRefIdeal.nD Cert.OddRefIdeal.τ).loc Cert.OddRefIdeal.main_arg1) = m ((c.tc : Thread Cert.OddIdeal.nD Cert.OddIdeal.τ).loc Cert.OddIdeal.main_arg1)) →
    ∃ (v0 : (c : Dev Cert.OddIdeal.nD) → Buf (Elt Ideal) ((c.tc : Thread Cert.OddIdeal.nD Cert.OddIdeal.τ).loc Cert.OddIdeal.main_v0_0)) (v1 : (c : Dev Cert.OddIdeal.nD) → Buf (Elt Ideal) ((c.tc : Thread Cert.OddIdeal.nD Cert.OddIdeal.τ).loc Cert.OddIdeal.main_v0_1)),
      θ_run (Cert.OddIdeal.defs (F := Ideal)) (onTc (τ := Cert.OddIdeal.τ) (Cert.OddIdeal.main (F := Ideal))) ⟨m, fun _ => 0, g⟩ (fun r => ∀ c : Dev Cert.OddIdeal.nD,
          r.2.mem ((c.tc : Thread Cert.OddIdeal.nD Cert.OddIdeal.τ).loc Cert.OddIdeal.main_v0_0) = v0 c
          ∧ r.2.mem ((c.tc : Thread Cert.OddIdeal.nD Cert.OddIdeal.τ).loc Cert.OddIdeal.main_v0_1) = v1 c
          ∧ r.2.mem ((c.tc : Thread Cert.OddIdeal.nD Cert.OddIdeal.τ).loc Cert.OddIdeal.main_arg0) = m ((c.tc : Thread Cert.OddIdeal.nD Cert.OddIdeal.τ).loc Cert.OddIdeal.main_arg0)
          ∧ r.2.mem ((c.tc : Thread Cert.OddIdeal.nD Cert.OddIdeal.τ).loc Cert.OddIdeal.main_arg1) = m ((c.tc : Thread Cert.OddIdeal.nD Cert.OddIdeal.τ).loc Cert.OddIdeal.main_arg1))
      ∧ θ_run (Cert.OddRefIdeal.defs (F := Ideal)) (onTc (τ := Cert.OddRefIdeal.τ) (Cert.OddRefIdeal.main (F := Ideal))) ⟨m', fun _ => 0, g'⟩ (fun r => ∀ c : Dev Cert.OddRefIdeal.nD,
          r.2.mem ((c.tc : Thread Cert.OddRefIdeal.nD Cert.OddRefIdeal.τ).loc Cert.OddRefIdeal.main_v0) = v0 c
          ∧ r.2.mem ((c.tc : Thread Cert.OddRefIdeal.nD Cert.OddRefIdeal.τ).loc Cert.OddRefIdeal.main_v1) = v1 c
          ∧ r.2.mem ((c.tc : Thread Cert.OddRefIdeal.nD Cert.OddRefIdeal.τ).loc Cert.OddRefIdeal.main_arg0) = m' ((c.tc : Thread Cert.OddRefIdeal.nD Cert.OddRefIdeal.τ).loc Cert.OddRefIdeal.main_arg0)
          ∧ r.2.mem ((c.tc : Thread Cert.OddRefIdeal.nD Cert.OddRefIdeal.τ).loc Cert.OddRefIdeal.main_arg1) = m' ((c.tc : Thread Cert.OddRefIdeal.nD Cert.OddRefIdeal.τ).loc Cert.OddRefIdeal.main_arg1))

def preserves_Memory_MemoryIdeal : Prop :=
  True

def algebraic_MemoryIdeal_MemoryRefIdeal [hMemoryIdeal : Cert.MemoryIdeal.Facts] [hMemoryRefIdeal : Cert.MemoryRefIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryRefIdeal.nD Cert.MemoryRefIdeal.τ Cert.MemoryRefIdeal.sig) → Buf (Elt Ideal) ℓ) (g' : Dev Cert.MemoryRefIdeal.nD → PrngReg), Pre_MemoryIdeal m →
    (∀ c : Dev Cert.MemoryIdeal.nD,
      m' ((c.tc : Thread Cert.MemoryRefIdeal.nD Cert.MemoryRefIdeal.τ).loc Cert.MemoryRefIdeal.main_arg0) = m ((c.tc : Thread Cert.MemoryIdeal.nD Cert.MemoryIdeal.τ).loc Cert.MemoryIdeal.main_arg0)
      ∧ m' ((c.tc : Thread Cert.MemoryRefIdeal.nD Cert.MemoryRefIdeal.τ).loc Cert.MemoryRefIdeal.main_arg1) = m ((c.tc : Thread Cert.MemoryIdeal.nD Cert.MemoryIdeal.τ).loc Cert.MemoryIdeal.main_arg1)) →
    ∃ (v0 : (c : Dev Cert.MemoryIdeal.nD) → Buf (Elt Ideal) ((c.tc : Thread Cert.MemoryIdeal.nD Cert.MemoryIdeal.τ).loc Cert.MemoryIdeal.main_v2)) (v1 : (c : Dev Cert.MemoryIdeal.nD) → Buf (Elt Ideal) ((c.tc : Thread Cert.MemoryIdeal.nD Cert.MemoryIdeal.τ).loc Cert.MemoryIdeal.main_v3)) (v2 : (c : Dev Cert.MemoryIdeal.nD) → Buf (Elt Ideal) ((c.tc : Thread Cert.MemoryIdeal.nD Cert.MemoryIdeal.τ).loc Cert.MemoryIdeal.main_v4)) (v3 : (c : Dev Cert.MemoryIdeal.nD) → Buf (Elt Ideal) ((c.tc : Thread Cert.MemoryIdeal.nD Cert.MemoryIdeal.τ).loc Cert.MemoryIdeal.main_v5)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v2) = v0 c
          ∧ r.2.mem ((c.tc : Thread Cert.MemoryIdeal.nD Cert.MemoryIdeal.τ).loc Cert.MemoryIdeal.main_v3) = v1 c
          ∧ r.2.mem ((c.tc : Thread Cert.MemoryIdeal.nD Cert.MemoryIdeal.τ).loc Cert.MemoryIdeal.main_v4) = v2 c
          ∧ r.2.mem ((c.tc : Thread Cert.MemoryIdeal.nD Cert.MemoryIdeal.τ).loc Cert.MemoryIdeal.main_v5) = v3 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1))
      ∧ θ_run (Cert.MemoryRefIdeal.defs (F := Ideal)) (onTc (τ := Cert.MemoryRefIdeal.τ) (Cert.MemoryRefIdeal.main (F := Ideal))) ⟨m', fun _ => 0, g'⟩ (fun r => ∀ c : Dev Cert.MemoryRefIdeal.nD,
          r.2.mem ((c.tc : Thread Cert.MemoryRefIdeal.nD Cert.MemoryRefIdeal.τ).loc Cert.MemoryRefIdeal.main_v3) = v0 c
          ∧ r.2.mem ((c.tc : Thread Cert.MemoryRefIdeal.nD Cert.MemoryRefIdeal.τ).loc Cert.MemoryRefIdeal.main_v6) = v1 c
          ∧ r.2.mem ((c.tc : Thread Cert.MemoryRefIdeal.nD Cert.MemoryRefIdeal.τ).loc Cert.MemoryRefIdeal.main_v9) = v2 c
          ∧ r.2.mem ((c.tc : Thread Cert.MemoryRefIdeal.nD Cert.MemoryRefIdeal.τ).loc Cert.MemoryRefIdeal.main_v12) = v3 c
          ∧ r.2.mem ((c.tc : Thread Cert.MemoryRefIdeal.nD Cert.MemoryRefIdeal.τ).loc Cert.MemoryRefIdeal.main_arg0) = m' ((c.tc : Thread Cert.MemoryRefIdeal.nD Cert.MemoryRefIdeal.τ).loc Cert.MemoryRefIdeal.main_arg0)
          ∧ r.2.mem ((c.tc : Thread Cert.MemoryRefIdeal.nD Cert.MemoryRefIdeal.τ).loc Cert.MemoryRefIdeal.main_arg1) = m' ((c.tc : Thread Cert.MemoryRefIdeal.nD Cert.MemoryRefIdeal.τ).loc Cert.MemoryRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v2_0)) (v1 : (c : Dev Cert.OutIdeal.nD) → Buf (Elt Ideal) ((c.tc : Thread Cert.OutIdeal.nD Cert.OutIdeal.τ).loc Cert.OutIdeal.main_v2_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2_0) = v0 c
          ∧ r.2.mem ((c.tc : Thread Cert.OutIdeal.nD Cert.OutIdeal.τ).loc Cert.OutIdeal.main_v2_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v27) = v0 c
          ∧ r.2.mem ((c.tc : Thread Cert.OutRefIdeal.nD Cert.OutRefIdeal.τ).loc Cert.OutRefIdeal.main_v28) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v2_0)) (v1 : (c : Dev Cert.DownIdeal.nD) → Buf (Elt Ideal) ((c.tc : Thread Cert.DownIdeal.nD Cert.DownIdeal.τ).loc Cert.DownIdeal.main_v2_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2_0) = v0 c
          ∧ r.2.mem ((c.tc : Thread Cert.DownIdeal.nD Cert.DownIdeal.τ).loc Cert.DownIdeal.main_v2_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v27) = v0 c
          ∧ r.2.mem ((c.tc : Thread Cert.DownRefIdeal.nD Cert.DownRefIdeal.τ).loc Cert.DownRefIdeal.main_v28) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)) (v2 : (c : Dev Cert.FfnIdeal.nD) → Buf (Elt Ideal) ((c.tc : Thread Cert.FfnIdeal.nD Cert.FfnIdeal.τ).loc Cert.FfnIdeal.main_v0_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_v0_2) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v75) = v0 c
          ∧ r.2.mem ((c.tc : Thread Cert.FfnRefIdeal.nD Cert.FfnRefIdeal.τ).loc Cert.FfnRefIdeal.main_v31) = v1 c
          ∧ r.2.mem ((c.tc : Thread Cert.FfnRefIdeal.nD Cert.FfnRefIdeal.τ).loc Cert.FfnRefIdeal.main_v64) = v2 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def Claim : Prop :=
  ∃ (hBand : Cert.Band.Facts) (hBandIdeal : Cert.BandIdeal.Facts) (hBandRefIdeal : Cert.BandRefIdeal.Facts) (hEven : Cert.Even.Facts) (hEvenIdeal : Cert.EvenIdeal.Facts) (hEvenRefIdeal : Cert.EvenRefIdeal.Facts) (hOdd : Cert.Odd.Facts) (hOddIdeal : Cert.OddIdeal.Facts) (hOddRefIdeal : Cert.OddRefIdeal.Facts) (hMemory : Cert.Memory.Facts) (hMemoryIdeal : Cert.MemoryIdeal.Facts) (hMemoryRefIdeal : Cert.MemoryRefIdeal.Facts) (hOut : Cert.Out.Facts) (hOutIdeal : Cert.OutIdeal.Facts) (hOutRefIdeal : Cert.OutRefIdeal.Facts) (hDown : Cert.Down.Facts) (hDownIdeal : Cert.DownIdeal.Facts) (hDownRefIdeal : Cert.DownRefIdeal.Facts) (hFfn : Cert.Ffn.Facts) (hFfnIdeal : Cert.FfnIdeal.Facts) (hFfnRefIdeal : Cert.FfnRefIdeal.Facts) (hPre_finite : Cert.Pre_finite.Facts),
    quiescent_Band (hBand := hBand)
    ∧ quiescent_BandIdeal (hBandIdeal := hBandIdeal)
    ∧ quiescent_BandIdeal_pre_finite (hBandIdeal := hBandIdeal) (hPre_finite := hPre_finite)
    ∧ quiescent_BandRefIdeal (hBandRefIdeal := hBandRefIdeal)
    ∧ quiescent_BandRefIdeal_pre_finite (hBandRefIdeal := hBandRefIdeal) (hPre_finite := hPre_finite)
    ∧ quiescent_Even (hEven := hEven)
    ∧ quiescent_EvenIdeal (hEvenIdeal := hEvenIdeal)
    ∧ quiescent_EvenRefIdeal (hEvenRefIdeal := hEvenRefIdeal)
    ∧ quiescent_Odd (hOdd := hOdd)
    ∧ quiescent_OddIdeal (hOddIdeal := hOddIdeal)
    ∧ quiescent_OddRefIdeal (hOddRefIdeal := hOddRefIdeal)
    ∧ quiescent_Memory (hMemory := hMemory)
    ∧ quiescent_MemoryIdeal (hMemoryIdeal := hMemoryIdeal)
    ∧ quiescent_MemoryRefIdeal (hMemoryRefIdeal := hMemoryRefIdeal)
    ∧ quiescent_Out (hOut := hOut)
    ∧ quiescent_OutIdeal (hOutIdeal := hOutIdeal)
    ∧ quiescent_OutRefIdeal (hOutRefIdeal := hOutRefIdeal)
    ∧ quiescent_Down (hDown := hDown)
    ∧ quiescent_DownIdeal (hDownIdeal := hDownIdeal)
    ∧ quiescent_DownRefIdeal (hDownRefIdeal := hDownRefIdeal)
    ∧ quiescent_Ffn (hFfn := hFfn)
    ∧ quiescent_FfnIdeal (hFfnIdeal := hFfnIdeal)
    ∧ quiescent_FfnRefIdeal (hFfnRefIdeal := hFfnRefIdeal)
    ∧ preserves_Band_BandIdeal
    ∧ algebraic_BandIdeal_BandRefIdeal_pre_finite (hBandIdeal := hBandIdeal) (hBandRefIdeal := hBandRefIdeal) (hPre_finite := hPre_finite)
    ∧ preserves_Even_EvenIdeal
    ∧ algebraic_EvenIdeal_EvenRefIdeal (hEvenIdeal := hEvenIdeal) (hEvenRefIdeal := hEvenRefIdeal)
    ∧ preserves_Odd_OddIdeal
    ∧ algebraic_OddIdeal_OddRefIdeal (hOddIdeal := hOddIdeal) (hOddRefIdeal := hOddRefIdeal)
    ∧ preserves_Memory_MemoryIdeal
    ∧ algebraic_MemoryIdeal_MemoryRefIdeal (hMemoryIdeal := hMemoryIdeal) (hMemoryRefIdeal := hMemoryRefIdeal)
    ∧ preserves_Out_OutIdeal
    ∧ algebraic_OutIdeal_OutRefIdeal (hOutIdeal := hOutIdeal) (hOutRefIdeal := hOutRefIdeal)
    ∧ preserves_Down_DownIdeal
    ∧ algebraic_DownIdeal_DownRefIdeal (hDownIdeal := hDownIdeal) (hDownRefIdeal := hDownRefIdeal)
    ∧ preserves_Ffn_FfnIdeal
    ∧ algebraic_FfnIdeal_FfnRefIdeal (hFfnIdeal := hFfnIdeal) (hFfnRefIdeal := hFfnRefIdeal)
-- ==== Pre_finite.lean ====
abbrev S8192x12288 : Shape := ⟨2, ![8192, 12288]⟩
abbrev S16x257 : Shape := ⟨2, ![16, 257]⟩
abbrev S_ : Shape := ⟨0, ![]⟩

class Facts : Prop where
  bitsLt_bf16_f32 : FTy.bits .bf16 < FTy.bits .f32
  bcast_S_S8192x12288 : S_.BroadcastsInDim S8192x12288 (![] : Fin 0 → Fin S8192x12288.rank)
  bcast_S_S16x257 : S_.BroadcastsInDim S16x257 (![] : Fin 0 → Fin S16x257.rank)

variable [Facts]

def fn {F : FTy → Type} [FloatOps F] (main_arg0 : FVec F S8192x12288 .bf16) (main_arg1 : FVec F S16x257 .f32) : IVec S8192x12288 1 × IVec S16x257 1 :=
  let main_v0 : FVec F S8192x12288 .f32 := (extf .f32 · bitsLt_bf16_f32) main_arg0
  let main_v1 : FVec F S8192x12288 .f32 := Host.absf main_v0
  let main_cst : FVec F S_ .f32 := constant S_ .f32 0x7F800000#32
  let main_v2 : FVec F S8192x12288 .f32 := broadcastInDim S8192x12288 ![] bcast_S_S8192x12288 main_cst
  let main_v3 : IVec S8192x12288 1 := cmpf .olt main_v1 main_v2
  let main_v4 : FVec F S16x257 .f32 := Host.absf main_arg1
  let main_cst_0 : FVec F S_ .f32 := constant S_ .f32 0x7F800000#32
  let main_v5 : FVec F S16x257 .f32 := broadcastInDim S16x257 ![] bcast_S_S16x257 main_cst_0
  let main_v6 : IVec S16x257 1 := cmpf .olt main_v4 main_v5
  (main_v3, main_v6)
-- ==== Band.lean ====
abbrev S8192x12288 : Shape := ⟨2, ![8192, 12288]⟩
abbrev S16x257 : Shape := ⟨2, ![16, 257]⟩
abbrev S767 : Shape := ⟨1, ![767]⟩
abbrev S128x640 : Shape := ⟨2, ![128, 640]⟩
abbrev S_ : Shape := ⟨0, ![]⟩
abbrev S767x1 : Shape := ⟨2, ![767, 1]⟩
abbrev S16x767 : Shape := ⟨2, ![16, 767]⟩
abbrev S16x640 : Shape := ⟨2, ![16, 640]⟩
abbrev S16x1x640 : Shape := ⟨3, ![16, 1, 640]⟩
abbrev S16x16x640 : Shape := ⟨3, ![16, 16, 640]⟩
abbrev S16x128x640 : Shape := ⟨3, ![16, 128, 640]⟩
abbrev S1x128x640 : Shape := ⟨3, ![1, 128, 640]⟩
abbrev S8192x2048 : Shape := ⟨2, ![8192, 2048]⟩
abbrev S128x1024 : Shape := ⟨2, ![128, 1024]⟩
abbrev S4096x1024 : Shape := ⟨2, ![4096, 1024]⟩
abbrev S8x128x640 : Shape := ⟨3, ![8, 128, 640]⟩
abbrev S128x128 : Shape := ⟨2, ![128, 128]⟩
abbrev S1024x128 : Shape := ⟨2, ![1024, 128]⟩
abbrev S1024x640 : Shape := ⟨2, ![1024, 640]⟩
abbrev S1x640 : Shape := ⟨2, ![1, 640]⟩
abbrev S1024 : Shape := ⟨1, ![1024]⟩
abbrev S1024x1 : Shape := ⟨2, ![1024, 1]⟩
abbrev S128x1 : Shape := ⟨2, ![128, 1]⟩

abbrev nBuf : Space → Nat
  | .hbm => 283
  | .vmem => 10
  | .smem => 0
  | _ => 0

abbrev hbmTy0_0 (i : Nat) : BufTy := match i % 128 with
  | 0 => ⟨S8192x12288, .bf16⟩
  | 1 => ⟨S16x257, .f32⟩
  | 2 => ⟨S767, .i32⟩
  | 3 => ⟨S767, .i1⟩
  | 4 => ⟨S128x640, .i1⟩
  | 5 => ⟨S_, .i32⟩
  | 6 => ⟨S767, .i32⟩
  | 7 => ⟨S767, .i32⟩
  | 8 => ⟨S767, .i32⟩
  | 9 => ⟨S767x1, .i32⟩
  | 10 => ⟨S16x767, .f32⟩
  | 11 => ⟨S16x640, .f32⟩
  | 12 => ⟨S16x640, .f32⟩
  | 13 => ⟨S16x640, .f32⟩
  | 14 => ⟨S16x640, .f32⟩
  | 15 => ⟨S16x640, .f32⟩
  | 16 => ⟨S16x640, .f32⟩
  | 17 => ⟨S16x640, .f32⟩
  | 18 => ⟨S16x640, .f32⟩
  | 19 => ⟨S16x640, .f32⟩
  | 20 => ⟨S16x640, .f32⟩
  | 21 => ⟨S16x640, .f32⟩
  | 22 => ⟨S16x640, .f32⟩
  | 23 => ⟨S16x640, .f32⟩
  | 24 => ⟨S16x640, .f32⟩
  | 25 => ⟨S16x640, .f32⟩
  | 26 => ⟨S16x640, .f32⟩
  | 27 => ⟨S16x640, .f32⟩
  | 28 => ⟨S16x640, .f32⟩
  | 29 => ⟨S16x640, .f32⟩
  | 30 => ⟨S16x640, .f32⟩
  | 31 => ⟨S16x640, .f32⟩
  | 32 => ⟨S16x640, .f32⟩
  | 33 => ⟨S16x640, .f32⟩
  | 34 => ⟨S16x640, .f32⟩
  | 35 => ⟨S16x640, .f32⟩
  | 36 => ⟨S16x640, .f32⟩
  | 37 => ⟨S16x640, .f32⟩
  | 38 => ⟨S16x640, .f32⟩
  | 39 => ⟨S16x640, .f32⟩
  | 40 => ⟨S16x640, .f32⟩
  | 41 => ⟨S16x640, .f32⟩
  | 42 => ⟨S16x640, .f32⟩
  | 43 => ⟨S16x640, .f32⟩
  | 44 => ⟨S16x640, .f32⟩
  | 45 => ⟨S16x640, .f32⟩
  | 46 => ⟨S16x640, .f32⟩
  | 47 => ⟨S16x640, .f32⟩
  | 48 => ⟨S16x640, .f32⟩
  | 49 => ⟨S16x640, .f32⟩
  | 50 => ⟨S16x640, .f32⟩
  | 51 => ⟨S16x640, .f32⟩
  | 52 => ⟨S16x640, .f32⟩
  | 53 => ⟨S16x640, .f32⟩
  | 54 => ⟨S16x640, .f32⟩
  | 55 => ⟨S16x640, .f32⟩
  | 56 => ⟨S16x640, .f32⟩
  | 57 => ⟨S16x640, .f32⟩
  | 58 => ⟨S16x640, .f32⟩
  | 59 => ⟨S16x640, .f32⟩
  | 60 => ⟨S16x640, .f32⟩
  | 61 => ⟨S16x640, .f32⟩
  | 62 => ⟨S16x640, .f32⟩
  | 63 => ⟨S16x640, .f32⟩
  | 64 => ⟨S16x640, .f32⟩
  | 65 => ⟨S16x640, .f32⟩
  | 66 => ⟨S16x640, .f32⟩
  | 67 => ⟨S16x640, .f32⟩
  | 68 => ⟨S16x640, .f32⟩
  | 69 => ⟨S16x640, .f32⟩
  | 70 => ⟨S16x640, .f32⟩
  | 71 => ⟨S16x640, .f32⟩
  | 72 => ⟨S16x640, .f32⟩
  | 73 => ⟨S16x640, .f32⟩
  | 74 => ⟨S16x640, .f32⟩
  | 75 => ⟨S16x640, .f32⟩
  | 76 => ⟨S16x640, .f32⟩
  | 77 => ⟨S16x640, .f32⟩
  | 78 => ⟨S16x640, .f32⟩
  | 79 => ⟨S16x640, .f32⟩
  | 80 => ⟨S16x640, .f32⟩
  | 81 => ⟨S16x640, .f32⟩
  | 82 => ⟨S16x640, .f32⟩
  | 83 => ⟨S16x640, .f32⟩
  | 84 => ⟨S16x640, .f32⟩
  | 85 => ⟨S16x640, .f32⟩
  | 86 => ⟨S16x640, .f32⟩
  | 87 => ⟨S16x640, .f32⟩
  | 88 => ⟨S16x640, .f32⟩
  | 89 => ⟨S16x640, .f32⟩
  | 90 => ⟨S16x640, .f32⟩
  | 91 => ⟨S16x640, .f32⟩
  | 92 => ⟨S16x640, .f32⟩
  | 93 => ⟨S16x640, .f32⟩
  | 94 => ⟨S16x640, .f32⟩
  | 95 => ⟨S16x640, .f32⟩
  | 96 => ⟨S16x640, .f32⟩
  | 97 => ⟨S16x640, .f32⟩
  | 98 => ⟨S16x640, .f32⟩
  | 99 => ⟨S16x640, .f32⟩
  | 100 => ⟨S16x640, .f32⟩
  | 101 => ⟨S16x640, .f32⟩
  | 102 => ⟨S16x640, .f32⟩
  | 103 => ⟨S16x640, .f32⟩
  | 104 => ⟨S16x640, .f32⟩
  | 105 => ⟨S16x640, .f32⟩
  | 106 => ⟨S16x640, .f32⟩
  | 107 => ⟨S16x640, .f32⟩
  | 108 => ⟨S16x640, .f32⟩
  | 109 => ⟨S16x640, .f32⟩
  | 110 => ⟨S16x640, .f32⟩
  | 111 => ⟨S16x640, .f32⟩
  | 112 => ⟨S16x640, .f32⟩
  | 113 => ⟨S16x640, .f32⟩
  | 114 => ⟨S16x640, .f32⟩
  | 115 => ⟨S16x640, .f32⟩
  | 116 => ⟨S16x640, .f32⟩
  | 117 => ⟨S16x640, .f32⟩
  | 118 => ⟨S16x640, .f32⟩
  | 119 => ⟨S16x640, .f32⟩
  | 120 => ⟨S16x640, .f32⟩
  | 121 => ⟨S16x640, .f32⟩
  | 122 => ⟨S16x640, .f32⟩
  | 123 => ⟨S16x640, .f32⟩
  | 124 => ⟨S16x640, .f32⟩
  | 125 => ⟨S16x640, .f32⟩
  | 126 => ⟨S16x640, .f32⟩
  | 127 => ⟨S16x640, .f32⟩
  | _ => ⟨S8192x12288, .bf16⟩

abbrev hbmTy0_1 (i : Nat) : BufTy := match i % 128 with
  | 0 => ⟨S16x640, .f32⟩
  | 1 => ⟨S16x640, .f32⟩
  | 2 => ⟨S16x640, .f32⟩
  | 3 => ⟨S16x640, .f32⟩
  | 4 => ⟨S16x640, .f32⟩
  | 5 => ⟨S16x640, .f32⟩
  | 6 => ⟨S16x640, .f32⟩
  | 7 => ⟨S16x640, .f32⟩
  | 8 => ⟨S16x640, .f32⟩
  | 9 => ⟨S16x640, .f32⟩
  | 10 => ⟨S16x640, .f32⟩
  | 11 => ⟨S16x1x640, .f32⟩
  | 12 => ⟨S16x1x640, .f32⟩
  | 13 => ⟨S16x1x640, .f32⟩
  | 14 => ⟨S16x1x640, .f32⟩
  | 15 => ⟨S16x1x640, .f32⟩
  | 16 => ⟨S16x1x640, .f32⟩
  | 17 => ⟨S16x1x640, .f32⟩
  | 18 => ⟨S16x1x640, .f32⟩
  | 19 => ⟨S16x1x640, .f32⟩
  | 20 => ⟨S16x1x640, .f32⟩
  | 21 => ⟨S16x1x640, .f32⟩
  | 22 => ⟨S16x1x640, .f32⟩
  | 23 => ⟨S16x1x640, .f32⟩
  | 24 => ⟨S16x1x640, .f32⟩
  | 25 => ⟨S16x1x640, .f32⟩
  | 26 => ⟨S16x1x640, .f32⟩
  | 27 => ⟨S16x1x640, .f32⟩
  | 28 => ⟨S16x1x640, .f32⟩
  | 29 => ⟨S16x1x640, .f32⟩
  | 30 => ⟨S16x1x640, .f32⟩
  | 31 => ⟨S16x1x640, .f32⟩
  | 32 => ⟨S16x1x640, .f32⟩
  | 33 => ⟨S16x1x640, .f32⟩
  | 34 => ⟨S16x1x640, .f32⟩
  | 35 => ⟨S16x1x640, .f32⟩
  | 36 => ⟨S16x1x640, .f32⟩
  | 37 => ⟨S16x1x640, .f32⟩
  | 38 => ⟨S16x1x640, .f32⟩
  | 39 => ⟨S16x1x640, .f32⟩
  | 40 => ⟨S16x1x640, .f32⟩
  | 41 => ⟨S16x1x640, .f32⟩
  | 42 => ⟨S16x1x640, .f32⟩
  | 43 => ⟨S16x1x640, .f32⟩
  | 44 => ⟨S16x1x640, .f32⟩
  | 45 => ⟨S16x1x640, .f32⟩
  | 46 => ⟨S16x1x640, .f32⟩
  | 47 => ⟨S16x1x640, .f32⟩
  | 48 => ⟨S16x1x640, .f32⟩
  | 49 => ⟨S16x1x640, .f32⟩
  | 50 => ⟨S16x1x640, .f32⟩
  | 51 => ⟨S16x1x640, .f32⟩
  | 52 => ⟨S16x1x640, .f32⟩
  | 53 => ⟨S16x1x640, .f32⟩
  | 54 => ⟨S16x1x640, .f32⟩
  | 55 => ⟨S16x1x640, .f32⟩
  | 56 => ⟨S16x1x640, .f32⟩
  | 57 => ⟨S16x1x640, .f32⟩
  | 58 => ⟨S16x1x640, .f32⟩
  | 59 => ⟨S16x1x640, .f32⟩
  | 60 => ⟨S16x1x640, .f32⟩
  | 61 => ⟨S16x1x640, .f32⟩
  | 62 => ⟨S16x1x640, .f32⟩
  | 63 => ⟨S16x1x640, .f32⟩
  | 64 => ⟨S16x1x640, .f32⟩
  | 65 => ⟨S16x1x640, .f32⟩
  | 66 => ⟨S16x1x640, .f32⟩
  | 67 => ⟨S16x1x640, .f32⟩
  | 68 => ⟨S16x1x640, .f32⟩
  | 69 => ⟨S16x1x640, .f32⟩
  | 70 => ⟨S16x1x640, .f32⟩
  | 71 => ⟨S16x1x640, .f32⟩
  | 72 => ⟨S16x1x640, .f32⟩
  | 73 => ⟨S16x1x640, .f32⟩
  | 74 => ⟨S16x1x640, .f32⟩
  | 75 => ⟨S16x1x640, .f32⟩
  | 76 => ⟨S16x1x640, .f32⟩
  | 77 => ⟨S16x1x640, .f32⟩
  | 78 => ⟨S16x1x640, .f32⟩
  | 79 => ⟨S16x1x640, .f32⟩
  | 80 => ⟨S16x1x640, .f32⟩
  | 81 => ⟨S16x1x640, .f32⟩
  | 82 => ⟨S16x1x640, .f32⟩
  | 83 => ⟨S16x1x640, .f32⟩
  | 84 => ⟨S16x1x640, .f32⟩
  | 85 => ⟨S16x1x640, .f32⟩
  | 86 => ⟨S16x1x640, .f32⟩
  | 87 => ⟨S16x1x640, .f32⟩
  | 88 => ⟨S16x1x640, .f32⟩
  | 89 => ⟨S16x1x640, .f32⟩
  | 90 => ⟨S16x1x640, .f32⟩
  | 91 => ⟨S16x1x640, .f32⟩
  | 92 => ⟨S16x1x640, .f32⟩
  | 93 => ⟨S16x1x640, .f32⟩
  | 94 => ⟨S16x1x640, .f32⟩
  | 95 => ⟨S16x1x640, .f32⟩
  | 96 => ⟨S16x1x640, .f32⟩
  | 97 => ⟨S16x1x640, .f32⟩
  | 98 => ⟨S16x1x640, .f32⟩
  | 99 => ⟨S16x1x640, .f32⟩
  | 100 => ⟨S16x1x640, .f32⟩
  | 101 => ⟨S16x1x640, .f32⟩
  | 102 => ⟨S16x1x640, .f32⟩
  | 103 => ⟨S16x1x640, .f32⟩
  | 104 => ⟨S16x1x640, .f32⟩
  | 105 => ⟨S16x1x640, .f32⟩
  | 106 => ⟨S16x1x640, .f32⟩
  | 107 => ⟨S16x1x640, .f32⟩
  | 108 => ⟨S16x1x640, .f32⟩
  | 109 => ⟨S16x1x640, .f32⟩
  | 110 => ⟨S16x1x640, .f32⟩
  | 111 => ⟨S16x1x640, .f32⟩
  | 112 => ⟨S16x1x640, .f32⟩
  | 113 => ⟨S16x1x640, .f32⟩
  | 114 => ⟨S16x1x640, .f32⟩
  | 115 => ⟨S16x1x640, .f32⟩
  | 116 => ⟨S16x1x640, .f32⟩
  | 117 => ⟨S16x1x640, .f32⟩
  | 118 => ⟨S16x1x640, .f32⟩
  | 119 => ⟨S16x1x640, .f32⟩
  | 120 => ⟨S16x1x640, .f32⟩
  | 121 => ⟨S16x1x640, .f32⟩
  | 122 => ⟨S16x1x640, .f32⟩
  | 123 => ⟨S16x1x640, .f32⟩
  | 124 => ⟨S16x1x640, .f32⟩
  | 125 => ⟨S16x1x640, .f32⟩
  | 126 => ⟨S16x1x640, .f32⟩
  | 127 => ⟨S16x1x640, .f32⟩
  | _ => ⟨S8192x12288, .bf16⟩

abbrev hbmTy0_2 (i : Nat) : BufTy := match i % 128 with
  | 0 => ⟨S16x1x640, .f32⟩
  | 1 => ⟨S16x1x640, .f32⟩
  | 2 => ⟨S16x1x640, .f32⟩
  | 3 => ⟨S16x1x640, .f32⟩
  | 4 => ⟨S16x1x640, .f32⟩
  | 5 => ⟨S16x1x640, .f32⟩
  | 6 => ⟨S16x1x640, .f32⟩
  | 7 => ⟨S16x1x640, .f32⟩
  | 8 => ⟨S16x1x640, .f32⟩
  | 9 => ⟨S16x1x640, .f32⟩
  | 10 => ⟨S16x1x640, .f32⟩
  | 11 => ⟨S16x16x640, .f32⟩
  | 12 => ⟨S16x16x640, .f32⟩
  | 13 => ⟨S16x16x640, .f32⟩
  | 14 => ⟨S16x16x640, .f32⟩
  | 15 => ⟨S16x16x640, .f32⟩
  | 16 => ⟨S16x16x640, .f32⟩
  | 17 => ⟨S16x16x640, .f32⟩
  | 18 => ⟨S16x16x640, .f32⟩
  | 19 => ⟨S16x128x640, .f32⟩
  | 20 => ⟨S1x128x640, .i1⟩
  | 21 => ⟨S_, .f32⟩
  | 22 => ⟨S_, .f32⟩
  | 23 => ⟨S16x128x640, .i1⟩
  | 24 => ⟨S16x128x640, .f32⟩
  | 25 => ⟨S16x128x640, .f32⟩
  | 26 => ⟨S8192x2048, .bf16⟩
  | _ => ⟨S8192x12288, .bf16⟩

abbrev hbmTy (i : Nat) : BufTy := match i / 128 with
  | 0 => hbmTy0_0 i
  | 1 => hbmTy0_1 i
  | 2 => hbmTy0_2 i
  | _ => ⟨S8192x12288, .bf16⟩

abbrev bufTy : (tb : Table) → Fin (tcTables nBuf tb) → BufTy
  | .hbm, ⟨i, _⟩ => hbmTy i
  | .local _ .vmem, ⟨0, _⟩ => ⟨S128x1024, .bf16⟩
  | .local _ .vmem, ⟨1, _⟩ => ⟨S128x1024, .bf16⟩
  | .local _ .vmem, ⟨2, _⟩ => ⟨S4096x1024, .bf16⟩
  | .local _ .vmem, ⟨3, _⟩ => ⟨S4096x1024, .bf16⟩
  | .local _ .vmem, ⟨4, _⟩ => ⟨S4096x1024, .bf16⟩
  | .local _ .vmem, ⟨5, _⟩ => ⟨S4096x1024, .bf16⟩
  | .local _ .vmem, ⟨6, _⟩ => ⟨S8x128x640, .f32⟩
  | .local _ .vmem, ⟨7, _⟩ => ⟨S8x128x640, .f32⟩
  | .local _ .vmem, ⟨8, _⟩ => ⟨S128x1024, .bf16⟩
  | .local _ .vmem, ⟨9, _⟩ => ⟨S128x1024, .bf16⟩
  | _, _ => ⟨S8192x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130 : Ref sig .tc := ⟨.hbm, 136, rfl⟩
abbrev main_v131 : Ref sig .tc := ⟨.hbm, 137, rfl⟩
abbrev main_v132 : Ref sig .tc := ⟨.hbm, 138, rfl⟩
abbrev main_v133 : Ref sig .tc := ⟨.hbm, 139, rfl⟩
abbrev main_v134 : Ref sig .tc := ⟨.hbm, 140, rfl⟩
abbrev main_v135 : Ref sig .tc := ⟨.hbm, 141, rfl⟩
abbrev main_v136 : Ref sig .tc := ⟨.hbm, 142, rfl⟩
abbrev main_v137 : Ref sig .tc := ⟨.hbm, 143, rfl⟩
abbrev main_v138 : Ref sig .tc := ⟨.hbm, 144, rfl⟩
abbrev main_v139 : Ref sig .tc := ⟨.hbm, 145, rfl⟩
abbrev main_v140 : Ref sig .tc := ⟨.hbm, 146, rfl⟩
abbrev main_v141 : Ref sig .tc := ⟨.hbm, 147, rfl⟩
abbrev main_v142 : Ref sig .tc := ⟨.hbm, 148, rfl⟩
abbrev main_v143 : Ref sig .tc := ⟨.hbm, 149, rfl⟩
abbrev main_v144 : Ref sig .tc := ⟨.hbm, 150, rfl⟩
abbrev main_v145 : Ref sig .tc := ⟨.hbm, 151, rfl⟩
abbrev main_v146 : Ref sig .tc := ⟨.hbm, 152, rfl⟩
abbrev main_v147 : Ref sig .tc := ⟨.hbm, 153, rfl⟩
abbrev main_v148 : Ref sig .tc := ⟨.hbm, 154, rfl⟩
abbrev main_v149 : Ref sig .tc := ⟨.hbm, 155, rfl⟩
abbrev main_v150 : Ref sig .tc := ⟨.hbm, 156, rfl⟩
abbrev main_v151 : Ref sig .tc := ⟨.hbm, 157, rfl⟩
abbrev main_v152 : Ref sig .tc := ⟨.hbm, 158, rfl⟩
abbrev main_v153 : Ref sig .tc := ⟨.hbm, 159, rfl⟩
abbrev main_v154 : Ref sig .tc := ⟨.hbm, 160, rfl⟩
abbrev main_v155 : Ref sig .tc := ⟨.hbm, 161, rfl⟩
abbrev main_v156 : Ref sig .tc := ⟨.hbm, 162, rfl⟩
abbrev main_v157 : Ref sig .tc := ⟨.hbm, 163, rfl⟩
abbrev main_v158 : Ref sig .tc := ⟨.hbm, 164, rfl⟩
abbrev main_v159 : Ref sig .tc := ⟨.hbm, 165, rfl⟩
abbrev main_v160 : Ref sig .tc := ⟨.hbm, 166, rfl⟩
abbrev main_v161 : Ref sig .tc := ⟨.hbm, 167, rfl⟩
abbrev main_v162 : Ref sig .tc := ⟨.hbm, 168, rfl⟩
abbrev main_v163 : Ref sig .tc := ⟨.hbm, 169, rfl⟩
abbrev main_v164 : Ref sig .tc := ⟨.hbm, 170, rfl⟩
abbrev main_v165 : Ref sig .tc := ⟨.hbm, 171, rfl⟩
abbrev main_v166 : Ref sig .tc := ⟨.hbm, 172, rfl⟩
abbrev main_v167 : Ref sig .tc := ⟨.hbm, 173, rfl⟩
abbrev main_v168 : Ref sig .tc := ⟨.hbm, 174, rfl⟩
abbrev main_v169 : Ref sig .tc := ⟨.hbm, 175, rfl⟩
abbrev main_v170 : Ref sig .tc := ⟨.hbm, 176, rfl⟩
abbrev main_v171 : Ref sig .tc := ⟨.hbm, 177, rfl⟩
abbrev main_v172 : Ref sig .tc := ⟨.hbm, 178, rfl⟩
abbrev main_v173 : Ref sig .tc := ⟨.hbm, 179, rfl⟩
abbrev main_v174 : Ref sig .tc := ⟨.hbm, 180, rfl⟩
abbrev main_v175 : Ref sig .tc := ⟨.hbm, 181, rfl⟩
abbrev main_v176 : Ref sig .tc := ⟨.hbm, 182, rfl⟩
abbrev main_v177 : Ref sig .tc := ⟨.hbm, 183, rfl⟩
abbrev main_v178 : Ref sig .tc := ⟨.hbm, 184, rfl⟩
abbrev main_v179 : Ref sig .tc := ⟨.hbm, 185, rfl⟩
abbrev main_v180 : Ref sig .tc := ⟨.hbm, 186, rfl⟩
abbrev main_v181 : Ref sig .tc := ⟨.hbm, 187, rfl⟩
abbrev main_v182 : Ref sig .tc := ⟨.hbm, 188, rfl⟩
abbrev main_v183 : Ref sig .tc := ⟨.hbm, 189, rfl⟩
abbrev main_v184 : Ref sig .tc := ⟨.hbm, 190, rfl⟩
abbrev main_v185 : Ref sig .tc := ⟨.hbm, 191, rfl⟩
abbrev main_v186 : Ref sig .tc := ⟨.hbm, 192, rfl⟩
abbrev main_v187 : Ref sig .tc := ⟨.hbm, 193, rfl⟩
abbrev main_v188 : Ref sig .tc := ⟨.hbm, 194, rfl⟩
abbrev main_v189 : Ref sig .tc := ⟨.hbm, 195, rfl⟩
abbrev main_v190 : Ref sig .tc := ⟨.hbm, 196, rfl⟩
abbrev main_v191 : Ref sig .tc := ⟨.hbm, 197, rfl⟩
abbrev main_v192 : Ref sig .tc := ⟨.hbm, 198, rfl⟩
abbrev main_v193 : Ref sig .tc := ⟨.hbm, 199, rfl⟩
abbrev main_v194 : Ref sig .tc := ⟨.hbm, 200, rfl⟩
abbrev main_v195 : Ref sig .tc := ⟨.hbm, 201, rfl⟩
abbrev main_v196 : Ref sig .tc := ⟨.hbm, 202, rfl⟩
abbrev main_v197 : Ref sig .tc := ⟨.hbm, 203, rfl⟩
abbrev main_v198 : Ref sig .tc := ⟨.hbm, 204, rfl⟩
abbrev main_v199 : Ref sig .tc := ⟨.hbm, 205, rfl⟩
abbrev main_v200 : Ref sig .tc := ⟨.hbm, 206, rfl⟩
abbrev main_v201 : Ref sig .tc := ⟨.hbm, 207, rfl⟩
abbrev main_v202 : Ref sig .tc := ⟨.hbm, 208, rfl⟩
abbrev main_v203 : Ref sig .tc := ⟨.hbm, 209, rfl⟩
abbrev main_v204 : Ref sig .tc := ⟨.hbm, 210, rfl⟩
abbrev main_v205 : Ref sig .tc := ⟨.hbm, 211, rfl⟩
abbrev main_v206 : Ref sig .tc := ⟨.hbm, 212, rfl⟩
abbrev main_v207 : Ref sig .tc := ⟨.hbm, 213, rfl⟩
abbrev main_v208 : Ref sig .tc := ⟨.hbm, 214, rfl⟩
abbrev main_v209 : Ref sig .tc := ⟨.hbm, 215, rfl⟩
abbrev main_v210 : Ref sig .tc := ⟨.hbm, 216, rfl⟩
abbrev main_v211 : Ref sig .tc := ⟨.hbm, 217, rfl⟩
abbrev main_v212 : Ref sig .tc := ⟨.hbm, 218, rfl⟩
abbrev main_v213 : Ref sig .tc := ⟨.hbm, 219, rfl⟩
abbrev main_v214 : Ref sig .tc := ⟨.hbm, 220, rfl⟩
abbrev main_v215 : Ref sig .tc := ⟨.hbm, 221, rfl⟩
abbrev main_v216 : Ref sig .tc := ⟨.hbm, 222, rfl⟩
abbrev main_v217 : Ref sig .tc := ⟨.hbm, 223, rfl⟩
abbrev main_v218 : Ref sig .tc := ⟨.hbm, 224, rfl⟩
abbrev main_v219 : Ref sig .tc := ⟨.hbm, 225, rfl⟩
abbrev main_v220 : Ref sig .tc := ⟨.hbm, 226, rfl⟩
abbrev main_v221 : Ref sig .tc := ⟨.hbm, 227, rfl⟩
abbrev main_v222 : Ref sig .tc := ⟨.hbm, 228, rfl⟩
abbrev main_v223 : Ref sig .tc := ⟨.hbm, 229, rfl⟩
abbrev main_v224 : Ref sig .tc := ⟨.hbm, 230, rfl⟩
abbrev main_v225 : Ref sig .tc := ⟨.hbm, 231, rfl⟩
abbrev main_v226 : Ref sig .tc := ⟨.hbm, 232, rfl⟩
abbrev main_v227 : Ref sig .tc := ⟨.hbm, 233, rfl⟩
abbrev main_v228 : Ref sig .tc := ⟨.hbm, 234, rfl⟩
abbrev main_v229 : Ref sig .tc := ⟨.hbm, 235, rfl⟩
abbrev main_v230 : Ref sig .tc := ⟨.hbm, 236, rfl⟩
abbrev main_v231 : Ref sig .tc := ⟨.hbm, 237, rfl⟩
abbrev main_v232 : Ref sig .tc := ⟨.hbm, 238, rfl⟩
abbrev main_v233 : Ref sig .tc := ⟨.hbm, 239, rfl⟩
abbrev main_v234 : Ref sig .tc := ⟨.hbm, 240, rfl⟩
abbrev main_v235 : Ref sig .tc := ⟨.hbm, 241, rfl⟩
abbrev main_v236 : Ref sig .tc := ⟨.hbm, 242, rfl⟩
abbrev main_v237 : Ref sig .tc := ⟨.hbm, 243, rfl⟩
abbrev main_v238 : Ref sig .tc := ⟨.hbm, 244, rfl⟩
abbrev main_v239 : Ref sig .tc := ⟨.hbm, 245, rfl⟩
abbrev main_v240 : Ref sig .tc := ⟨.hbm, 246, rfl⟩
abbrev main_v241 : Ref sig .tc := ⟨.hbm, 247, rfl⟩
abbrev main_v242 : Ref sig .tc := ⟨.hbm, 248, rfl⟩
abbrev main_v243 : Ref sig .tc := ⟨.hbm, 249, rfl⟩
abbrev main_v244 : Ref sig .tc := ⟨.hbm, 250, rfl⟩
abbrev main_v245 : Ref sig .tc := ⟨.hbm, 251, rfl⟩
abbrev main_v246 : Ref sig .tc := ⟨.hbm, 252, rfl⟩
abbrev main_v247 : Ref sig .tc := ⟨.hbm, 253, rfl⟩
abbrev main_v248 : Ref sig .tc := ⟨.hbm, 254, rfl⟩
abbrev main_v249 : Ref sig .tc := ⟨.hbm, 255, rfl⟩
abbrev main_v250 : Ref sig .tc := ⟨.hbm, 256, rfl⟩
abbrev main_v251 : Ref sig .tc := ⟨.hbm, 257, rfl⟩
abbrev main_v252 : Ref sig .tc := ⟨.hbm, 258, rfl⟩
abbrev main_v253 : Ref sig .tc := ⟨.hbm, 259, rfl⟩
abbrev main_v254 : Ref sig .tc := ⟨.hbm, 260, rfl⟩
abbrev main_v255 : Ref sig .tc := ⟨.hbm, 261, rfl⟩
abbrev main_v256 : Ref sig .tc := ⟨.hbm, 262, rfl⟩
abbrev main_v257 : Ref sig .tc := ⟨.hbm, 263, rfl⟩
abbrev main_v258 : Ref sig .tc := ⟨.hbm, 264, rfl⟩
abbrev main_v259 : Ref sig .tc := ⟨.hbm, 265, rfl⟩
abbrev main_v260 : Ref sig .tc := ⟨.hbm, 266, rfl⟩
abbrev main_v261 : Ref sig .tc := ⟨.hbm, 267, rfl⟩
abbrev main_v262 : Ref sig .tc := ⟨.hbm, 268, rfl⟩
abbrev main_v263 : Ref sig .tc := ⟨.hbm, 269, rfl⟩
abbrev main_v264 : Ref sig .tc := ⟨.hbm, 270, rfl⟩
abbrev main_v265 : Ref sig .tc := ⟨.hbm, 271, rfl⟩
abbrev main_v266 : Ref sig .tc := ⟨.hbm, 272, rfl⟩
abbrev main_v267 : Ref sig .tc := ⟨.hbm, 273, rfl⟩
abbrev main_v268 : Ref sig .tc := ⟨.hbm, 274, rfl⟩
abbrev main_v269 : Ref sig .tc := ⟨.hbm, 275, rfl⟩
abbrev main_v270 : Ref sig .tc := ⟨.hbm, 276, rfl⟩
abbrev main_cst : Ref sig .tc := ⟨.hbm, 277, rfl⟩
abbrev main_call0_v0 : Ref sig .tc := ⟨.hbm, 278, rfl⟩
abbrev main_call0_v1 : Ref sig .tc := ⟨.hbm, 279, rfl⟩
abbrev main_call0_v2 : Ref sig .tc := ⟨.hbm, 280, rfl⟩
abbrev main_v271 : Ref sig .tc := ⟨.hbm, 281, rfl⟩
abbrev main_v272 : Ref sig .tc := ⟨.hbm, 282, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 32], ![false, false, false]⟩

def k0_mult1 (i : grid0.Coords) : BitVec 32 :=
  let arg2 : BitVec 32 := BitVec.ofNat 32 (i 2).val
  let c4_i32 : BitVec 32 := 4#32
  let v0 : BitVec 32 := Scalar.subi arg2 c4_i32
  let c0_i32 : BitVec 32 := 0#32
  let v1 : BitVec 32 := Scalar.addi v0 c0_i32
  let c0_i32_0 : BitVec 32 := 0#32
  let v2 : BitVec 32 := Scalar.maxsi v1 c0_i32_0
  let c128_i32 : BitVec 32 := 128#32
  let v3 : BitVec 32 := Scalar.muli v2 c128_i32
  v3
def k0_mult2 (i : grid0.Coords) : BitVec 32 :=
  let arg2 : BitVec 32 := BitVec.ofNat 32 (i 2).val
  let c4_i32 : BitVec 32 := 4#32
  let v0 : BitVec 32 := Scalar.subi arg2 c4_i32
  let c1_i32 : BitVec 32 := 1#32
  let v5 : BitVec 32 := Scalar.addi v0 c1_i32
  let c0_i32_1 : BitVec 32 := 0#32
  let v6 : BitVec 32 := Scalar.maxsi v5 c0_i32_1
  let c128_i32_2 : BitVec 32 := 128#32
  let v7 : BitVec 32 := Scalar.muli v6 c128_i32_2
  v7
def k0_mult3 (i : grid0.Coords) : BitVec 32 :=
  let arg2 : BitVec 32 := BitVec.ofNat 32 (i 2).val
  let c4_i32 : BitVec 32 := 4#32
  let v0 : BitVec 32 := Scalar.subi arg2 c4_i32
  let c2_i32 : BitVec 32 := 2#32
  let v9 : BitVec 32 := Scalar.addi v0 c2_i32
  let c0_i32_3 : BitVec 32 := 0#32
  let v10 : BitVec 32 := Scalar.maxsi v9 c0_i32_3
  let c128_i32_4 : BitVec 32 := 128#32
  let v11 : BitVec 32 := Scalar.muli v10 c128_i32_4
  v11
def k0_mult4 (i : grid0.Coords) : BitVec 32 :=
  let arg2 : BitVec 32 := BitVec.ofNat 32 (i 2).val
  let c4_i32 : BitVec 32 := 4#32
  let v0 : BitVec 32 := Scalar.subi arg2 c4_i32
  let c3_i32 : BitVec 32 := 3#32
  let v13 : BitVec 32 := Scalar.addi v0 c3_i32
  let c0_i32_5 : BitVec 32 := 0#32
  let v14 : BitVec 32 := Scalar.maxsi v13 c0_i32_5
  let c128_i32_6 : BitVec 32 := 128#32
  let v15 : BitVec 32 := Scalar.muli v14 c128_i32_6
  v15
def k0_mult5 (i : grid0.Coords) : BitVec 32 :=
  let arg2 : BitVec 32 := BitVec.ofNat 32 (i 2).val
  let c4_i32 : BitVec 32 := 4#32
  let v0 : BitVec 32 := Scalar.subi arg2 c4_i32
  let c4_i32_7 : BitVec 32 := 4#32
  let v17 : BitVec 32 := Scalar.addi v0 c4_i32_7
  let c0_i32_8 : BitVec 32 := 0#32
  let v18 : BitVec 32 := Scalar.maxsi v17 c0_i32_8
  let c128_i32_9 : BitVec 32 := 128#32
  let v19 : BitVec 32 := Scalar.muli v18 c128_i32_9
  v19
def k0_off1 (i : grid0.Coords) (c0_i32 : BitVec 32) : Fin 2 → Nat :=
  let arg2 : BitVec 32 := BitVec.ofNat 32 (i 2).val
  let c4_i32 : BitVec 32 := 4#32
  let v0 : BitVec 32 := Scalar.subi arg2 c4_i32
  let v1 : BitVec 32 := Scalar.addi v0 c0_i32
  let c0_i32_0 : BitVec 32 := 0#32
  let v2 : BitVec 32 := Scalar.maxsi v1 c0_i32_0
  let c128_i32 : BitVec 32 := 128#32
  let v3 : BitVec 32 := Scalar.muli v2 c128_i32
  let v4 : BitVec 32 := v3
  let v22 : Index := Scalar.indexCast v4
  let c0_11 : Index := 0#32
  ![v22.toNat, 0]
def k0_off2 (i : grid0.Coords) (c0_i32 : BitVec 32) : Fin 2 → Nat :=
  let arg2 : BitVec 32 := BitVec.ofNat 32 (i 2).val
  let c4_i32 : BitVec 32 := 4#32
  let v0 : BitVec 32 := Scalar.subi arg2 c4_i32
  let v1 : BitVec 32 := Scalar.addi v0 c0_i32
  let c0_i32_0 : BitVec 32 := 0#32
  let v2 : BitVec 32 := Scalar.maxsi v1 c0_i32_0
  let c128_i32 : BitVec 32 := 128#32
  let v3 : BitVec 32 := Scalar.muli v2 c128_i32
  let v4 : BitVec 32 := v3
  let v26 : Index := Scalar.indexCast v4
  let c128_13 : Index := 128#32
  ![v26.toNat, 128]
def k0_off3 (i : grid0.Coords) (c0_i32 : BitVec 32) : Fin 2 → Nat :=
  let arg2 : BitVec 32 := BitVec.ofNat 32 (i 2).val
  let c4_i32 : BitVec 32 := 4#32
  let v0 : BitVec 32 := Scalar.subi arg2 c4_i32
  let v1 : BitVec 32 := Scalar.addi v0 c0_i32
  let c0_i32_0 : BitVec 32 := 0#32
  let v2 : BitVec 32 := Scalar.maxsi v1 c0_i32_0
  let c128_i32 : BitVec 32 := 128#32
  let v3 : BitVec 32 := Scalar.muli v2 c128_i32
  let v4 : BitVec 32 := v3
  let v30 : Index := Scalar.indexCast v4
  let c256_16 : Index := 256#32
  ![v30.toNat, 256]
def k0_off4 (i : grid0.Coords) (c0_i32 : BitVec 32) : Fin 2 → Nat :=
  let arg2 : BitVec 32 := BitVec.ofNat 32 (i 2).val
  let c4_i32 : BitVec 32 := 4#32
  let v0 : BitVec 32 := Scalar.subi arg2 c4_i32
  let v1 : BitVec 32 := Scalar.addi v0 c0_i32
  let c0_i32_0 : BitVec 32 := 0#32
  let v2 : BitVec 32 := Scalar.maxsi v1 c0_i32_0
  let c128_i32 : BitVec 32 := 128#32
  let v3 : BitVec 32 := Scalar.muli v2 c128_i32
  let v4 : BitVec 32 := v3
  let v34 : Index := Scalar.indexCast v4
  let c384_19 : Index := 384#32
  ![v34.toNat, 384]
def k0_off5 (i : grid0.Coords) (c0_i32 : BitVec 32) : Fin 2 → Nat :=
  let arg2 : BitVec 32 := BitVec.ofNat 32 (i 2).val
  let c4_i32 : BitVec 32 := 4#32
  let v0 : BitVec 32 := Scalar.subi arg2 c4_i32
  let v1 : BitVec 32 := Scalar.addi v0 c0_i32
  let c0_i32_0 : BitVec 32 := 0#32
  let v2 : BitVec 32 := Scalar.maxsi v1 c0_i32_0
  let c128_i32 : BitVec 32 := 128#32
  let v3 : BitVec 32 := Scalar.muli v2 c128_i32
  let v4 : BitVec 32 := v3
  let v38 : Index := Scalar.indexCast v4
  let c512_22 : Index := 512#32
  ![v38.toNat, 512]
def k0_off6 (i : grid0.Coords) (c0_i32 : BitVec 32) : Fin 2 → Nat :=
  let arg2 : BitVec 32 := BitVec.ofNat 32 (i 2).val
  let c4_i32 : BitVec 32 := 4#32
  let v0 : BitVec 32 := Scalar.subi arg2 c4_i32
  let v1 : BitVec 32 := Scalar.addi v0 c0_i32
  let c0_i32_0 : BitVec 32 := 0#32
  let v2 : BitVec 32 := Scalar.maxsi v1 c0_i32_0
  let c128_i32 : BitVec 32 := 128#32
  let v3 : BitVec 32 := Scalar.muli v2 c128_i32
  let v4 : BitVec 32 := v3
  let v42 : Index := Scalar.indexCast v4
  let c640_25 : Index := 640#32
  ![v42.toNat, 640]
def k0_off7 (i : grid0.Coords) (c0_i32 : BitVec 32) : Fin 2 → Nat :=
  let arg2 : BitVec 32 := BitVec.ofNat 32 (i 2).val
  let c4_i32 : BitVec 32 := 4#32
  let v0 : BitVec 32 := Scalar.subi arg2 c4_i32
  let v1 : BitVec 32 := Scalar.addi v0 c0_i32
  let c0_i32_0 : BitVec 32 := 0#32
  let v2 : BitVec 32 := Scalar.maxsi v1 c0_i32_0
  let c128_i32 : BitVec 32 := 128#32
  let v3 : BitVec 32 := Scalar.muli v2 c128_i32
  let v4 : BitVec 32 := v3
  let v46 : Index := Scalar.indexCast v4
  let c768_28 : Index := 768#32
  ![v46.toNat, 768]
def k0_off8 (i : grid0.Coords) (c0_i32 : BitVec 32) : Fin 2 → Nat :=
  let arg2 : BitVec 32 := BitVec.ofNat 32 (i 2).val
  let c4_i32 : BitVec 32 := 4#32
  let v0 : BitVec 32 := Scalar.subi arg2 c4_i32
  let v1 : BitVec 32 := Scalar.addi v0 c0_i32
  let c0_i32_0 : BitVec 32 := 0#32
  let v2 : BitVec 32 := Scalar.maxsi v1 c0_i32_0
  let c128_i32 : BitVec 32 := 128#32
  let v3 : BitVec 32 := Scalar.muli v2 c128_i32
  let v4 : BitVec 32 := v3
  let v50 : Index := Scalar.indexCast v4
  let c896_31 : Index := 896#32
  ![v50.toNat, 896]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8x128x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== BandIdeal.lean ====
variable {F : FTy → Type} [FloatOps F] [Named F]
def κ : String → Option EReal := fun
  | "mask" => some ⊥
  | _ => none
-- ==== BandRefIdeal.lean ====
abbrev S8192x12288 : Shape := ⟨2, ![8192, 12288]⟩
abbrev S16x257 : Shape := ⟨2, ![16, 257]⟩
abbrev S8192x2048 : Shape := ⟨2, ![8192, 2048]⟩
abbrev S2x4096x16x128 : Shape := ⟨4, ![2, 4096, 16, 128]⟩
abbrev S2x64x64x16x128 : Shape := ⟨5, ![2, 64, 64, 16, 128]⟩
abbrev S_ : Shape := ⟨0, ![]⟩
abbrev S2x4608x16x128 : Shape := ⟨4, ![2, 4608, 16, 128]⟩
abbrev S2x72x64x16x128 : Shape := ⟨5, ![2, 72, 64, 16, 128]⟩
abbrev S2x64x576x16x128 : Shape := ⟨5, ![2, 64, 576, 16, 128]⟩
abbrev S64 : Shape := ⟨1, ![64]⟩
abbrev S576 : Shape := ⟨1, ![576]⟩
abbrev S64x1 : Shape := ⟨2, ![64, 1]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S2x64x16x64x576 : Shape := ⟨5, ![2, 64, 16, 64, 576]⟩
abbrev S1x1x16x64x576 : Shape := ⟨5, ![1, 1, 16, 64, 576]⟩
abbrev S1x64x1x1x576 : Shape := ⟨5, ![1, 64, 1, 1, 576]⟩
abbrev S2x64x16x64 : Shape := ⟨4, ![2, 64, 16, 64]⟩
abbrev S2x64x16x64x1 : Shape := ⟨5, ![2, 64, 16, 64, 1]⟩
abbrev S2x64x16x128x64 : Shape := ⟨5, ![2, 64, 16, 128, 64]⟩

abbrev nBuf : Space → Nat
  | .hbm => 114
  | .vmem => 0
  | .smem => 0
  | _ => 0

abbrev bufTy : (tb : Table) → Fin (tcTables nBuf tb) → BufTy
  | .hbm, ⟨0, _⟩ => ⟨S8192x12288, .bf16⟩
  | .hbm, ⟨1, _⟩ => ⟨S16x257, .f32⟩
  | .hbm, ⟨2, _⟩ => ⟨S8192x12288, .f32⟩
  | .hbm, ⟨3, _⟩ => ⟨S8192x2048, .f32⟩
  | .hbm, ⟨4, _⟩ => ⟨S2x4096x16x128, .f32⟩
  | .hbm, ⟨5, _⟩ => ⟨S8192x2048, .f32⟩
  | .hbm, ⟨6, _⟩ => ⟨S2x4096x16x128, .f32⟩
  | .hbm, ⟨7, _⟩ => ⟨S8192x2048, .f32⟩
  | .hbm, ⟨8, _⟩ => ⟨S2x4096x16x128, .f32⟩
  | .hbm, ⟨9, _⟩ => ⟨S2x64x64x16x128, .f32⟩
  | .hbm, ⟨10, _⟩ => ⟨S_, .i32⟩
  | .hbm, ⟨11, _⟩ => ⟨S_, .f32⟩
  | .hbm, ⟨12, _⟩ => ⟨S2x4608x16x128, .f32⟩
  | .hbm, ⟨13, _⟩ => ⟨S2x72x64x16x128, .f32⟩
  | .hbm, ⟨14, _⟩ => ⟨S_, .i32⟩
  | .hbm, ⟨15, _⟩ => ⟨S_, .f32⟩
  | .hbm, ⟨16, _⟩ => ⟨S2x4608x16x128, .f32⟩
  | .hbm, ⟨17, _⟩ => ⟨S2x72x64x16x128, .f32⟩
  | .hbm, ⟨18, _⟩ => ⟨S2x64x64x16x128, .f32⟩
  | .hbm, ⟨19, _⟩ => ⟨S2x64x64x16x128, .f32⟩
  | .hbm, ⟨20, _⟩ => ⟨S2x64x64x16x128, .f32⟩
  | .hbm, ⟨21, _⟩ => ⟨S2x64x64x16x128, .f32⟩
  | .hbm, ⟨22, _⟩ => ⟨S2x64x64x16x128, .f32⟩
  | .hbm, ⟨23, _⟩ => ⟨S2x64x64x16x128, .f32⟩
  | .hbm, ⟨24, _⟩ => ⟨S2x64x64x16x128, .f32⟩
  | .hbm, ⟨25, _⟩ => ⟨S2x64x64x16x128, .f32⟩
  | .hbm, ⟨26, _⟩ => ⟨S2x64x64x16x128, .f32⟩
  | .hbm, ⟨27, _⟩ => ⟨S2x64x576x16x128, .f32⟩
  | .hbm, ⟨28, _⟩ => ⟨S2x64x64x16x128, .f32⟩
  | .hbm, ⟨29, _⟩ => ⟨S2x64x64x16x128, .f32⟩
  | .hbm, ⟨30, _⟩ => ⟨S2x64x64x16x128, .f32⟩
  | .hbm, ⟨31, _⟩ => ⟨S2x64x64x16x128, .f32⟩
  | .hbm, ⟨32, _⟩ => ⟨S2x64x64x16x128, .f32⟩
  | .hbm, ⟨33, _⟩ => ⟨S2x64x64x16x128, .f32⟩
  | .hbm, ⟨34, _⟩ => ⟨S2x64x64x16x128, .f32⟩
  | .hbm, ⟨35, _⟩ => ⟨S2x64x64x16x128, .f32⟩
  | .hbm, ⟨36, _⟩ => ⟨S2x64x64x16x128, .f32⟩
  | .hbm, ⟨37, _⟩ => ⟨S2x64x576x16x128, .f32⟩
  | .hbm, ⟨38, _⟩ => ⟨S64, .i32⟩
  | .hbm, ⟨39, _⟩ => ⟨S576, .i32⟩
  | .hbm, ⟨40, _⟩ => ⟨S64x1, .i32⟩
  | .hbm, ⟨41, _⟩ => ⟨S_, .i32⟩
  | .hbm, ⟨42, _⟩ => ⟨S64x1, .i32⟩
  | .hbm, ⟨43, _⟩ => ⟨S64x1, .i32⟩
  | .hbm, ⟨44, _⟩ => ⟨S1x576, .i32⟩
  | .hbm, ⟨45, _⟩ => ⟨S64x576, .i32⟩
  | .hbm, ⟨46, _⟩ => ⟨S64x576, .i32⟩
  | .hbm, ⟨47, _⟩ => ⟨S64x576, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S64x576, .i32⟩
  | .hbm, ⟨52, _⟩ => ⟨S64x576, .i32⟩
  | .hbm, ⟨53, _⟩ => ⟨S_, .i32⟩
  | .hbm, ⟨54, _⟩ => ⟨S64x576, .i32⟩
  | .hbm, ⟨55, _⟩ => ⟨S64x576, .i32⟩
  | .hbm, ⟨56, _⟩ => ⟨S_, .i32⟩
  | .hbm, ⟨57, _⟩ => ⟨S64x576, .i32⟩
  | .hbm, ⟨58, _⟩ => ⟨S64x576, .i32⟩
  | .hbm, ⟨59, _⟩ => ⟨S_, .i32⟩
  | .hbm, ⟨60, _⟩ => ⟨S64x576, .i32⟩
  | .hbm, ⟨61, _⟩ => ⟨S64x576, .i1⟩
  | .hbm, ⟨62, _⟩ => ⟨S_, .i32⟩
  | .hbm, ⟨63, _⟩ => ⟨S64x576, .i32⟩
  | .hbm, ⟨64, _⟩ => ⟨S64x576, .i32⟩
  | .hbm, ⟨65, _⟩ => ⟨S64x576, .i32⟩
  | .hbm, ⟨66, _⟩ => ⟨S64x576x1, .i32⟩
  | .hbm, ⟨67, _⟩ => ⟨S16x64x576, .f32⟩
  | .hbm, ⟨68, _⟩ => ⟨S64, .i32⟩
  | .hbm, ⟨69, _⟩ => ⟨S64x1, .i32⟩
  | .hbm, ⟨70, _⟩ => ⟨S_, .i32⟩
  | .hbm, ⟨71, _⟩ => ⟨S64x1, .i32⟩
  | .hbm, ⟨72, _⟩ => ⟨S64x1, .i32⟩
  | .hbm, ⟨73, _⟩ => ⟨S_, .i32⟩
  | .hbm, ⟨74, _⟩ => ⟨S64x1, .i32⟩
  | .hbm, ⟨75, _⟩ => ⟨S64x1, .i32⟩
  | .hbm, ⟨76, _⟩ => ⟨S1x576, .i32⟩
  | .hbm, ⟨77, _⟩ => ⟨S64x576, .i32⟩
  | .hbm, ⟨78, _⟩ => ⟨S64x576, .i32⟩
  | .hbm, ⟨79, _⟩ => ⟨S64x576, .i32⟩
  | .hbm, ⟨80, _⟩ => ⟨S2x64x16x64x576, .f32⟩
  | .hbm, ⟨81, _⟩ => ⟨S_, .f32⟩
  | .hbm, ⟨82, _⟩ => ⟨S2x64x16x64x576, .f32⟩
  | .hbm, ⟨83, _⟩ => ⟨S2x64x16x64x576, .f32⟩
  | .hbm, ⟨84, _⟩ => ⟨S1x1x16x64x576, .f32⟩
  | .hbm, ⟨85, _⟩ => ⟨S2x64x16x64x576, .f32⟩
  | .hbm, ⟨86, _⟩ => ⟨S2x64x16x64x576, .f32⟩
  | .hbm, ⟨87, _⟩ => ⟨S_, .i32⟩
  | .hbm, ⟨88, _⟩ => ⟨S64x576, .i32⟩
  | .hbm, ⟨89, _⟩ => ⟨S64x576, .i1⟩
  | .hbm, ⟨90, _⟩ => ⟨S1x64x1x1x576, .i1⟩
  | .hbm, ⟨91, _⟩ => ⟨S_, .f32⟩
  | .hbm, ⟨92, _⟩ => ⟨S_, .f32⟩
  | .hbm, ⟨93, _⟩ => ⟨S2x64x16x64x576, .i1⟩
  | .hbm, ⟨94, _⟩ => ⟨S2x64x16x64x576, .f32⟩
  | .hbm, ⟨95, _⟩ => ⟨S2x64x16x64x576, .f32⟩
  | .hbm, ⟨96, _⟩ => ⟨S_, .f32⟩
  | .hbm, ⟨97, _⟩ => ⟨S2x64x16x64, .f32⟩
  | .hbm, ⟨98, _⟩ => ⟨S_, .f32⟩
  | .hbm, ⟨99, _⟩ => ⟨S2x64x16x64, .f32⟩
  | .hbm, ⟨100, _⟩ => ⟨S2x64x16x64, .f32⟩
  | .hbm, ⟨101, _⟩ => ⟨S2x64x16x64x1, .f32⟩
  | .hbm, ⟨102, _⟩ => ⟨S2x64x16x64x576, .f32⟩
  | .hbm, ⟨103, _⟩ => ⟨S2x64x16x64x576, .f32⟩
  | .hbm, ⟨104, _⟩ => ⟨S2x64x16x64x576, .f32⟩
  | .hbm, ⟨105, _⟩ => ⟨S_, .f32⟩
  | .hbm, ⟨106, _⟩ => ⟨S2x64x16x64, .f32⟩
  | .hbm, ⟨107, _⟩ => ⟨S2x64x16x64x1, .f32⟩
  | .hbm, ⟨108, _⟩ => ⟨S2x64x16x64x576, .f32⟩
  | .hbm, ⟨109, _⟩ => ⟨S2x64x16x64x576, .f32⟩
  | .hbm, ⟨110, _⟩ => ⟨S2x64x16x128x64, .f32⟩
  | .hbm, ⟨111, _⟩ => ⟨S2x64x64x16x128, .f32⟩
  | .hbm, ⟨112, _⟩ => ⟨S8192x2048, .f32⟩
  | .hbm, ⟨113, _⟩ => ⟨S8192x2048, .bf16⟩
  | _, _ => ⟨S8192x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_call0_v0 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_call1_v0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_c_1 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_c_2 : Ref sig .tc := ⟨.hbm, 48, rfl⟩
abbrev main_c_3 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_v41 : Ref sig .tc := ⟨.hbm, 55, rfl⟩
abbrev main_c_4 : Ref sig .tc := ⟨.hbm, 56, rfl⟩
abbrev main_v42 : Ref sig .tc := ⟨.hbm, 57, rfl⟩
abbrev main_v43 : Ref sig .tc := ⟨.hbm, 58, rfl⟩
abbrev main_c_5 : Ref sig .tc := ⟨.hbm, 59, rfl⟩
abbrev main_v44 : Ref sig .tc := ⟨.hbm, 60, rfl⟩
abbrev main_v45 : Ref sig .tc := ⟨.hbm, 61, rfl⟩
abbrev main_c_6 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_c_7 : Ref sig .tc := ⟨.hbm, 70, rfl⟩
abbrev main_v53 : Ref sig .tc := ⟨.hbm, 71, rfl⟩
abbrev main_v54 : Ref sig .tc := ⟨.hbm, 72, rfl⟩
abbrev main_c_8 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_c_9 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_10 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_v70 : Ref sig .tc := ⟨.hbm, 95, rfl⟩
abbrev main_cst_11 : Ref sig .tc := ⟨.hbm, 96, rfl⟩
abbrev main_v71 : Ref sig .tc := ⟨.hbm, 97, rfl⟩
abbrev main_cst_12 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_13 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩

abbrev nD : Nat := 1
abbrev τ : Topo := Topo.v7x

variable {F : FTy → Type} [FloatOps F]
-- ==== Even.lean ====
abbrev S8192x4096 : Shape := ⟨2, ![8192, 4096]⟩
abbrev S4096x12288 : Shape := ⟨2, ![4096, 12288]⟩
abbrev S8192x12288 : Shape := ⟨2, ![8192, 12288]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4096x12288, .bf16⟩
  | .hbm, ⟨2, _⟩ => ⟨S8192x12288, .f32⟩
  | .hbm, ⟨3, _⟩ => ⟨S8192x12288, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== EvenIdeal.lean ====
abbrev S8192x4096 : Shape := ⟨2, ![8192, 4096]⟩
abbrev S4096x12288 : Shape := ⟨2, ![4096, 12288]⟩
abbrev S8192x12288 : Shape := ⟨2, ![8192, 12288]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4096x12288, .bf16⟩
  | .hbm, ⟨2, _⟩ => ⟨S8192x12288, .f32⟩
  | .hbm, ⟨3, _⟩ => ⟨S8192x12288, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== EvenRefIdeal.lean ====
abbrev S8192x4096 : Shape := ⟨2, ![8192, 4096]⟩
abbrev S4096x12288 : Shape := ⟨2, ![4096, 12288]⟩
abbrev S8192x12288 : Shape := ⟨2, ![8192, 12288]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x12288, .bf16⟩
  | .hbm, ⟨2, _⟩ => ⟨S8192x12288, .f32⟩
  | .hbm, ⟨3, _⟩ => ⟨S8192x12288, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Odd.lean ====
abbrev S8192x4096 : Shape := ⟨2, ![8192, 4096]⟩
abbrev S4096x8192 : Shape := ⟨2, ![4096, 8192]⟩
abbrev S8192x8192 : Shape := ⟨2, ![8192, 8192]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4096x8192, .bf16⟩
  | .hbm, ⟨2, _⟩ => ⟨S8192x8192, .f32⟩
  | .hbm, ⟨3, _⟩ => ⟨S8192x8192, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OddRefIdeal.lean ====
abbrev S8192x4096 : Shape := ⟨2, ![8192, 4096]⟩
abbrev S4096x8192 : Shape := ⟨2, ![4096, 8192]⟩
abbrev S8192x8192 : Shape := ⟨2, ![8192, 8192]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x8192, .bf16⟩
  | .hbm, ⟨2, _⟩ => ⟨S8192x8192, .f32⟩
  | .hbm, ⟨3, _⟩ => ⟨S8192x8192, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Memory.lean ====
abbrev S2x256x4096 : Shape := ⟨3, ![2, 256, 4096]⟩
abbrev S4x4096x1024 : Shape := ⟨3, ![4, 4096, 1024]⟩
abbrev S512x4096 : Shape := ⟨2, ![512, 4096]⟩
abbrev S512x1024 : Shape := ⟨2, ![512, 1024]⟩
abbrev S1x4096x512 : Shape := ⟨3, ![1, 4096, 512]⟩
abbrev S512x512 : Shape := ⟨2, ![512, 512]⟩
abbrev S4096x512 : Shape := ⟨2, ![4096, 512]⟩

abbrev nBuf : Space → Nat
  | .hbm => 8
  | .vmem => 20
  | .smem => 0
  | _ => 0

abbrev bufTy : (tb : Table) → Fin (tcTables nBuf tb) → BufTy
  | .hbm, ⟨0, _⟩ => ⟨S2x256x4096, .f32⟩
  | .hbm, ⟨1, _⟩ => ⟨S4x4096x1024, .f32⟩
  | .hbm, ⟨2, _⟩ => ⟨S512x4096, .f32⟩
  | .hbm, ⟨3, _⟩ => ⟨S512x4096, .bf16⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S512x4096, .bf16⟩
  | .local _ .vmem, ⟨1, _⟩ => ⟨S1x4096x512, .f32⟩
  | .local _ .vmem, ⟨2, _⟩ => ⟨S1x4096x512, .f32⟩
  | .local _ .vmem, ⟨3, _⟩ => ⟨S512x512, .f32⟩
  | .local _ .vmem, ⟨4, _⟩ => ⟨S512x512, .f32⟩
  | .local _ .vmem, ⟨5, _⟩ => ⟨S512x4096, .bf16⟩
  | .local _ .vmem, ⟨6, _⟩ => ⟨S1x4096x512, .f32⟩
  | .local _ .vmem, ⟨7, _⟩ => ⟨S1x4096x512, .f32⟩
  | .local _ .vmem, ⟨8, _⟩ => ⟨S512x512, .f32⟩
  | .local _ .vmem, ⟨9, _⟩ => ⟨S512x512, .f32⟩
  | .local _ .vmem, ⟨10, _⟩ => ⟨S512x4096, .bf16⟩
  | .local _ .vmem, ⟨11, _⟩ => ⟨S1x4096x512, .f32⟩
  | .local _ .vmem, ⟨12, _⟩ => ⟨S1x4096x512, .f32⟩
  | .local _ .vmem, ⟨13, _⟩ => ⟨S512x512, .f32⟩
  | .local _ .vmem, ⟨14, _⟩ => ⟨S512x512, .f32⟩
  | .local _ .vmem, ⟨15, _⟩ => ⟨S512x4096, .bf16⟩
  | .local _ .vmem, ⟨16, _⟩ => ⟨S1x4096x512, .f32⟩
  | .local _ .vmem, ⟨17, _⟩ => ⟨S1x4096x512, .f32⟩
  | .local _ .vmem, ⟨18, _⟩ => ⟨S512x512, .f32⟩
  | .local _ .vmem, ⟨19, _⟩ => ⟨S512x512, .f32⟩
  | _, _ => ⟨S2x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem1_1 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![1, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S512x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S1x4096x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c2_i32 : BitVec 32 := 2#32
  let c0_i32_0 : BitVec 32 := 0#32
  let c0_i32_1 : BitVec 32 := 0#32
  ![c2_i32.toNat, c0_i32_0.toNat, v0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S512x4096 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S1x4096x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![1, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c3_i32 : BitVec 32 := 3#32
  let c0_i32_0 : BitVec 32 := 0#32
  let c0_i32_1 : BitVec 32 := 0#32
  ![c3_i32.toNat, c0_i32_0.toNat, v0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S512x4096 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 2 → Memref sig .tc .vmem S1x4096x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== MemoryRefIdeal.lean ====
abbrev S2x256x4096 : Shape := ⟨3, ![2, 256, 4096]⟩
abbrev S4x4096x1024 : Shape := ⟨3, ![4, 4096, 1024]⟩
abbrev S512x4096 : Shape := ⟨2, ![512, 4096]⟩
abbrev S1x4096x1024 : Shape := ⟨3, ![1, 4096, 1024]⟩
abbrev S4096x1024 : Shape := ⟨2, ![4096, 1024]⟩
abbrev S512x1024 : Shape := ⟨2, ![512, 1024]⟩

abbrev nBuf : Space → Nat
  | .hbm => 15
  | .vmem => 0
  | .smem => 0
  | _ => 0

abbrev bufTy : (tb : Table) → Fin (tcTables nBuf tb) → BufTy
  | .hbm, ⟨0, _⟩ => ⟨S2x256x4096, .f32⟩
  | .hbm, ⟨1, _⟩ => ⟨S4x4096x1024, .f32⟩
  | .hbm, ⟨2, _⟩ => ⟨S512x4096, .f32⟩
  | .hbm, ⟨3, _⟩ => ⟨S1x4096x1024, .f32⟩
  | .hbm, ⟨4, _⟩ => ⟨S4096x1024, .f32⟩
  | .hbm, ⟨5, _⟩ => ⟨S512x1024, .f32⟩
  | .hbm, ⟨6, _⟩ => ⟨S1x4096x1024, .f32⟩
  | .hbm, ⟨7, _⟩ => ⟨S4096x1024, .f32⟩
  | .hbm, ⟨8, _⟩ => ⟨S512x1024, .f32⟩
  | .hbm, ⟨9, _⟩ => ⟨S1x4096x1024, .f32⟩
  | .hbm, ⟨10, _⟩ => ⟨S4096x1024, .f32⟩
  | .hbm, ⟨11, _⟩ => ⟨S512x1024, .f32⟩
  | .hbm, ⟨12, _⟩ => ⟨S1x4096x1024, .f32⟩
  | .hbm, ⟨13, _⟩ => ⟨S4096x1024, .f32⟩
  | .hbm, ⟨14, _⟩ => ⟨S512x1024, .f32⟩
  | _, _ => ⟨S2x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== Out.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S512x512 : Shape := ⟨2, ![512, 512]⟩
abbrev S512x4096 : Shape := ⟨2, ![512, 4096]⟩
abbrev S128x4096 : Shape := ⟨2, ![128, 4096]⟩
abbrev S128 : Shape := ⟨1, ![128]⟩
abbrev S128x1 : Shape := ⟨2, ![128, 1]⟩

abbrev nBuf : Space → Nat
  | .hbm => 9
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .hbm, ⟨3, _⟩ => ⟨S4096, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S8192x4096, .f32⟩
  | .hbm, ⟨8, _⟩ => ⟨S8192x4096, .bf16⟩
  | .local _ .vmem, ⟨0, _⟩ => ⟨S512x512, .bf16⟩
  | .local _ .vmem, ⟨1, _⟩ => ⟨S512x512, .bf16⟩
  | .local _ .vmem, ⟨2, _⟩ => ⟨S512x4096, .bf16⟩
  | .local _ .vmem, ⟨3, _⟩ => ⟨S512x4096, .bf16⟩
  | .local _ .vmem, ⟨4, _⟩ => ⟨S512x4096, .f32⟩
  | .local _ .vmem, ⟨5, _⟩ => ⟨S512x4096, .f32⟩
  | .local _ .vmem, ⟨6, _⟩ => ⟨S1x4096, .f32⟩
  | .local _ .vmem, ⟨7, _⟩ => ⟨S1x4096, .f32⟩
  | .local _ .vmem, ⟨8, _⟩ => ⟨S512x4096, .f32⟩
  | .local _ .vmem, ⟨9, _⟩ => ⟨S512x4096, .f32⟩
  | .local _ .vmem, ⟨10, _⟩ => ⟨S512x4096, .bf16⟩
  | .local _ .vmem, ⟨11, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 8], ![false, false]⟩

def k0_cond3 (i : grid0.Coords) : BitVec 1 :=
  let arg1 : BitVec 32 := BitVec.ofNat 32 (i 1).val
  let c7_i32 : BitVec 32 := 7#32
  let v7 : BitVec 1 := Scalar.cmpi .eq arg1 c7_i32
  let v8 : BitVec 32 := Scalar.extui v7
  let c0_i32_4 : BitVec 32 := 0#32
  let v9 : BitVec 1 := Scalar.cmpi .ne v8 c0_i32_4
  v9

@[reducible] def k0_t1_loop : Scf.Loop 32 :=
  let c0_i32_9 : BitVec 32 := 0#32
  let c4_i32 : BitVec 32 := 4#32
  let v14 : BitVec 32 := Scalar.addi c0_i32_9 c4_i32
  let c1_i32 : BitVec 32 := 1#32
  ⟨c0_i32_9, v14, c1_i32⟩
def k0_mult1 (k0_t1 : Fin k0_t1_loop.trips) : BitVec 32 :=
  let c0_i32_9 : BitVec 32 := 0#32
  let c1_i32 : BitVec 32 := 1#32
  let arg9 : BitVec 32 := Scf.iv c0_i32_9 c1_i32 k0_t1
  let c128_i32 : BitVec 32 := 128#32
  let v15 : BitVec 32 := Scalar.muli arg9 c128_i32
  v15
def k0_off1 (k0_t1 : Fin k0_t1_loop.trips) : Fin 2 → Nat :=
  let c0_i32_9 : BitVec 32 := 0#32
  let c1_i32 : BitVec 32 := 1#32
  let arg9 : BitVec 32 := Scf.iv c0_i32_9 c1_i32 k0_t1
  let c128_i32 : BitVec 32 := 128#32
  let v15 : BitVec 32 := Scalar.muli arg9 c128_i32
  let v16 : BitVec 32 := v15
  let v17 : Index := Scalar.indexCast v16
  let c0_11 : Index := 0#32
  ![v17.toNat, 0]
def k0_cond1 (i : grid0.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_1 : BitVec 32 := 0#32
  let v3 : BitVec 1 := Scalar.cmpi .ne v2 c0_i32_1
  v3

def k0_cond2 (i : grid0.Coords) : BitVec 1 :=
  let arg1 : BitVec 32 := BitVec.ofNat 32 (i 1).val
  let c0_i32_2 : BitVec 32 := 0#32
  let v4 : BitVec 1 := Scalar.cmpi .sgt arg1 c0_i32_2
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== OutIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S512x512 : Shape := ⟨2, ![512, 512]⟩
abbrev S512x4096 : Shape := ⟨2, ![512, 4096]⟩
abbrev S128x4096 : Shape := ⟨2, ![128, 4096]⟩
abbrev S128 : Shape := ⟨1, ![128]⟩
abbrev S128x1 : Shape := ⟨2, ![128, 1]⟩

abbrev nBuf : Space → Nat
  | .hbm => 9
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .hbm, ⟨3, _⟩ => ⟨S4096, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S8192x4096, .f32⟩
  | .hbm, ⟨8, _⟩ => ⟨S8192x4096, .bf16⟩
  | .local _ .vmem, ⟨0, _⟩ => ⟨S512x512, .bf16⟩
  | .local _ .vmem, ⟨1, _⟩ => ⟨S512x512, .bf16⟩
  | .local _ .vmem, ⟨2, _⟩ => ⟨S512x4096, .bf16⟩
  | .local _ .vmem, ⟨3, _⟩ => ⟨S512x4096, .bf16⟩
  | .local _ .vmem, ⟨4, _⟩ => ⟨S512x4096, .f32⟩
  | .local _ .vmem, ⟨5, _⟩ => ⟨S512x4096, .f32⟩
  | .local _ .vmem, ⟨6, _⟩ => ⟨S1x4096, .f32⟩
  | .local _ .vmem, ⟨7, _⟩ => ⟨S1x4096, .f32⟩
  | .local _ .vmem, ⟨8, _⟩ => ⟨S512x4096, .f32⟩
  | .local _ .vmem, ⟨9, _⟩ => ⟨S512x4096, .f32⟩
  | .local _ .vmem, ⟨10, _⟩ => ⟨S512x4096, .bf16⟩
  | .local _ .vmem, ⟨11, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 8], ![false, false]⟩

def k0_cond3 (i : grid0.Coords) : BitVec 1 :=
  let arg1 : BitVec 32 := BitVec.ofNat 32 (i 1).val
  let c7_i32 : BitVec 32 := 7#32
  let v7 : BitVec 1 := Scalar.cmpi .eq arg1 c7_i32
  let v8 : BitVec 32 := Scalar.extui v7
  let c0_i32_4 : BitVec 32 := 0#32
  let v9 : BitVec 1 := Scalar.cmpi .ne v8 c0_i32_4
  v9

@[reducible] def k0_t1_loop : Scf.Loop 32 :=
  let c0_i32_9 : BitVec 32 := 0#32
  let c4_i32 : BitVec 32 := 4#32
  let v14 : BitVec 32 := Scalar.addi c0_i32_9 c4_i32
  let c1_i32 : BitVec 32 := 1#32
  ⟨c0_i32_9, v14, c1_i32⟩
def k0_mult1 (k0_t1 : Fin k0_t1_loop.trips) : BitVec 32 :=
  let c0_i32_9 : BitVec 32 := 0#32
  let c1_i32 : BitVec 32 := 1#32
  let arg9 : BitVec 32 := Scf.iv c0_i32_9 c1_i32 k0_t1
  let c128_i32 : BitVec 32 := 128#32
  let v15 : BitVec 32 := Scalar.muli arg9 c128_i32
  v15
def k0_off1 (k0_t1 : Fin k0_t1_loop.trips) : Fin 2 → Nat :=
  let c0_i32_9 : BitVec 32 := 0#32
  let c1_i32 : BitVec 32 := 1#32
  let arg9 : BitVec 32 := Scf.iv c0_i32_9 c1_i32 k0_t1
  let c128_i32 : BitVec 32 := 128#32
  let v15 : BitVec 32 := Scalar.muli arg9 c128_i32
  let v16 : BitVec 32 := v15
  let v17 : Index := Scalar.indexCast v16
  let c0_11 : Index := 0#32
  ![v17.toNat, 0]
def k0_cond1 (i : grid0.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_1 : BitVec 32 := 0#32
  let v3 : BitVec 1 := Scalar.cmpi .ne v2 c0_i32_1
  v3

def k0_cond2 (i : grid0.Coords) : BitVec 1 :=
  let arg1 : BitVec 32 := BitVec.ofNat 32 (i 1).val
  let c0_i32_2 : BitVec 32 := 0#32
  let v4 : BitVec 1 := Scalar.cmpi .sgt arg1 c0_i32_2
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== OutRefIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 40
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .hbm, ⟨3, _⟩ => ⟨S4096, .f32⟩
  | .hbm, ⟨4, _⟩ => ⟨S4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x4096, .f32⟩
  | .hbm, ⟨26, _⟩ => ⟨S8192x4096, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x4096, .f32⟩
  | .hbm, ⟨32, _⟩ => ⟨S8192x4096, .f32⟩
  | .hbm, ⟨33, _⟩ => ⟨S1x4096, .f32⟩
  | .hbm, ⟨34, _⟩ => ⟨S8192x4096, .f32⟩
  | .hbm, ⟨35, _⟩ => ⟨S8192x4096, .f32⟩
  | .hbm, ⟨36, _⟩ => ⟨S1x4096, .f32⟩
  | .hbm, ⟨37, _⟩ => ⟨S8192x4096, .f32⟩
  | .hbm, ⟨38, _⟩ => ⟨S8192x4096, .f32⟩
  | .hbm, ⟨39, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Down.lean ====
abbrev S8192x11264 : Shape := ⟨2, ![8192, 11264]⟩
abbrev S11264x4096 : Shape := ⟨2, ![11264, 4096]⟩
abbrev S8192x4096 : Shape := ⟨2, ![8192, 4096]⟩
abbrev S4096 : Shape := ⟨1, ![4096]⟩
abbrev S1x4096 : Shape := ⟨2, ![1, 4096]⟩
abbrev S512x512 : Shape := ⟨2, ![512, 512]⟩
abbrev S512x4096 : Shape := ⟨2, ![512, 4096]⟩
abbrev S128x4096 : Shape := ⟨2, ![128, 4096]⟩
abbrev S128 : Shape := ⟨1, ![128]⟩
abbrev S128x1 : Shape := ⟨2, ![128, 1]⟩

abbrev nBuf : Space → Nat
  | .hbm => 9
  | .vmem => 12
  | .smem => 0
  | _ => 0

abbrev bufTy : (tb : Table) → Fin (tcTables nBuf tb) → BufTy
  | .hbm, ⟨0, _⟩ => ⟨S8192x11264, .bf16⟩
  | .hbm, ⟨1, _⟩ => ⟨S11264x4096, .bf16⟩
  | .hbm, ⟨2, _⟩ => ⟨S8192x4096, .f32⟩
  | .hbm, ⟨3, _⟩ => ⟨S4096, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S8192x4096, .f32⟩
  | .hbm, ⟨8, _⟩ => ⟨S8192x4096, .bf16⟩
  | .local _ .vmem, ⟨0, _⟩ => ⟨S512x512, .bf16⟩
  | .local _ .vmem, ⟨1, _⟩ => ⟨S512x512, .bf16⟩
  | .local _ .vmem, ⟨2, _⟩ => ⟨S512x4096, .bf16⟩
  | .local _ .vmem, ⟨3, _⟩ => ⟨S512x4096, .bf16⟩
  | .local _ .vmem, ⟨4, _⟩ => ⟨S512x4096, .f32⟩
  | .local _ .vmem, ⟨5, _⟩ => ⟨S512x4096, .f32⟩
  | .local _ .vmem, ⟨6, _⟩ => ⟨S1x4096, .f32⟩
  | .local _ .vmem, ⟨7, _⟩ => ⟨S1x4096, .f32⟩
  | .local _ .vmem, ⟨8, _⟩ => ⟨S512x4096, .f32⟩
  | .local _ .vmem, ⟨9, _⟩ => ⟨S512x4096, .f32⟩
  | .local _ .vmem, ⟨10, _⟩ => ⟨S512x4096, .bf16⟩
  | .local _ .vmem, ⟨11, _⟩ => ⟨S512x4096, .bf16⟩
  | _, _ => ⟨S8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 22], ![false, false]⟩

def k0_cond3 (i : grid0.Coords) : BitVec 1 :=
  let arg1 : BitVec 32 := BitVec.ofNat 32 (i 1).val
  let c21_i32 : BitVec 32 := 21#32
  let v7 : BitVec 1 := Scalar.cmpi .eq arg1 c21_i32
  let v8 : BitVec 32 := Scalar.extui v7
  let c0_i32_4 : BitVec 32 := 0#32
  let v9 : BitVec 1 := Scalar.cmpi .ne v8 c0_i32_4
  v9

@[reducible] def k0_t1_loop : Scf.Loop 32 :=
  let c0_i32_9 : BitVec 32 := 0#32
  let c4_i32 : BitVec 32 := 4#32
  let v14 : BitVec 32 := Scalar.addi c0_i32_9 c4_i32
  let c1_i32 : BitVec 32 := 1#32
  ⟨c0_i32_9, v14, c1_i32⟩
def k0_mult1 (k0_t1 : Fin k0_t1_loop.trips) : BitVec 32 :=
  let c0_i32_9 : BitVec 32 := 0#32
  let c1_i32 : BitVec 32 := 1#32
  let arg9 : BitVec 32 := Scf.iv c0_i32_9 c1_i32 k0_t1
  let c128_i32 : BitVec 32 := 128#32
  let v15 : BitVec 32 := Scalar.muli arg9 c128_i32
  v15
def k0_off1 (k0_t1 : Fin k0_t1_loop.trips) : Fin 2 → Nat :=
  let c0_i32_9 : BitVec 32 := 0#32
  let c1_i32 : BitVec 32 := 1#32
  let arg9 : BitVec 32 := Scf.iv c0_i32_9 c1_i32 k0_t1
  let c128_i32 : BitVec 32 := 128#32
  let v15 : BitVec 32 := Scalar.muli arg9 c128_i32
  let v16 : BitVec 32 := v15
  let v17 : Index := Scalar.indexCast v16
  let c0_11 : Index := 0#32
  ![v17.toNat, 0]
def k0_cond1 (i : grid0.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_1 : BitVec 32 := 0#32
  let v3 : BitVec 1 := Scalar.cmpi .ne v2 c0_i32_1
  v3

def k0_cond2 (i : grid0.Coords) : BitVec 1 :=
  let arg1 : BitVec 32 := BitVec.ofNat 32 (i 1).val
  let c0_i32_2 : BitVec 32 := 0#32
  let v4 : BitVec 1 := Scalar.cmpi .sgt arg1 c0_i32_2
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== DownRefIdeal.lean ====
abbrev S8192x11264 : Shape := ⟨2, ![8192, 11264]⟩
abbrev S11264x4096 : Shape := ⟨2, ![11264, 4096]⟩
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 40
  | .vmem => 0
  | .smem => 0
  | _ => 0

abbrev bufTy : (tb : Table) → Fin (tcTables nBuf tb) → BufTy
  | .hbm, ⟨0, _⟩ => ⟨S8192x11264, .bf16⟩
  | .hbm, ⟨1, _⟩ => ⟨S11264x4096, .bf16⟩
  | .hbm, ⟨2, _⟩ => ⟨S8192x4096, .f32⟩
  | .hbm, ⟨3, _⟩ => ⟨S4096, .f32⟩
  | .hbm, ⟨4, _⟩ => ⟨S4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x4096, .f32⟩
  | .hbm, ⟨26, _⟩ => ⟨S8192x4096, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x4096, .f32⟩
  | .hbm, ⟨32, _⟩ => ⟨S8192x4096, .f32⟩
  | .hbm, ⟨33, _⟩ => ⟨S1x4096, .f32⟩
  | .hbm, ⟨34, _⟩ => ⟨S8192x4096, .f32⟩
  | .hbm, ⟨35, _⟩ => ⟨S8192x4096, .f32⟩
  | .hbm, ⟨36, _⟩ => ⟨S1x4096, .f32⟩
  | .hbm, ⟨37, _⟩ => ⟨S8192x4096, .f32⟩
  | .hbm, ⟨38, _⟩ => ⟨S8192x4096, .f32⟩
  | .hbm, ⟨39, _⟩ => ⟨S8192x4096, .bf16⟩
  | _, _ => ⟨S8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Ffn.lean ====
abbrev S8192x4096 : Shape := ⟨2, ![8192, 4096]⟩
abbrev S4096x11008 : Shape := ⟨2, ![4096, 11008]⟩
abbrev S3x22016 : Shape := ⟨2, ![3, 22016]⟩
abbrev S1x22016 : Shape := ⟨2, ![1, 22016]⟩
abbrev S8192x11264 : Shape := ⟨2, ![8192, 11264]⟩
abbrev S4x2x11008 : Shape := ⟨3, ![4, 2, 11008]⟩
abbrev S2048x4096 : Shape := ⟨2, ![2048, 4096]⟩
abbrev S4096x256 : Shape := ⟨2, ![4096, 256]⟩
abbrev S3x256 : Shape := ⟨2, ![3, 256]⟩
abbrev S1x256 : Shape := ⟨2, ![1, 256]⟩
abbrev S2048x256 : Shape := ⟨2, ![2048, 256]⟩
abbrev S1x2x256 : Shape := ⟨3, ![1, 2, 256]⟩
abbrev S43x2x512 : Shape := ⟨3, ![43, 2, 512]⟩
abbrev S264x512 : Shape := ⟨2, ![264, 512]⟩
abbrev S2x512 : Shape := ⟨2, ![2, 512]⟩
abbrev S1x2x512 : Shape := ⟨3, ![1, 2, 512]⟩
abbrev S256x4096 : Shape := ⟨2, ![256, 4096]⟩
abbrev S256x256 : Shape := ⟨2, ![256, 256]⟩
abbrev S3x512 : Shape := ⟨2, ![3, 512]⟩
abbrev S1x512 : Shape := ⟨2, ![1, 512]⟩
abbrev S256x512 : Shape := ⟨2, ![256, 512]⟩
abbrev S2x256 : Shape := ⟨2, ![2, 256]⟩

abbrev nBuf : Space → Nat
  | .hbm => 8
  | .vmem => 23
  | .smem => 0
  | _ => 0

abbrev bufTy : (tb : Table) → Fin (tcTables nBuf tb) → BufTy
  | .hbm, ⟨0, _⟩ => ⟨S8192x4096, .bf16⟩
  | .hbm, ⟨1, _⟩ => ⟨S4096x11008, .bf16⟩
  | .hbm, ⟨2, _⟩ => ⟨S4096x11008, .bf16⟩
  | .hbm, ⟨3, _⟩ => ⟨S3x22016, .f32⟩
  | .hbm, ⟨4, _⟩ => ⟨S1x22016, .f32⟩
  | .hbm, ⟨5, _⟩ => ⟨S8192x11264, .bf16⟩
  | .hbm, ⟨6, _⟩ => ⟨S4x2x11008, .f32⟩
  | .hbm, ⟨7, _⟩ => ⟨S4x2x11008, .f32⟩
  | .local _ .vmem, ⟨0, _⟩ => ⟨S2048x4096, .bf16⟩
  | .local _ .vmem, ⟨1, _⟩ => ⟨S2048x4096, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S3x256, .f32⟩
  | .local _ .vmem, ⟨7, _⟩ => ⟨S3x256, .f32⟩
  | .local _ .vmem, ⟨8, _⟩ => ⟨S3x256, .f32⟩
  | .local _ .vmem, ⟨9, _⟩ => ⟨S3x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S2048x256, .bf16⟩
  | .local _ .vmem, ⟨15, _⟩ => ⟨S2048x256, .bf16⟩
  | .local _ .vmem, ⟨16, _⟩ => ⟨S1x2x256, .f32⟩
  | .local _ .vmem, ⟨17, _⟩ => ⟨S1x2x256, .f32⟩
  | .local _ .vmem, ⟨18, _⟩ => ⟨S1x2x256, .f32⟩
  | .local _ .vmem, ⟨19, _⟩ => ⟨S1x2x256, .f32⟩
  | .local _ .vmem, ⟨20, _⟩ => ⟨S43x2x512, .f32⟩
  | .local _ .vmem, ⟨21, _⟩ => ⟨S264x512, .f32⟩
  | .local _ .vmem, ⟨22, _⟩ => ⟨S264x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 44], ![false, false]⟩

def k0_cond1 (i : grid0.Coords) : BitVec 1 :=
  let arg1 : BitVec 32 := BitVec.ofNat 32 (i 1).val
  let c43_i32 : BitVec 32 := 43#32
  let v0 : BitVec 1 := Scalar.cmpi .slt arg1 c43_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c0_i32_6 : BitVec 32 := 0#32
  let v16 : BitVec 1 := Scalar.cmpi .eq v15 c0_i32_6
  let v17 : BitVec 32 := Scalar.extui v16
  let c0_i32_7 : BitVec 32 := 0#32
  let v18 : BitVec 1 := Scalar.cmpi .ne v17 c0_i32_7
  v18

def k0_off1 (i : grid0.Coords) : Fin 3 → Nat :=
  let arg1 : BitVec 32 := BitVec.ofNat 32 (i 1).val
  let v443 : Index := Scalar.indexCast arg1
  let c0_302 : Index := 0#32
  let c0_303 : Index := 0#32
  ![v443.toNat, 0, 0]
def k0_off2 (i : grid0.Coords) : Fin 3 → Nat :=
  let arg1 : BitVec 32 := BitVec.ofNat 32 (i 1).val
  let v19 : Index := Scalar.indexCast arg1
  let c0 : Index := 0#32
  let c0_8 : Index := 0#32
  ![v19.toNat, 0, 0]
def k0_cond3 (i : grid0.Coords) : BitVec 1 :=
  let arg1 : BitVec 32 := BitVec.ofNat 32 (i 1).val
  let c43_i32_0 : BitVec 32 := 43#32
  let v3 : BitVec 1 := Scalar.cmpi .sge arg1 c43_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c42_i32 : BitVec 32 := 42#32
  let v0 : BitVec 32 := Scalar.minsi arg1 c42_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c42_i32 : BitVec 32 := 42#32
  let v0 : BitVec 32 := Scalar.minsi arg1 c42_i32
  let c0_i32 : BitVec 32 := 0#32
  let v1 : BitVec 32 := Scalar.addi v0 c0_i32
  let c0_i32_0 : BitVec 32 := 0#32
  let c0_i32_1 : BitVec 32 := 0#32
  ![c0_i32_0.toNat, v1.toNat]

def cc0_transform_3 (i : grid0.Coords) : Fin 2 → Nat :=
  let arg0 : BitVec 32 := BitVec.ofNat 32 (i 0).val
  let arg1 : BitVec 32 := BitVec.ofNat 32 (i 1).val
  let c42_i32 : BitVec 32 := 42#32
  let v0 : BitVec 32 := Scalar.minsi arg1 c42_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c42_i32 : BitVec 32 := 42#32
  let v0 : BitVec 32 := Scalar.minsi arg1 c42_i32
  let c43_i32 : BitVec 32 := 43#32
  let v1 : BitVec 32 := Scalar.addi v0 c43_i32
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c42_i32 : BitVec 32 := 42#32
  let v0 : BitVec 32 := Scalar.minsi arg1 c42_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c42_i32 : BitVec 32 := 42#32
  let v0 : BitVec 32 := Scalar.minsi arg1 c42_i32
  let c43_i32 : BitVec 32 := 43#32
  let v1 : BitVec 32 := Scalar.addi v0 c43_i32
  let c0_i32 : BitVec 32 := 0#32
  let c0_i32_0 : BitVec 32 := 0#32
  ![c0_i32.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 3 → Nat :=
  let arg0 : BitVec 32 := BitVec.ofNat 32 (i 0).val
  let arg1 : BitVec 32 := BitVec.ofNat 32 (i 1).val
  let c42_i32 : BitVec 32 := 42#32
  let v0 : BitVec 32 := Scalar.minsi arg1 c42_i32
  let c0_i32 : BitVec 32 := 0#32
  let c0_i32_0 : BitVec 32 := 0#32
  ![arg0.toNat, c0_i32.toNat, v0.toNat]

def cc0_transform_9 (i : grid0.Coords) : Fin 3 → Nat :=
  let arg0 : BitVec 32 := BitVec.ofNat 32 (i 0).val
  let arg1 : BitVec 32 := BitVec.ofNat 32 (i 1).val
  let c42_i32 : BitVec 32 := 42#32
  let v0 : BitVec 32 := Scalar.minsi arg1 c42_i32
  let c0_i32 : BitVec 32 := 0#32
  let c0_i32_0 : BitVec 32 := 0#32
  ![arg0.toNat, c0_i32.toNat, v0.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnRefIdeal.lean ====
abbrev S8192x4096 : Shape := ⟨2, ![8192, 4096]⟩
abbrev S4096x11008 : Shape := ⟨2, ![4096, 11008]⟩
abbrev S3x22016 : Shape := ⟨2, ![3, 22016]⟩
abbrev S1x22016 : Shape := ⟨2, ![1, 22016]⟩
abbrev S3x11008 : Shape := ⟨2, ![3, 11008]⟩
abbrev S1x11008 : Shape := ⟨2, ![1, 11008]⟩
abbrev S11008 : Shape := ⟨1, ![11008]⟩
abbrev S8192x11008 : Shape := ⟨2, ![8192, 11008]⟩
abbrev S_ : Shape := ⟨0, ![]⟩
abbrev S2x2x11008 : Shape := ⟨3, ![2, 2, 11008]⟩
abbrev S2x4096x11008 : Shape := ⟨3, ![2, 4096, 11008]⟩
abbrev S2x4098x11008 : Shape := ⟨3, ![2, 4098, 11008]⟩
abbrev S1x1x11008 : Shape := ⟨3, ![1, 1, 11008]⟩
abbrev S4x2048x11008 : Shape := ⟨3, ![4, 2048, 11008]⟩
abbrev S4x2x11008 : Shape := ⟨3, ![4, 2, 11008]⟩
abbrev S8192x11264 : Shape := ⟨2, ![8192, 11264]⟩

abbrev nBuf : Space → Nat
  | .hbm => 87
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x11008, .bf16⟩
  | .hbm, ⟨2, _⟩ => ⟨S4096x11008, .bf16⟩
  | .hbm, ⟨3, _⟩ => ⟨S3x22016, .f32⟩
  | .hbm, ⟨4, _⟩ => ⟨S1x22016, .f32⟩
  | .hbm, ⟨5, _⟩ => ⟨S3x11008, .f32⟩
  | .hbm, ⟨6, _⟩ => ⟨S1x11008, .f32⟩
  | .hbm, ⟨7, _⟩ => ⟨S11008, .f32⟩
  | .hbm, ⟨8, _⟩ => ⟨S8192x11008, .f32⟩
  | .hbm, ⟨9, _⟩ => ⟨S_, .f32⟩
  | .hbm, ⟨10, _⟩ => ⟨S2x2x11008, .f32⟩
  | .hbm, ⟨11, _⟩ => ⟨S2x4096x11008, .f32⟩
  | .hbm, ⟨12, _⟩ => ⟨S2x4098x11008, .f32⟩
  | .hbm, ⟨13, _⟩ => ⟨S2x4096x11008, .f32⟩
  | .hbm, ⟨14, _⟩ => ⟨S1x11008, .f32⟩
  | .hbm, ⟨15, _⟩ => ⟨S11008, .f32⟩
  | .hbm, ⟨16, _⟩ => ⟨S1x1x11008, .f32⟩
  | .hbm, ⟨17, _⟩ => ⟨S2x4096x11008, .f32⟩
  | .hbm, ⟨18, _⟩ => ⟨S2x4096x11008, .f32⟩
  | .hbm, ⟨19, _⟩ => ⟨S1x1x11008, .f32⟩
  | .hbm, ⟨20, _⟩ => ⟨S2x4096x11008, .f32⟩
  | .hbm, ⟨21, _⟩ => ⟨S2x4096x11008, .f32⟩
  | .hbm, ⟨22, _⟩ => ⟨S2x4096x11008, .f32⟩
  | .hbm, ⟨23, _⟩ => ⟨S1x11008, .f32⟩
  | .hbm, ⟨24, _⟩ => ⟨S11008, .f32⟩
  | .hbm, ⟨25, _⟩ => ⟨S1x1x11008, .f32⟩
  | .hbm, ⟨26, _⟩ => ⟨S2x4096x11008, .f32⟩
  | .hbm, ⟨27, _⟩ => ⟨S2x4096x11008, .f32⟩
  | .hbm, ⟨28, _⟩ => ⟨S2x4096x11008, .f32⟩
  | .hbm, ⟨29, _⟩ => ⟨S2x4096x11008, .f32⟩
  | .hbm, ⟨30, _⟩ => ⟨S1x11008, .f32⟩
  | .hbm, ⟨31, _⟩ => ⟨S11008, .f32⟩
  | .hbm, ⟨32, _⟩ => ⟨S1x1x11008, .f32⟩
  | .hbm, ⟨33, _⟩ => ⟨S2x4096x11008, .f32⟩
  | .hbm, ⟨34, _⟩ => ⟨S2x4096x11008, .f32⟩
  | .hbm, ⟨35, _⟩ => ⟨S2x4096x11008, .f32⟩
  | .hbm, ⟨36, _⟩ => ⟨S4x2048x11008, .f32⟩
  | .hbm, ⟨37, _⟩ => ⟨S4x2x11008, .f32⟩
  | .hbm, ⟨38, _⟩ => ⟨S8192x11008, .f32⟩
  | .hbm, ⟨39, _⟩ => ⟨S3x11008, .f32⟩
  | .hbm, ⟨40, _⟩ => ⟨S1x11008, .f32⟩
  | .hbm, ⟨41, _⟩ => ⟨S11008, .f32⟩
  | .hbm, ⟨42, _⟩ => ⟨S8192x11008, .f32⟩
  | .hbm, ⟨43, _⟩ => ⟨S_, .f32⟩
  | .hbm, ⟨44, _⟩ => ⟨S2x2x11008, .f32⟩
  | .hbm, ⟨45, _⟩ => ⟨S2x4096x11008, .f32⟩
  | .hbm, ⟨46, _⟩ => ⟨S2x4098x11008, .f32⟩
  | .hbm, ⟨47, _⟩ => ⟨S2x4096x11008, .f32⟩
  | .hbm, ⟨48, _⟩ => ⟨S1x11008, .f32⟩
  | .hbm, ⟨49, _⟩ => ⟨S11008, .f32⟩
  | .hbm, ⟨50, _⟩ => ⟨S1x1x11008, .f32⟩
  | .hbm, ⟨51, _⟩ => ⟨S2x4096x11008, .f32⟩
  | .hbm, ⟨52, _⟩ => ⟨S2x4096x11008, .f32⟩
  | .hbm, ⟨53, _⟩ => ⟨S1x1x11008, .f32⟩
  | .hbm, ⟨54, _⟩ => ⟨S2x4096x11008, .f32⟩
  | .hbm, ⟨55, _⟩ => ⟨S2x4096x11008, .f32⟩
  | .hbm, ⟨56, _⟩ => ⟨S2x4096x11008, .f32⟩
  | .hbm, ⟨57, _⟩ => ⟨S1x11008, .f32⟩
  | .hbm, ⟨58, _⟩ => ⟨S11008, .f32⟩
  | .hbm, ⟨59, _⟩ => ⟨S1x1x11008, .f32⟩
  | .hbm, ⟨60, _⟩ => ⟨S2x4096x11008, .f32⟩
  | .hbm, ⟨61, _⟩ => ⟨S2x4096x11008, .f32⟩
  | .hbm, ⟨62, _⟩ => ⟨S2x4096x11008, .f32⟩
  | .hbm, ⟨63, _⟩ => ⟨S2x4096x11008, .f32⟩
  | .hbm, ⟨64, _⟩ => ⟨S1x11008, .f32⟩
  | .hbm, ⟨65, _⟩ => ⟨S11008, .f32⟩
  | .hbm, ⟨66, _⟩ => ⟨S1x1x11008, .f32⟩
  | .hbm, ⟨67, _⟩ => ⟨S2x4096x11008, .f32⟩
  | .hbm, ⟨68, _⟩ => ⟨S2x4096x11008, .f32⟩
  | .hbm, ⟨69, _⟩ => ⟨S2x4096x11008, .f32⟩
  | .hbm, ⟨70, _⟩ => ⟨S4x2048x11008, .f32⟩
  | .hbm, ⟨71, _⟩ => ⟨S4x2x11008, .f32⟩
  | .hbm, ⟨72, _⟩ => ⟨S8192x11008, .f32⟩
  | .hbm, ⟨73, _⟩ => ⟨S_, .f32⟩
  | .hbm, ⟨74, _⟩ => ⟨S8192x11008, .f32⟩
  | .hbm, ⟨75, _⟩ => ⟨S8192x11008, .f32⟩
  | .hbm, ⟨76, _⟩ => ⟨S8192x11008, .f32⟩
  | .hbm, ⟨77, _⟩ => ⟨S_, .f32⟩
  | .hbm, ⟨78, _⟩ => ⟨S8192x11008, .f32⟩
  | .hbm, ⟨79, _⟩ => ⟨S8192x11008, .f32⟩
  | .hbm, ⟨80, _⟩ => ⟨S8192x11008, .f32⟩
  | .hbm, ⟨81, _⟩ => ⟨S8192x11008, .f32⟩
  | .hbm, ⟨82, _⟩ => ⟨S8192x11008, .f32⟩
  | .hbm, ⟨83, _⟩ => ⟨S_, .i32⟩
  | .hbm, ⟨84, _⟩ => ⟨S_, .f32⟩
  | .hbm, ⟨85, _⟩ => ⟨S8192x11264, .f32⟩
  | .hbm, ⟨86, _⟩ => ⟨S8192x11264, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_0 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_cst_1 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_cst_2 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_c : Ref sig .tc := ⟨.hbm, 83, rfl⟩
abbrev main_call0_v0 : Ref sig .tc := ⟨.hbm, 84, rfl⟩
abbrev main_v74 : Ref sig .tc := ⟨.hbm, 85, rfl⟩
abbrev main_v75 : Ref sig .tc := ⟨.hbm, 86, rfl⟩

abbrev nD : Nat := 1
abbrev τ : Topo := Topo.v7x

variable {F : FTy → Type} [FloatOps F]
-- ==== Proof.Band.Bias.lean ====
module

public import proofs.«01_k».proof.Proof.Gen.BandIdeal.Value
public import Idealize.ShloMosaic.Lib.StableHlo.Run
public import Idealize.ShloMosaic.Lib.StableHlo.RunRead
public import Idealize.ShloMosaic.Lib.Tactic

@[expose] public section

/-!
# The kernel's table of biases

Before the kernel runs, the host spreads each head's biases over the 767 distances a block of 128 queries meets, lays 128
shifted copies one under the other, and writes `-∞` outside the band.
-/

set_option maxRecDepth 16384

noncomputable section

open Idealize.ShloMosaic Idealize.ShloMosaic.TcCoe Idealize.SL.Sem

namespace Cert.BandIdeal.Bias

open Cert.BandIdeal Cert.BandIdeal.Gen

variable (m : (ℓ : Loc nD τ sig) → Buf (Elt Ideal) ℓ)

/-- The table of biases: one row for each head. -/
abbrev Tbl : Type := (⟨S16x257, .f32⟩ : BufTy).Contents (Elt Ideal)

/-- The column of the table at each of the 767 distances. -/
def columns : IVec S767x1 32 :=
  broadcastInDim S767x1 ![0] bcast_S767_S767x1_0 (select (constantI S767 1 0#1)
    (addi (fun i => lit0 (S767.rowMajor i)) (broadcastInDim S767 ![] bcast_S_S767 (constantI S_ 32 257#32)))
    (fun i => lit0 (S767.rowMajor i)))

/-- The biases at the 767 distances. -/
def spread (x1 : Tbl) : S16x767.Idx → EReal := Host.gather gather_S16x257_S767x1_S16x767_0_1_n_n_1_1_161 x1 columns

/-- Each row is a slice of the 767 distances. -/
theorem slices_at : ∀ p : Fin 128, S16x767.Slices ![0, 127 - p.val] S16x640 := by decide +kernel

/-- Row `p` of the table of biases a block of queries uses. -/
def brow (x1 : Tbl) (p : Fin 128) : S16x1x640.Idx → EReal :=
  broadcastInDim S16x1x640 ![0, 2] bcast_S16x640_S16x1x640_0_2
    (extractStridedSlice S16x640 ![0, 127 - p.val] (spread x1) (slices_at p))

/-- Sixteen rows, one under the other. -/
def rows16 (x1 : Tbl) (k : Fin 8) : S16x16x640.Idx → EReal :=
  concatenate S16x16x640 1 (List.ofFn fun n : Fin 16 => (⟨S16x1x640, brow x1 ⟨16 * k.val + n.val, by omega⟩⟩ : (s : Shape) × (s.Idx → EReal)))
    concatenates_S16x1x640_S16x1x640_S16x1x640_S16x1x640_S16x1x640_S16x1x640_S16x1x640_S16x1x640_S16x1x640_S16x1x640_S16x1x640_S16x1x640_S16x1x640_S16x1x640_S16x1x640_S16x1x640_S16x16x640_d1

/-- All 128 rows. -/
def rows128 (x1 : Tbl) : S16x128x640.Idx → EReal :=
  concatenate S16x128x640 1 (List.ofFn fun k : Fin 8 => (⟨S16x16x640, rows16 x1 k⟩ : (s : Shape) × (s.Idx → EReal)))
    concatenates_S16x16x640_S16x16x640_S16x16x640_S16x16x640_S16x16x640_S16x16x640_S16x16x640_S16x16x640_S16x128x640_d1

/-- Which entries of the table lie inside the band. -/
def band : IVec S16x128x640 1 := broadcastInDim S16x128x640 ![0, 1, 2] bcast_S1x128x640_S16x128x640_0_1_2
  (broadcastInDim S1x128x640 ![1, 2] bcast_S128x640_S1x128x640_1_2 fun i => lit1 (S128x640.rowMajor i))

/-- The table with `-∞` outside the band. -/
def table (x1 : Tbl) : FVec Ideal S16x128x640 .f32 :=
  select band (rows128 x1 : FVec Ideal S16x128x640 .f32)
    (broadcastInDim S16x128x640 ![] bcast_S_S16x128x640 (constant (F := Ideal) S_ .f32 0xFF800000#32))

/-- Equal lists have equal concatenations. -/
theorem cat_congr {t : Shape} {a : Fin t.rank} {xs ys : List ((s : Shape) × (s.Idx → EReal))} (h : xs = ys)
    (hx : Shape.Concatenates (xs.map (·.1)) t a) (hy : Shape.Concatenates (ys.map (·.1)) t a) :
    concatenate t a xs hx = concatenate t a ys hy := by
  subst h; rfl

/-- A selection of equals. -/
theorem select_congr {S : Shape} {c c' : IVec S 1} {x x' y y' : FVec Ideal S .f32} (h1 : c = c') (h2 : x = x') (h3 : y = y') :
    select c x y = select c' x' y' := by subst h1 h2 h3; rfl

/-- Rows at equal offsets. -/
theorem row_congr {o o' : Nat} (h : o = o') (hs : S16x767.Slices ![0, o] S16x640)
    (hs' : S16x767.Slices ![0, o'] S16x640)
    (g : FVec Ideal S16x767 .f32) :
    broadcastInDim S16x1x640 ![0, 2] bcast_S16x640_S16x1x640_0_2 (extractStridedSlice S16x640 ![0, o] g hs : FVec Ideal S16x640 .f32)
      = broadcastInDim S16x1x640 ![0, 2] bcast_S16x640_S16x1x640_0_2 (extractStridedSlice S16x640 ![0, o'] g hs' : FVec Ideal S16x640 .f32) := by
  subst h; rfl

/-- Equal entries before equal lists. -/
theorem cons_congr {S : Shape} {x y : S.Idx → EReal} {xs ys : List ((s : Shape) × (s.Idx → EReal))} (h : x = y) (hs : xs = ys) :
    (⟨S, x⟩ : (s : Shape) × (s.Idx → EReal)) :: xs = ⟨S, y⟩ :: ys := by subst h hs; rfl

set_option maxHeartbeats 8000000 in  -- 138 buffers are read
/-- What the host leaves in the buffer of biases. -/
theorem bias_host (c : Dev nD) : V m c main_v271 = table (m ((c.tc : Thread nD τ).loc main_arg1)) := by
  unfold_abbrev_sides
  after_reads_simp
  refine cast_eq_iff_heq.2 (heq_of_eq ?_)
  refine select_congr ?_ ?_ ?_
  · rw [StableHlo.TRef.ofBuf_toBuf]
    refine congrArg (fun z : IVec S1x128x640 1 => broadcastInDim S16x128x640 ![0, 1, 2] bcast_S1x128x640_S16x128x640_0_1_2 z) ?_
    exact cast_eq_iff_heq.2 HEq.rfl
  rotate_left
  · rw [StableHlo.TRef.ofBuf_toBuf, StableHlo.TRef.ofBuf_toBuf]
    refine congrArg (fun z : FVec Ideal S_ .f32 => broadcastInDim S16x128x640 ![] bcast_S_S16x128x640 z) ?_
    rw [id_eq]
    exact cast_eq_iff_heq.2 HEq.rfl
  refine cast_eq_iff_heq.2 (heq_of_eq ?_)
  refine cat_congr ?_ _ _
  iterate 8 (refine cons_congr ?_ ?_; swap)
  · rfl
  all_goals
    after_reads_simp
    refine (StableHlo.nary_result ..).trans ?_
    unfold rows16
    refine cat_congr (t := S16x16x640) (a := 1) ?_ _ _
    iterate 16 (refine cons_congr ?_ ?_; swap)
    · rfl
  all_goals
    after_reads_simp
    refine (StableHlo.unary_result ..).trans ?_
    after_reads_simp
    exact row_congr rfl _ _ _

end Cert.BandIdeal.Bias
-- ==== Proof.Band.Literal.lean ====
module

public import proofs.«01_k».proof.Proof.Gen.BandIdeal.Value
public import Idealize.ShloMosaic.Lib.ValueIdx

@[expose] public section

/-!
# The literal that marks the band

The host holds a 128 × 640 table of bits as a literal. Row `i`, column `j` is set where column `j`'s chunk lies at most
eight chunks behind the last chunk row `i` sees: checked row by row.
-/

set_option maxRecDepth 16384

noncomputable section

open Idealize.ShloMosaic Idealize.ShloMosaic.ValueIdx

namespace Cert.BandIdeal.Bias

open Cert.BandIdeal

/-- Whether column `j` lies in row `i`'s band. -/
def inBand (i j : Nat) : Bool := Nat.ble (i / 64) (j / 64) && Nat.ble (j / 64) (i / 64 + 8)

/-- Row `i` of the literal is what it should be. -/
def rowOk (i : Nat) : Bool := (List.range 640).all fun j => Nat.beq (lit1t (640 * i + j)).toNat (cond (inBand i j) 1 0)

theorem rows_ok_0 : (List.range' 0 16).all rowOk = true := by decide +kernel
theorem rows_ok_1 : (List.range' 16 16).all rowOk = true := by decide +kernel
theorem rows_ok_2 : (List.range' 32 16).all rowOk = true := by decide +kernel
theorem rows_ok_3 : (List.range' 48 16).all rowOk = true := by decide +kernel
theorem rows_ok_4 : (List.range' 64 16).all rowOk = true := by decide +kernel
theorem rows_ok_5 : (List.range' 80 16).all rowOk = true := by decide +kernel
theorem rows_ok_6 : (List.range' 96 16).all rowOk = true := by decide +kernel
theorem rows_ok_7 : (List.range' 112 16).all rowOk = true := by decide +kernel

/-- A row of a checked stretch is what it should be. -/
theorem rowOk_of {a i : Nat} (h : (List.range' a 16).all rowOk = true) (h1 : a ≤ i) (h2 : i < a + 16) : rowOk i = true :=
  List.all_eq_true.1 h i (List.mem_range'_1.2 ⟨h1, h2⟩)

/-- Every row of the literal is what it should be. -/
theorem row_ok (i : Nat) (hi : i < 128) : rowOk i = true := by
  by_cases h0 : i < 16
  · exact rowOk_of rows_ok_0 (by omega) (by omega)
  by_cases h1 : i < 32
  · exact rowOk_of rows_ok_1 (by omega) (by omega)
  by_cases h2 : i < 48
  · exact rowOk_of rows_ok_2 (by omega) (by omega)
  by_cases h3 : i < 64
  · exact rowOk_of rows_ok_3 (by omega) (by omega)
  by_cases h4 : i < 80
  · exact rowOk_of rows_ok_4 (by omega) (by omega)
  by_cases h5 : i < 96
  · exact rowOk_of rows_ok_5 (by omega) (by omega)
  by_cases h6 : i < 112
  · exact rowOk_of rows_ok_6 (by omega) (by omega)
  · exact rowOk_of rows_ok_7 (by omega) (by omega)

/-- The literal at row `i`, column `j`, by its place in row-major order. -/
theorem lit1t_toNat (i : Fin 128) (j : Fin 640) : (lit1t (640 * i.val + j.val)).toNat = cond (inBand i.val j.val) 1 0 :=
  Nat.eq_of_beq_eq_true (List.all_eq_true.1 (row_ok i.val i.isLt) j.val (List.mem_range.2 j.isLt))

/-- The literal at an index. -/
theorem lit1_eq (i : Fin 128) (j : Fin 640) :
    lit1 (S128x640.rowMajor (ix2 i j)) = 1#1 ↔ i.val / 64 ≤ j.val / 64 ∧ j.val / 64 ≤ i.val / 64 + 8 := by
  have hn : (S128x640.rowMajor (ix2 i j)).val = 640 * i.val + j.val := by
    rw [Shape.rowMajor_val_two]
    show i.val * 640 + j.val = _
    omega
  have ht : lit1 (S128x640.rowMajor (ix2 i j)) = lit1t (640 * i.val + j.val) := by
    show lit1t (S128x640.rowMajor (ix2 i j)).val = _
    rw [hn]
  rw [ht, ← BitVec.toNat_inj, lit1t_toNat]
  have hb : inBand i.val j.val = true ↔ i.val / 64 ≤ j.val / 64 ∧ j.val / 64 ≤ i.val / 64 + 8 := by
    unfold inBand
    rw [Bool.and_eq_true, Nat.ble_eq, Nat.ble_eq]
  rw [← hb]
  cases inBand i.val j.val <;> simp

end Cert.BandIdeal.Bias
-- ==== Proof.Band.Block.lean ====
module

public import proofs.«01_k».proof.Proof.Gen.BandIdeal.Value

@[expose] public section

/-!
# What one grid point of the band-attention kernel stores

The body computes eight heads, each on a 128 × 640 matrix of scores. Here the same result is said once, for a head
and a key block: `scores` is the stack of all eight score matrices, and `headOut` what a head stores from them.
-/

set_option maxRecDepth 16384

noncomputable section

open Idealize.ShloMosaic Idealize.ShloMosaic.TcCoe Idealize.SL.Sem

namespace Cert.BandIdeal.Block

open Cert.BandIdeal.Gen

/-- The first key row of key block `jb` at grid point `i`, as the body computes it. -/
def keyRow (i : grid0.Coords) (jb : Fin 5) : Nat :=
  BitVec.toNat (Scalar.indexCast (Scalar.muli (Scalar.maxsi (Scalar.addi (Scalar.subi (BitVec.ofNat 32 (i 2).val) 4#32)
    (BitVec.ofNat 32 jb.val)) 0#32) 128#32))

/-- It is block `t + jb - 4`, or block 0 where that is negative. -/
theorem keyRow_eq : ∀ (i : grid0.Coords) (jb : Fin 5), keyRow i jb = ((i 2).val + jb.val - 4) * 128 := by
  have h : ∀ (t : Fin 32) (jb : Fin 5), BitVec.toNat (Scalar.indexCast (Scalar.muli (Scalar.maxsi (Scalar.addi
      (Scalar.subi (BitVec.ofNat 32 t.val) 4#32) (BitVec.ofNat 32 jb.val)) 0#32) 128#32)) = (t.val + jb.val - 4) * 128 := by
    decide +kernel
  exact fun i jb => h (i 2) jb

theorem keyRow_le (i : grid0.Coords) (jb : Fin 5) : keyRow i jb + 128 ≤ 4096 := by
  rw [keyRow_eq]
  have h1 : (i 2).val < 32 := (i 2).isLt
  have := jb.isLt
  omega

theorem inbQ (h : Fin 8) : ∀ a, (![0, 128 * h.val] : Fin 2 → Nat) a + S128x128.size a ≤ S128x1024.size a := by
  revert h; decide

theorem inbK (i : grid0.Coords) (jb : Fin 5) (h : Fin 8) :
    ∀ a, (![keyRow i jb, 128 * h.val] : Fin 2 → Nat) a + S128x128.size a ≤ S4096x1024.size a := by
  have h1 := keyRow_le i jb
  have h2 := h.isLt
  intro a
  match a with
  | ⟨0, _⟩ => exact h1
  | ⟨1, _⟩ => show 128 * h.val + 128 ≤ 1024; omega

/-- Head `h`'s queries. -/
def qh (x0 : Vec Ideal S128x1024 .bf16) (h : Fin 8) : Vec Ideal S128x128 .bf16 :=
  View.ld x0 (Rect.unit (s := S128x1024) ![0, 128 * h.val] S128x128.size (inbQ h))

/-- Head `h`'s keys (or values) of key block `jb`. -/
def kh (i : grid0.Coords) (x1 : Vec Ideal S4096x1024 .bf16) (h : Fin 8) (jb : Fin 5) : Vec Ideal S128x128 .bf16 :=
  View.ld x1 (Rect.unit (s := S4096x1024) ![keyRow i jb, 128 * h.val] S128x128.size (inbK i jb h))

/-- One 128 × 128 block of raw scores. -/
def dotQK (q k : Vec Ideal S128x128 .bf16) : FVec Ideal S128x128 .f32 :=
  matmul (F := Ideal) (φ₁ := .bf16) (φ₂ := .bf16) dot_S128x128_S128x128_S128x128_1_1_0_0_n_n none q k
    (constant S128x128 .f32 0x00000000#32)

/-- Eight blocks on top of one another. -/
def stack (f : Fin 8 → FVec Ideal S128x128 .f32) : FVec Ideal S1024x128 .f32 :=
  concatenate S1024x128 0 (List.ofFn fun h : Fin 8 => (⟨S128x128, f h⟩ : (s : Shape) × (s.Idx → Ideal .f32)))
    concatenates_S128x128_S128x128_S128x128_S128x128_S128x128_S128x128_S128x128_S128x128_S1024x128_d0

/-- Five stacks beside one another. -/
def beside (f : Fin 5 → FVec Ideal S1024x128 .f32) : FVec Ideal S1024x640 .f32 :=
  concatenate S1024x640 1 (List.ofFn fun jb : Fin 5 => (⟨S1024x128, f jb⟩ : (s : Shape) × (s.Idx → Ideal .f32)))
    concatenates_S1024x128_S1024x128_S1024x128_S1024x128_S1024x128_S1024x640_d1

/-- Which of the five blocks each of the 640 columns lies in, as the body computes it. -/
def blockNo : IVec S1x640 32 :=
  let v193 : IVec S1x640 32 := iota .tc S1x640 32 [1] iota_S1x640_d1_w32
  let v195 : IVec S1x640 32 := divsi v193 (broadcast S1x640 128#32)
  let v198 : IVec S1x640 32 := extui 32 (cmpi .sgt v193 (broadcast S1x640 0#32)) natLt_1_32
  let v201 : IVec S1x640 32 := extui 32 (cmpi .slt v193 (broadcast S1x640 0#32)) natLt_1_32
  let v207 : BitVec 32 := Scalar.subi (Scalar.extui (Scalar.cmpi .sgt 128#32 0#32)) (Scalar.extui (Scalar.cmpi .slt 128#32 0#32))
  let v209 : IVec S1x640 1 := cmpi .ne (subi v198 v201) (broadcast S1x640 v207)
  let v213 : IVec S1x640 1 := cmpi .ne (remsi v193 (broadcast S1x640 128#32)) (broadcast S1x640 0#32)
  select (andi v209 v213) (subi v195 (broadcast S1x640 1#32)) v195

/-- Which of the 640 columns lie in the sequence. -/
def inside (v0 : BitVec 32) : IVec S1x640 1 := cmpi .sge (addi (broadcast S1x640 v0) blockNo) (broadcast S1x640 0#32)

/-- Scaled, the bias added, and masked outside the sequence. -/
def masked (v0 : BitVec 32) (raw : FVec Ideal S1024x640 .f32) (bias : Vec Ideal S8x128x640 .f32) : FVec Ideal S1024x640 .f32 :=
  select (broadcastTo S1024x640 (shapeCast S1x640 (inside v0) shapeCasts_S1x640_S1x640) broadcasts_S1x640_S1024x640)
    (addf (F := Ideal) (φ := .f32) (mulf (F := Ideal) (φ := .f32) raw (broadcast S1024x640 (Scalar.ofBits (F := Ideal) .f32 0x3DB504F3#32)))
      (shapeCast S1024x640 (shapeCast S8x128x640 bias shapeCasts_S8x128x640_S8x128x640) shapeCasts_S8x128x640_S1024x640))
    (broadcast S1024x640 (Named.named (F := Ideal) κ "mask" 0xF149F2CA#32))

/-- The 1024 × 640 scores of a grid point. -/
def scores (i : grid0.Coords) (x0 : Vec Ideal S128x1024 .bf16) (x1 : Vec Ideal S4096x1024 .bf16) (x3 : Vec Ideal S8x128x640 .f32) :
    FVec Ideal S1024x640 .f32 :=
  masked (Scalar.subi (BitVec.ofNat 32 (i 2).val) 4#32) (beside fun jb => stack fun h => dotQK (qh x0 h) (kh i x1 h jb)) x3

/-- Their row maxima. -/
def maxes (S : FVec Ideal S1024x640 .f32) : FVec Ideal S1024 .f32 :=
  multiReduction (F := Ideal) .maximumf [1] S1024 S 0xFF800000#32 reduces_S1024x640_S1024 (.inl rfl) rfl

theorem slP (h : Fin 8) (jb : Fin 5) : S1024x640.Slices ![128 * h.val, 128 * jb.val] S128x128 := by
  revert h jb; decide

theorem slL (h : Fin 8) : S1024x1.Slices ![128 * h.val, 0] S128x1 := by
  revert h; decide

/-- A key block's part of a head's weighted sum of values. -/
def part (P : FVec Ideal S1024x640 .bf16) (v : Vec Ideal S128x128 .bf16) (h : Fin 8) (jb : Fin 5) : FVec Ideal S128x128 .f32 :=
  matmul (F := Ideal) (φ₁ := .bf16) (φ₂ := .bf16) dot_S128x128_S128x128_S128x128_1_0_0_1_n_n none
    (extractStridedSlice S128x128 ![128 * h.val, 128 * jb.val] P (slP h jb)) v (constant S128x128 .f32 0x00000000#32)

/-- What a head stores: the five parts' sum over the row sums. -/
def headOut (h : Fin 8) (L : FVec Ideal S1024x1 .f32) (P : FVec Ideal S1024x640 .bf16) (v : Fin 5 → Vec Ideal S128x128 .bf16) :
    FVec Ideal S128x128 .bf16 :=
  truncf .bf16 (divf (F := Ideal) (φ := .f32)
    (addf (F := Ideal) (φ := .f32) (addf (F := Ideal) (φ := .f32) (addf (F := Ideal) (φ := .f32) (addf (F := Ideal) (φ := .f32) (addf (F := Ideal) (φ := .f32)
      (broadcast S128x128 (Scalar.ofBits (F := Ideal) .f32 0x00000000#32))
      (part P (v 0) h 0)) (part P (v 1) h 1)) (part P (v 2) h 2)) (part P (v 3) h 3)) (part P (v 4) h 4))
    (broadcastTo S128x128 (extractStridedSlice S128x1 ![128 * h.val, 0] L (slL h)) broadcasts_S128x1_S128x128)) bitsLt_bf16_f32

/-- What the point stores for head `h`. -/
def stored (i : grid0.Coords) (x0 : Vec Ideal S128x1024 .bf16) (x1 x2 : Vec Ideal S4096x1024 .bf16) (x3 : Vec Ideal S8x128x640 .f32)
    (h : Fin 8) : FVec Ideal S128x128 .bf16 :=
  headOut h (k0_pay20 (scores i x0 x1 x3) (maxes (scores i x0 x1 x3))) (k0_pay21 (scores i x0 x1 x3) (maxes (scores i x0 x1 x3)))
    (kh i x2 h)

/-- The scores as the body builds them, head by head and block by block. -/
def rawScores (v0 : BitVec 32) (q : Fin 8 → Vec Ideal S128x128 .bf16) (k : Fin 8 → Fin 5 → Vec Ideal S128x128 .bf16)
    (b : Vec Ideal S8x128x640 .f32) : FVec Ideal S1024x640 .f32 :=
  k0_pay17 (F := Ideal) v0
    (k0_pay4 (k0_pay2 (q 0) (k 0 0)) (k0_pay3 (q 1) (k 1 0)) (q 2) (k 2 0) (q 3) (k 3 0) (q 4) (k 4 0) (q 5) (k 5 0) (q 6) (k 6 0) (q 7) (k 7 0))
    (k0_pay6 (k0_pay5 (q 0) (k 0 1)) (q 1) (k 1 1) (constant S128x128 .f32 0x00000000#32) (q 2) (k 2 1) (q 3) (k 3 1) (q 4) (k 4 1) (q 5) (k 5 1)
      (q 6) (k 6 1) (q 7) (k 7 1))
    (k0_pay8 (k0_pay7 (q 0) (k 0 2)) (q 1) (k 1 2) (q 2) (k 2 2) (q 3) (k 3 2) (q 4) (k 4 2) (q 5) (k 5 2) (q 6) (k 6 2) (q 7) (k 7 2))
    (k0_pay9 (q 0) (k 0 3) (q 1) (k 1 3) (q 2) (k 2 3) (q 3) (k 3 3) (q 4) (k 4 3) (q 5) (k 5 3) (q 6) (k 6 3) (q 7) (k 7 3))
    (k0_pay10 (q 0) (k 0 4)) (k0_pay11 (q 1) (k 1 4)) (k0_pay12 (q 2) (k 2 4)) (k0_pay13 (q 3) (k 3 4)) (k0_pay14 (q 4) (k 4 4))
    (k0_pay15 (q 5) (k 5 4)) (k0_pay16 (q 6) (k 6 4)) (q 7) (k 7 4) b

theorem rawScores_eq (v0 : BitVec 32) (q : Fin 8 → Vec Ideal S128x128 .bf16) (k : Fin 8 → Fin 5 → Vec Ideal S128x128 .bf16)
    (b : Vec Ideal S8x128x640 .f32) :
    rawScores v0 q k b = masked v0 (beside fun jb => stack fun h => dotQK (q h) (k h jb)) b := rfl

/-- The eight stores with the scores `S` and maxima `M` given. -/
theorem heads_eq (S : FVec Ideal S1024x640 .f32) (M : FVec Ideal S1024 .f32) (v : Fin 8 → Fin 5 → Vec Ideal S128x128 .bf16) :
    k0_pay22 (F := Ideal) S M (v 0 0) (v 0 1) (v 0 2) (v 0 3) (v 0 4) = headOut 0 (k0_pay20 S M) (k0_pay21 S M) (v 0)
    ∧ k0_pay24 (F := Ideal) (k0_pay20 S M) (k0_pay21 S M) (k0_pay23 S M (v 1 0)) (Scalar.ofBits .f32 0x00000000#32) (v 1 1) (v 1 2) (v 1 3) (v 1 4)
        = headOut 1 (k0_pay20 S M) (k0_pay21 S M) (v 1)
    ∧ k0_pay27 (F := Ideal) (k0_pay20 S M) (k0_pay21 S M) (k0_pay25 (k0_pay21 S M) (v 2 0) (v 2 1)) (k0_pay26 (k0_pay21 S M) (v 2 2)) (v 2 3) (v 2 4)
        = headOut 2 (k0_pay20 S M) (k0_pay21 S M) (v 2)
    ∧ k0_pay29 (F := Ideal) (k0_pay20 S M) (k0_pay28 (k0_pay21 S M) (v 3 0) (v 3 1) (v 3 2) (v 3 3) (v 3 4))
        = headOut 3 (k0_pay20 S M) (k0_pay21 S M) (v 3)
    ∧ k0_pay30 (F := Ideal) (k0_pay20 S M) (k0_pay21 S M) (v 4 0) (v 4 1) (v 4 2) (v 4 3) (v 4 4)
        = headOut 4 (k0_pay20 S M) (k0_pay21 S M) (v 4)
    ∧ k0_pay32 (F := Ideal) (k0_pay20 S M) (k0_pay21 S M) (k0_pay31 (k0_pay21 S M) (v 5 0)) (Scalar.ofBits .f32 0x00000000#32) (v 5 1) (v 5 2) (v 5 3) (v 5 4)
        = headOut 5 (k0_pay20 S M) (k0_pay21 S M) (v 5)
    ∧ k0_pay35 (F := Ideal) (k0_pay20 S M) (k0_pay21 S M) (k0_pay33 (k0_pay21 S M) (v 6 0) (v 6 1)) (k0_pay34 (k0_pay21 S M) (v 6 2)) (v 6 3) (v 6 4)
        = headOut 6 (k0_pay20 S M) (k0_pay21 S M) (v 6)
    ∧ k0_pay1 (F := Ideal) (k0_pay20 S M) (k0_pay36 (k0_pay21 S M) (v 7 0) (v 7 1) (v 7 2) (v 7 3) (v 7 4))
        = headOut 7 (k0_pay20 S M) (k0_pay21 S M) (v 7) :=
  ⟨rfl, rfl, rfl, rfl, rfl, rfl, rfl, rfl⟩

/-- One store: its columns and its values. -/
def piece (h : Fin 8) (w : FVec Ideal S128x128 .bf16) : View.Piece (Elt Ideal) S128x1024 .bf16 :=
  ⟨Rect.unit (s := S128x1024) ![0, 128 * h.val] S128x128.size (inbQ h), w⟩

/-- The point's output block is the eight heads' stores, side by side. -/
theorem out_eq (c) (i : grid0.Coords) (arg3) (harg3) (arg4) (harg4) (arg5) (harg5) (arg6) (harg6) (arg7) (harg7) (x0 x1 x2 x3) :
    out0_A_4 (F := Ideal) c i arg3 harg3 arg4 harg4 arg5 harg5 arg6 harg6 arg7 harg7 x0 x1 x2 x3
      = View.canon [piece 7 (stored i x0 x1 x2 x3 7), piece 6 (stored i x0 x1 x2 x3 6), piece 5 (stored i x0 x1 x2 x3 5),
          piece 4 (stored i x0 x1 x2 x3 4), piece 3 (stored i x0 x1 x2 x3 3), piece 2 (stored i x0 x1 x2 x3 2),
          piece 1 (stored i x0 x1 x2 x3 1), piece 0 (stored i x0 x1 x2 x3 0)] := by
  have hb : View.ld x3 (Rect.unit (s := S8x128x640) ![0, 0, 0] S8x128x640.size inb_S8x128x640_S8x128x640_0_0_0) = x3 := by
    exact View.ld_unit_zero (S := S8x128x640) (off := ![0, 0, 0]) (by decide) _ x3
  have hS : scores i x0 x1 x3 = rawScores (Scalar.subi (BitVec.ofNat 32 (i 2).val) 4#32) (qh x0) (kh i x1)
      (View.ld x3 (Rect.unit (s := S8x128x640) ![0, 0, 0] S8x128x640.size inb_S8x128x640_S8x128x640_0_0_0)) := by
    rw [hb]; rfl
  unfold stored
  rw [hS]
  generalize hL : View.canon (Val := Elt Ideal) _ = rhs
  unfold out0_A_4
  rw [View.read_writes_eq_canon _ _ _ (cover0_A_4 c i arg3 harg3 arg4 harg4 arg5 harg5 arg6 harg6 arg7 harg7 x0 x1 x2 x3)]
  unfold kernelRun0_A
  dsimp only
  sl_unfold_words
  simp only [View.readAt_eq_ld, harg3.read_unread, harg4.read_unread, harg5.read_unread, harg6.read_unread]
  subst hL
  generalize hR : rawScores _ _ _ _ = S
  have h17 : ∀ v0 a b c d e f g h j k l m n o, k0_pay18 (F := Ideal) v0 a b c d e f g h j k l m n o = maxes (k0_pay17 (F := Ideal) v0 a b c d e f g h j k l m n o) :=
    fun _ _ _ _ _ _ _ _ _ _ _ _ _ _ _ => rfl
  simp only [h17]
  generalize hR' : k0_pay17 (F := Ideal) _ _ _ _ _ _ _ _ _ _ _ _ _ _ _ = S'
  have : S' = S := by rw [← hR, ← hR']; rfl
  subst this
  obtain ⟨h0, h1, h2, h3, h4, h5, h6, h7⟩ := heads_eq S' (maxes S') (kh i x2)
  rw [← h0, ← h1, ← h2, ← h3, ← h4, ← h5, ← h6, ← h7]
  rfl

end Cert.BandIdeal.Block
-- ==== Proof.Band.BiasValue.lean ====
module

public import proofs.«01_k».proof.Proof.Band.Bias
public import proofs.«01_k».proof.Proof.Band.Literal
public import proofs.«01_k».proof.Proof.Band.Block
public import Idealize.ShloMosaic.Lib.ValueIdx
public import Idealize.ShloMosaic.Lib.Pipeline.ValueKit.Tiles

@[expose] public section

/-!
# The kernel's table of biases at an index

Row `i`, column `j` of a head's table holds the bias for the distance `512 + i - j`, or `-∞` where column `j` lies
outside the band of the row's chunk.
-/

set_option maxRecDepth 16384

noncomputable section

open Idealize.ShloMosaic Idealize.ShloMosaic.TcCoe Idealize.SL.Sem Idealize.ShloMosaic.ValueIdx

namespace Cert.BandIdeal.Bias

open Cert.BandIdeal Cert.BandIdeal.Gen

/-- The bias's column for row `i` and column `j` of a block: the distance, cut off at 128, shifted by 128. -/
def distCol (i : Fin 128) (j : Fin 640) : Fin 257 := ⟨min (640 + i.val - j.val) 256, by omega⟩

/-- The literal of distances. -/
theorem lit0_eq : ∀ e : Fin 767, (lit0 (S767.rowMajor (ix1 e))).toInt.toNat = min (767 - e.val) 256 := by
  decide +kernel

/-- The word at a distance is the literal's. -/
theorem columns_apply (p : Fin 767) : columns (ix2 p 0) = lit0 (S767.rowMajor (ix1 p)) := by
  unfold columns
  refine (broadcastInDim_apply ![0] bcast_S767_S767x1_0 _ (ix2 p 0) (ix1 p) fun a => ?_).trans ?_
  · match a with
    | ⟨0, _⟩ => rfl
  · rfl

/-- The gather of one column for each distance, at an index. -/
theorem gather_apply (x1 : Tbl) (idx : IVec S767x1 32) (h : Fin 16) (p : Fin 767)
    (k : Fin 257) (hk : (idx (ix2 p 0)).toInt.toNat = k.val) :
    Host.gather gather_S16x257_S767x1_S16x767_0_1_n_n_1_1_161 x1 idx (ix2 h p) = x1 (ix2 h k) := by
  unfold Host.gather
  refine congrArg x1 (funext fun a => Fin.ext ?_)
  let D := gather_S16x257_S767x1_S16x767_0_1_n_n_1_1_161
  show D.start (ix2 h p) idx a + D.batchCoord (ix2 h p) a + D.offCoord (ix2 h p) a = _
  have h01 : a = (0 : Fin 2) ∨ a = (1 : Fin 2) := by
    match a with
    | ⟨0, _⟩ => exact Or.inl rfl
    | ⟨1, _⟩ => exact Or.inr rfl
  rcases h01 with rfl | rfl
  · rw [GatherDims.batchCoord_eq_zero _ _ _ (fun hm => by simp [D, gather_S16x257_S767x1_S16x767_0_1_n_n_1_1_161] at hm)]
    have hs : D.start (ix2 h p) idx (0 : Fin 2) = 0 := by
      unfold GatherDims.start
      rw [dif_neg (show ¬(0 : Fin 2) ∈ D.startIndexMap by decide)]
    have ho : D.offCoord (ix2 h p) (0 : Fin 2) = h.val := by
      unfold GatherDims.offCoord
      rw [dif_pos (show (0 : Fin 2) ∈ D.sKept by decide)]
      rfl
    show D.start (ix2 h p) idx (0 : Fin 2) + 0 + D.offCoord (ix2 h p) (0 : Fin 2) = h.val
    rw [hs, ho]; omega
  · rw [GatherDims.batchCoord_eq_zero _ _ _ (fun hm => by simp [D, gather_S16x257_S767x1_S16x767_0_1_n_n_1_1_161] at hm),
      GatherDims.offCoord_eq_zero _ _ _ (show ¬(1 : Fin 2) ∈ D.sKept by decide)]
    show D.start (ix2 h p) idx (1 : Fin 2) + 0 + 0 = k.val
    unfold GatherDims.start
    rw [dif_pos (show (1 : Fin 2) ∈ D.startIndexMap by decide)]
    have hsi : D.siIdx (ix2 h p) ⟨List.idxOf (1 : Fin 2) D.startIndexMap,
        List.idxOf_lt_length_iff.2 (show (1 : Fin 2) ∈ D.startIndexMap by decide)⟩ = ix2 p 0 := by
      funext b
      refine Fin.ext ?_
      match b with
      | ⟨0, _⟩ => rfl
      | ⟨1, _⟩ => rfl
    rw [hsi, hk]
    show min k.val 256 + 0 + 0 = k.val
    have := k.isLt
    omega

/-- The bias at position `p` of the 767 distances. -/
theorem spread_apply (x1 : Tbl) (h : Fin 16) (p : Fin 767) (k : Fin 257) (hk : min (767 - p.val) 256 = k.val) :
    spread x1 (ix2 h p) = x1 (ix2 h k) := by
  unfold spread
  refine gather_apply x1 columns h p k ?_
  rw [columns_apply, lit0_eq]
  exact hk

/-- A row of the table. -/
theorem brow_apply (x1 : Tbl) (p : Fin 128) (h : Fin 16) (z : Fin 1) (j : Fin 640) :
    brow x1 p (ix3 h z j) = x1 (ix2 h (distCol p j)) := by
  have hp := p.isLt; have hj := j.isLt
  unfold brow
  refine (broadcastInDim_apply ![0, 2] bcast_S16x640_S16x1x640_0_2 _ (ix3 h z j) (ix2 h j) fun a => ?_).trans ?_
  · match a with
    | ⟨0, _⟩ => rfl
    | ⟨1, _⟩ => rfl
  refine (extractStridedSlice_apply ![0, 127 - p.val] (spread x1) (slices_at p) (ix2 h j) (ix2 h ⟨127 - p.val + j.val, by omega⟩) fun a => ?_).trans ?_
  · match a with
    | ⟨0, _⟩ => show h.val = 0 + h.val; omega
    | ⟨1, _⟩ => show 127 - p.val + j.val = 127 - p.val + j.val; rfl
  · refine spread_apply x1 h _ (distCol p j) ?_
    show min (767 - (127 - p.val + j.val)) 256 = min (640 + p.val - j.val) 256
    omega

/-- Sixteen rows, one under the other, at an index. -/
theorem rows16_apply (x1 : Tbl) (k : Fin 8) (h n : Fin 16) (j : Fin 640) (p : Fin 128) (hp : p.val = 16 * k.val + n.val) :
    rows16 x1 k (ix3 h n j) = x1 (ix2 h (distCol p j)) := by
  refine (concatenate_ofFn_unit_apply (t := S16x16x640) (s₁ := S16x1x640) 1 _ _ rfl rfl _ n rfl (ix3 h 0 j) fun b hb => ?_).trans
    ((brow_apply x1 _ h 0 j).trans (by rw [show p = ⟨16 * k.val + n.val, by omega⟩ from Fin.ext hp]))
  match b with
  | ⟨0, _⟩ => rfl
  | ⟨1, _⟩ => exact absurd rfl hb
  | ⟨2, _⟩ => rfl

/-- All rows at an index. -/
theorem rows128_apply (x1 : Tbl) (h : Fin 16) (i : Fin 128) (j : Fin 640) :
    rows128 x1 (ix3 h i j) = x1 (ix2 h (distCol i j)) := by
  refine (concatenate_ofFn_apply (t := S16x128x640) (s₁ := S16x16x640) 1 _ _ rfl 16 rfl (ix3 h i j) ⟨i.val / 16, by omega⟩ rfl
    (ix3 h ⟨i.val % 16, by omega⟩ j) rfl fun b hb => ?_).trans (rows16_apply x1 _ h _ j i ?_)
  · match b with
    | ⟨0, _⟩ => rfl
    | ⟨1, _⟩ => exact absurd rfl hb
    | ⟨2, _⟩ => rfl
  · show i.val = 16 * (i.val / 16) + i.val % 16
    omega

/-- Whether an entry lies inside the band. -/
theorem band_apply (h : Fin 16) (i : Fin 128) (j : Fin 640) : band (ix3 h i j) = lit1 (S128x640.rowMajor (ix2 i j)) := by
  unfold band
  refine (broadcastInDim_apply ![0, 1, 2] bcast_S1x128x640_S16x128x640_0_1_2 _ (ix3 h i j) (ix3 0 i j) fun a => ?_).trans ?_
  · match a with
    | ⟨0, _⟩ => rfl
    | ⟨1, _⟩ => rfl
    | ⟨2, _⟩ => rfl
  · exact broadcastInDim_apply ![1, 2] bcast_S128x640_S1x128x640_1_2 _ (ix3 0 i j) (ix2 i j) fun a => by
      match a with
      | ⟨0, _⟩ => rfl
      | ⟨1, _⟩ => rfl

theorem neg_inf : Ideal.ofBits .f32 0xFF800000#32 = ⊥ := by
  simp [Ideal.ofBits, Ideal.ieee]

/-- The table at an index. -/
theorem table_apply (x1 : Tbl) (h : Fin 16) (i : Fin 128) (j : Fin 640) :
    table x1 (ix3 h i j) = if i.val / 64 ≤ j.val / 64 ∧ j.val / 64 ≤ i.val / 64 + 8 then x1 (ix2 h (distCol i j)) else ⊥ := by
  show (if band (ix3 h i j) = 1#1 then rows128 x1 (ix3 h i j) else Ideal.ofBits .f32 0xFF800000#32) = _
  rw [band_apply, rows128_apply, neg_inf]
  exact if_congr (lit1_eq i j) rfl rfl

end Cert.BandIdeal.Bias
-- ==== Proof.Band.BlockValue.lean ====
module

public import proofs.«01_k».proof.Proof.Band.Block
public import Idealize.ShloMosaic.Lib.Pipeline.ValueKit.Tiles
public import Idealize.ShloMosaic.Lib.MatmulPlain
public import Idealize.ShloMosaic.Lib.ValueIdx

@[expose] public section

/-!
# The stored block at an index

Row `r`, column `d` of head `h`'s store: the softmax-weighted sum of the 640 gathered values.
-/

set_option maxRecDepth 16384

noncomputable section

open Idealize.ShloMosaic Idealize.ShloMosaic.TcCoe Idealize.SL.Sem Idealize.ShloMosaic.ValueIdx

namespace Cert.BandIdeal.Block

open Cert.BandIdeal.Gen

/-- The factor on the scores. -/
def scale : EReal := Ideal.ofBits .f32 0x3DB504F3#32

/-- Which column of the sequence block `jb` and lane `l` of the 640 columns stand at, at grid row `t`. -/
def col (jb : Fin 5) (l : Fin 128) : Fin 640 := ⟨128 * jb.val + l.val, by omega⟩

/-- Row `128 h + r` of the stack. -/
def row (h : Fin 8) (r : Fin 128) : Fin 1024 := ⟨128 * h.val + r.val, by omega⟩

/-- The column of head `h`, lane `d` in a 1024-wide row. -/
def lane (h : Fin 8) (d : Fin 128) : Fin 1024 := ⟨128 * h.val + d.val, by omega⟩

/-- The row of the key sequence that column `(jb, l)` reads at the point `i`. -/
def key (i : grid0.Coords) (jb : Fin 5) (l : Fin 128) : Fin 4096 := ⟨keyRow i jb + l.val, by have := keyRow_le i jb; omega⟩

theorem qh_apply (x0 : Vec Ideal S128x1024 .bf16) (h : Fin 8) (r e : Fin 128) : qh x0 h (ix2 r e) = x0 (ix2 r (lane h e)) := by
  refine View.ld_unit_apply_of (S := S128x1024) x0 _ _ _ _ (ix2 r (lane h e)) fun a => ?_
  match a with
  | ⟨0, _⟩ => show r.val = 0 + r.val; omega
  | ⟨1, _⟩ => rfl

theorem kh_apply (i : grid0.Coords) (x1 : Vec Ideal S4096x1024 .bf16) (h : Fin 8) (jb : Fin 5) (l e : Fin 128) :
    kh i x1 h jb (ix2 l e) = x1 (ix2 (key i jb l) (lane h e)) := by
  refine View.ld_unit_apply_of (S := S4096x1024) x1 _ _ _ _ (ix2 (key i jb l) (lane h e)) fun a => ?_
  match a with
  | ⟨0, _⟩ => rfl
  | ⟨1, _⟩ => rfl

theorem dotQK_apply (q k : Vec Ideal S128x128 .bf16) (r l : Fin 128) :
    dotQK q k (ix2 r l) = ∑ e : Fin 128, (q (ix2 r e) * k (ix2 l e) : EReal) := by
  refine (Ideal.matmul_transposedRhs_apply (M := 128) (K := 128) (N := 128) none q k _ r l).trans ?_
  show Ideal.ofBits .f32 0x00000000#32 + _ = _
  rw [Ideal.ofBits_zero_f32, zero_add]

theorem stack_apply (f : Fin 8 → FVec Ideal S128x128 .f32) (h : Fin 8) (r l : Fin 128) :
    stack f (ix2 (row h r) l) = f h (ix2 r l) := by
  refine concatenate_ofFn_apply (t := S1024x128) (s₁ := S128x128) 0 f _ rfl 128 rfl _ h ?_ _ ?_ ?_
  · show (128 * h.val + r.val) / 128 = h.val; omega
  · show r.val = (128 * h.val + r.val) % 128; omega
  · intro b hb
    match b with
    | ⟨0, _⟩ => exact absurd rfl hb
    | ⟨1, _⟩ => rfl

theorem beside_apply (f : Fin 5 → FVec Ideal S1024x128 .f32) (y : Fin 1024) (jb : Fin 5) (l : Fin 128) :
    beside f (ix2 y (col jb l)) = f jb (ix2 y l) := by
  refine concatenate_ofFn_apply (t := S1024x640) (s₁ := S1024x128) 1 f _ rfl 128 rfl _ jb ?_ _ ?_ ?_
  · show (128 * jb.val + l.val) / 128 = jb.val; omega
  · show l.val = (128 * jb.val + l.val) % 128; omega
  · intro b hb
    match b with
    | ⟨0, _⟩ => rfl
    | ⟨1, _⟩ => exact absurd rfl hb

theorem blockNo_apply : ∀ j : Fin 640, blockNo (ix2 0 j) = BitVec.ofNat 32 (j.val / 128) := by decide +kernel

/-- The mask at column `j`: block `t + j / 128 - 4` is not negative. -/
theorem inside_apply (t : Fin 32) (jb : Fin 5) (l : Fin 128) :
    inside (Scalar.subi (BitVec.ofNat 32 t.val) 4#32) (ix2 0 (col jb l)) = if 4 ≤ t.val + jb.val then 1#1 else 0#1 := by
  have hw : ∀ (t : Fin 32) (jb : Fin 5), Scalar.cmpi .sge (Scalar.addi (Scalar.subi (BitVec.ofNat 32 t.val) 4#32)
      (BitVec.ofNat 32 jb.val)) 0#32 = if 4 ≤ t.val + jb.val then 1#1 else 0#1 := by decide +kernel
  have hb := blockNo_apply (col jb l)
  have hj : (col jb l).val / 128 = jb.val := by show (128 * jb.val + l.val) / 128 = jb.val; omega
  rw [hj] at hb
  show Scalar.cmpi .sge (Scalar.addi (Scalar.subi (BitVec.ofNat 32 t.val) 4#32) (blockNo (ix2 0 (col jb l)))) 0#32 = _
  rw [hb]
  exact hw t jb

/-- A score: the scaled product of the query and the key, plus the bias, or `-∞` before the sequence's start. -/
theorem scores_apply (i : grid0.Coords) (x0 : Vec Ideal S128x1024 .bf16) (x1 : Vec Ideal S4096x1024 .bf16) (x3 : Vec Ideal S8x128x640 .f32)
    (h : Fin 8) (r : Fin 128) (jb : Fin 5) (l : Fin 128) :
    scores i x0 x1 x3 (ix2 (row h r) (col jb l)) = if 4 ≤ (i 2).val + jb.val then
      (∑ e : Fin 128, (x0 (ix2 r (lane h e)) * x1 (ix2 (key i jb l) (lane h e)) : EReal)) * scale + x3 (ix3 h r (col jb l)) else ⊥ := by
  have hm : broadcastTo S1024x640 (shapeCast S1x640 (inside (Scalar.subi (BitVec.ofNat 32 (i 2).val) 4#32)) shapeCasts_S1x640_S1x640)
      broadcasts_S1x640_S1024x640 (ix2 (row h r) (col jb l)) = if 4 ≤ (i 2).val + jb.val then 1#1 else 0#1 := by
    refine (broadcastTo_apply _ _ _ (ix2 0 (col jb l)) fun a => ?_).trans
      ((shapeCast_apply _ _ _ (ix2 0 (col jb l)) rfl).trans (inside_apply (i 2) jb l))
    match a with
    | ⟨0, _⟩ => rfl
    | ⟨1, _⟩ => rfl
  have hbias : shapeCast S1024x640 (shapeCast S8x128x640 x3 shapeCasts_S8x128x640_S8x128x640) shapeCasts_S8x128x640_S1024x640
      (ix2 (row h r) (col jb l)) = x3 (ix3 h r (col jb l)) := by
    refine (shapeCast_apply _ _ _ (ix3 h r (col jb l)) ?_).trans (shapeCast_apply _ _ _ (ix3 h r (col jb l)) rfl)
    rw [Shape.rowMajor_val_three, Shape.rowMajor_val_two]
    show (h.val * 128 + r.val) * 640 + (col jb l).val = (128 * h.val + r.val) * 640 + (col jb l).val
    omega
  have hraw : (beside fun jb => stack fun h => dotQK (qh x0 h) (kh i x1 h jb)) (ix2 (row h r) (col jb l))
      = ∑ e : Fin 128, (x0 (ix2 r (lane h e)) * x1 (ix2 (key i jb l) (lane h e)) : EReal) := by
    rw [beside_apply, stack_apply, dotQK_apply]
    exact Finset.sum_congr rfl fun e _ => by rw [qh_apply, kh_apply]
  unfold scores masked
  rw [select_apply, hm]
  by_cases hc : 4 ≤ (i 2).val + jb.val
  · rw [if_pos hc, if_pos hc]
    refine (if_pos rfl).trans ?_
    show (_ : EReal) * scale + _ = _
    rw [hraw, hbias]
  · rw [if_neg hc, if_neg hc]
    exact if_neg (by decide)

/-- The row maximum. -/
theorem maxes_apply (S : FVec Ideal S1024x640 .f32) (y : Fin 1024) :
    maxes S (ix1 y) = (Finset.univ : Finset (Fin 640)).fold max (⊥ : EReal) fun j => S (ix2 y j) := by
  refine (Ideal.multiReduction_maximumf_single (φ := .f32) S 0xFF800000#32 reduces_S1024x640_S1024 (.inl rfl) rfl (ix1 y)).trans ?_
  have h0 : (FloatOps.ofBits .f32 0xFF800000#32 : Ideal .f32) = (⊥ : EReal) := by
    show Ideal.ofBits .f32 0xFF800000#32 = ⊥
    simp [Ideal.ofBits, Ideal.ieee]
  rw [h0]
  refine congrArg (Finset.fold max (⊥ : EReal) · Finset.univ) (funext fun j => ?_)
  refine congrArg S (funext fun a => Fin.ext ?_)
  match a with
  | ⟨0, _⟩ => rfl
  | ⟨1, _⟩ => rfl

/-- The exponential weight at a row and a column. -/
def wt (S : FVec Ideal S1024x640 .f32) (y : Fin 1024) (j : Fin 640) : EReal :=
  Ideal.exp (S (ix2 y j) - (Finset.univ : Finset (Fin 640)).fold max (⊥ : EReal) fun j => S (ix2 y j))

theorem pay19_apply (S : FVec Ideal S1024x640 .f32) (y : Fin 1024) (j : Fin 640) :
    k0_pay19 (F := Ideal) S (maxes S) (ix2 y j) = wt S y j := by
  have h : broadcastTo S1024x640 (shapeCast S1024x1 (maxes S) shapeCasts_S1024_S1024x1) broadcasts_S1024x1_S1024x640 (ix2 y j) = maxes S (ix1 y) := by
    refine (broadcastTo_apply _ _ _ (ix2 y 0) fun a => ?_).trans (shapeCast_apply _ _ _ (ix1 y) ?_)
    · match a with
      | ⟨0, _⟩ => rfl
      | ⟨1, _⟩ => rfl
    · rw [Shape.rowMajor_val_one, Shape.rowMajor_val_two]
      show y.val = y.val * 1 + 0
      omega
  show Ideal.exp (S (ix2 y j) - _) = _
  rw [h, maxes_apply]; rfl

theorem pay20_apply (S : FVec Ideal S1024x640 .f32) (y : Fin 1024) (z : Fin 1) :
    k0_pay20 (F := Ideal) S (maxes S) (ix2 y z) = ∑ j : Fin 640, wt S y j := by
  unfold k0_pay20
  refine (shapeCast_apply _ shapeCasts_S1024_S1024x1 (ix2 y z) (ix1 y) ?_).trans ?_
  · rw [Shape.rowMajor_val_one, Shape.rowMajor_val_two]
    show y.val = y.val * 1 + z.val
    omega
  · refine (Ideal.multiReduction_add_single (φ := .f32) _ 0x00000000#32 reduces_S1024x640_S1024 (.inl rfl) rfl (ix1 y)).trans ?_
    refine Finset.sum_congr rfl fun j _ => (congrArg _ (funext fun a => Fin.ext ?_)).trans (pay19_apply S y j)
    match a with
    | ⟨0, _⟩ => rfl
    | ⟨1, _⟩ => rfl

theorem part_apply (P : FVec Ideal S1024x640 .bf16) (v : Vec Ideal S128x128 .bf16) (h : Fin 8) (jb : Fin 5) (r d : Fin 128) :
    part P v h jb (ix2 r d) = ∑ l : Fin 128, (P (ix2 (row h r) (col jb l)) * v (ix2 l d) : EReal) := by
  refine (Ideal.matmul_plain_apply (M := 128) (K := 128) (N := 128) none _ v _ r d).trans ?_
  show Ideal.ofBits .f32 0x00000000#32 + _ = _
  rw [Ideal.ofBits_zero_f32, zero_add]
  refine Finset.sum_congr rfl fun l _ => ?_
  congr 1
  refine extractStridedSlice_apply _ P _ _ (ix2 (row h r) (col jb l)) fun a => ?_
  match a with
  | ⟨0, _⟩ => rfl
  | ⟨1, _⟩ => rfl

/-- A head's slice of the row sums, spread over the columns. -/
theorem rowSum_apply (L : FVec Ideal S1024x1 .f32) (h : Fin 8) (r d : Fin 128) :
    broadcastTo S128x128 (extractStridedSlice S128x1 ![128 * h.val, 0] L (slL h)) broadcasts_S128x1_S128x128 (ix2 r d)
      = L (ix2 (n0 := 1024) (n1 := 1) (row h r) 0) := by
  have h1 : extractStridedSlice S128x1 ![128 * h.val, 0] L (slL h) (ix2 (n0 := 128) (n1 := 1) r 0) = L (ix2 (n0 := 1024) (n1 := 1) (row h r) 0) := by
    refine extractStridedSlice_apply _ L _ _ _ fun a => ?_
    match a with
    | ⟨0, _⟩ => rfl
    | ⟨1, _⟩ => rfl
  refine Eq.trans ?_ h1
  refine broadcastTo_apply _ broadcasts_S128x1_S128x128 _ _ fun a => ?_
  match a with
  | ⟨0, _⟩ => rfl
  | ⟨1, _⟩ => rfl

/-- **The store of a head, at row `r` and column `d`.** -/
theorem stored_apply (i : grid0.Coords) (x0 : Vec Ideal S128x1024 .bf16) (x1 x2 : Vec Ideal S4096x1024 .bf16) (x3 : Vec Ideal S8x128x640 .f32)
    (h : Fin 8) (r d : Fin 128) :
    stored i x0 x1 x2 x3 h (ix2 r d)
      = Ideal.div (∑ jb : Fin 5, ∑ l : Fin 128, wt (scores i x0 x1 x3) (row h r) (col jb l) * (x2 (ix2 (key i jb l) (lane h d)) : EReal))
          (∑ j : Fin 640, wt (scores i x0 x1 x3) (row h r) j) := by
  have hL : broadcastTo S128x128 (extractStridedSlice S128x1 ![128 * h.val, 0] (k0_pay20 (F := Ideal) (scores i x0 x1 x3) (maxes (scores i x0 x1 x3))) (slL h))
      broadcasts_S128x1_S128x128 (ix2 r d) = ∑ j : Fin 640, wt (scores i x0 x1 x3) (row h r) j := by
    exact (rowSum_apply _ h r d).trans (pay20_apply _ _ _)
  have hp : ∀ jb : Fin 5, part (k0_pay21 (F := Ideal) (scores i x0 x1 x3) (maxes (scores i x0 x1 x3))) (kh i x2 h jb) h jb (ix2 r d)
      = ∑ l : Fin 128, wt (scores i x0 x1 x3) (row h r) (col jb l) * (x2 (ix2 (key i jb l) (lane h d)) : EReal) := by
    intro jb
    rw [part_apply]
    refine Finset.sum_congr rfl fun l _ => ?_
    rw [kh_apply]
    exact congrArg (fun z : EReal => z * x2 (ix2 (key i jb l) (lane h d))) (pay19_apply _ _ _)
  rw [Fin.sum_univ_five, ← hp, ← hp, ← hp, ← hp, ← hp, ← hL, ← zero_add (part _ (kh i x2 h 0) h 0 (ix2 r d)), ← Ideal.ofBits_zero_f32]
  rfl

/-- **The whole block, at row `r`, head `h`, column `d`.** -/
theorem out_apply (c) (i : grid0.Coords) (arg3) (harg3) (arg4) (harg4) (arg5) (harg5) (arg6) (harg6) (arg7) (harg7) (x0 x1 x2 x3)
    (h : Fin 8) (r d : Fin 128) :
    out0_A_4 (F := Ideal) c i arg3 harg3 arg4 harg4 arg5 harg5 arg6 harg6 arg7 harg7 x0 x1 x2 x3 (ix2 r (lane h d))
      = stored i x0 x1 x2 x3 h (ix2 r d) := by
  rw [out_eq]
  have hp : ∀ h' : Fin 8, ∀ x, (piece h' (stored i x0 x1 x2 x3 h')).2 x
      = (fun y : S128x1024.Idx => stored i x0 x1 x2 x3 ⟨(y 1).val / 128, by have : (y 1).val < 1024 := (y 1).isLt; omega⟩
          (ix2 (n0 := 128) (n1 := 128) (y 0) ⟨(y 1).val % 128, by omega⟩)) ((piece h' (stored i x0 x1 x2 x3 h')).1.emb x) := by
    intro h' x
    have h1 : (x 1).val < 128 := (x 1).isLt
    have e1 : ((piece h' (stored i x0 x1 x2 x3 h')).1.emb x 1).val = 128 * h'.val + (x 1).val := by
      show 128 * h'.val + 1 * (x 1).val = _; omega
    have e0 : ((piece h' (stored i x0 x1 x2 x3 h')).1.emb x 0).val = (x 0).val := by
      show 0 + 1 * (x 0).val = _; omega
    show stored i x0 x1 x2 x3 h' x = _
    congr 1
    · congr 1; apply Fin.ext; show h'.val = _ / 128; rw [e1]; omega
    · funext a; apply Fin.ext
      match a with
      | ⟨0, _⟩ => exact e0.symm
      | ⟨1, _⟩ => show (x 1).val = _ % 128; rw [e1]; omega
  refine (View.canon_apply_of_pieces (fun y : S128x1024.Idx => stored i x0 x1 x2 x3 ⟨(y 1).val / 128, by have : (y 1).val < 1024 := (y 1).isLt; omega⟩
          (ix2 (n0 := 128) (n1 := 128) (y 0) ⟨(y 1).val % 128, by omega⟩)) _ ?_ _ ?_).trans ?_
  · simp only [List.forall_mem_cons]
    exact ⟨hp 7, hp 6, hp 5, hp 4, hp 3, hp 2, hp 1, hp 0, by simp⟩
  · have : piece h (stored i x0 x1 x2 x3 h) ∈ [piece 7 (stored i x0 x1 x2 x3 7), piece 6 (stored i x0 x1 x2 x3 6), piece 5 (stored i x0 x1 x2 x3 5),
          piece 4 (stored i x0 x1 x2 x3 4), piece 3 (stored i x0 x1 x2 x3 3), piece 2 (stored i x0 x1 x2 x3 2),
          piece 1 (stored i x0 x1 x2 x3 1), piece 0 (stored i x0 x1 x2 x3 0)] := by
      revert h; intro h
      match h with
      | 0 => simp
      | 1 => simp
      | 2 => simp
      | 3 => simp
      | 4 => simp
      | 5 => simp
      | 6 => simp
      | 7 => simp
    refine ⟨_, this, ?_⟩
    show _ ∈ (Rect.unit (s := S128x1024) ![0, 128 * h.val] S128x128.size (inbQ h)).set
    rw [Rect.mem_set_unit]
    intro a
    match a with
    | ⟨0, _⟩ => exact ⟨Nat.zero_le _, by show r.val < 0 + 128; omega⟩
    | ⟨1, _⟩ => exact ⟨by show 128 * h.val ≤ 128 * h.val + d.val; omega, by show 128 * h.val + d.val < 128 * h.val + 128; omega⟩
  · show stored i x0 x1 x2 x3 ⟨(128 * h.val + d.val) / 128, _⟩ (ix2 r ⟨(128 * h.val + d.val) % 128, _⟩) = _
    congr 1
    · apply Fin.ext; show (128 * h.val + d.val) / 128 = h.val; omega
    · congr 1; apply Fin.ext; show (128 * h.val + d.val) % 128 = d.val; omega

end Cert.BandIdeal.Block
-- ==== Proof.Band.Softmax.lean ====
module

public import Idealize.ShloMosaic.Lib.ValueIdx

@[expose] public section

/-!
# The softmax of a row whose missing entries are `-∞`

One row of scores, given twice: over a larger index set, with `-∞` wherever there is no key, and over the keys alone.
Dividing the weighted sum of the values by the sum of the weights is the weighted sum with normalised weights.
-/

noncomputable section

open Idealize.ShloMosaic

namespace Cert.Softmax

/-- The greatest entry of a row (`-∞` of an empty one). -/
def top {α : Type} [Fintype α] (K : α → EReal) : EReal := (Finset.univ : Finset α).fold max (⊥ : EReal) K

theorem top_le_iff {α : Type} [Fintype α] (K : α → EReal) (x : EReal) : top K ≤ x ↔ ∀ a, K a ≤ x := by
  unfold top
  rw [Finset.fold_max_le]
  simp

theorem le_top' {α : Type} [Fintype α] (K : α → EReal) (a : α) : K a ≤ top K := (top_le_iff K _).1 le_rfl a

theorem top_ne_top {α : Type} [Fintype α] (K : α → EReal) (h : ∀ a, K a ≠ ⊤) : top K ≠ ⊤ := by
  have : top K < ⊤ := by
    unfold top
    rw [Finset.fold_max_lt]
    exact ⟨bot_lt_top, fun a _ => lt_top_iff_ne_top.2 (h a)⟩
  exact this.ne

theorem exp_bot_sub (y : EReal) : Ideal.exp (⊥ - y) = 0 := by
  rw [EReal.bot_sub]; rfl

/-- The weight of a score under a real maximum is a nonnegative real, positive for a real score. -/
theorem exp_sub_real (x : EReal) (hx : x ≠ ⊤) (μ : ℝ) :
    ∃ p : ℝ, 0 ≤ p ∧ Ideal.exp (x - (μ : EReal)) = (p : EReal) ∧ (x ≠ ⊥ → 0 < p) := by
  induction x with
  | bot => exact ⟨0, le_rfl, by rw [exp_bot_sub]; rfl, fun h => absurd rfl h⟩
  | coe r => exact ⟨Real.exp (r - μ), (Real.exp_pos _).le, by rw [← EReal.coe_sub]; rfl, fun _ => Real.exp_pos _⟩
  | top => exact absurd rfl hx

theorem coe_sum {β : Type} [Fintype β] (f : β → ℝ) : ((∑ b, f b : ℝ) : EReal) = ∑ b, (f b : EReal) := by
  classical
  induction (Finset.univ : Finset β) using Finset.induction_on with
  | empty => simp
  | insert a s ha ih => rw [Finset.sum_insert ha, Finset.sum_insert ha, EReal.coe_add, ih]

/-- **The two forms of a softmax row agree.** -/
theorem softmax_row {α β : Type} [Fintype α] [Fintype β] (e : β → α) (he : Function.Injective e)
    (K : α → EReal) (v : α → EReal) (R : β → EReal) (w : β → EReal)
    (hK : ∀ b, K (e b) = R b) (hK' : ∀ a, a ∉ Set.range e → K a = ⊥)
    (hR : ∀ b, R b ≠ ⊤) (hr : ∃ b, R b ≠ ⊥) (hv : ∀ b, R b ≠ ⊥ → v (e b) = w b) (hw : ∀ b, w b ≠ ⊤ ∧ w b ≠ ⊥) :
    Ideal.div (∑ a, Ideal.exp (K a - top K) * v a) (∑ a, Ideal.exp (K a - top K))
      = ∑ b, Ideal.div (Ideal.exp (R b - top R)) (∑ b', Ideal.exp (R b' - top R)) * w b := by
  have hM : top K = top R := by
    apply le_antisymm
    · refine (top_le_iff K _).2 fun a => ?_
      by_cases ha : a ∈ Set.range e
      · obtain ⟨b, rfl⟩ := ha
        rw [hK]; exact le_top' R b
      · rw [hK' a ha]; exact bot_le
    · exact (top_le_iff R _).2 fun b => by rw [← hK]; exact le_top' K (e b)
  obtain ⟨b₀, hb₀⟩ := hr
  have h1 : top R ≠ ⊤ := top_ne_top R hR
  have h2 : top R ≠ ⊥ := fun h => hb₀ (le_bot_iff.1 (h ▸ le_top' R b₀))
  rw [hM]
  obtain ⟨μ, hμ⟩ : ∃ μ : ℝ, top R = (μ : EReal) := ⟨_, (EReal.coe_toReal h1 h2).symm⟩
  rw [hμ]
  have hs : ∀ f : α → EReal, ∀ g : β → EReal, (∀ b, R b ≠ ⊥ → f (e b) = g b) →
      ∑ a, Ideal.exp (K a - (μ : EReal)) * f a = ∑ b, Ideal.exp (R b - (μ : EReal)) * g b := by
    intro f g hfg
    refine (Fintype.sum_of_injective e he _ _ (fun a ha => ?_) fun b => ?_).symm
    · rw [hK' a ha, exp_bot_sub, zero_mul]
    · rw [hK]
      by_cases hb : R b = ⊥
      · rw [hb, exp_bot_sub, zero_mul, zero_mul]
      · rw [hfg b hb]
  have hs1 : ∑ a, Ideal.exp (K a - (μ : EReal)) = ∑ b, Ideal.exp (R b - (μ : EReal)) := by
    have := hs (fun _ => 1) (fun _ => 1) (fun _ _ => rfl)
    simpa only [mul_one] using this
  rw [hs v w hv, hs1]
  choose p hp0 hp hpp using fun b => exp_sub_real (R b) (hR b) μ
  simp only [hp]
  have hZ : 0 < ∑ b, p b := Finset.sum_pos' (fun b _ => hp0 b) ⟨b₀, Finset.mem_univ _, hpp b₀ hb₀⟩
  have hZe : (∑ b, (p b : EReal)) = ((∑ b, p b : ℝ) : EReal) := (coe_sum p).symm
  have hne : ((∑ b, p b : ℝ) : EReal) ≠ 0 := by
    intro h; exact hZ.ne' (by exact_mod_cast h)
  rw [hZe]
  unfold Ideal.div
  simp only [if_neg hne]
  obtain ⟨W, hW⟩ : ∃ W : β → ℝ, ∀ b, w b = (W b : EReal) := ⟨fun b => (w b).toReal, fun b => (EReal.coe_toReal (hw b).1 (hw b).2).symm⟩
  simp only [hW, ← EReal.coe_inv, ← EReal.coe_mul, ← coe_sum]
  congr 1
  rw [Finset.sum_mul]
  exact Finset.sum_congr rfl fun b _ => by ring

end Cert.Softmax
-- ==== Proof.Band.RefRows.lean ====
module

public import proofs.«01_k».proof.Proof.Gen.BandRefIdeal.Read
public import Idealize.ShloMosaic.Lib.KernelVsHost
public import Idealize.ShloMosaic.Lib.ValueIdx

@[expose] public section

/-!
# The reference's queries, keys and values at an index

The reference cuts the sequence into 64 chunks of 64 positions, pads the keys and the values with eight chunks of zeros
in front, and lays beside each chunk of queries the nine chunks of keys and values it may look at. Here each of these
arrays is read at an index as an entry of the projection the kernel is given.
-/

set_option maxRecDepth 16384

noncomputable section

open Idealize.ShloMosaic Idealize.ShloMosaic.TcCoe Idealize.SL.Sem Idealize.ShloMosaic.ValueIdx

namespace Cert.BandRefIdeal.Rows

open Cert.BandRefIdeal Cert.BandRefIdeal.Gen Cert.BandRefIdeal.Read

/-- The projection's array: 8192 rows of queries, keys and values. -/
abbrev QKV : Type := (⟨S8192x12288, .bf16⟩ : BufTy).Contents (Elt Ideal)
/-- The table of biases: one row for each head. -/
abbrev Tbl : Type := (⟨S16x257, .f32⟩ : BufTy).Contents (Elt Ideal)

/-- Row of position `p` of sequence `b`. -/
def seqRow (b : Fin 2) (p : Nat) (hp : p < 4096) : Fin 8192 := ⟨4096 * b.val + p, by omega⟩

/-- Column of lane `d` of head `h` in the part that starts at `o`. -/
def laneCol (o : Nat) (ho : o ≤ 4096) (h : Fin 16) (d : Fin 128) : Fin 12288 := ⟨o + (128 * h.val + d.val), by omega⟩

/-- Query `q` of chunk `c`. -/
theorem queries_apply (x0 : QKV) (b : Fin 2) (c q : Fin 64) (h : Fin 16) (d : Fin 128) :
    val_main_v7 (F := Ideal) x0 (ix5 b c q h d)
      = x0 (ix2 (seqRow b (64 * c.val + q.val) (by omega)) (laneCol 0 (by omega) h d)) := by
  rw [val_main_v7_apply, val_main_v2_apply, val_main_v1_apply]
  show x0 _ = x0 _
  refine congrArg x0 (funext fun a => Fin.ext ?_)
  have := b.isLt; have := c.isLt; have := q.isLt; have := h.isLt; have := d.isLt
  match a with
  | ⟨0, _⟩ =>
    show ((((((((b.val * 64 + c.val) * 64 + q.val) * 16 + h.val) * 128 + d.val) / 8388608) * 4096
      + ((((b.val * 64 + c.val) * 64 + q.val) * 16 + h.val) * 128 + d.val) / 2048 % 4096) * 16
      + ((((b.val * 64 + c.val) * 64 + q.val) * 16 + h.val) * 128 + d.val) / 128 % 16) * 128
      + ((((b.val * 64 + c.val) * 64 + q.val) * 16 + h.val) * 128 + d.val) % 128) / 2048 = 4096 * b.val + (64 * c.val + q.val)
    omega
  | ⟨1, _⟩ =>
    show ((((((((b.val * 64 + c.val) * 64 + q.val) * 16 + h.val) * 128 + d.val) / 8388608) * 4096
      + ((((b.val * 64 + c.val) * 64 + q.val) * 16 + h.val) * 128 + d.val) / 2048 % 4096) * 16
      + ((((b.val * 64 + c.val) * 64 + q.val) * 16 + h.val) * 128 + d.val) / 128 % 16) * 128
      + ((((b.val * 64 + c.val) * 64 + q.val) * 16 + h.val) * 128 + d.val) % 128) % 2048 = 0 + (128 * h.val + d.val)
    omega

/-- The zero the padding writes. -/
theorem fill0 (i : S_.Idx) : val_main_call0_v0 (F := Ideal) i = (0 : EReal) := by
  show ((((0#32 : BitVec 32).toInt : ℝ)) : EReal) = 0
  simp

theorem fill1 (i : S_.Idx) : val_main_call1_v0 (F := Ideal) i = (0 : EReal) := by
  show ((((0#32 : BitVec 32).toInt : ℝ)) : EReal) = 0
  simp

/-- What the padded sequence holds at place `u`: the array's own entry, or zero in the 512 places in front. -/
def padded (x0 : QKV) (o : Nat) (ho : o ≤ 4096) (b : Fin 2) (u : Fin 4608) (h : Fin 16) (d : Fin 128) : EReal :=
  if hu : 512 ≤ u.val then x0 (ix2 (seqRow b (u.val - 512) (by omega)) (laneCol o ho h d)) else 0

theorem keysFlat_apply (x0 : QKV) (b : Fin 2) (p : Fin 4096) (h : Fin 16) (d : Fin 128) :
    val_main_v4 (F := Ideal) x0 (ix4 b p h d) = x0 (ix2 (seqRow b p.val p.isLt) (laneCol 2048 (by omega) h d)) := by
  rw [val_main_v4_apply, val_main_v3_apply]
  show x0 _ = x0 _
  refine congrArg x0 (funext fun a => Fin.ext ?_)
  have := b.isLt; have := p.isLt; have := h.isLt; have := d.isLt
  match a with
  | ⟨0, _⟩ =>
    show (((b.val * 4096 + p.val) * 16 + h.val) * 128 + d.val) / 2048 = 4096 * b.val + p.val
    omega
  | ⟨1, _⟩ =>
    show 2048 + (((b.val * 4096 + p.val) * 16 + h.val) * 128 + d.val) % 2048 = 2048 + (128 * h.val + d.val)
    omega

theorem valuesFlat_apply (x0 : QKV) (b : Fin 2) (p : Fin 4096) (h : Fin 16) (d : Fin 128) :
    val_main_v6 (F := Ideal) x0 (ix4 b p h d) = x0 (ix2 (seqRow b p.val p.isLt) (laneCol 4096 (by omega) h d)) := by
  rw [val_main_v6_apply, val_main_v5_apply]
  show x0 _ = x0 _
  refine congrArg x0 (funext fun a => Fin.ext ?_)
  have := b.isLt; have := p.isLt; have := h.isLt; have := d.isLt
  match a with
  | ⟨0, _⟩ =>
    show (((b.val * 4096 + p.val) * 16 + h.val) * 128 + d.val) / 2048 = 4096 * b.val + p.val
    omega
  | ⟨1, _⟩ =>
    show 4096 + (((b.val * 4096 + p.val) * 16 + h.val) * 128 + d.val) % 2048 = 4096 + (128 * h.val + d.val)
    omega

/-- A sequence padded with 512 zero rows in front, at an index. -/
theorem pad_row (y : S2x4096x16x128.Idx → EReal) (z : S_.Idx → EReal) (b : Fin 2) (u : Fin 4608) (h : Fin 16) (d : Fin 128) :
    pad S2x4608x16x128 ![0, 512, 0, 0] ![0, 0, 0, 0] ![0, 0, 0, 0] y z pads_S2x4096x16x128_S2x4608x16x128_000_51200_000_000 h_S_
      (ix4 b u h d) = if hu : 512 ≤ u.val then y (ix4 b ⟨u.val - 512, by omega⟩ h d) else z (Shape.Idx.first h_S_) := by
  by_cases hu : 512 ≤ u.val
  · rw [dif_pos hu]
    refine pad_apply_of_inside _ _ _ _ _ _ _ _ (ix4 b ⟨u.val - 512, by omega⟩ h d) fun a => ?_
    match a with
    | ⟨0, _⟩ => show b.val = 0 + b.val * 1; omega
    | ⟨1, _⟩ => show u.val = 512 + (u.val - 512) * 1; omega
    | ⟨2, _⟩ => show h.val = 0 + h.val * 1; omega
    | ⟨3, _⟩ => show d.val = 0 + d.val * 1; omega
  · rw [dif_neg hu]
    refine pad_apply_of_not_inside _ _ _ _ _ _ _ _ (1 : Fin 4) fun hin => hu ?_
    exact hin.1

theorem keysPad_apply (x0 : QKV) (b : Fin 2) (u : Fin 4608) (h : Fin 16) (d : Fin 128) :
    val_main_v8 (F := Ideal) x0 (ix4 b u h d) = padded x0 2048 (by omega) b u h d := by
  unfold val_main_v8
  rw [pad_row, fill0]
  unfold padded
  split
  · rw [keysFlat_apply]
  · rfl

theorem valuesPad_apply (x0 : QKV) (b : Fin 2) (u : Fin 4608) (h : Fin 16) (d : Fin 128) :
    val_main_v10 (F := Ideal) x0 (ix4 b u h d) = padded x0 4096 (by omega) b u h d := by
  unfold val_main_v10
  rw [pad_row, fill1]
  unfold padded
  split
  · rw [valuesFlat_apply]
  · rfl

/-- Place `l` of the padded sequence's chunk `n`. -/
def place (n : Fin 72) (l : Fin 64) : Fin 4608 := ⟨64 * n.val + l.val, by omega⟩

theorem keysChunk_apply (x0 : QKV) (b : Fin 2) (n : Fin 72) (l : Fin 64) (h : Fin 16) (d : Fin 128) :
    val_main_v9 (F := Ideal) x0 (ix5 b n l h d) = padded x0 2048 (by omega) b (place n l) h d := by
  rw [val_main_v9_apply, ← keysPad_apply]
  refine congrArg _ (funext fun a => Fin.ext ?_)
  have := b.isLt; have := n.isLt; have := l.isLt; have := h.isLt; have := d.isLt
  match a with
  | ⟨0, _⟩ => show ((((b.val * 72 + n.val) * 64 + l.val) * 16 + h.val) * 128 + d.val) / 9437184 = b.val; omega
  | ⟨1, _⟩ => show ((((b.val * 72 + n.val) * 64 + l.val) * 16 + h.val) * 128 + d.val) / 2048 % 4608 = 64 * n.val + l.val; omega
  | ⟨2, _⟩ => show ((((b.val * 72 + n.val) * 64 + l.val) * 16 + h.val) * 128 + d.val) / 128 % 16 = h.val; omega
  | ⟨3, _⟩ => show ((((b.val * 72 + n.val) * 64 + l.val) * 16 + h.val) * 128 + d.val) % 128 = d.val; omega

theorem valuesChunk_apply (x0 : QKV) (b : Fin 2) (n : Fin 72) (l : Fin 64) (h : Fin 16) (d : Fin 128) :
    val_main_v11 (F := Ideal) x0 (ix5 b n l h d) = padded x0 4096 (by omega) b (place n l) h d := by
  rw [val_main_v11_apply, ← valuesPad_apply]
  refine congrArg _ (funext fun a => Fin.ext ?_)
  have := b.isLt; have := n.isLt; have := l.isLt; have := h.isLt; have := d.isLt
  match a with
  | ⟨0, _⟩ => show ((((b.val * 72 + n.val) * 64 + l.val) * 16 + h.val) * 128 + d.val) / 9437184 = b.val; omega
  | ⟨1, _⟩ => show ((((b.val * 72 + n.val) * 64 + l.val) * 16 + h.val) * 128 + d.val) / 2048 % 4608 = 64 * n.val + l.val; omega
  | ⟨2, _⟩ => show ((((b.val * 72 + n.val) * 64 + l.val) * 16 + h.val) * 128 + d.val) / 128 % 16 = h.val; omega
  | ⟨3, _⟩ => show ((((b.val * 72 + n.val) * 64 + l.val) * 16 + h.val) * 128 + d.val) % 128 = d.val; omega

/-- The slice of 64 chunks from chunk `n` on is inside the padded sequence. -/
theorem slices_at (n : Fin 9) : S2x72x64x16x128.Slices ![0, n.val, 0, 0, 0] S2x64x64x16x128 :=
  match n with
  | ⟨0, _⟩ => slices_S2x72x64x16x128_S2x64x64x16x128_0_0_0_0_0
  | ⟨1, _⟩ => slices_S2x72x64x16x128_S2x64x64x16x128_0_1_0_0_0
  | ⟨2, _⟩ => slices_S2x72x64x16x128_S2x64x64x16x128_0_2_0_0_0
  | ⟨3, _⟩ => slices_S2x72x64x16x128_S2x64x64x16x128_0_3_0_0_0
  | ⟨4, _⟩ => slices_S2x72x64x16x128_S2x64x64x16x128_0_4_0_0_0
  | ⟨5, _⟩ => slices_S2x72x64x16x128_S2x64x64x16x128_0_5_0_0_0
  | ⟨6, _⟩ => slices_S2x72x64x16x128_S2x64x64x16x128_0_6_0_0_0
  | ⟨7, _⟩ => slices_S2x72x64x16x128_S2x64x64x16x128_0_7_0_0_0
  | ⟨8, _⟩ => slices_S2x72x64x16x128_S2x64x64x16x128_0_8_0_0_0

/-- The nine chunks laid side by side: key `kk` of chunk `c`'s window is key `kk % 64` of chunk `c + kk / 64`. -/
theorem window_apply (y : S2x72x64x16x128.Idx → EReal)
    (hc : Shape.Concatenates ((List.ofFn fun n : Fin 9 => (⟨S2x64x64x16x128,
      extractStridedSlice S2x64x64x16x128 ![0, n.val, 0, 0, 0] y (slices_at n)⟩ : (s : Shape) × (s.Idx → EReal))).map (·.1)) S2x64x576x16x128 2)
    (b : Fin 2) (c : Fin 64) (kk : Fin 576) (h : Fin 16) (d : Fin 128) :
    concatenate S2x64x576x16x128 2 (List.ofFn fun n : Fin 9 => (⟨S2x64x64x16x128,
      extractStridedSlice S2x64x64x16x128 ![0, n.val, 0, 0, 0] y (slices_at n)⟩ : (s : Shape) × (s.Idx → EReal))) hc (ix5 b c kk h d)
      = y (ix5 b ⟨c.val + kk.val / 64, by omega⟩ ⟨kk.val % 64, by omega⟩ h d) := by
  rw [concatenate_ofFn_apply (t := S2x64x576x16x128) (s₁ := S2x64x64x16x128) 2
    (fun n : Fin 9 => extractStridedSlice S2x64x64x16x128 ![0, n.val, 0, 0, 0] y (slices_at n)) hc rfl 64 rfl (ix5 b c kk h d)
    ⟨kk.val / 64, by omega⟩ rfl (ix5 b c ⟨kk.val % 64, by omega⟩ h d) rfl (fun a ha => by
      match a with
      | ⟨0, _⟩ => rfl
      | ⟨1, _⟩ => rfl
      | ⟨2, _⟩ => exact absurd rfl ha
      | ⟨3, _⟩ => rfl
      | ⟨4, _⟩ => rfl)]
  refine extractStridedSlice_apply _ y _ _ _ fun a => ?_
  match a with
  | ⟨0, _⟩ => show b.val = 0 + b.val; omega
  | ⟨1, _⟩ => show c.val + kk.val / 64 = kk.val / 64 + c.val; omega
  | ⟨2, _⟩ => show kk.val % 64 = 0 + kk.val % 64; omega
  | ⟨3, _⟩ => show h.val = 0 + h.val; omega
  | ⟨4, _⟩ => show d.val = 0 + d.val; omega

/-- The place in the padded sequence of key `kk` in chunk `c`'s window. -/
def spot (c : Fin 64) (kk : Fin 576) : Fin 4608 := ⟨64 * c.val + kk.val, by omega⟩

theorem place_spot (c : Fin 64) (kk : Fin 576) :
    place ⟨c.val + kk.val / 64, by omega⟩ ⟨kk.val % 64, by omega⟩ = spot c kk :=
  Fin.ext (by show 64 * (c.val + kk.val / 64) + kk.val % 64 = 64 * c.val + kk.val; omega)

/-- Key `kk` of chunk `c`'s window. -/
theorem keys_apply (x0 : QKV) (b : Fin 2) (c : Fin 64) (kk : Fin 576) (h : Fin 16) (d : Fin 128) :
    val_main_v21 (F := Ideal) x0 (ix5 b c kk h d) = padded x0 2048 (by omega) b (spot c kk) h d := by
  unfold val_main_v21 val_main_v12 val_main_v13 val_main_v14 val_main_v15 val_main_v16 val_main_v17 val_main_v18 val_main_v19 val_main_v20
  refine (window_apply (val_main_v9 (F := Ideal) x0)
    concatenates_S2x64x64x16x128_S2x64x64x16x128_S2x64x64x16x128_S2x64x64x16x128_S2x64x64x16x128_S2x64x64x16x128_S2x64x64x16x128_S2x64x64x16x128_S2x64x64x16x128_S2x64x576x16x128_d2
    b c kk h d).trans ?_
  rw [keysChunk_apply, place_spot]

/-- Value `kk` of chunk `c`'s window. -/
theorem values_apply (x0 : QKV) (b : Fin 2) (c : Fin 64) (kk : Fin 576) (h : Fin 16) (d : Fin 128) :
    val_main_v31 (F := Ideal) x0 (ix5 b c kk h d) = padded x0 4096 (by omega) b (spot c kk) h d := by
  unfold val_main_v31 val_main_v22 val_main_v23 val_main_v24 val_main_v25 val_main_v26 val_main_v27 val_main_v28 val_main_v29 val_main_v30
  refine (window_apply (val_main_v11 (F := Ideal) x0)
    concatenates_S2x64x64x16x128_S2x64x64x16x128_S2x64x64x16x128_S2x64x64x16x128_S2x64x64x16x128_S2x64x64x16x128_S2x64x64x16x128_S2x64x64x16x128_S2x64x64x16x128_S2x64x576x16x128_d2
    b c kk h d).trans ?_
  rw [valuesChunk_apply, place_spot]

end Cert.BandRefIdeal.Rows

end
-- ==== Proof.Band.RefScores.lean ====
module

public import proofs.«01_k».proof.Proof.Band.RefRows
public import Idealize.ShloMosaic.Lib.MatmulPlain

@[expose] public section

/-!
# The reference's scores at an index

A score is the scaled product of a query and a key plus the head's bias for their distance. Keys from before the
sequence's first position score `-∞`.
-/

set_option maxRecDepth 16384

noncomputable section

open Idealize.ShloMosaic Idealize.ShloMosaic.TcCoe Idealize.SL.Sem Idealize.ShloMosaic.ValueIdx

namespace Cert.BandRefIdeal.Rows

open Cert.BandRefIdeal Cert.BandRefIdeal.Gen Cert.BandRefIdeal.Read

/-- The bias's column for query `q` and key `kk` of a window: their distance, cut off at 128, shifted by 128. -/
def relCol (q : Fin 64) (kk : Fin 576) : Fin 257 := ⟨min (640 + q.val - kk.val) 256, by omega⟩

/-- The word the program computes for a distance word. -/
def colWord (z : BitVec 32) : BitVec 32 :=
  Scalar.select (IntOp.cmpi .slt (IntOp.addi (IntOp.minsi 128#32 (IntOp.maxsi (-128#32) z)) 128#32) 0#32)
    (IntOp.addi (IntOp.addi (IntOp.minsi 128#32 (IntOp.maxsi (-128#32) z)) 128#32) 257#32)
    (IntOp.addi (IntOp.minsi 128#32 (IntOp.maxsi (-128#32) z)) 128#32)

theorem colWord_eq : ∀ e : Fin 640, (colWord (BitVec.ofNat 32 e.val - 63#32)).toInt.toNat = min (e.val + 65) 256 := by
  decide +kernel

theorem distance_eq (q : Fin 64) (kk : Fin 576) :
    BitVec.ofNat 32 q.val + 512#32 - BitVec.ofNat 32 kk.val = BitVec.ofNat 32 (q.val + 575 - kk.val) - 63#32 := by
  have := q.isLt; have := kk.isLt
  apply BitVec.eq_of_toNat_eq
  simp only [BitVec.toNat_sub, BitVec.toNat_add, BitVec.toNat_ofNat]
  omega

theorem word_apply (q : Fin 64) (kk : Fin 576) :
    val_main_v48 (F := Ideal) (ix2 q kk) = colWord (BitVec.ofNat 32 q.val + 512#32 - BitVec.ofNat 32 kk.val) := rfl

theorem word_toNat (q : Fin 64) (kk : Fin 576) :
    (val_main_v48 (F := Ideal) (ix2 q kk)).toInt.toNat = (relCol q kk).val := by
  have := q.isLt; have := kk.isLt
  rw [word_apply, distance_eq]
  refine (colWord_eq ⟨q.val + 575 - kk.val, by omega⟩).trans ?_
  show min (q.val + 575 - kk.val + 65) 256 = min (640 + q.val - kk.val) 256
  omega

/-- The gather of one column per query and key, at an index. -/
theorem gather_apply (x1 : Tbl) (idx : IVec S64x576x1 32) (h : Fin 16) (q : Fin 64) (kk : Fin 576)
    (k : Fin 257) (hk : (idx (ix3 q kk 0)).toInt.toNat = k.val) :
    Host.gather gather_S16x257_S64x576x1_S16x64x576_0_1_n_n_1_2_161 x1 idx (ix3 h q kk) = x1 (ix2 h k) := by
  unfold Host.gather
  refine congrArg x1 (funext fun a => Fin.ext ?_)
  let D := gather_S16x257_S64x576x1_S16x64x576_0_1_n_n_1_2_161
  show D.start (ix3 h q kk) idx a + D.batchCoord (ix3 h q kk) a + D.offCoord (ix3 h q kk) a = _
  have h01 : a = (0 : Fin 2) ∨ a = (1 : Fin 2) := by
    match a with
    | ⟨0, _⟩ => exact Or.inl rfl
    | ⟨1, _⟩ => exact Or.inr rfl
  rcases h01 with rfl | rfl
  · rw [GatherDims.batchCoord_eq_zero _ _ _ (fun hm => by simp [D, gather_S16x257_S64x576x1_S16x64x576_0_1_n_n_1_2_161] at hm)]
    have hs : D.start (ix3 h q kk) idx (0 : Fin 2) = 0 := by
      unfold GatherDims.start
      rw [dif_neg (show ¬(0 : Fin 2) ∈ D.startIndexMap by decide)]
    have ho : D.offCoord (ix3 h q kk) (0 : Fin 2) = h.val := by
      unfold GatherDims.offCoord
      rw [dif_pos (show (0 : Fin 2) ∈ D.sKept by decide)]
      rfl
    show D.start (ix3 h q kk) idx (0 : Fin 2) + 0 + D.offCoord (ix3 h q kk) (0 : Fin 2) = h.val
    rw [hs, ho]; omega
  · rw [GatherDims.batchCoord_eq_zero _ _ _ (fun hm => by simp [D, gather_S16x257_S64x576x1_S16x64x576_0_1_n_n_1_2_161] at hm),
      GatherDims.offCoord_eq_zero _ _ _ (show ¬(1 : Fin 2) ∈ D.sKept by decide)]
    show D.start (ix3 h q kk) idx (1 : Fin 2) + 0 + 0 = k.val
    unfold GatherDims.start
    rw [dif_pos (show (1 : Fin 2) ∈ D.startIndexMap by decide)]
    have hsi : D.siIdx (ix3 h q kk) ⟨List.idxOf (1 : Fin 2) D.startIndexMap,
        List.idxOf_lt_length_iff.2 (show (1 : Fin 2) ∈ D.startIndexMap by decide)⟩ = ix3 q kk 0 := by
      funext b
      refine Fin.ext ?_
      match b with
      | ⟨0, _⟩ => rfl
      | ⟨1, _⟩ => rfl
      | ⟨2, _⟩ => rfl
    rw [hsi, hk]
    show min k.val 256 + 0 + 0 = k.val
    have := k.isLt
    omega

/-- The bias of head `h` for query `q` and key `kk` of a window. -/
theorem bias_apply (x1 : Tbl) (h : Fin 16) (q : Fin 64) (kk : Fin 576) :
    val_main_v50 (F := Ideal) x1 (ix3 h q kk) = x1 (ix2 h (relCol q kk)) := by
  have hi : idx_main_v49 (ix3 q kk 0) = ix2 q kk := funext fun a => by
    match a with
    | ⟨0, _⟩ => rfl
    | ⟨1, _⟩ => rfl
  have hw : (val_main_v49 (F := Ideal) (ix3 q kk 0)).toInt.toNat = (relCol q kk).val := by
    rw [val_main_v49_apply, hi, word_toNat]
  unfold val_main_v50
  exact gather_apply x1 _ h q kk _ hw

/-- The position of key `kk` in chunk `c`'s window, as the program computes it. -/
theorem position_toInt (c : Fin 64) (kk : Fin 576) :
    (IntOp.addi (IntOp.muli (IntOp.subi (BitVec.ofNat 32 c.val) 8#32) 64#32) (BitVec.ofNat 32 kk.val)).toInt
      = (64 * c.val + kk.val : Int) - 512 := by
  have := c.isLt; have := kk.isLt
  show ((BitVec.ofNat 32 c.val - 8#32) * 64#32 + BitVec.ofNat 32 kk.val).toInt = _
  rw [BitVec.toInt_eq_toNat_cond]
  simp only [BitVec.toNat_sub, BitVec.toNat_add, BitVec.toNat_mul, BitVec.toNat_ofNat]
  split <;> omega

/-- The mask of chunk `c` at key `kk`: the key is not before the sequence's start. -/
theorem mask_apply (c : Fin 64) (kk : Fin 576) :
    val_main_v68 (F := Ideal) (ix2 c kk) = if 512 ≤ 64 * c.val + kk.val then 1#1 else 0#1 := by
  show IntOp.cmpi .sge (IntOp.addi (IntOp.muli (IntOp.subi (BitVec.ofNat 32 c.val) 8#32) 64#32) (BitVec.ofNat 32 kk.val)) 0#32 = _
  have hp := position_toInt c kk
  generalize IntOp.addi (IntOp.muli (IntOp.subi (BitVec.ofNat 32 c.val) 8#32) 64#32) (BitVec.ofNat 32 kk.val) = w at hp
  have hw : IntOp.cmpi .sge w 0#32 = if (0 : Int) ≤ w.toInt then 1#1 else 0#1 := by
    by_cases hz : (0 : Int) ≤ w.toInt
    · rw [if_pos hz]
      simp [IntOp.cmpi, BitVec.sle, hz]
    · rw [if_neg hz]
      simp [IntOp.cmpi, BitVec.sle, hz]
  rw [hw, hp]
  by_cases hk : 512 ≤ 64 * c.val + kk.val
  · rw [if_pos hk, if_pos (by omega)]
  · rw [if_neg hk, if_neg (by omega)]

/-- The factor on the scores. -/
def scale : EReal := Ideal.ofBits .f32 0x3DB504F3#32

/-- The score of query `q` of chunk `c` for key `kk` of its window. -/
def score (x0 : QKV) (x1 : Tbl) (b : Fin 2) (c : Fin 64) (h : Fin 16) (q : Fin 64) (kk : Fin 576) : EReal :=
  if 512 ≤ 64 * c.val + kk.val then
    (∑ e : Fin 128, x0 (ix2 (seqRow b (64 * c.val + q.val) (by omega)) (laneCol 0 (by omega) h e))
      * padded x0 2048 (by omega) b (spot c kk) h e) * scale + x1 (ix2 h (relCol q kk))
  else ⊥

theorem neg_inf : (FloatOps.ofBits (F := Ideal) .f32 0xFF800000#32 : EReal) = ⊥ := by
  show Ideal.ofBits .f32 0xFF800000#32 = ⊥
  simp [Ideal.ofBits, Ideal.ieee]

theorem product_apply (x0 : QKV) (b : Fin 2) (c : Fin 64) (h : Fin 16) (q : Fin 64) (kk : Fin 576) :
    val_main_v61 (F := Ideal) x0 (ix5 b c h q kk)
      = ∑ e : Fin 128, x0 (ix2 (seqRow b (64 * c.val + q.val) (by omega)) (laneCol 0 (by omega) h e))
          * padded x0 2048 (by omega) b (spot c kk) h e := by
  rw [val_main_v61_apply]
  refine Finset.sum_congr rfl fun e _ => ?_
  have hl : lidx_main_v61 (ix5 b c h q kk) e = ix5 b c q h e := funext fun a => by
    match a with
    | ⟨0, _⟩ => rfl
    | ⟨1, _⟩ => rfl
    | ⟨2, _⟩ => rfl
    | ⟨3, _⟩ => rfl
    | ⟨4, _⟩ => rfl
  have hr : ridx_main_v61 (ix5 b c h q kk) e = ix5 b c kk h e := funext fun a => by
    match a with
    | ⟨0, _⟩ => rfl
    | ⟨1, _⟩ => rfl
    | ⟨2, _⟩ => rfl
    | ⟨3, _⟩ => rfl
    | ⟨4, _⟩ => rfl
  rw [hl, hr, queries_apply, keys_apply]

/-- The masked scores, at an index. -/
theorem score_apply (x0 : QKV) (x1 : Tbl) (b : Fin 2) (c : Fin 64) (h : Fin 16) (q : Fin 64) (kk : Fin 576) :
    val_main_v70 (F := Ideal) x0 x1 (ix5 b c h q kk) = score x0 x1 b c h q kk := by
  have hm : val_main_call3_v1 (F := Ideal) (ix5 b c h q kk) = if 512 ≤ 64 * c.val + kk.val then 1#1 else 0#1 := by
    rw [val_main_call3_v1_apply, val_main_v69_apply, ← mask_apply]
    refine congrArg _ (funext fun a => ?_)
    match a with
    | ⟨0, _⟩ => rfl
    | ⟨1, _⟩ => rfl
  have hb : val_main_v65 (F := Ideal) x1 (ix5 b c h q kk) = x1 (ix2 h (relCol q kk)) := by
    rw [val_main_v65_apply, val_main_v64_apply, ← bias_apply x1 h q kk]
    refine congrArg _ (funext fun a => ?_)
    match a with
    | ⟨0, _⟩ => rfl
    | ⟨1, _⟩ => rfl
    | ⟨2, _⟩ => rfl
  rw [val_main_v70_apply, hm]
  unfold score
  by_cases hk : 512 ≤ 64 * c.val + kk.val
  · rw [if_pos hk, if_pos hk]
    refine (if_pos rfl).trans ?_
    rw [val_main_v66_apply, val_main_v63_apply, product_apply, hb, val_main_v62_apply, val_main_cst_apply]
    rfl
  · rw [if_neg hk, if_neg hk]
    refine (if_neg (by decide)).trans ?_
    rw [val_main_call3_v2_apply]
    exact neg_inf

end Cert.BandRefIdeal.Rows

end
-- ==== Proof.Band.RefValue.lean ====
module

public import proofs.«01_k».proof.Proof.Band.RefScores
public import proofs.«01_k».proof.Proof.Band.Softmax

@[expose] public section

/-!
# The reference's result at an index

Each entry of the attention's result is the sum of a window's values, weighted by the softmax of the window's scores.
-/

set_option maxRecDepth 16384

noncomputable section

open Idealize.ShloMosaic Idealize.ShloMosaic.TcCoe Idealize.SL.Sem Idealize.ShloMosaic.ValueIdx

namespace Cert.BandRefIdeal.Rows

open Cert.BandRefIdeal Cert.BandRefIdeal.Gen Cert.BandRefIdeal.Read Cert.Softmax

/-- A maximum over the keys of a window, from `-∞`, is the greatest of the scores. -/
theorem max_row (y : S2x64x16x64x576.Idx → EReal) (z : S_.Idx → EReal) (hz : ∀ i, z i = ⊥)
    (b : Fin 2) (c : Fin 64) (h : Fin 16) (q : Fin 64) :
    Host.reduce (FloatOps.maximumf (F := Ideal) (φ := .f32)) y z reducesTo_S2x64x16x64x576_S2x64x16x64_d4 h_S_ (ix4 b c h q)
      = top fun kk : Fin 576 => y (ix5 b c h q kk) := by
  rw [Host.reduce_eq_fold_single (FloatOps.maximumf (F := Ideal) (φ := .f32)) y z reducesTo_S2x64x16x64x576_S2x64x16x64_d4 (by decide) h_S_, hz]
  show (Finset.univ : Finset (Fin 576)).fold max (⊥ : EReal) _ = _
  unfold top
  refine congrArg (fun f => (Finset.univ : Finset (Fin 576)).fold max (⊥ : EReal) f) (funext fun kk => ?_)
  exact congrArg y (funext fun a => Fin.ext (by
    match a with | ⟨0, _⟩ => rfl | ⟨1, _⟩ => rfl | ⟨2, _⟩ => rfl | ⟨3, _⟩ => rfl | ⟨4, _⟩ => rfl))

theorem top_apply (x0 : QKV) (x1 : Tbl) (b : Fin 2) (c : Fin 64) (h : Fin 16) (q : Fin 64) :
    val_main_v73 (F := Ideal) x0 x1 (ix4 b c h q) = top (score x0 x1 b c h q) := by
  have h1 : val_main_v71 (F := Ideal) x0 x1 (ix4 b c h q) = top (score x0 x1 b c h q) := by
    unfold val_main_v71
    refine (max_row (val_main_v70 (F := Ideal) x0 x1) _ (fun _ => neg_inf) b c h q).trans ?_
    exact congrArg top (funext fun kk => score_apply x0 x1 b c h q kk)
  have h2 : val_main_v72 (F := Ideal) (ix4 b c h q) = (⊥ : EReal) := by
    rw [val_main_v72_apply]; exact neg_inf
  rw [val_main_v73_apply, h1, h2]
  exact max_bot_left _

/-- A weight before it is normalised. -/
theorem weight_apply (x0 : QKV) (x1 : Tbl) (b : Fin 2) (c : Fin 64) (h : Fin 16) (q : Fin 64) (kk : Fin 576) :
    val_main_v77 (F := Ideal) x0 x1 (ix5 b c h q kk)
      = Ideal.exp (score x0 x1 b c h q kk - top (score x0 x1 b c h q)) := by
  have hm : val_main_v75 (F := Ideal) x0 x1 (ix5 b c h q kk) = top (score x0 x1 b c h q) := by
    rw [val_main_v75_apply, val_main_v74_apply, ← top_apply x0 x1 b c h q]
    refine congrArg _ (funext fun a => ?_)
    match a with
    | ⟨0, _⟩ => rfl
    | ⟨1, _⟩ => rfl
    | ⟨2, _⟩ => rfl
    | ⟨3, _⟩ => rfl
  rw [val_main_v77_apply, val_main_v76_apply, score_apply, hm]
  rfl

theorem total_apply (x0 : QKV) (x1 : Tbl) (b : Fin 2) (c : Fin 64) (h : Fin 16) (q : Fin 64) :
    val_main_v78 (F := Ideal) x0 x1 (ix4 b c h q)
      = ∑ kk : Fin 576, Ideal.exp (score x0 x1 b c h q kk - top (score x0 x1 b c h q)) := by
  rw [val_main_v78_apply]
  have hz : val_main_cst_13 (F := Ideal) (Shape.Idx.first h_S_) = (0 : EReal) := Ideal.ofBits_zero_f32
  rw [hz, zero_add]
  refine Finset.sum_congr rfl fun kk _ => ?_
  rw [← weight_apply]
  refine congrArg _ (funext fun a => ?_)
  match a with
  | ⟨0, _⟩ => rfl
  | ⟨1, _⟩ => rfl
  | ⟨2, _⟩ => rfl
  | ⟨3, _⟩ => rfl
  | ⟨4, _⟩ => rfl

/-- A normalised weight. -/
theorem prob_apply (x0 : QKV) (x1 : Tbl) (b : Fin 2) (c : Fin 64) (h : Fin 16) (q : Fin 64) (kk : Fin 576) :
    val_main_v81 (F := Ideal) x0 x1 (ix5 b c h q kk)
      = Ideal.div (Ideal.exp (score x0 x1 b c h q kk - top (score x0 x1 b c h q)))
          (∑ k' : Fin 576, Ideal.exp (score x0 x1 b c h q k' - top (score x0 x1 b c h q))) := by
  have hs : val_main_v80 (F := Ideal) x0 x1 (ix5 b c h q kk)
      = ∑ k' : Fin 576, Ideal.exp (score x0 x1 b c h q k' - top (score x0 x1 b c h q)) := by
    rw [val_main_v80_apply, val_main_v79_apply, ← total_apply x0 x1 b c h q]
    refine congrArg _ (funext fun a => ?_)
    match a with
    | ⟨0, _⟩ => rfl
    | ⟨1, _⟩ => rfl
    | ⟨2, _⟩ => rfl
    | ⟨3, _⟩ => rfl
  rw [val_main_v81_apply, weight_apply, hs]
  rfl

/-- What the attention leaves for query `q` of chunk `c`, lane `d` of head `h`. -/
def attended (x0 : QKV) (x1 : Tbl) (b : Fin 2) (c q : Fin 64) (h : Fin 16) (d : Fin 128) : EReal :=
  ∑ kk : Fin 576, Ideal.div (Ideal.exp (score x0 x1 b c h q kk - top (score x0 x1 b c h q)))
    (∑ k' : Fin 576, Ideal.exp (score x0 x1 b c h q k' - top (score x0 x1 b c h q))) * padded x0 4096 (by omega) b (spot c kk) h d

theorem attended_apply (x0 : QKV) (x1 : Tbl) (b : Fin 2) (c q : Fin 64) (h : Fin 16) (d : Fin 128) :
    val_main_v83 (F := Ideal) x0 x1 (ix5 b c q h d) = attended x0 x1 b c q h d := by
  have hi : idx_main_v83 (ix5 b c q h d) = ix5 b c h d q := funext fun a => by
    match a with
    | ⟨0, _⟩ => rfl
    | ⟨1, _⟩ => rfl
    | ⟨2, _⟩ => rfl
    | ⟨3, _⟩ => rfl
    | ⟨4, _⟩ => rfl
  rw [val_main_v83_apply, hi, val_main_v82_apply]
  unfold attended
  refine Finset.sum_congr rfl fun kk _ => ?_
  have hl : lidx_main_v82 (ix5 b c h d q) kk = ix5 b c kk h d := funext fun a => by
    match a with
    | ⟨0, _⟩ => rfl
    | ⟨1, _⟩ => rfl
    | ⟨2, _⟩ => rfl
    | ⟨3, _⟩ => rfl
    | ⟨4, _⟩ => rfl
  have hr : ridx_main_v82 (ix5 b c h d q) kk = ix5 b c h q kk := funext fun a => by
    match a with
    | ⟨0, _⟩ => rfl
    | ⟨1, _⟩ => rfl
    | ⟨2, _⟩ => rfl
    | ⟨3, _⟩ => rfl
    | ⟨4, _⟩ => rfl
  rw [hl, hr, values_apply, prob_apply, mul_comm]

/-- The column of lane `d` of head `h` in the result. -/
def outCol (h : Fin 16) (d : Fin 128) : Fin 2048 := ⟨128 * h.val + d.val, by omega⟩

/-- **The reference's result, entry by entry.** -/
theorem result_apply (x0 : QKV) (x1 : Tbl) (b : Fin 2) (c q : Fin 64) (h : Fin 16) (d : Fin 128) :
    val_main_v85 (F := Ideal) x0 x1 (ix2 (seqRow b (64 * c.val + q.val) (by omega)) (outCol h d)) = attended x0 x1 b c q h d := by
  rw [val_main_v85_apply, val_main_v84_apply, ← attended_apply]
  show val_main_v83 (F := Ideal) x0 x1 _ = _
  refine congrArg _ (funext fun a => Fin.ext ?_)
  have := b.isLt; have := c.isLt; have := q.isLt; have := h.isLt; have := d.isLt
  match a with
  | ⟨0, _⟩ => show ((4096 * b.val + (64 * c.val + q.val)) * 2048 + (128 * h.val + d.val)) / 8388608 = b.val; omega
  | ⟨1, _⟩ => show ((4096 * b.val + (64 * c.val + q.val)) * 2048 + (128 * h.val + d.val)) / 131072 % 64 = c.val; omega
  | ⟨2, _⟩ => show ((4096 * b.val + (64 * c.val + q.val)) * 2048 + (128 * h.val + d.val)) / 2048 % 64 = q.val; omega
  | ⟨3, _⟩ => show ((4096 * b.val + (64 * c.val + q.val)) * 2048 + (128 * h.val + d.val)) / 128 % 16 = h.val; omega
  | ⟨4, _⟩ => show ((4096 * b.val + (64 * c.val + q.val)) * 2048 + (128 * h.val + d.val)) % 128 = d.val; omega

end Cert.BandRefIdeal.Rows

end
-- ==== Proof.Band.Equation.lean ====
module

public import proofs.«01_k».proof.Proof.Band.BlockValue
public import proofs.«01_k».proof.Proof.Band.Softmax
public import proofs.«01_k».proof.Proof.Band.RefValue

@[expose] public section

/-!
# One row of the kernel is one row of the reference

The kernel scores 640 columns for each query, the reference the 576 keys of the query's window; the 64 other columns
score `-∞` in the kernel. The two also divide at different places.
-/

set_option maxRecDepth 16384

noncomputable section

open Idealize.ShloMosaic Idealize.ShloMosaic.TcCoe Idealize.SL.Sem Idealize.ShloMosaic.ValueIdx

namespace Cert.Band.Equation

open Cert.BandIdeal (grid0 S128x1024 S4096x1024 S8x128x640)
open Cert.BandIdeal.Block Cert.Softmax
open Cert.BandRefIdeal.Rows (QKV Tbl seqRow laneCol padded spot relCol score attended)

/-- A value that is neither infinity. -/
def IsReal (x : EReal) : Prop := x ≠ ⊤ ∧ x ≠ ⊥

theorem IsReal.coe (r : ℝ) : IsReal (r : EReal) := ⟨EReal.coe_ne_top r, EReal.coe_ne_bot r⟩

theorem IsReal.lift {x : EReal} (h : IsReal x) : ∃ r : ℝ, x = (r : EReal) := ⟨x.toReal, (EReal.coe_toReal h.1 h.2).symm⟩

theorem IsReal.mul {x y : EReal} (hx : IsReal x) (hy : IsReal y) : IsReal (x * y) := by
  obtain ⟨a, rfl⟩ := hx.lift
  obtain ⟨b, rfl⟩ := hy.lift
  rw [← EReal.coe_mul]
  exact .coe _

theorem IsReal.add {x y : EReal} (hx : IsReal x) (hy : IsReal y) : IsReal (x + y) := by
  obtain ⟨a, rfl⟩ := hx.lift
  obtain ⟨b, rfl⟩ := hy.lift
  rw [← EReal.coe_add]
  exact .coe _

theorem IsReal.zero : IsReal 0 := ⟨EReal.zero_ne_top, EReal.zero_ne_bot⟩

theorem IsReal.sum {β : Type} (s : Finset β) (f : β → EReal) (h : ∀ b, IsReal (f b)) : IsReal (∑ b ∈ s, f b) := by
  classical
  induction s using Finset.induction_on with
  | empty => rw [Finset.sum_empty]; exact .zero
  | insert a s ha ih => rw [Finset.sum_insert ha]; exact (h a).add ih

theorem scale_real : IsReal Cert.BandRefIdeal.Rows.scale := by
  rw [show Cert.BandRefIdeal.Rows.scale = ((11863283 : ℝ) : EReal) * ((((2 : ℝ) ^ 27)⁻¹ : ℝ) : EReal) from by
    simp [Cert.BandRefIdeal.Rows.scale, Ideal.ofBits, Ideal.ieee]]
  exact (IsReal.coe _).mul (.coe _)

/-- A sum over the five blocks of columns and their lanes is a sum over the columns. -/
theorem sum_cols (f : Fin 640 → EReal) : (∑ jb : Fin 5, ∑ l : Fin 128, f (col jb l)) = ∑ j : Fin 640, f j := by
  rw [← Fintype.sum_prod_type' (f := fun (jb : Fin 5) (l : Fin 128) => f (col jb l))]
  refine Fintype.sum_equiv (finProdFinEquiv (m := 5) (n := 128)) _ _ fun p => ?_
  refine congrArg f (Fin.ext ?_)
  show 128 * p.1.val + p.2.val = p.2.val + 128 * p.1.val
  omega

/-- The column at which key `kk` of the window of row `r`'s chunk stands. -/
def window (r : Fin 128) (kk : Fin 576) : Fin 640 := ⟨64 * (r.val / 64) + kk.val, by omega⟩

theorem window_injective (r : Fin 128) : Function.Injective (window r) := fun a b h => by
  have h' : 64 * (r.val / 64) + a.val = 64 * (r.val / 64) + b.val := congrArg Fin.val h
  exact Fin.ext (by omega)

/-- A column's block and lane. -/
def blockOf (j : Fin 640) : Fin 5 := ⟨j.val / 128, by omega⟩
/-- A column's lane. -/
def laneOf (j : Fin 640) : Fin 128 := ⟨j.val % 128, by omega⟩

theorem col_blockOf (j : Fin 640) : col (blockOf j) (laneOf j) = j := Fin.ext (by
  show 128 * (j.val / 128) + j.val % 128 = j.val
  omega)

/-- The sequence row a column reads. -/
theorem key_val (i : grid0.Coords) (j : Fin 640) :
    (key i (blockOf j) (laneOf j)).val = ((i 2).val + j.val / 128 - 4) * 128 + j.val % 128 := by
  show keyRow i (blockOf j) + j.val % 128 = _
  rw [keyRow_eq]
  rfl

variable (x0 : QKV) (x1 : Tbl)

theorem padded_real (h0 : ∀ i, IsReal (x0 i)) (o : Nat) (ho : o ≤ 4096) (b : Fin 2) (u : Fin 4608) (h : Fin 16) (d : Fin 128) :
    IsReal (padded x0 o ho b u h d) := by
  unfold padded
  split
  · exact h0 _
  · exact .zero

theorem padded_inside (o : Nat) (ho : o ≤ 4096) (b : Fin 2) (u : Fin 4608) (h : Fin 16) (d : Fin 128) (p : Fin 4096)
    (hp : u.val = p.val + 512) : padded x0 o ho b u h d = x0 (ix2 (seqRow b p.val p.isLt) (laneCol o ho h d)) := by
  unfold padded
  rw [dif_pos (by omega : 512 ≤ u.val)]
  refine congrArg x0 (congrArg (fun z => ix2 z (laneCol o ho h d)) (Fin.ext ?_))
  show 4096 * b.val + (u.val - 512) = 4096 * b.val + p.val
  omega

theorem score_ne_top (h0 : ∀ i, IsReal (x0 i)) (h1 : ∀ i, IsReal (x1 i)) (b : Fin 2) (c : Fin 64) (h : Fin 16) (q : Fin 64) (kk : Fin 576) :
    score x0 x1 b c h q kk ≠ ⊤ := by
  unfold score
  split
  · exact (((IsReal.sum _ _ fun e => (h0 _).mul (padded_real x0 h0 ..)).mul scale_real).add (h1 _)).1
  · exact bot_ne_top

theorem score_own (h0 : ∀ i, IsReal (x0 i)) (h1 : ∀ i, IsReal (x1 i)) (b : Fin 2) (c : Fin 64) (h : Fin 16) (q : Fin 64) :
    score x0 x1 b c h q ⟨512 + q.val, by omega⟩ ≠ ⊥ := by
  unfold score
  rw [if_pos (by show 512 ≤ 64 * c.val + (512 + q.val); omega)]
  exact (((IsReal.sum _ _ fun e => (h0 _).mul (padded_real x0 h0 ..)).mul scale_real).add (h1 _)).2

/-- **One entry of a stored block is the reference's entry.** `xq`, `xk`, `xv` and `xb` are the blocks of queries, keys,
    values and biases at the point `i`. -/
theorem stored_eq (h0 : ∀ i, IsReal (x0 i)) (h1 : ∀ i, IsReal (x1 i)) (i : grid0.Coords)
    (xq : Vec Ideal S128x1024 .bf16) (xk xv : Vec Ideal S4096x1024 .bf16) (xb : Vec Ideal S8x128x640 .f32)
    (b : Fin 2) (c q : Fin 64) (h : Fin 16) (hh : Fin 8) (r d : Fin 128)
    (hc : c.val = 2 * (i 2).val + r.val / 64) (hq : q.val = r.val % 64)
    (hxq : ∀ e : Fin 128, xq (ix2 r (lane hh e)) = x0 (ix2 (seqRow b (64 * c.val + q.val) (by omega)) (laneCol 0 (by omega) h e)))
    (hxk : ∀ (p : Fin 4096) (e : Fin 128), xk (ix2 p (lane hh e)) = x0 (ix2 (seqRow b p.val p.isLt) (laneCol 2048 (by omega) h e)))
    (hxv : ∀ (p : Fin 4096) (e : Fin 128), xv (ix2 p (lane hh e)) = x0 (ix2 (seqRow b p.val p.isLt) (laneCol 4096 (by omega) h e)))
    (hxb : ∀ j : Fin 640, xb (ix3 hh r j) = if r.val / 64 ≤ j.val / 64 ∧ j.val / 64 ≤ r.val / 64 + 8
      then x1 (ix2 h ⟨min (640 + r.val - j.val) 256, by omega⟩) else ⊥) :
    stored i xq xk xv xb hh (ix2 r d) = attended x0 x1 b c q h d := by
  have hi : (i 2).val < 32 := (i 2).isLt
  rw [stored_apply]
  let K : Fin 640 → EReal := fun j => scores i xq xk xb (ix2 (row hh r) j)
  let v : Fin 640 → EReal := fun j => xv (ix2 (key i (blockOf j) (laneOf j)) (lane hh d))
  have hKj : ∀ j : Fin 640, K j = if 4 ≤ (i 2).val + j.val / 128
      then (∑ e : Fin 128, xq (ix2 r (lane hh e)) * xk (ix2 (key i (blockOf j) (laneOf j)) (lane hh e))) * scale + xb (ix3 hh r j) else ⊥ := by
    intro j
    have := scores_apply i xq xk xb hh r (blockOf j) (laneOf j)
    rw [col_blockOf] at this
    exact this
  have hbl : ∀ (jb : Fin 5) (l : Fin 128), blockOf (col jb l) = jb ∧ laneOf (col jb l) = l := fun jb l =>
    ⟨Fin.ext (by show (128 * jb.val + l.val) / 128 = jb.val; omega), Fin.ext (by show (128 * jb.val + l.val) % 128 = l.val; omega)⟩
  have hnum : (∑ jb : Fin 5, ∑ l : Fin 128, wt (scores i xq xk xb) (row hh r) (col jb l) * xv (ix2 (key i jb l) (lane hh d)))
      = ∑ j : Fin 640, Ideal.exp (K j - top K) * v j := by
    rw [← sum_cols]
    refine Finset.sum_congr rfl fun jb _ => Finset.sum_congr rfl fun l _ => ?_
    show _ = Ideal.exp (K (col jb l) - top K) * xv (ix2 (key i (blockOf (col jb l)) (laneOf (col jb l))) (lane hh d))
    rw [(hbl jb l).1, (hbl jb l).2]
    rfl
  rw [hnum]
  unfold attended
  refine softmax_row (window r) (window_injective r) K v (score x0 x1 b c h q) _ ?_ ?_ (score_ne_top x0 x1 h0 h1 b c h q)
    ⟨_, score_own x0 x1 h0 h1 b c h q⟩ ?_ fun kk => padded_real x0 h0 ..
  · intro kk
    have hkk := kk.isLt; have hr := r.isLt
    rw [hKj]
    unfold score
    refine if_ctx_congr ?_ (fun hin => ?_) fun _ => rfl
    · show 4 ≤ (i 2).val + (64 * (r.val / 64) + kk.val) / 128 ↔ 512 ≤ 64 * c.val + kk.val
      omega
    · have hb : xb (ix3 hh r (window r kk)) = x1 (ix2 h (relCol q kk)) := by
        rw [hxb, if_pos (by show r.val / 64 ≤ (64 * (r.val / 64) + kk.val) / 64 ∧ (64 * (r.val / 64) + kk.val) / 64 ≤ r.val / 64 + 8; omega)]
        refine congrArg x1 (congrArg (fun z => ix2 h z) (Fin.ext ?_))
        show min (640 + r.val - (64 * (r.val / 64) + kk.val)) 256 = min (640 + q.val - kk.val) 256
        omega
      rw [hb]
      refine congrArg (fun z : EReal => z * scale + x1 (ix2 h (relCol q kk))) (Finset.sum_congr rfl fun e _ => ?_)
      rw [hxq, hxk]
      refine congrArg (fun z : EReal => _ * z) (padded_inside x0 2048 _ b (spot c kk) h e _ ?_).symm
      rw [key_val]
      show 64 * c.val + kk.val = ((i 2).val + (64 * (r.val / 64) + kk.val) / 128 - 4) * 128 + (64 * (r.val / 64) + kk.val) % 128 + 512
      omega
  · intro j hj
    rw [hKj]
    split
    · rw [hxb, if_neg, EReal.add_bot]
      intro hin
      refine hj ⟨⟨j.val - 64 * (r.val / 64), by omega⟩, Fin.ext ?_⟩
      show 64 * (r.val / 64) + (j.val - 64 * (r.val / 64)) = j.val
      omega
    · rfl
  · intro kk hne
    have hkk := kk.isLt; have hr := r.isLt
    have hin : 512 ≤ 64 * c.val + kk.val := by
      by_contra hlt
      exact hne (by unfold score; rw [if_neg hlt])
    show xv (ix2 (key i (blockOf (window r kk)) (laneOf (window r kk))) (lane hh d)) = _
    rw [hxv]
    refine (padded_inside x0 4096 _ b (spot c kk) h d _ ?_).symm
    rw [key_val]
    show 64 * c.val + kk.val = ((i 2).val + (64 * (r.val / 64) + kk.val) / 128 - 4) * 128 + (64 * (r.val / 64) + kk.val) % 128 + 512
    omega

end Cert.Band.Equation
-- ==== Proof.Band.Array.lean ====
module

public import proofs.«01_k».proof.Proof.Band.BiasValue
public import proofs.«01_k».proof.Proof.Band.Equation

@[expose] public section

/-!
# The kernel's result array

Grid point `(b, g, t)` reads 128 rows of queries, all keys and values of batch `b`, and the biases of eight heads. It
writes a 128 × 1024 block of the result; the blocks tile the result, and each entry is the reference's.
-/

set_option maxRecDepth 16384

noncomputable section

open Idealize.ShloMosaic Idealize.ShloMosaic.TcCoe Idealize.SL.Sem Idealize.ShloMosaic.ValueIdx
open Idealize.ShloMosaic.Pipeline (Dat)

namespace Cert.BandIdeal.Result

open Cert.BandIdeal Cert.BandIdeal.Gen Cert.BandIdeal.Value Cert.BandIdeal.Block Cert.BandIdeal.Bias
open Cert.BandRefIdeal.Rows (QKV seqRow laneCol outCol attended)
open Cert.Band.Equation (IsReal stored_eq)

variable (m : (ℓ : Loc nD τ sig) → Buf (Elt Ideal) ℓ)

/-- The queries, keys and values. -/
abbrev qkv (c : Dev nD) : QKV := m ((c.tc : Thread nD τ).loc main_arg0)
/-- The table of biases. -/
abbrev tbl (c : Dev nD) : Cert.BandRefIdeal.Rows.Tbl := m ((c.tc : Thread nD τ).loc main_arg1)

theorem N_eq : cfg0.N = 128 := N_0

theorem index0 : ∀ t : Fin grid0.N, win0_0.index t 0 = 32 * (t.val / 64) + t.val % 32 ∧ win0_0.index t 1 = t.val / 32 % 2 := by
  decide +kernel
theorem index1 : ∀ t : Fin grid0.N, win0_1.index t 0 = t.val / 64 ∧ win0_1.index t 1 = 2 + t.val / 32 % 2 := by decide +kernel
theorem index2 : ∀ t : Fin grid0.N, win0_2.index t 0 = t.val / 64 ∧ win0_2.index t 1 = 4 + t.val / 32 % 2 := by decide +kernel
theorem index3 : ∀ t : Fin grid0.N, win0_3.index t 0 = t.val / 32 % 2 ∧ win0_3.index t 1 = 0 ∧ win0_3.index t 2 = 0 := by decide +kernel
theorem index4 : ∀ t : Fin grid0.N, win0_4.index t 0 = 32 * (t.val / 64) + t.val % 32 ∧ win0_4.index t 1 = t.val / 32 % 2 := by
  decide +kernel
theorem coord2 : ∀ t : Fin grid0.N, ((grid0.coords t) 2).val = t.val % 32 := by decide +kernel
theorem flush4 : ∀ t : Fin grid0.N, win0_4.flush t = true := by decide +kernel

/-- The block of queries. -/
theorem queries_block (c : Dev nD) (t : Fin cfg0.N) (r : Fin 128) (l : Fin 1024) (y : Fin 8192) (z : Fin 12288)
    (hy : y.val = 128 * (32 * (t.val / 64) + t.val % 32) + r.val) (hz : z.val = 1024 * (t.val / 32 % 2) + l.val) :
    (iblk m c 0 t : Vec Ideal S128x1024 .bf16) (ix2 r l) = qkv m c (ix2 y z) := by
  unfold iblk
  rw [View.read_apply]
  show V m c main_arg0 _ = _
  rw [V_main_arg0]
  refine congrArg (qkv m c) (funext fun a => Fin.ext ?_)
  match a with
  | ⟨0, _⟩ => show win0_0.index t 0 * 128 + 1 * r.val = y.val; rw [(index0 t).1]; omega
  | ⟨1, _⟩ => show win0_0.index t 1 * 1024 + 1 * l.val = z.val; rw [(index0 t).2]; omega

/-- The block of keys. -/
theorem keys_block (c : Dev nD) (t : Fin cfg0.N) (p : Fin 4096) (l : Fin 1024) (y : Fin 8192) (z : Fin 12288)
    (hy : y.val = 4096 * (t.val / 64) + p.val) (hz : z.val = 2048 + 1024 * (t.val / 32 % 2) + l.val) :
    (iblk m c 1 t : Vec Ideal S4096x1024 .bf16) (ix2 p l) = qkv m c (ix2 y z) := by
  unfold iblk
  rw [View.read_apply]
  show V m c main_arg0 _ = _
  rw [V_main_arg0]
  refine congrArg (qkv m c) (funext fun a => Fin.ext ?_)
  match a with
  | ⟨0, _⟩ => show win0_1.index t 0 * 4096 + 1 * p.val = y.val; rw [(index1 t).1]; omega
  | ⟨1, _⟩ => show win0_1.index t 1 * 1024 + 1 * l.val = z.val; rw [(index1 t).2]; omega

/-- The block of values. -/
theorem values_block (c : Dev nD) (t : Fin cfg0.N) (p : Fin 4096) (l : Fin 1024) (y : Fin 8192) (z : Fin 12288)
    (hy : y.val = 4096 * (t.val / 64) + p.val) (hz : z.val = 4096 + 1024 * (t.val / 32 % 2) + l.val) :
    (iblk m c 2 t : Vec Ideal S4096x1024 .bf16) (ix2 p l) = qkv m c (ix2 y z) := by
  unfold iblk
  rw [View.read_apply]
  show V m c main_arg0 _ = _
  rw [V_main_arg0]
  refine congrArg (qkv m c) (funext fun a => Fin.ext ?_)
  match a with
  | ⟨0, _⟩ => show win0_2.index t 0 * 4096 + 1 * p.val = y.val; rw [(index2 t).1]; omega
  | ⟨1, _⟩ => show win0_2.index t 1 * 1024 + 1 * l.val = z.val; rw [(index2 t).2]; omega

/-- The block of biases. -/
theorem biases_block (c : Dev nD) (t : Fin cfg0.N) (hh : Fin 8) (i : Fin 128) (j : Fin 640) (h : Fin 16)
    (hy : h.val = 8 * (t.val / 32 % 2) + hh.val) :
    (iblk m c 3 t : Vec Ideal S8x128x640 .f32) (ix3 hh i j) = table (tbl m c) (ix3 h i j) := by
  unfold iblk
  rw [View.read_apply]
  show V m c main_v271 _ = _
  rw [bias_host]
  refine congrArg (table (tbl m c)) (funext fun a => Fin.ext ?_)
  match a with
  | ⟨0, _⟩ => show win0_3.index t 0 * 8 + 1 * hh.val = h.val; rw [(index3 t).1]; omega
  | ⟨1, _⟩ => show win0_3.index t 1 * 128 + 1 * i.val = i.val; rw [(index3 t).2.1]; omega
  | ⟨2, _⟩ => show win0_3.index t 2 * 640 + 1 * j.val = j.val; rw [(index3 t).2.2]; omega

/-- The reference's result on the same arguments. -/
abbrev result (c : Dev nD) : S8192x2048.Idx → EReal := Cert.BandRefIdeal.Read.val_main_v85 (F := Ideal) (qkv m c) (tbl m c)

/-- What a point writes, entry by entry. -/
theorem written (c : Dev nD) (h0 : ∀ i, IsReal (qkv m c i)) (h1 : ∀ i, IsReal (tbl m c i)) (t : Fin cfg0.N) (r : Fin 128) (hh : Fin 8) (d : Fin 128)
    (y : Fin 8192) (z : Fin 2048) (hy : y.val = 128 * (32 * (t.val / 64) + t.val % 32) + r.val) (hz : z.val = 1024 * (t.val / 32 % 2) + (128 * hh.val + d.val)) :
    outsAt0 m c t (ix2 r (lane hh d)) = result m c (ix2 y z) := by
  have ht : t.val < 128 := lt_of_lt_of_eq t.isLt N_eq
  have hr := r.isLt; have hhl := hh.isLt; have hd := d.isLt
  let b : Fin 2 := ⟨t.val / 64, by omega⟩
  let ch : Fin 64 := ⟨2 * (t.val % 32) + r.val / 64, by omega⟩
  let q : Fin 64 := ⟨r.val % 64, by omega⟩
  let h : Fin 16 := ⟨8 * (t.val / 32 % 2) + hh.val, by omega⟩
  have hyz : ix2 y z = ix2 (seqRow b (64 * ch.val + q.val) (by omega)) (outCol h d) := by
    refine congrArg₂ ix2 (Fin.ext ?_) (Fin.ext ?_)
    · show y.val = 4096 * (t.val / 64) + (64 * (2 * (t.val % 32) + r.val / 64) + r.val % 64)
      omega
    · show z.val = 128 * (8 * (t.val / 32 % 2) + hh.val) + d.val
      omega
  refine Eq.trans ?_ (congrArg (result m c) hyz).symm
  refine Eq.trans ?_ (Cert.BandRefIdeal.Rows.result_apply (qkv m c) (tbl m c) b ch q h d).symm
  refine (out_apply c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) (iblk m c 3 t) hh r d).trans ?_
  refine stored_eq (qkv m c) (tbl m c) h0 h1 (grid0.coords t) (iblk m c 0 t) (iblk m c 1 t) (iblk m c 2 t) (iblk m c 3 t) b ch q h hh r d ?_ rfl
    (fun e => ?_) (fun p e => ?_) (fun p e => ?_) (fun j => ?_)
  · rw [coord2]
  · have he := e.isLt
    refine queries_block m c t r (lane hh e) _ _ ?_ ?_
    · show 4096 * (t.val / 64) + (64 * (2 * (t.val % 32) + r.val / 64) + r.val % 64) = _
      omega
    · show 0 + (128 * (8 * (t.val / 32 % 2) + hh.val) + e.val) = 1024 * (t.val / 32 % 2) + (128 * hh.val + e.val)
      omega
  · have he := e.isLt
    refine keys_block m c t p (lane hh e) _ _ rfl ?_
    show 2048 + (128 * (8 * (t.val / 32 % 2) + hh.val) + e.val) = 2048 + 1024 * (t.val / 32 % 2) + (128 * hh.val + e.val)
    omega
  · have he := e.isLt
    refine values_block m c t p (lane hh e) _ _ rfl ?_
    show 4096 + (128 * (8 * (t.val / 32 % 2) + hh.val) + e.val) = 4096 + 1024 * (t.val / 32 % 2) + (128 * hh.val + e.val)
    omega
  · exact (biases_block m c t hh r j h rfl).trans (table_apply (tbl m c) h r j)

/-- A block `O` whose entries are those of an array `A` at the point's rows and columns is what `A`'s block reads. -/
theorem cut_eq (t : Fin cfg0.N) (O : Vec Ideal S128x1024 .bf16) (A : S8192x2048.Idx → EReal)
    (h : ∀ (r : Fin 128) (hh : Fin 8) (d : Fin 128) (y : Fin 8192) (z : Fin 2048), y.val = 128 * (32 * (t.val / 64) + t.val % 32) + r.val →
      z.val = 1024 * (t.val / 32 % 2) + (128 * hh.val + d.val) → O (ix2 r (lane hh d)) = A (ix2 y z)) :
    (cfg0.win 4).cut (grid0.coords t) O = ((cfg0.win 4).blk t).view.read (Elt Ideal) A := by
  have ht : t.val < 128 := lt_of_lt_of_eq t.isLt N_eq
  funext j
  have hj0 : (j 0).val < 128 := (j 0).isLt
  have hj1 : (j 1).val < 1024 := (j 1).isLt
  rw [View.read_apply]
  show O j = A _
  let r : Fin 128 := ⟨(j 0).val, hj0⟩
  let hh : Fin 8 := ⟨(j 1).val / 128, by omega⟩
  let d : Fin 128 := ⟨(j 1).val % 128, by omega⟩
  have hj : j = ix2 r (lane hh d) := by
    funext a
    refine Fin.ext ?_
    match a with
    | ⟨0, _⟩ => rfl
    | ⟨1, _⟩ => show (j 1).val = 128 * ((j 1).val / 128) + (j 1).val % 128; omega
  refine (congrArg O hj).trans ((h r hh d ⟨128 * (32 * (t.val / 64) + t.val % 32) + r.val, by omega⟩
    ⟨1024 * (t.val / 32 % 2) + (128 * hh.val + d.val), by omega⟩ rfl rfl).trans ?_)
  refine congrArg A (funext fun a => Fin.ext ?_)
  match a with
  | ⟨0, _⟩ =>
    show 128 * (32 * (t.val / 64) + t.val % 32) + (j 0).val = win0_4.index t 0 * 128 + 1 * (j 0).val
    rw [(index4 t).1]; omega
  | ⟨1, _⟩ =>
    show 1024 * (t.val / 32 % 2) + (128 * ((j 1).val / 128) + (j 1).val % 128) = win0_4.index t 1 * 1024 + 1 * (j 1).val
    rw [(index4 t).2]; omega

/-- What a point writes back is its block of the reference's result. -/
theorem flushed_eq (c : Dev nD) (h0 : ∀ i, IsReal (qkv m c i)) (h1 : ∀ i, IsReal (tbl m c i)) (t : Fin cfg0.N) :
    (dats m 0 c).flushed 4 t = ((cfg0.win 4).blk t).view.read (Elt Ideal) (result m c) := by
  rw [flushed4]
  exact cut_eq t (outsAt0 m c t) (result m c) fun r hh d y z hy hz => written m c h0 h1 t r hh d y z hy hz

/-- Which entries of the result a point's block holds. -/
theorem mem_blk (t : Fin cfg0.N) (i : S8192x2048.Idx) : i ∈ ((cfg0.win 4).blk t).view.set ↔
    (128 * (32 * (t.val / 64) + t.val % 32) ≤ (i 0).val ∧ (i 0).val < 128 * (32 * (t.val / 64) + t.val % 32) + 128)
      ∧ 1024 * (t.val / 32 % 2) ≤ (i 1).val ∧ (i 1).val < 1024 * (t.val / 32 % 2) + 1024 := by
  show i ∈ ((View.whole main_v272).slice (win0_4.rect t)).set ↔ _
  rw [View.set_slice_whole, Rect.mem_set_unit]
  have h0 : win0_4.index t 0 = 32 * (t.val / 64) + t.val % 32 := (index4 t).1
  have h1 : win0_4.index t 1 = t.val / 32 % 2 := (index4 t).2
  constructor
  · intro h
    have a0 : win0_4.index t 0 * 128 ≤ (i 0).val ∧ (i 0).val < win0_4.index t 0 * 128 + 128 := h 0
    have a1 : win0_4.index t 1 * 1024 ≤ (i 1).val ∧ (i 1).val < win0_4.index t 1 * 1024 + 1024 := h 1
    rw [h0] at a0
    rw [h1] at a1
    omega
  · intro h a
    match a with
    | ⟨0, _⟩ =>
      show win0_4.index t 0 * 128 ≤ (i 0).val ∧ (i 0).val < win0_4.index t 0 * 128 + 128
      rw [h0]; omega
    | ⟨1, _⟩ =>
      show win0_4.index t 1 * 1024 ≤ (i 1).val ∧ (i 1).val < win0_4.index t 1 * 1024 + 1024
      rw [h1]; omega

/-- **The kernel's result array is the reference's result.** -/
theorem final (c : Dev nD) (h0 : ∀ i, IsReal (qkv m c i)) (h1 : ∀ i, IsReal (tbl m c i)) :
    (dats m 0 c).arrAt 4 cfg0.N = (result m c : Buf (Elt Ideal) ((c.tc : Thread nD τ).loc main_v272)) :=
  (dats m 0 c).arrAt_eq_of_cover 4 _ (fun t _ => flushed_eq m c h0 h1 t) fun i => by
    have hi0 : (i 0).val < 8192 := (i 0).isLt
    have hi1 : (i 1).val < 2048 := (i 1).isLt
    obtain ⟨n, hn⟩ : ∃ n, n = 64 * ((i 0).val / 4096) + 32 * ((i 1).val / 1024) + (i 0).val / 128 % 32 := ⟨_, rfl⟩
    refine ⟨⟨n, lt_of_lt_of_eq (by omega) N_eq.symm⟩, flush4 _, (mem_blk _ i).2 ?_⟩
    show (128 * (32 * (n / 64) + n % 32) ≤ (i 0).val ∧ (i 0).val < 128 * (32 * (n / 64) + n % 32) + 128)
      ∧ 1024 * (n / 32 % 2) ≤ (i 1).val ∧ (i 1).val < 1024 * (n / 32 % 2) + 1024
    omega

end Cert.BandIdeal.Result
-- ==== Proof.Band.Claims.lean ====
module

public import proofs.«01_k».proof.Defs
public import proofs.«01_k».proof.Proof.Band.Array
public import proofs.«01_k».proof.Proof.Gen.Band.Frame

@[expose] public section

/-!
# The claims about the banded attention

The frames, the renamed constant, and the equality of the two result arrays.
-/

noncomputable section

open Idealize.ShloMosaic Idealize.ShloMosaic.TcCoe Idealize.SL.Sem Idealize.ShloMosaic.ValueIdx

namespace Cert.Proof.BandClaims

open Cert.Band.Equation (IsReal)

/-- The side conditions of the precondition's own operations. -/
theorem pre_facts : Cert.Pre_finite.Facts := ⟨by decide, by decide, by decide⟩

/-- A value whose absolute value is below `+∞` is real. -/
theorem isReal_of_abs (x : EReal) (h : max x (-x) < ⊤) : IsReal x := by
  induction x with
  | bot => exact absurd h (by simp)
  | coe r => exact .coe r
  | top => exact absurd h (by simp)

theorem pos_inf : Ideal.ofBits .f32 0x7F800000#32 = ⊤ := by simp [Ideal.ofBits, Ideal.ieee]

/-- What the precondition says of the queries, keys and values. -/
theorem finite_fst [Cert.Pre_finite.Facts] (x0 : FVec Ideal Cert.Pre_finite.S8192x12288 .bf16) (x1 : FVec Ideal Cert.Pre_finite.S16x257 .f32)
    (h : (Cert.Pre_finite.fn (F := Ideal) x0 x1).1 = fun _ => 1#1) (i : Cert.Pre_finite.S8192x12288.Idx) : IsReal (x0 i) := by
  have e := congrFun h i
  have e' : BitVec.ofBool (decide (max (x0 i) (-(x0 i)) < Ideal.ofBits .f32 0x7F800000#32)) = 1#1 := e
  rw [pos_inf] at e'
  refine isReal_of_abs _ ?_
  by_contra hn
  rw [decide_eq_false hn] at e'
  exact absurd e' (by decide)

/-- What the precondition says of the biases. -/
theorem finite_snd [Cert.Pre_finite.Facts] (x0 : FVec Ideal Cert.Pre_finite.S8192x12288 .bf16) (x1 : FVec Ideal Cert.Pre_finite.S16x257 .f32)
    (h : (Cert.Pre_finite.fn (F := Ideal) x0 x1).2 = fun _ => 1#1) (i : Cert.Pre_finite.S16x257.Idx) : IsReal (x1 i) := by
  have e := congrFun h i
  have e' : BitVec.ofBool (decide (max (x1 i) (-(x1 i)) < Ideal.ofBits .f32 0x7F800000#32)) = 1#1 := e
  rw [pos_inf] at e'
  refine isReal_of_abs _ ?_
  by_contra hn
  rw [decide_eq_false hn] at e'
  exact absurd e' (by decide)

/-- The kernel runs and leaves its arguments alone. -/
theorem frame_k : Cert.quiescent_Band (hBand := Cert.Band.Gen.facts) := fun m ρ _ => Cert.Band.Gen.frame m ρ

/-- So does its reading over the extended reals. -/
theorem frame_ki : Cert.quiescent_BandIdeal (hBandIdeal := Cert.BandIdeal.Gen.facts) := fun m ρ _ => Cert.BandIdeal.Gen.frame m ρ

/-- So does the reference's. -/
theorem frame_ri : Cert.quiescent_BandRefIdeal (hBandRefIdeal := Cert.BandRefIdeal.Gen.facts) := fun m ρ _ =>
  (θ_run Cert.BandRefIdeal.defs _ _).mono (fun r h => ⟨fun c => ⟨(h c).2.1, (h c).2.2⟩,
      Idealize.ShloMosaic.sem_eq_zero_of_no_sems (by decide) r.2⟩)
    (Cert.BandRefIdeal.Value.run (F := Ideal) m ρ)

/-- The renamed constant: the mask is `-∞`. -/
theorem preserves : Cert.preserves_Band_BandIdeal :=
  IdealRules.named_const.statement Cert.BandIdeal.κ "mask" .f32 0xF149F2CA#32 ⊥ rfl

/-- **On finite arguments the kernel and the reference end with the same result.** -/
theorem algebraic : Cert.algebraic_BandIdeal_BandRefIdeal_pre_finite (hBandIdeal := Cert.BandIdeal.Gen.facts)
    (hBandRefIdeal := Cert.BandRefIdeal.Gen.facts) (hPre_finite := pre_facts) := by
  intro m ρ m' ρ' hpre hagree
  have hfin : ∀ c, (∀ i, IsReal (Cert.BandIdeal.Result.qkv m c i)) ∧ ∀ i, IsReal (Cert.BandIdeal.Result.tbl m c i) := fun c =>
    ⟨@finite_fst pre_facts _ _ (hpre c).1, @finite_snd pre_facts _ _ (hpre c).2⟩
  refine ⟨fun c => Cert.BandIdeal.Result.result m c, ?_, ?_⟩
  · exact (θ_run Cert.BandIdeal.defs _ _).mono
      (fun _ h c => ⟨(h c).1.trans (Cert.BandIdeal.Result.final m c (hfin c).1 (hfin c).2), (h c).2⟩)
      (Cert.BandIdeal.Value.run_blocks (F := Ideal) m ρ)
  · refine (θ_run Cert.BandRefIdeal.defs _ _).mono (fun _ h c => ⟨(h c).1.trans ?_, (h c).2⟩)
      (Cert.BandRefIdeal.Value.run (F := Ideal) m' ρ')
    rw [Cert.BandRefIdeal.Read.val_main_v85_eq, (hagree c).1, (hagree c).2]

end Cert.Proof.BandClaims

end
-- ==== Proof.Mm.Even.lean ====
module

public import proofs.«01_k».proof.Defs
public import proofs.«01_k».proof.Proof.Gen.Even.Frame
public import proofs.«01_k».proof.Proof.Gen.EvenIdeal.Value
public import proofs.«01_k».proof.Proof.Gen.EvenRefIdeal.Read
public import Idealize.ShloMosaic.Lib.ValueIdx
public import Idealize.ShloMosaic.Lib.MatmulPlain
public import Idealize.ShloMosaic.Lib.Pipeline.ValueKit.Tiles

@[expose] public section

/-!
# The even layers' projection

Grid point `(i, j)` multiplies 1024 rows by 512 columns of the weights, over the whole inner axis, and writes the block
of products once in f32 and once in bf16. The blocks tile both results.
-/

set_option maxRecDepth 16384

noncomputable section

open Idealize.ShloMosaic Idealize.ShloMosaic.TcCoe Idealize.SL.Sem Idealize.ShloMosaic.ValueIdx
open Idealize.ShloMosaic.Pipeline (Dat)

namespace Cert.EvenIdeal.Result

open Cert.EvenIdeal Cert.EvenIdeal.Gen Cert.EvenIdeal.Value

variable (m : (ℓ : Loc nD τ sig) → Buf (Elt Ideal) ℓ)

/-- The rows. -/
abbrev rows (c : Dev nD) : S8192x4096.Idx → EReal := m ((c.tc : Thread nD τ).loc main_arg0)
/-- The weights. -/
abbrev weights (c : Dev nD) : S4096x12288.Idx → EReal := m ((c.tc : Thread nD τ).loc main_arg1)

/-- The product of two arrays. -/
def product (x : S8192x4096.Idx → EReal) (w : S4096x12288.Idx → EReal) : S8192x12288.Idx → EReal := fun y =>
  ∑ k : Fin 4096, x (ix2 (n0 := 8192) (n1 := 4096) (y 0) k) * w (ix2 (n0 := 4096) (n1 := 12288) k (y 1))

/-- The reference's first result is the product. -/
theorem reference_eq (x : S8192x4096.Idx → EReal) (w : S4096x12288.Idx → EReal) :
    Cert.EvenRefIdeal.Read.val_main_v0 (F := Ideal) x w = product x w := by
  funext y
  refine (Cert.EvenRefIdeal.Read.val_main_v0_apply x w y).trans (Finset.sum_congr rfl fun k _ => congrArg₂ (· * ·) (congrArg x ?_) (congrArg w ?_))
  all_goals
    funext a
    match a with
    | ⟨0, _⟩ => rfl
    | ⟨1, _⟩ => rfl

/-- Its second is the same, rounding being nothing over the extended reals. -/
theorem reference_bf16_eq (x : S8192x4096.Idx → EReal) (w : S4096x12288.Idx → EReal) :
    Cert.EvenRefIdeal.Read.val_main_v1 (F := Ideal) x w = product x w := reference_eq x w

/-- A block's product. -/
theorem block_apply (x0 : Vec Ideal S1024x4096 .bf16) (x1 : Vec Ideal S4096x512 .bf16) (r : Fin 1024) (s : Fin 512) :
    out0_2 (F := Ideal) x0 x1 (ix2 r s) = ∑ k : Fin 4096, x0 (ix2 r k) * x1 (ix2 k s) := by
  have hz : (![0, 0] : Fin 2 → Nat) = fun _ => 0 := by decide
  unfold out0_2
  rw [View.canon_unit_zero hz, View.ld_unit_zero hz, View.ld_unit_zero hz]
  unfold k0_pay1
  refine (Ideal.matmul_plain_apply none x0 x1 _ r s).trans ?_
  show Ideal.ofBits .f32 0x00000000#32 + _ = _
  rw [Ideal.ofBits_zero_f32, zero_add]

/-- The bf16 block is the same block. -/
theorem block_bf16_eq (x0 : Vec Ideal S1024x4096 .bf16) (x1 : Vec Ideal S4096x512 .bf16) :
    out0_3 (F := Ideal) x0 x1 = out0_2 (F := Ideal) x0 x1 := by
  have hz : (![0, 0] : Fin 2 → Nat) = fun _ => 0 := by decide
  unfold out0_3 out0_2
  rw [View.canon_unit_zero hz, View.canon_unit_zero hz]
  rfl

theorem N_eq : cfg0.N = 192 := N_0

theorem index0 : ∀ t : Fin grid0.N, win0_0.index t 0 = t.val / 24 ∧ win0_0.index t 1 = 0 := by decide +kernel
theorem index1 : ∀ t : Fin grid0.N, win0_1.index t 0 = 0 ∧ win0_1.index t 1 = t.val % 24 := by decide +kernel
theorem index2 : ∀ t : Fin grid0.N, win0_2.index t 0 = t.val / 24 ∧ win0_2.index t 1 = t.val % 24 := by decide +kernel
theorem index3 : ∀ t : Fin grid0.N, win0_3.index t 0 = t.val / 24 ∧ win0_3.index t 1 = t.val % 24 := by decide +kernel
theorem flush2 : ∀ t : Fin grid0.N, win0_2.flush t = true := by decide +kernel
theorem flush3 : ∀ t : Fin grid0.N, win0_3.flush t = true := by decide +kernel

/-- The block of rows. -/
theorem rows_block (c : Dev nD) (t : Fin cfg0.N) (r : Fin 1024) (k : Fin 4096) (y : Fin 8192) (hy : y.val = 1024 * (t.val / 24) + r.val) :
    (iblk m c 0 t : Vec Ideal S1024x4096 .bf16) (ix2 r k) = rows m c (ix2 y k) := by
  unfold iblk
  rw [View.read_apply]
  show V m c main_arg0 _ = _
  rw [V_main_arg0]
  refine congrArg (rows m c) (funext fun a => Fin.ext ?_)
  match a with
  | ⟨0, _⟩ => show win0_0.index t 0 * 1024 + 1 * r.val = y.val; rw [(index0 t).1]; omega
  | ⟨1, _⟩ => show win0_0.index t 1 * 4096 + 1 * k.val = k.val; rw [(index0 t).2]; omega

/-- The block of weights. -/
theorem weights_block (c : Dev nD) (t : Fin cfg0.N) (k : Fin 4096) (s : Fin 512) (z : Fin 12288) (hz : z.val = 512 * (t.val % 24) + s.val) :
    (iblk m c 1 t : Vec Ideal S4096x512 .bf16) (ix2 k s) = weights m c (ix2 k z) := by
  unfold iblk
  rw [View.read_apply]
  show V m c main_arg1 _ = _
  rw [V_main_arg1]
  refine congrArg (weights m c) (funext fun a => Fin.ext ?_)
  match a with
  | ⟨0, _⟩ => show win0_1.index t 0 * 4096 + 1 * k.val = k.val; rw [(index1 t).1]; omega
  | ⟨1, _⟩ => show win0_1.index t 1 * 512 + 1 * s.val = z.val; rw [(index1 t).2]; omega

/-- What a point computes, entry by entry. -/
theorem written (c : Dev nD) (t : Fin cfg0.N) (r : Fin 1024) (s : Fin 512) (y : Fin 8192) (z : Fin 12288)
    (hy : y.val = 1024 * (t.val / 24) + r.val) (hz : z.val = 512 * (t.val % 24) + s.val) :
    out0_2 (F := Ideal) (iblk m c 0 t) (iblk m c 1 t) (ix2 r s) = product (rows m c) (weights m c) (ix2 y z) := by
  refine (block_apply (iblk m c 0 t) (iblk m c 1 t) r s).trans (Finset.sum_congr rfl fun k _ => ?_)
  rw [rows_block m c t r k y hy, weights_block m c t k s z hz]

/-- A block `O` whose entries are those of `A` at the point's rows and columns is what `A`'s block reads (f32). -/
theorem cut2_eq (t : Fin cfg0.N) (O : Vec Ideal S1024x512 .f32) (A : S8192x12288.Idx → EReal)
    (h : ∀ (r : Fin 1024) (s : Fin 512) (y : Fin 8192) (z : Fin 12288), y.val = 1024 * (t.val / 24) + r.val →
      z.val = 512 * (t.val % 24) + s.val → O (ix2 r s) = A (ix2 y z)) :
    (cfg0.win 2).cut (grid0.coords t) O = ((cfg0.win 2).blk t).view.read (Elt Ideal) A := by
  have ht : t.val < 192 := lt_of_lt_of_eq t.isLt N_eq
  funext j
  have hj0 : (j 0).val < 1024 := (j 0).isLt
  have hj1 : (j 1).val < 512 := (j 1).isLt
  rw [View.read_apply]
  show O j = A _
  refine (congrArg O (eq_ix2 (n0 := 1024) (n1 := 512) j)).trans ((h (j 0) (j 1) ⟨1024 * (t.val / 24) + (j 0).val, by omega⟩
    ⟨512 * (t.val % 24) + (j 1).val, by omega⟩ rfl rfl).trans ?_)
  refine congrArg A (funext fun a => Fin.ext ?_)
  match a with
  | ⟨0, _⟩ => show 1024 * (t.val / 24) + (j 0).val = win0_2.index t 0 * 1024 + 1 * (j 0).val; rw [(index2 t).1]; omega
  | ⟨1, _⟩ => show 512 * (t.val % 24) + (j 1).val = win0_2.index t 1 * 512 + 1 * (j 1).val; rw [(index2 t).2]; omega

/-- The same of the bf16 result's window, which moves as the f32 result's does. -/
theorem cut3_eq (t : Fin cfg0.N) (O : Vec Ideal S1024x512 .bf16) (A : S8192x12288.Idx → EReal)
    (h : ∀ (r : Fin 1024) (s : Fin 512) (y : Fin 8192) (z : Fin 12288), y.val = 1024 * (t.val / 24) + r.val →
      z.val = 512 * (t.val % 24) + s.val → O (ix2 r s) = A (ix2 y z)) :
    (cfg0.win 3).cut (grid0.coords t) O = ((cfg0.win 3).blk t).view.read (Elt Ideal) A := by
  have ht : t.val < 192 := lt_of_lt_of_eq t.isLt N_eq
  funext j
  have hj0 : (j 0).val < 1024 := (j 0).isLt
  have hj1 : (j 1).val < 512 := (j 1).isLt
  rw [View.read_apply]
  show O j = A _
  refine (congrArg O (eq_ix2 (n0 := 1024) (n1 := 512) j)).trans ((h (j 0) (j 1) ⟨1024 * (t.val / 24) + (j 0).val, by omega⟩
    ⟨512 * (t.val % 24) + (j 1).val, by omega⟩ rfl rfl).trans ?_)
  refine congrArg A (funext fun a => Fin.ext ?_)
  match a with
  | ⟨0, _⟩ => show 1024 * (t.val / 24) + (j 0).val = win0_3.index t 0 * 1024 + 1 * (j 0).val; rw [(index3 t).1]; omega
  | ⟨1, _⟩ => show 512 * (t.val % 24) + (j 1).val = win0_3.index t 1 * 512 + 1 * (j 1).val; rw [(index3 t).2]; omega

/-- Which entries of the f32 result a point's block holds. -/
theorem mem_blk2 (t : Fin cfg0.N) (i : S8192x12288.Idx)
    (h0 : 1024 * (t.val / 24) ≤ (i 0).val ∧ (i 0).val < 1024 * (t.val / 24) + 1024)
    (h1 : 512 * (t.val % 24) ≤ (i 1).val ∧ (i 1).val < 512 * (t.val % 24) + 512) : i ∈ ((cfg0.win 2).blk t).view.set := by
  show i ∈ ((View.whole main_v0_0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [(index2 t).1]; omega
  | ⟨1, _⟩ => show win0_2.index t 1 * 512 ≤ (i 1).val ∧ (i 1).val < win0_2.index t 1 * 512 + 512; rw [(index2 t).2]; omega

/-- And of the bf16 result. -/
theorem mem_blk3 (t : Fin cfg0.N) (i : S8192x12288.Idx)
    (h0 : 1024 * (t.val / 24) ≤ (i 0).val ∧ (i 0).val < 1024 * (t.val / 24) + 1024)
    (h1 : 512 * (t.val % 24) ≤ (i 1).val ∧ (i 1).val < 512 * (t.val % 24) + 512) : i ∈ ((cfg0.win 3).blk t).view.set := by
  show i ∈ ((View.whole main_v0_1).slice (win0_3.rect t)).set
  rw [View.set_slice_whole, Rect.mem_set_unit]
  intro a
  match a with
  | ⟨0, _⟩ => show win0_3.index t 0 * 1024 ≤ (i 0).val ∧ (i 0).val < win0_3.index t 0 * 1024 + 1024; rw [(index3 t).1]; omega
  | ⟨1, _⟩ => show win0_3.index t 1 * 512 ≤ (i 1).val ∧ (i 1).val < win0_3.index t 1 * 512 + 512; rw [(index3 t).2]; omega

/-- The point that writes an entry. -/
theorem point_of (i : S8192x12288.Idx) : ∃ t : Fin cfg0.N,
    (1024 * (t.val / 24) ≤ (i 0).val ∧ (i 0).val < 1024 * (t.val / 24) + 1024) ∧ 512 * (t.val % 24) ≤ (i 1).val ∧ (i 1).val < 512 * (t.val % 24) + 512 := by
  have hi0 : (i 0).val < 8192 := (i 0).isLt
  have hi1 : (i 1).val < 12288 := (i 1).isLt
  obtain ⟨n, hn⟩ : ∃ n, n = 24 * ((i 0).val / 1024) + (i 1).val / 512 := ⟨_, rfl⟩
  refine ⟨⟨n, lt_of_lt_of_eq (by omega) N_eq.symm⟩, ?_⟩
  show (1024 * (n / 24) ≤ (i 0).val ∧ (i 0).val < 1024 * (n / 24) + 1024) ∧ 512 * (n % 24) ≤ (i 1).val ∧ (i 1).val < 512 * (n % 24) + 512
  omega

/-- **The f32 result is the product.** -/
theorem final2 (c : Dev nD) :
    (dats m 0 c).arrAt 2 cfg0.N = (product (rows m c) (weights m c) : Buf (Elt Ideal) ((c.tc : Thread nD τ).loc main_v0_0)) :=
  (dats m 0 c).arrAt_eq_of_cover 2 _ (fun t _ => (flushed2 m c t).trans
      (cut2_eq t _ _ fun r s y z hy hz => written m c t r s y z hy hz)) fun i => by
    obtain ⟨t, h0, h1⟩ := point_of i
    exact ⟨t, flush2 t, mem_blk2 t i h0 h1⟩

/-- **So is the bf16 result.** -/
theorem final3 (c : Dev nD) :
    (dats m 0 c).arrAt 3 cfg0.N = (product (rows m c) (weights m c) : Buf (Elt Ideal) ((c.tc : Thread nD τ).loc main_v0_1)) :=
  (dats m 0 c).arrAt_eq_of_cover 3 _ (fun t _ => (flushed3 m c t).trans
      (cut3_eq t _ _ fun r s y z hy hz => (congrFun (block_bf16_eq _ _) _).trans (written m c t r s y z hy hz))) fun i => by
    obtain ⟨t, h0, h1⟩ := point_of i
    exact ⟨t, flush3 t, mem_blk3 t i h0 h1⟩

end Cert.EvenIdeal.Result

namespace Cert.Proof.EvenClaims

/-- The kernel runs and leaves its arguments alone. -/
theorem frame_k : Cert.quiescent_Even (hEven := Cert.Even.Gen.facts) := fun m ρ _ => Cert.Even.Gen.frame m ρ

/-- So does its reading over the extended reals. -/
theorem frame_ki : Cert.quiescent_EvenIdeal (hEvenIdeal := Cert.EvenIdeal.Gen.facts) := fun m ρ _ => Cert.EvenIdeal.Gen.frame m ρ

/-- So does the reference's. -/
theorem frame_ri : Cert.quiescent_EvenRefIdeal (hEvenRefIdeal := Cert.EvenRefIdeal.Gen.facts) := fun m ρ _ =>
  (θ_run Cert.EvenRefIdeal.defs _ _).mono (fun r h => ⟨fun c => ⟨(h c).2.2.1, (h c).2.2.2⟩,
      Idealize.ShloMosaic.sem_eq_zero_of_no_sems (by decide) r.2⟩)
    (Cert.EvenRefIdeal.Value.run (F := Ideal) m ρ)

/-- **The kernel and the reference end with the same two results.** -/
theorem algebraic : Cert.algebraic_EvenIdeal_EvenRefIdeal (hEvenIdeal := Cert.EvenIdeal.Gen.facts)
    (hEvenRefIdeal := Cert.EvenRefIdeal.Gen.facts) := by
  intro m ρ m' ρ' hpre hagree
  refine ⟨fun c => Cert.EvenIdeal.Result.product (Cert.EvenIdeal.Result.rows m c) (Cert.EvenIdeal.Result.weights m c),
    fun c => Cert.EvenIdeal.Result.product (Cert.EvenIdeal.Result.rows m c) (Cert.EvenIdeal.Result.weights m c), ?_, ?_⟩
  · exact (θ_run Cert.EvenIdeal.defs _ _).mono
      (fun _ h c => ⟨(h c).1.trans (Cert.EvenIdeal.Result.final2 m c), (h c).2.1.trans (Cert.EvenIdeal.Result.final3 m c), (h c).2.2⟩)
      (Cert.EvenIdeal.Value.run_blocks (F := Ideal) m ρ)
  · refine (θ_run Cert.EvenRefIdeal.defs _ _).mono (fun _ h c => ⟨(h c).1.trans ?_, (h c).2.1.trans ?_, (h c).2.2⟩)
      (Cert.EvenRefIdeal.Value.run (F := Ideal) m' ρ')
    · rw [Cert.EvenRefIdeal.Read.val_main_v0_eq, (hagree c).1, (hagree c).2]
      exact Cert.EvenIdeal.Result.reference_eq _ _
    · rw [Cert.EvenRefIdeal.Read.val_main_v1_eq, (hagree c).1, (hagree c).2]
      exact Cert.EvenIdeal.Result.reference_bf16_eq _ _

end Cert.Proof.EvenClaims

end
-- ==== Proof.Mm.Odd.lean ====
module

public import proofs.«01_k».proof.Defs
public import proofs.«01_k».proof.Proof.Gen.Odd.Frame
public import proofs.«01_k».proof.Proof.Gen.OddIdeal.Value
public import proofs.«01_k».proof.Proof.Gen.OddRefIdeal.Read
public import Idealize.ShloMosaic.Lib.ValueIdx
public import Idealize.ShloMosaic.Lib.MatmulPlain
public import Idealize.ShloMosaic.Lib.Pipeline.ValueKit.Tiles

@[expose] public section

/-!
# The odd layers' main projection

Grid point `(i, j)` multiplies 1024 rows by 512 columns of the weights, over the whole inner axis, and writes the block
of products once in f32 and once in bf16. The blocks tile both results.
-/

set_option maxRecDepth 16384

noncomputable section

open Idealize.ShloMosaic Idealize.ShloMosaic.TcCoe Idealize.SL.Sem Idealize.ShloMosaic.ValueIdx
open Idealize.ShloMosaic.Pipeline (Dat)

namespace Cert.OddIdeal.Result

open Cert.OddIdeal Cert.OddIdeal.Gen Cert.OddIdeal.Value

variable (m : (ℓ : Loc nD τ sig) → Buf (Elt Ideal) ℓ)

/-- The rows. -/
abbrev rows (c : Dev nD) : S8192x4096.Idx → EReal := m ((c.tc : Thread nD τ).loc main_arg0)
/-- The weights. -/
abbrev weights (c : Dev nD) : S4096x8192.Idx → EReal := m ((c.tc : Thread nD τ).loc main_arg1)

/-- The product of two arrays. -/
def product (x : S8192x4096.Idx → EReal) (w : S4096x8192.Idx → EReal) : S8192x8192.Idx → EReal := fun y =>
  ∑ k : Fin 4096, x (ix2 (n0 := 8192) (n1 := 4096) (y 0) k) * w (ix2 (n0 := 4096) (n1 := 8192) k (y 1))

/-- The reference's first result is the product. -/
theorem reference_eq (x : S8192x4096.Idx → EReal) (w : S4096x8192.Idx → EReal) :
    Cert.OddRefIdeal.Read.val_main_v0 (F := Ideal) x w = product x w := by
  funext y
  refine (Cert.OddRefIdeal.Read.val_main_v0_apply x w y).trans (Finset.sum_congr rfl fun k _ => congrArg₂ (· * ·) (congrArg x ?_) (congrArg w ?_))
  all_goals
    funext a
    match a with
    | ⟨0, _⟩ => rfl
    | ⟨1, _⟩ => rfl

/-- Its second is the same, rounding being nothing over the extended reals. -/
theorem reference_bf16_eq (x : S8192x4096.Idx → EReal) (w : S4096x8192.Idx → EReal) :
    Cert.OddRefIdeal.Read.val_main_v1 (F := Ideal) x w = product x w := reference_eq x w

/-- A block's product. -/
theorem block_apply (x0 : Vec Ideal S1024x4096 .bf16) (x1 : Vec Ideal S4096x512 .bf16) (r : Fin 1024) (s : Fin 512) :
    out0_2 (F := Ideal) x0 x1 (ix2 r s) = ∑ k : Fin 4096, x0 (ix2 r k) * x1 (ix2 k s) := by
  have hz : (![0, 0] : Fin 2 → Nat) = fun _ => 0 := by decide
  unfold out0_2
  rw [View.canon_unit_zero hz, View.ld_unit_zero hz, View.ld_unit_zero hz]
  unfold k0_pay1
  refine (Ideal.matmul_plain_apply none x0 x1 _ r s).trans ?_
  show Ideal.ofBits .f32 0x00000000#32 + _ = _
  rw [Ideal.ofBits_zero_f32, zero_add]

/-- The bf16 block is the same block. -/
theorem block_bf16_eq (x0 : Vec Ideal S1024x4096 .bf16) (x1 : Vec Ideal S4096x512 .bf16) :
    out0_3 (F := Ideal) x0 x1 = out0_2 (F := Ideal) x0 x1 := by
  have hz : (![0, 0] : Fin 2 → Nat) = fun _ => 0 := by decide
  unfold out0_3 out0_2
  rw [View.canon_unit_zero hz, View.canon_unit_zero hz]
  rfl

theorem N_eq : cfg0.N = 128 := N_0

theorem index0 : ∀ t : Fin grid0.N, win0_0.index t 0 = t.val / 16 ∧ win0_0.index t 1 = 0 := by decide +kernel
theorem index1 : ∀ t : Fin grid0.N, win0_1.index t 0 = 0 ∧ win0_1.index t 1 = t.val % 16 := by decide +kernel
theorem index2 : ∀ t : Fin grid0.N, win0_2.index t 0 = t.val / 16 ∧ win0_2.index t 1 = t.val % 16 := by decide +kernel
theorem index3 : ∀ t : Fin grid0.N, win0_3.index t 0 = t.val / 16 ∧ win0_3.index t 1 = t.val % 16 := by decide +kernel
theorem flush2 : ∀ t : Fin grid0.N, win0_2.flush t = true := by decide +kernel
theorem flush3 : ∀ t : Fin grid0.N, win0_3.flush t = true := by decide +kernel

/-- The block of rows. -/
theorem rows_block (c : Dev nD) (t : Fin cfg0.N) (r : Fin 1024) (k : Fin 4096) (y : Fin 8192) (hy : y.val = 1024 * (t.val / 16) + r.val) :
    (iblk m c 0 t : Vec Ideal S1024x4096 .bf16) (ix2 r k) = rows m c (ix2 y k) := by
  unfold iblk
  rw [View.read_apply]
  show V m c main_arg0 _ = _
  rw [V_main_arg0]
  refine congrArg (rows m c) (funext fun a => Fin.ext ?_)
  match a with
  | ⟨0, _⟩ => show win0_0.index t 0 * 1024 + 1 * r.val = y.val; rw [(index0 t).1]; omega
  | ⟨1, _⟩ => show win0_0.index t 1 * 4096 + 1 * k.val = k.val; rw [(index0 t).2]; omega

/-- The block of weights. -/
theorem weights_block (c : Dev nD) (t : Fin cfg0.N) (k : Fin 4096) (s : Fin 512) (z : Fin 8192) (hz : z.val = 512 * (t.val % 16) + s.val) :
    (iblk m c 1 t : Vec Ideal S4096x512 .bf16) (ix2 k s) = weights m c (ix2 k z) := by
  unfold iblk
  rw [View.read_apply]
  show V m c main_arg1 _ = _
  rw [V_main_arg1]
  refine congrArg (weights m c) (funext fun a => Fin.ext ?_)
  match a with
  | ⟨0, _⟩ => show win0_1.index t 0 * 4096 + 1 * k.val = k.val; rw [(index1 t).1]; omega
  | ⟨1, _⟩ => show win0_1.index t 1 * 512 + 1 * s.val = z.val; rw [(index1 t).2]; omega

/-- What a point computes, entry by entry. -/
theorem written (c : Dev nD) (t : Fin cfg0.N) (r : Fin 1024) (s : Fin 512) (y : Fin 8192) (z : Fin 8192)
    (hy : y.val = 1024 * (t.val / 16) + r.val) (hz : z.val = 512 * (t.val % 16) + s.val) :
    out0_2 (F := Ideal) (iblk m c 0 t) (iblk m c 1 t) (ix2 r s) = product (rows m c) (weights m c) (ix2 y z) := by
  refine (block_apply (iblk m c 0 t) (iblk m c 1 t) r s).trans (Finset.sum_congr rfl fun k _ => ?_)
  rw [rows_block m c t r k y hy, weights_block m c t k s z hz]

/-- A block `O` whose entries are those of `A` at the point's rows and columns is what `A`'s block reads (f32). -/
theorem cut2_eq (t : Fin cfg0.N) (O : Vec Ideal S1024x512 .f32) (A : S8192x8192.Idx → EReal)
    (h : ∀ (r : Fin 1024) (s : Fin 512) (y : Fin 8192) (z : Fin 8192), y.val = 1024 * (t.val / 16) + r.val →
      z.val = 512 * (t.val % 16) + s.val → O (ix2 r s) = A (ix2 y z)) :
    (cfg0.win 2).cut (grid0.coords t) O = ((cfg0.win 2).blk t).view.read (Elt Ideal) A := by
  have ht : t.val < 128 := lt_of_lt_of_eq t.isLt N_eq
  funext j
  have hj0 : (j 0).val < 1024 := (j 0).isLt
  have hj1 : (j 1).val < 512 := (j 1).isLt
  rw [View.read_apply]
  show O j = A _
  refine (congrArg O (eq_ix2 (n0 := 1024) (n1 := 512) j)).trans ((h (j 0) (j 1) ⟨1024 * (t.val / 16) + (j 0).val, by omega⟩
    ⟨512 * (t.val % 16) + (j 1).val, by omega⟩ rfl rfl).trans ?_)
  refine congrArg A (funext fun a => Fin.ext ?_)
  match a with
  | ⟨0, _⟩ => show 1024 * (t.val / 16) + (j 0).val = win0_2.index t 0 * 1024 + 1 * (j 0).val; rw [(index2 t).1]; omega
  | ⟨1, _⟩ => show 512 * (t.val % 16) + (j 1).val = win0_2.index t 1 * 512 + 1 * (j 1).val; rw [(index2 t).2]; omega

/-- The same of the bf16 result's window, which moves as the f32 result's does. -/
theorem cut3_eq (t : Fin cfg0.N) (O : Vec Ideal S1024x512 .bf16) (A : S8192x8192.Idx → EReal)
    (h : ∀ (r : Fin 1024) (s : Fin 512) (y : Fin 8192) (z : Fin 8192), y.val = 1024 * (t.val / 16) + r.val →
      z.val = 512 * (t.val % 16) + s.val → O (ix2 r s) = A (ix2 y z)) :
    (cfg0.win 3).cut (grid0.coords t) O = ((cfg0.win 3).blk t).view.read (Elt Ideal) A := by
  have ht : t.val < 128 := lt_of_lt_of_eq t.isLt N_eq
  funext j
  have hj0 : (j 0).val < 1024 := (j 0).isLt
  have hj1 : (j 1).val < 512 := (j 1).isLt
  rw [View.read_apply]
  show O j = A _
  refine (congrArg O (eq_ix2 (n0 := 1024) (n1 := 512) j)).trans ((h (j 0) (j 1) ⟨1024 * (t.val / 16) + (j 0).val, by omega⟩
    ⟨512 * (t.val % 16) + (j 1).val, by omega⟩ rfl rfl).trans ?_)
  refine congrArg A (funext fun a => Fin.ext ?_)
  match a with
  | ⟨0, _⟩ => show 1024 * (t.val / 16) + (j 0).val = win0_3.index t 0 * 1024 + 1 * (j 0).val; rw [(index3 t).1]; omega
  | ⟨1, _⟩ => show 512 * (t.val % 16) + (j 1).val = win0_3.index t 1 * 512 + 1 * (j 1).val; rw [(index3 t).2]; omega

/-- Which entries of the f32 result a point's block holds. -/
theorem mem_blk2 (t : Fin cfg0.N) (i : S8192x8192.Idx)
    (h0 : 1024 * (t.val / 16) ≤ (i 0).val ∧ (i 0).val < 1024 * (t.val / 16) + 1024)
    (h1 : 512 * (t.val % 16) ≤ (i 1).val ∧ (i 1).val < 512 * (t.val % 16) + 512) : i ∈ ((cfg0.win 2).blk t).view.set := by
  show i ∈ ((View.whole main_v0_0).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [(index2 t).1]; omega
  | ⟨1, _⟩ => show win0_2.index t 1 * 512 ≤ (i 1).val ∧ (i 1).val < win0_2.index t 1 * 512 + 512; rw [(index2 t).2]; omega

/-- And of the bf16 result. -/
theorem mem_blk3 (t : Fin cfg0.N) (i : S8192x8192.Idx)
    (h0 : 1024 * (t.val / 16) ≤ (i 0).val ∧ (i 0).val < 1024 * (t.val / 16) + 1024)
    (h1 : 512 * (t.val % 16) ≤ (i 1).val ∧ (i 1).val < 512 * (t.val % 16) + 512) : i ∈ ((cfg0.win 3).blk t).view.set := by
  show i ∈ ((View.whole main_v0_1).slice (win0_3.rect t)).set
  rw [View.set_slice_whole, Rect.mem_set_unit]
  intro a
  match a with
  | ⟨0, _⟩ => show win0_3.index t 0 * 1024 ≤ (i 0).val ∧ (i 0).val < win0_3.index t 0 * 1024 + 1024; rw [(index3 t).1]; omega
  | ⟨1, _⟩ => show win0_3.index t 1 * 512 ≤ (i 1).val ∧ (i 1).val < win0_3.index t 1 * 512 + 512; rw [(index3 t).2]; omega

/-- The point that writes an entry. -/
theorem point_of (i : S8192x8192.Idx) : ∃ t : Fin cfg0.N,
    (1024 * (t.val / 16) ≤ (i 0).val ∧ (i 0).val < 1024 * (t.val / 16) + 1024) ∧ 512 * (t.val % 16) ≤ (i 1).val ∧ (i 1).val < 512 * (t.val % 16) + 512 := by
  have hi0 : (i 0).val < 8192 := (i 0).isLt
  have hi1 : (i 1).val < 8192 := (i 1).isLt
  obtain ⟨n, hn⟩ : ∃ n, n = 16 * ((i 0).val / 1024) + (i 1).val / 512 := ⟨_, rfl⟩
  refine ⟨⟨n, lt_of_lt_of_eq (by omega) N_eq.symm⟩, ?_⟩
  show (1024 * (n / 16) ≤ (i 0).val ∧ (i 0).val < 1024 * (n / 16) + 1024) ∧ 512 * (n % 16) ≤ (i 1).val ∧ (i 1).val < 512 * (n % 16) + 512
  omega

/-- **The f32 result is the product.** -/
theorem final2 (c : Dev nD) :
    (dats m 0 c).arrAt 2 cfg0.N = (product (rows m c) (weights m c) : Buf (Elt Ideal) ((c.tc : Thread nD τ).loc main_v0_0)) :=
  (dats m 0 c).arrAt_eq_of_cover 2 _ (fun t _ => (flushed2 m c t).trans
      (cut2_eq t _ _ fun r s y z hy hz => written m c t r s y z hy hz)) fun i => by
    obtain ⟨t, h0, h1⟩ := point_of i
    exact ⟨t, flush2 t, mem_blk2 t i h0 h1⟩

/-- **So is the bf16 result.** -/
theorem final3 (c : Dev nD) :
    (dats m 0 c).arrAt 3 cfg0.N = (product (rows m c) (weights m c) : Buf (Elt Ideal) ((c.tc : Thread nD τ).loc main_v0_1)) :=
  (dats m 0 c).arrAt_eq_of_cover 3 _ (fun t _ => (flushed3 m c t).trans
      (cut3_eq t _ _ fun r s y z hy hz => (congrFun (block_bf16_eq _ _) _).trans (written m c t r s y z hy hz))) fun i => by
    obtain ⟨t, h0, h1⟩ := point_of i
    exact ⟨t, flush3 t, mem_blk3 t i h0 h1⟩

end Cert.OddIdeal.Result

namespace Cert.Proof.OddClaims

/-- The kernel runs and leaves its arguments alone. -/
theorem frame_k : Cert.quiescent_Odd (hOdd := Cert.Odd.Gen.facts) := fun m ρ _ => Cert.Odd.Gen.frame m ρ

/-- So does its reading over the extended reals. -/
theorem frame_ki : Cert.quiescent_OddIdeal (hOddIdeal := Cert.OddIdeal.Gen.facts) := fun m ρ _ => Cert.OddIdeal.Gen.frame m ρ

/-- So does the reference's. -/
theorem frame_ri : Cert.quiescent_OddRefIdeal (hOddRefIdeal := Cert.OddRefIdeal.Gen.facts) := fun m ρ _ =>
  (θ_run Cert.OddRefIdeal.defs _ _).mono (fun r h => ⟨fun c => ⟨(h c).2.2.1, (h c).2.2.2⟩,
      Idealize.ShloMosaic.sem_eq_zero_of_no_sems (by decide) r.2⟩)
    (Cert.OddRefIdeal.Value.run (F := Ideal) m ρ)

/-- **The kernel and the reference end with the same two results.** -/
theorem algebraic : Cert.algebraic_OddIdeal_OddRefIdeal (hOddIdeal := Cert.OddIdeal.Gen.facts)
    (hOddRefIdeal := Cert.OddRefIdeal.Gen.facts) := by
  intro m ρ m' ρ' hpre hagree
  refine ⟨fun c => Cert.OddIdeal.Result.product (Cert.OddIdeal.Result.rows m c) (Cert.OddIdeal.Result.weights m c),
    fun c => Cert.OddIdeal.Result.product (Cert.OddIdeal.Result.rows m c) (Cert.OddIdeal.Result.weights m c), ?_, ?_⟩
  · exact (θ_run Cert.OddIdeal.defs _ _).mono
      (fun _ h c => ⟨(h c).1.trans (Cert.OddIdeal.Result.final2 m c), (h c).2.1.trans (Cert.OddIdeal.Result.final3 m c), (h c).2.2⟩)
      (Cert.OddIdeal.Value.run_blocks (F := Ideal) m ρ)
  · refine (θ_run Cert.OddRefIdeal.defs _ _).mono (fun _ h c => ⟨(h c).1.trans ?_, (h c).2.1.trans ?_, (h c).2.2⟩)
      (Cert.OddRefIdeal.Value.run (F := Ideal) m' ρ')
    · rw [Cert.OddRefIdeal.Read.val_main_v0_eq, (hagree c).1, (hagree c).2]
      exact Cert.OddIdeal.Result.reference_eq _ _
    · rw [Cert.OddRefIdeal.Read.val_main_v1_eq, (hagree c).1, (hagree c).2]
      exact Cert.OddIdeal.Result.reference_bf16_eq _ _

end Cert.Proof.OddClaims

end
-- ==== Proof.Mm.Memory.lean ====
module

public import proofs.«01_k».proof.Defs
public import proofs.«01_k».proof.Proof.Gen.Memory.Frame
public import proofs.«01_k».proof.Proof.Gen.MemoryIdeal.Frame
public import proofs.«01_k».proof.Proof.Gen.MemoryRefIdeal.Read
public import Idealize.ShloMosaic.Lib.ValueIdx
public import Idealize.ShloMosaic.Lib.MatmulPlain
public import Idealize.ShloMosaic.Lib.Pipeline.ValueKit.Tiles

@[expose] public section

/-!
# The memory's keys and values, four layers

Each call takes two grid points, and each of them multiplies all rows of the memory by 512 columns of its layer's weights.
The rows and the weights that a call finds are the arguments': no call before it writes them.
-/

set_option maxRecDepth 16384

noncomputable section

open Idealize.ShloMosaic Idealize.ShloMosaic.TcCoe Idealize.SL.Sem Idealize.ShloMosaic.ValueIdx
open Idealize.ShloMosaic.Pipeline (Dat)

namespace Cert.MemoryIdeal.Result

open Cert.MemoryIdeal Cert.MemoryIdeal.Gen

/-- The memory, a row per token. -/
abbrev rows (a : S2x256x4096.Idx → EReal) : S512x4096.Idx → EReal := Cert.MemoryRefIdeal.Read.val_main_v0 (F := Ideal) a

/-- The product of the memory's rows with one layer's weights. -/
def product (a : S2x256x4096.Idx → EReal) (w : S4x4096x1024.Idx → EReal) (l : Fin 4) : S512x1024.Idx → EReal := fun y =>
  ∑ k : Fin 4096, rows a (ix2 (n0 := 512) (n1 := 4096) (y 0) k) * w (ix3 (n0 := 4) (n1 := 4096) (n2 := 1024) l k (y 1))

section Reference

open Cert.MemoryRefIdeal.Read

variable (a : S2x256x4096.Idx → EReal) (w : S4x4096x1024.Idx → EReal)

theorem reference_weights0 (k : Fin 4096) (j : Fin 1024) :
    val_main_v2 (F := Ideal) w (ix2 k j) = w (ix3 (n0 := 4) (n1 := 4096) (n2 := 1024) 0 k j) := by
  have hk : k.val < 4096 := k.isLt
  have hj : j.val < 1024 := j.isLt
  rw [val_main_v2_apply, val_main_v1_apply]
  refine congrArg w (funext fun b => Fin.ext ?_)
  match b with
  | ⟨0, _⟩ => rfl
  | ⟨1, _⟩ => show (k.val * 1024 + j.val) / 1024 % 4096 = k.val; omega
  | ⟨2, _⟩ => show (k.val * 1024 + j.val) % 1024 = j.val; omega

/-- The reference's result of layer 0. -/
theorem reference_eq0 : val_main_v3 (F := Ideal) a w = product a w 0 := by
  funext y
  refine (val_main_v3_apply a w y).trans (Finset.sum_congr rfl fun k _ => congrArg₂ (fun p q : EReal => p * q) (congrArg (rows a) ?_)
    ((congrArg (val_main_v2 (F := Ideal) w) ?_).trans (reference_weights0 w k (y 1))))
  all_goals
    funext b
    match b with
    | ⟨0, _⟩ => rfl
    | ⟨1, _⟩ => rfl

theorem reference_weights1 (k : Fin 4096) (j : Fin 1024) :
    val_main_v5 (F := Ideal) w (ix2 k j) = w (ix3 (n0 := 4) (n1 := 4096) (n2 := 1024) 1 k j) := by
  have hk : k.val < 4096 := k.isLt
  have hj : j.val < 1024 := j.isLt
  rw [val_main_v5_apply, val_main_v4_apply]
  refine congrArg w (funext fun b => Fin.ext ?_)
  match b with
  | ⟨0, _⟩ => rfl
  | ⟨1, _⟩ => show (k.val * 1024 + j.val) / 1024 % 4096 = k.val; omega
  | ⟨2, _⟩ => show (k.val * 1024 + j.val) % 1024 = j.val; omega

/-- The reference's result of layer 1. -/
theorem reference_eq1 : val_main_v6 (F := Ideal) a w = product a w 1 := by
  funext y
  refine (val_main_v6_apply a w y).trans (Finset.sum_congr rfl fun k _ => congrArg₂ (fun p q : EReal => p * q) (congrArg (rows a) ?_)
    ((congrArg (val_main_v5 (F := Ideal) w) ?_).trans (reference_weights1 w k (y 1))))
  all_goals
    funext b
    match b with
    | ⟨0, _⟩ => rfl
    | ⟨1, _⟩ => rfl

theorem reference_weights2 (k : Fin 4096) (j : Fin 1024) :
    val_main_v8 (F := Ideal) w (ix2 k j) = w (ix3 (n0 := 4) (n1 := 4096) (n2 := 1024) 2 k j) := by
  have hk : k.val < 4096 := k.isLt
  have hj : j.val < 1024 := j.isLt
  rw [val_main_v8_apply, val_main_v7_apply]
  refine congrArg w (funext fun b => Fin.ext ?_)
  match b with
  | ⟨0, _⟩ => rfl
  | ⟨1, _⟩ => show (k.val * 1024 + j.val) / 1024 % 4096 = k.val; omega
  | ⟨2, _⟩ => show (k.val * 1024 + j.val) % 1024 = j.val; omega

/-- The reference's result of layer 2. -/
theorem reference_eq2 : val_main_v9 (F := Ideal) a w = product a w 2 := by
  funext y
  refine (val_main_v9_apply a w y).trans (Finset.sum_congr rfl fun k _ => congrArg₂ (fun p q : EReal => p * q) (congrArg (rows a) ?_)
    ((congrArg (val_main_v8 (F := Ideal) w) ?_).trans (reference_weights2 w k (y 1))))
  all_goals
    funext b
    match b with
    | ⟨0, _⟩ => rfl
    | ⟨1, _⟩ => rfl

theorem reference_weights3 (k : Fin 4096) (j : Fin 1024) :
    val_main_v11 (F := Ideal) w (ix2 k j) = w (ix3 (n0 := 4) (n1 := 4096) (n2 := 1024) 3 k j) := by
  have hk : k.val < 4096 := k.isLt
  have hj : j.val < 1024 := j.isLt
  rw [val_main_v11_apply, val_main_v10_apply]
  refine congrArg w (funext fun b => Fin.ext ?_)
  match b with
  | ⟨0, _⟩ => rfl
  | ⟨1, _⟩ => show (k.val * 1024 + j.val) / 1024 % 4096 = k.val; omega
  | ⟨2, _⟩ => show (k.val * 1024 + j.val) % 1024 = j.val; omega

/-- The reference's result of layer 3. -/
theorem reference_eq3 : val_main_v12 (F := Ideal) a w = product a w 3 := by
  funext y
  refine (val_main_v12_apply a w y).trans (Finset.sum_congr rfl fun k _ => congrArg₂ (fun p q : EReal => p * q) (congrArg (rows a) ?_)
    ((congrArg (val_main_v11 (F := Ideal) w) ?_).trans (reference_weights3 w k (y 1))))
  all_goals
    funext b
    match b with
    | ⟨0, _⟩ => rfl
    | ⟨1, _⟩ => rfl

end Reference

variable (m : (ℓ : Loc nD τ sig) → Buf (Elt Ideal) ℓ) (ρ : Dev nD → PrngReg)

/-- The memory as launched. -/
abbrev memory (c : Dev nD) : S2x256x4096.Idx → EReal := m ((c.tc : Thread nD τ).loc main_arg0)
/-- The weights as launched. -/
abbrev weights (c : Dev nD) : S4x4096x1024.Idx → EReal := m ((c.tc : Thread nD τ).loc main_arg1)

/-- The host's rows before the first call. -/
theorem rows1 (c : Dev nD) : V1 m ρ c main_v1 = rows (memory m c) := by
  unfold V1 W1 hostOps0; after_results_simp; rfl
/-- The same before call 1. -/
theorem rows2 (c : Dev nD) : V2 m ρ c main_v1 = rows (memory m c) :=
  (W2_of m ρ c main_v1 (by decide)).trans (rows1 m ρ c)
/-- The same before call 2. -/
theorem rows3 (c : Dev nD) : V3 m ρ c main_v1 = rows (memory m c) :=
  (W3_of m ρ c main_v1 (by decide)).trans (rows2 m ρ c)
/-- The same before call 3. -/
theorem rows4 (c : Dev nD) : V4 m ρ c main_v1 = rows (memory m c) :=
  (W4_of m ρ c main_v1 (by decide)).trans (rows3 m ρ c)

/-- The weights before each call. -/
theorem weights1 (c : Dev nD) : V1 m ρ c main_arg1 = weights m c := W1_args m ρ c main_arg1 (by decide)
theorem weights2 (c : Dev nD) : V2 m ρ c main_arg1 = weights m c := W2_args m ρ c main_arg1 (by decide)
theorem weights3 (c : Dev nD) : V3 m ρ c main_arg1 = weights m c := W3_args m ρ c main_arg1 (by decide)
theorem weights4 (c : Dev nD) : V4 m ρ c main_arg1 = weights m c := W4_args m ρ c main_arg1 (by decide)
/-- A block's product. The four calls' blocks are computed alike. -/
theorem block_apply (x0 : Vec Ideal S512x4096 .bf16) (x1 : Vec Ideal S1x4096x512 .f32) (r : Fin 512) (s : Fin 512) :
    out0_2 (F := Ideal) x0 x1 (ix2 r s) = ∑ k : Fin 4096, x0 (ix2 r k) * x1 (ix3 (n0 := 1) (n1 := 4096) (n2 := 512) 0 k s) := by
  have hz : (![0, 0] : Fin 2 → Nat) = fun _ => 0 := by decide
  have hz3 : (![0, 0, 0] : Fin 3 → Nat) = fun _ => 0 := by decide
  unfold out0_2
  rw [View.canon_unit_zero hz, View.ld_unit_zero hz, View.ld_unit_zero hz3]
  unfold k0_pay1
  refine (Ideal.matmul_plain_apply none _ _ _ r s).trans ?_
  show Ideal.ofBits .f32 0x00000000#32 + _ = _
  rw [Ideal.ofBits_zero_f32, zero_add]
  refine Finset.sum_congr rfl fun k _ => congrArg₂ (fun p q : EReal => p * q) ?_ ?_
  · exact shapeCast_apply x0 shapeCasts_S512x4096_S512x4096 (ix2 r k) (ix2 r k) rfl
  · refine shapeCast_apply x1 shapeCasts_S1x4096x512_S4096x512 (ix2 k s) (ix3 (n0 := 1) (n1 := 4096) (n2 := 512) 0 k s) ?_
    rw [Shape.rowMajor_val_three, Shape.rowMajor_val_two]
    show (0 * 4096 + k.val) * 512 + s.val = k.val * 512 + s.val
    omega

/-- A block is the product's, if its rows and its weights are. -/
theorem block_eq (a : S2x256x4096.Idx → EReal) (w : S4x4096x1024.Idx → EReal) (l : Fin 4) (x0 : Vec Ideal S512x4096 .bf16)
    (x1 : Vec Ideal S1x4096x512 .f32) (t : Nat) (ht : t < 2) (j : S512x512.Idx)
    (h0 : ∀ r k, x0 (ix2 r k) = rows a (ix2 r k))
    (h1 : ∀ (k : Fin 4096) (s : Fin 512) (z : Fin 1024), z.val = 512 * t + s.val →
      x1 (ix3 (n0 := 1) (n1 := 4096) (n2 := 512) 0 k s) = w (ix3 (n0 := 4) (n1 := 4096) (n2 := 1024) l k z))
    (y : S512x1024.Idx) (hy0 : (y 0).val = (j 0).val) (hy1 : (y 1).val = 512 * t + (j 1).val) :
    out0_2 (F := Ideal) x0 x1 j = product a w l y := by
  refine (congrArg (out0_2 (F := Ideal) x0 x1) (eq_ix2 (n0 := 512) (n1 := 512) j)).trans ((block_apply x0 x1 (j 0) (j 1)).trans ?_)
  refine Finset.sum_congr rfl fun k _ => congrArg₂ (fun p q : EReal => p * q) ((h0 (j 0) k).trans ?_) (h1 k (j 1) (y 1) hy1)
  exact congrArg (fun r => rows a (ix2 (n0 := 512) (n1 := 4096) r k)) (Fin.ext hy0.symm)

/-- A column lies in one of the two points' ranges. -/
theorem column (z : Nat) (h : z < 1024) : ∃ n, n < 2 ∧ 512 * n ≤ z ∧ z < 512 * n + 512 := ⟨z / 512, by omega⟩

/-! ## Call 0 -/

theorem index0_0 : ∀ t : Fin grid0.N, win0_0.index t 0 = 0 ∧ win0_0.index t 1 = 0 := by decide +kernel
theorem index0_1 : ∀ t : Fin grid0.N, win0_1.index t 0 = 0 ∧ win0_1.index t 1 = 0 ∧ win0_1.index t 2 = t.val := by decide +kernel
theorem index0_2 : ∀ t : Fin grid0.N, win0_2.index t 0 = 0 ∧ win0_2.index t 1 = t.val := by decide +kernel
theorem flush0 : ∀ t : Fin grid0.N, win0_2.flush t = true := by decide +kernel

/-- The block of rows. -/
theorem rows_block0 (c : Dev nD) (t : Fin cfg0.N) (r : Fin 512) (k : Fin 4096) :
    (iblk0 (V1 m ρ) c 0 t : Vec Ideal S512x4096 .bf16) (ix2 r k) = rows (memory m c) (ix2 r k) := by
  unfold iblk0
  rw [View.read_apply]
  show V1 m ρ c main_v1 _ = _
  rw [rows1]
  refine congrArg (rows (memory m c)) (funext fun a => Fin.ext ?_)
  match a with
  | ⟨0, _⟩ => show win0_0.index t 0 * 512 + 1 * r.val = r.val; rw [(index0_0 t).1]; omega
  | ⟨1, _⟩ => show win0_0.index t 1 * 4096 + 1 * k.val = k.val; rw [(index0_0 t).2]; omega

/-- The block of weights. -/
theorem weights_block0 (c : Dev nD) (t : Fin cfg0.N) (k : Fin 4096) (s : Fin 512) (z : Fin 1024) (hz : z.val = 512 * t.val + s.val) :
    (iblk0 (V1 m ρ) c 1 t : Vec Ideal S1x4096x512 .f32) (ix3 (n0 := 1) (n1 := 4096) (n2 := 512) 0 k s)
      = weights m c (ix3 (n0 := 4) (n1 := 4096) (n2 := 1024) 0 k z) := by
  unfold iblk0
  rw [View.read_apply]
  show V1 m ρ c main_arg1 _ = _
  rw [weights1]
  refine congrArg (weights m c) (funext fun a => Fin.ext ?_)
  match a with
  | ⟨0, _⟩ => show win0_1.index t 0 * 1 + 1 * 0 = 0; rw [(index0_1 t).1]
  | ⟨1, _⟩ => show win0_1.index t 1 * 4096 + 1 * k.val = k.val; rw [(index0_1 t).2.1]; omega
  | ⟨2, _⟩ => show win0_1.index t 2 * 512 + 1 * s.val = z.val; rw [(index0_1 t).2.2]; omega

/-- What a point writes back is the product's block. -/
theorem cut0 (c : Dev nD) (t : Fin cfg0.N) :
    (cfg0.win 2).cut (grid0.coords t) (out0_2 (F := Ideal) (iblk0 (V1 m ρ) c 0 t) (iblk0 (V1 m ρ) c 1 t))
      = ((cfg0.win 2).blk t).view.read (Elt Ideal) (product (memory m c) (weights m c) 0) := by
  funext j
  rw [View.read_apply]
  refine block_eq (memory m c) (weights m c) 0 (iblk0 (V1 m ρ) c 0 t) (iblk0 (V1 m ρ) c 1 t) t.val (lt_of_lt_of_eq t.isLt N_0) j
    (rows_block0 m ρ c t) (weights_block0 m ρ c t) _ ?_ ?_
  · show win0_2.index t 0 * 512 + 1 * (j 0).val = (j 0).val; rw [(index0_2 t).1]; omega
  · show win0_2.index t 1 * 512 + 1 * (j 1).val = 512 * t.val + (j 1).val; rw [(index0_2 t).2]; omega

/-- The two points' blocks tile the result. -/
theorem covered0 (i : S512x1024.Idx) : ∃ t : Fin cfg0.N, i ∈ ((cfg0.win 2).blk t).view.set := by
  have h0 : (i 0).val < 512 := (i 0).isLt
  obtain ⟨n, hn, h1⟩ := column (i 1).val (i 1).isLt
  let t : Fin cfg0.N := ⟨n, lt_of_lt_of_eq hn N_0.symm⟩
  refine ⟨t, ?_⟩
  show i ∈ ((View.whole main_v2).slice (win0_2.rect t)).set
  rw [View.set_slice_whole, Rect.mem_set_unit]
  intro a
  match a with
  | ⟨0, _⟩ => show win0_2.index t 0 * 512 ≤ (i 0).val ∧ (i 0).val < win0_2.index t 0 * 512 + 512; rw [(index0_2 t).1]; omega
  | ⟨1, _⟩ => show win0_2.index t 1 * 512 ≤ (i 1).val ∧ (i 1).val < win0_2.index t 1 * 512 + 512; rw [(index0_2 t).2]; show n * 512 ≤ (i 1).val ∧ (i 1).val < n * 512 + 512; omega

/-- **The call's result is the product with layer 0's weights.** -/
theorem final0 (c : Dev nD) : (dat0 (V1 m ρ) c).arrAt 2 cfg0.N
    = (product (memory m c) (weights m c) 0 : Buf (Elt Ideal) ((c.tc : Thread nD τ).loc main_v2)) :=
  (dat0 (V1 m ρ) c).arrAt_eq_of_cover 2 _ (fun t _ => by
      show (cfg0.win 2).cut (grid0.coords t) ((dat0 (V1 m ρ) c).after 2 t) = _
      rw [after0_2]
      exact cut0 m ρ c t) fun i => by
    obtain ⟨t, h⟩ := covered0 i
    exact ⟨t, flush0 t, h⟩

/-! ## Call 1 -/

theorem index1_0 : ∀ t : Fin grid1.N, win1_0.index t 0 = 0 ∧ win1_0.index t 1 = 0 := by decide +kernel
theorem index1_1 : ∀ t : Fin grid1.N, win1_1.index t 0 = 1 ∧ win1_1.index t 1 = 0 ∧ win1_1.index t 2 = t.val := by decide +kernel
theorem index1_2 : ∀ t : Fin grid1.N, win1_2.index t 0 = 0 ∧ win1_2.index t 1 = t.val := by decide +kernel
theorem flush1 : ∀ t : Fin grid1.N, win1_2.flush t = true := by decide +kernel

/-- The block of rows. -/
theorem rows_block1 (c : Dev nD) (t : Fin cfg1.N) (r : Fin 512) (k : Fin 4096) :
    (iblk1 (V2 m ρ) c 0 t : Vec Ideal S512x4096 .bf16) (ix2 r k) = rows (memory m c) (ix2 r k) := by
  unfold iblk1
  rw [View.read_apply]
  show V2 m ρ c main_v1 _ = _
  rw [rows2]
  refine congrArg (rows (memory m c)) (funext fun a => Fin.ext ?_)
  match a with
  | ⟨0, _⟩ => show win1_0.index t 0 * 512 + 1 * r.val = r.val; rw [(index1_0 t).1]; omega
  | ⟨1, _⟩ => show win1_0.index t 1 * 4096 + 1 * k.val = k.val; rw [(index1_0 t).2]; omega

/-- The block of weights. -/
theorem weights_block1 (c : Dev nD) (t : Fin cfg1.N) (k : Fin 4096) (s : Fin 512) (z : Fin 1024) (hz : z.val = 512 * t.val + s.val) :
    (iblk1 (V2 m ρ) c 1 t : Vec Ideal S1x4096x512 .f32) (ix3 (n0 := 1) (n1 := 4096) (n2 := 512) 0 k s)
      = weights m c (ix3 (n0 := 4) (n1 := 4096) (n2 := 1024) 1 k z) := by
  unfold iblk1
  rw [View.read_apply]
  show V2 m ρ c main_arg1 _ = _
  rw [weights2]
  refine congrArg (weights m c) (funext fun a => Fin.ext ?_)
  match a with
  | ⟨0, _⟩ => show win1_1.index t 0 * 1 + 1 * 0 = 1; rw [(index1_1 t).1]
  | ⟨1, _⟩ => show win1_1.index t 1 * 4096 + 1 * k.val = k.val; rw [(index1_1 t).2.1]; omega
  | ⟨2, _⟩ => show win1_1.index t 2 * 512 + 1 * s.val = z.val; rw [(index1_1 t).2.2]; omega

/-- What a point writes back is the product's block. -/
theorem cut1 (c : Dev nD) (t : Fin cfg1.N) :
    (cfg1.win 2).cut (grid1.coords t) (out1_2 (F := Ideal) (iblk1 (V2 m ρ) c 0 t) (iblk1 (V2 m ρ) c 1 t))
      = ((cfg1.win 2).blk t).view.read (Elt Ideal) (product (memory m c) (weights m c) 1) := by
  funext j
  rw [View.read_apply]
  refine block_eq (memory m c) (weights m c) 1 (iblk1 (V2 m ρ) c 0 t) (iblk1 (V2 m ρ) c 1 t) t.val (lt_of_lt_of_eq t.isLt N_1) j
    (rows_block1 m ρ c t) (weights_block1 m ρ c t) _ ?_ ?_
  · show win1_2.index t 0 * 512 + 1 * (j 0).val = (j 0).val; rw [(index1_2 t).1]; omega
  · show win1_2.index t 1 * 512 + 1 * (j 1).val = 512 * t.val + (j 1).val; rw [(index1_2 t).2]; omega

/-- The two points' blocks tile the result. -/
theorem covered1 (i : S512x1024.Idx) : ∃ t : Fin cfg1.N, i ∈ ((cfg1.win 2).blk t).view.set := by
  have h0 : (i 0).val < 512 := (i 0).isLt
  obtain ⟨n, hn, h1⟩ := column (i 1).val (i 1).isLt
  let t : Fin cfg1.N := ⟨n, lt_of_lt_of_eq hn N_1.symm⟩
  refine ⟨t, ?_⟩
  show i ∈ ((View.whole main_v3).slice (win1_2.rect t)).set
  rw [View.set_slice_whole, Rect.mem_set_unit]
  intro a
  match a with
  | ⟨0, _⟩ => show win1_2.index t 0 * 512 ≤ (i 0).val ∧ (i 0).val < win1_2.index t 0 * 512 + 512; rw [(index1_2 t).1]; omega
  | ⟨1, _⟩ => show win1_2.index t 1 * 512 ≤ (i 1).val ∧ (i 1).val < win1_2.index t 1 * 512 + 512; rw [(index1_2 t).2]; show n * 512 ≤ (i 1).val ∧ (i 1).val < n * 512 + 512; omega

/-- **The call's result is the product with layer 1's weights.** -/
theorem final1 (c : Dev nD) : (dat1 (V2 m ρ) c).arrAt 2 cfg1.N
    = (product (memory m c) (weights m c) 1 : Buf (Elt Ideal) ((c.tc : Thread nD τ).loc main_v3)) :=
  (dat1 (V2 m ρ) c).arrAt_eq_of_cover 2 _ (fun t _ => by
      show (cfg1.win 2).cut (grid1.coords t) ((dat1 (V2 m ρ) c).after 2 t) = _
      rw [after1_2]
      exact cut1 m ρ c t) fun i => by
    obtain ⟨t, h⟩ := covered1 i
    exact ⟨t, flush1 t, h⟩

/-! ## Call 2 -/

theorem index2_0 : ∀ t : Fin grid2.N, win2_0.index t 0 = 0 ∧ win2_0.index t 1 = 0 := by decide +kernel
theorem index2_1 : ∀ t : Fin grid2.N, win2_1.index t 0 = 2 ∧ win2_1.index t 1 = 0 ∧ win2_1.index t 2 = t.val := by decide +kernel
theorem index2_2 : ∀ t : Fin grid2.N, win2_2.index t 0 = 0 ∧ win2_2.index t 1 = t.val := by decide +kernel
theorem flush2 : ∀ t : Fin grid2.N, win2_2.flush t = true := by decide +kernel

/-- The block of rows. -/
theorem rows_block2 (c : Dev nD) (t : Fin cfg2.N) (r : Fin 512) (k : Fin 4096) :
    (iblk2 (V3 m ρ) c 0 t : Vec Ideal S512x4096 .bf16) (ix2 r k) = rows (memory m c) (ix2 r k) := by
  unfold iblk2
  rw [View.read_apply]
  show V3 m ρ c main_v1 _ = _
  rw [rows3]
  refine congrArg (rows (memory m c)) (funext fun a => Fin.ext ?_)
  match a with
  | ⟨0, _⟩ => show win2_0.index t 0 * 512 + 1 * r.val = r.val; rw [(index2_0 t).1]; omega
  | ⟨1, _⟩ => show win2_0.index t 1 * 4096 + 1 * k.val = k.val; rw [(index2_0 t).2]; omega

/-- The block of weights. -/
theorem weights_block2 (c : Dev nD) (t : Fin cfg2.N) (k : Fin 4096) (s : Fin 512) (z : Fin 1024) (hz : z.val = 512 * t.val + s.val) :
    (iblk2 (V3 m ρ) c 1 t : Vec Ideal S1x4096x512 .f32) (ix3 (n0 := 1) (n1 := 4096) (n2 := 512) 0 k s)
      = weights m c (ix3 (n0 := 4) (n1 := 4096) (n2 := 1024) 2 k z) := by
  unfold iblk2
  rw [View.read_apply]
  show V3 m ρ c main_arg1 _ = _
  rw [weights3]
  refine congrArg (weights m c) (funext fun a => Fin.ext ?_)
  match a with
  | ⟨0, _⟩ => show win2_1.index t 0 * 1 + 1 * 0 = 2; rw [(index2_1 t).1]
  | ⟨1, _⟩ => show win2_1.index t 1 * 4096 + 1 * k.val = k.val; rw [(index2_1 t).2.1]; omega
  | ⟨2, _⟩ => show win2_1.index t 2 * 512 + 1 * s.val = z.val; rw [(index2_1 t).2.2]; omega

/-- What a point writes back is the product's block. -/
theorem cut2 (c : Dev nD) (t : Fin cfg2.N) :
    (cfg2.win 2).cut (grid2.coords t) (out2_2 (F := Ideal) (iblk2 (V3 m ρ) c 0 t) (iblk2 (V3 m ρ) c 1 t))
      = ((cfg2.win 2).blk t).view.read (Elt Ideal) (product (memory m c) (weights m c) 2) := by
  funext j
  rw [View.read_apply]
  refine block_eq (memory m c) (weights m c) 2 (iblk2 (V3 m ρ) c 0 t) (iblk2 (V3 m ρ) c 1 t) t.val (lt_of_lt_of_eq t.isLt N_2) j
    (rows_block2 m ρ c t) (weights_block2 m ρ c t) _ ?_ ?_
  · show win2_2.index t 0 * 512 + 1 * (j 0).val = (j 0).val; rw [(index2_2 t).1]; omega
  · show win2_2.index t 1 * 512 + 1 * (j 1).val = 512 * t.val + (j 1).val; rw [(index2_2 t).2]; omega

/-- The two points' blocks tile the result. -/
theorem covered2 (i : S512x1024.Idx) : ∃ t : Fin cfg2.N, i ∈ ((cfg2.win 2).blk t).view.set := by
  have h0 : (i 0).val < 512 := (i 0).isLt
  obtain ⟨n, hn, h1⟩ := column (i 1).val (i 1).isLt
  let t : Fin cfg2.N := ⟨n, lt_of_lt_of_eq hn N_2.symm⟩
  refine ⟨t, ?_⟩
  show i ∈ ((View.whole main_v4).slice (win2_2.rect t)).set
  rw [View.set_slice_whole, Rect.mem_set_unit]
  intro a
  match a with
  | ⟨0, _⟩ => show win2_2.index t 0 * 512 ≤ (i 0).val ∧ (i 0).val < win2_2.index t 0 * 512 + 512; rw [(index2_2 t).1]; omega
  | ⟨1, _⟩ => show win2_2.index t 1 * 512 ≤ (i 1).val ∧ (i 1).val < win2_2.index t 1 * 512 + 512; rw [(index2_2 t).2]; show n * 512 ≤ (i 1).val ∧ (i 1).val < n * 512 + 512; omega

/-- **The call's result is the product with layer 2's weights.** -/
theorem final2 (c : Dev nD) : (dat2 (V3 m ρ) c).arrAt 2 cfg2.N
    = (product (memory m c) (weights m c) 2 : Buf (Elt Ideal) ((c.tc : Thread nD τ).loc main_v4)) :=
  (dat2 (V3 m ρ) c).arrAt_eq_of_cover 2 _ (fun t _ => by
      show (cfg2.win 2).cut (grid2.coords t) ((dat2 (V3 m ρ) c).after 2 t) = _
      rw [after2_2]
      exact cut2 m ρ c t) fun i => by
    obtain ⟨t, h⟩ := covered2 i
    exact ⟨t, flush2 t, h⟩

/-! ## Call 3 -/

theorem index3_0 : ∀ t : Fin grid3.N, win3_0.index t 0 = 0 ∧ win3_0.index t 1 = 0 := by decide +kernel
theorem index3_1 : ∀ t : Fin grid3.N, win3_1.index t 0 = 3 ∧ win3_1.index t 1 = 0 ∧ win3_1.index t 2 = t.val := by decide +kernel
theorem index3_2 : ∀ t : Fin grid3.N, win3_2.index t 0 = 0 ∧ win3_2.index t 1 = t.val := by decide +kernel
theorem flush3 : ∀ t : Fin grid3.N, win3_2.flush t = true := by decide +kernel

/-- The block of rows. -/
theorem rows_block3 (c : Dev nD) (t : Fin cfg3.N) (r : Fin 512) (k : Fin 4096) :
    (iblk3 (V4 m ρ) c 0 t : Vec Ideal S512x4096 .bf16) (ix2 r k) = rows (memory m c) (ix2 r k) := by
  unfold iblk3
  rw [View.read_apply]
  show V4 m ρ c main_v1 _ = _
  rw [rows4]
  refine congrArg (rows (memory m c)) (funext fun a => Fin.ext ?_)
  match a with
  | ⟨0, _⟩ => show win3_0.index t 0 * 512 + 1 * r.val = r.val; rw [(index3_0 t).1]; omega
  | ⟨1, _⟩ => show win3_0.index t 1 * 4096 + 1 * k.val = k.val; rw [(index3_0 t).2]; omega

/-- The block of weights. -/
theorem weights_block3 (c : Dev nD) (t : Fin cfg3.N) (k : Fin 4096) (s : Fin 512) (z : Fin 1024) (hz : z.val = 512 * t.val + s.val) :
    (iblk3 (V4 m ρ) c 1 t : Vec Ideal S1x4096x512 .f32) (ix3 (n0 := 1) (n1 := 4096) (n2 := 512) 0 k s)
      = weights m c (ix3 (n0 := 4) (n1 := 4096) (n2 := 1024) 3 k z) := by
  unfold iblk3
  rw [View.read_apply]
  show V4 m ρ c main_arg1 _ = _
  rw [weights4]
  refine congrArg (weights m c) (funext fun a => Fin.ext ?_)
  match a with
  | ⟨0, _⟩ => show win3_1.index t 0 * 1 + 1 * 0 = 3; rw [(index3_1 t).1]
  | ⟨1, _⟩ => show win3_1.index t 1 * 4096 + 1 * k.val = k.val; rw [(index3_1 t).2.1]; omega
  | ⟨2, _⟩ => show win3_1.index t 2 * 512 + 1 * s.val = z.val; rw [(index3_1 t).2.2]; omega

/-- What a point writes back is the product's block. -/
theorem cut3 (c : Dev nD) (t : Fin cfg3.N) :
    (cfg3.win 2).cut (grid3.coords t) (out3_2 (F := Ideal) (iblk3 (V4 m ρ) c 0 t) (iblk3 (V4 m ρ) c 1 t))
      = ((cfg3.win 2).blk t).view.read (Elt Ideal) (product (memory m c) (weights m c) 3) := by
  funext j
  rw [View.read_apply]
  refine block_eq (memory m c) (weights m c) 3 (iblk3 (V4 m ρ) c 0 t) (iblk3 (V4 m ρ) c 1 t) t.val (lt_of_lt_of_eq t.isLt N_3) j
    (rows_block3 m ρ c t) (weights_block3 m ρ c t) _ ?_ ?_
  · show win3_2.index t 0 * 512 + 1 * (j 0).val = (j 0).val; rw [(index3_2 t).1]; omega
  · show win3_2.index t 1 * 512 + 1 * (j 1).val = 512 * t.val + (j 1).val; rw [(index3_2 t).2]; omega

/-- The two points' blocks tile the result. -/
theorem covered3 (i : S512x1024.Idx) : ∃ t : Fin cfg3.N, i ∈ ((cfg3.win 2).blk t).view.set := by
  have h0 : (i 0).val < 512 := (i 0).isLt
  obtain ⟨n, hn, h1⟩ := column (i 1).val (i 1).isLt
  let t : Fin cfg3.N := ⟨n, lt_of_lt_of_eq hn N_3.symm⟩
  refine ⟨t, ?_⟩
  show i ∈ ((View.whole main_v5).slice (win3_2.rect t)).set
  rw [View.set_slice_whole, Rect.mem_set_unit]
  intro a
  match a with
  | ⟨0, _⟩ => show win3_2.index t 0 * 512 ≤ (i 0).val ∧ (i 0).val < win3_2.index t 0 * 512 + 512; rw [(index3_2 t).1]; omega
  | ⟨1, _⟩ => show win3_2.index t 1 * 512 ≤ (i 1).val ∧ (i 1).val < win3_2.index t 1 * 512 + 512; rw [(index3_2 t).2]; show n * 512 ≤ (i 1).val ∧ (i 1).val < n * 512 + 512; omega

/-- **The call's result is the product with layer 3's weights.** -/
theorem final3 (c : Dev nD) : (dat3 (V4 m ρ) c).arrAt 2 cfg3.N
    = (product (memory m c) (weights m c) 3 : Buf (Elt Ideal) ((c.tc : Thread nD τ).loc main_v5)) :=
  (dat3 (V4 m ρ) c).arrAt_eq_of_cover 2 _ (fun t _ => by
      show (cfg3.win 2).cut (grid3.coords t) ((dat3 (V4 m ρ) c).after 2 t) = _
      rw [after3_2]
      exact cut3 m ρ c t) fun i => by
    obtain ⟨t, h⟩ := covered3 i
    exact ⟨t, flush3 t, h⟩

/-! ## The run -/

/-- The first layer's product at the end. -/
theorem end0 (c : Dev nD) : W5 m ρ c (Proc.devRef .tc main_v2) = product (memory m c) (weights m c) 0 :=
  (W5_of m ρ c main_v2 (by decide)).trans ((W4_of m ρ c main_v2 (by decide)).trans ((W3_of m ρ c main_v2 (by decide)).trans
    ((W2_arr m ρ c 2).trans (final0 m ρ c))))
theorem end1 (c : Dev nD) : W5 m ρ c (Proc.devRef .tc main_v3) = product (memory m c) (weights m c) 1 :=
  (W5_of m ρ c main_v3 (by decide)).trans ((W4_of m ρ c main_v3 (by decide)).trans ((W3_arr m ρ c 2).trans (final1 m ρ c)))
theorem end2 (c : Dev nD) : W5 m ρ c (Proc.devRef .tc main_v4) = product (memory m c) (weights m c) 2 :=
  (W5_of m ρ c main_v4 (by decide)).trans ((W4_arr m ρ c 2).trans (final2 m ρ c))
theorem end3 (c : Dev nD) : W5 m ρ c (Proc.devRef .tc main_v5) = product (memory m c) (weights m c) 3 :=
  (W5_arr m ρ c 2).trans (final3 m ρ c)

end Cert.MemoryIdeal.Result

namespace Cert.MemoryIdeal.Result

open Cert.MemoryIdeal Cert.MemoryIdeal.Gen
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds

variable (m : (ℓ : Loc nD τ sig) → Buf (Elt Ideal) ℓ) (ρ : Dev nD → PrngReg)

set_option backward.isDefEq.respectTransparency.types false in
/-- The run, read: every layer's product, the arguments unchanged. -/
theorem run : θ_run defs (onTc (τ := τ) (main (F := Ideal))) ⟨m, fun _ => 0, ρ⟩ (fun r => ∀ c : Dev nD,
      r.2.mem ((c.tc : Thread nD τ).loc main_v2) = product (memory m c) (weights m c) 0
      ∧ r.2.mem ((c.tc : Thread nD τ).loc main_v3) = product (memory m c) (weights m c) 1
      ∧ r.2.mem ((c.tc : Thread nD τ).loc main_v4) = product (memory m c) (weights m c) 2
      ∧ r.2.mem ((c.tc : Thread nD τ).loc main_v5) = product (memory m c) (weights m c) 3
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨(h c _ (mem_uc main_v2 (by decide))).trans (end0 m ρ c),
       (h c _ (mem_uc main_v3 (by decide))).trans (end1 m ρ c),
       (h c _ (mem_uc main_v4 (by decide))).trans (end2 m ρ c),
       (h c _ (mem_uc main_v5 (by decide))).trans (end3 m ρ c),
       (h c _ (mem_uc main_arg0 (by decide))).trans (W5_main_arg0 m ρ c),
       (h c _ (mem_uc main_arg1 (by decide))).trans (W5_main_arg1 m ρ c)⟩)

end Cert.MemoryIdeal.Result

namespace Cert.Proof.MemoryClaims

/-- The kernel runs and leaves its arguments alone. -/
theorem frame_k : Cert.quiescent_Memory (hMemory := Cert.Memory.Gen.facts) := fun m ρ _ => Cert.Memory.Gen.frame m ρ

/-- So does its reading over the extended reals. -/
theorem frame_ki : Cert.quiescent_MemoryIdeal (hMemoryIdeal := Cert.MemoryIdeal.Gen.facts) := fun m ρ _ => Cert.MemoryIdeal.Gen.frame m ρ

/-- So does the reference's. -/
theorem frame_ri : Cert.quiescent_MemoryRefIdeal (hMemoryRefIdeal := Cert.MemoryRefIdeal.Gen.facts) := fun m ρ _ =>
  (θ_run Cert.MemoryRefIdeal.defs _ _).mono (fun r h => ⟨fun c => (h c).2.2.2.2,
      Idealize.ShloMosaic.sem_eq_zero_of_no_sems (by decide) r.2⟩)
    (Cert.MemoryRefIdeal.Value.run (F := Ideal) m ρ)

/-- **The kernel and the reference end with the same four products.** -/
theorem algebraic : Cert.algebraic_MemoryIdeal_MemoryRefIdeal (hMemoryIdeal := Cert.MemoryIdeal.Gen.facts)
    (hMemoryRefIdeal := Cert.MemoryRefIdeal.Gen.facts) := by
  intro m ρ m' ρ' hpre hagree
  refine ⟨fun c => Cert.MemoryIdeal.Result.product (Cert.MemoryIdeal.Result.memory m c) (Cert.MemoryIdeal.Result.weights m c) 0,
    fun c => Cert.MemoryIdeal.Result.product (Cert.MemoryIdeal.Result.memory m c) (Cert.MemoryIdeal.Result.weights m c) 1,
    fun c => Cert.MemoryIdeal.Result.product (Cert.MemoryIdeal.Result.memory m c) (Cert.MemoryIdeal.Result.weights m c) 2,
    fun c => Cert.MemoryIdeal.Result.product (Cert.MemoryIdeal.Result.memory m c) (Cert.MemoryIdeal.Result.weights m c) 3,
    Cert.MemoryIdeal.Result.run m ρ, ?_⟩
  refine (θ_run Cert.MemoryRefIdeal.defs _ _).mono (fun _ h c => ⟨(h c).1.trans ?_, (h c).2.1.trans ?_, (h c).2.2.1.trans ?_,
      (h c).2.2.2.1.trans ?_, (h c).2.2.2.2⟩)
    (Cert.MemoryRefIdeal.Value.run (F := Ideal) m' ρ')
  · rw [Cert.MemoryRefIdeal.Read.val_main_v3_eq, (hagree c).1, (hagree c).2]
    exact Cert.MemoryIdeal.Result.reference_eq0 _ _
  · rw [Cert.MemoryRefIdeal.Read.val_main_v6_eq, (hagree c).1, (hagree c).2]
    exact Cert.MemoryIdeal.Result.reference_eq1 _ _
  · rw [Cert.MemoryRefIdeal.Read.val_main_v9_eq, (hagree c).1, (hagree c).2]
    exact Cert.MemoryIdeal.Result.reference_eq2 _ _
  · rw [Cert.MemoryRefIdeal.Read.val_main_v12_eq, (hagree c).1, (hagree c).2]
    exact Cert.MemoryIdeal.Result.reference_eq3 _ _

end Cert.Proof.MemoryClaims

end
-- ==== Proof.Ln.OutIdeal.RunC.lean ====
/- The last step of `OutIdeal`'s products: the run of its body (the case that adds the last product and then normalises the
   block, 128 rows at a time). The pieces its outputs end with are the witness; what the normalisation stores does not
   depend on what the bf16 output held before, so the run states them over any contents there. -/
module

public import proofs.«01_k».proof.Proof.Gen.OutIdeal.Frame.RunB

@[expose] public section

-- membership in a rectangle of production extents (`View.cover_of_tiled`): the elaborator's structural look
-- recurses once per coordinate of the long axes
set_option maxRecDepth 16384

noncomputable section

namespace Cert.OutIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a trip of the normalisation stores into the f32 output does not depend on what the bf16 output held before: the trip
    reads the residual's rows and the f32 output's, and overwrites the bf16 output's. -/
theorem trip_indep (𝒱 : Variants) (c : Dev nD) (bd : Option 𝒱.V) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (k0_h3 : k0_cond3 i = 1#1) (v10 : Vec F S1x4096 .f32) (v12 : Vec F S1x4096 .f32) (X_arg4 : BufTy.Contents (Elt F) arg4.view.ty) (k : Fin k0_t1_loop.trips) (f7 : BufTy.Contents (Elt F) arg7.view.ty) (f8 f8' : BufTy.Contents (Elt F) arg8.view.ty) :
    tripL_k0_t1 (F := F) 𝒱 c bd i arg2 harg2 arg3 harg3 arg4 harg4 arg5 harg5 arg6 harg6 arg7 harg7 arg8 harg8 k0_h3 v10 v12 X_arg4 k f7 f8 = tripL_k0_t1 (F := F) 𝒱 c bd i arg2 harg2 arg3 harg3 arg4 harg4 arg5 harg5 arg6 harg6 arg7 harg7 arg8 harg8 k0_h3 v10 v12 X_arg4 k f7 f8' := by
  unfold tripL_k0_t1 trip_k0_t1
  rfl

/-- Nor does what the trips before the `n`-th store. -/
theorem pb_indep (𝒱 : Variants) (c : Dev nD) (bd : Option 𝒱.V) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (k0_h3 : k0_cond3 i = 1#1) (v10 : Vec F S1x4096 .f32) (v12 : Vec F S1x4096 .f32) (X_arg4 : BufTy.Contents (Elt F) arg4.view.ty) (G7 : BufTy.Contents (Elt F) arg7.view.ty) (G8 G8' : BufTy.Contents (Elt F) arg8.view.ty) (n : ℕ) :
    pb_k0_t1 (F := F) 𝒱 c bd i arg2 harg2 arg3 harg3 arg4 harg4 arg5 harg5 arg6 harg6 arg7 harg7 arg8 harg8 k0_h3 v10 v12 X_arg4 G7 G8 n = pb_k0_t1 (F := F) 𝒱 c bd i arg2 harg2 arg3 harg3 arg4 harg4 arg5 harg5 arg6 harg6 arg7 harg7 arg8 harg8 k0_h3 v10 v12 X_arg4 G7 G8' n := by
  induction n with
  | zero => rfl
  | succ k ih =>
    rw [pb_k0_t1.eq_2, pb_k0_t1.eq_2, ih]
    unfold pb_k0_t1Step
    by_cases h : k < k0_t1_loop.trips
    · rw [dif_pos h, dif_pos h, trip_indep 𝒱 c bd i arg2 harg2 arg3 harg3 arg4 harg4 arg5 harg5 arg6 harg6 arg7 harg7 arg8 harg8 k0_h3 v10 v12 X_arg4 ⟨k, h⟩ _ _ (arg8.view.writes (Elt F) G8' (pb_k0_t1 (F := F) 𝒱 c bd i arg2 harg2 arg3 harg3 arg4 harg4 arg5 harg5 arg6 harg6 arg7 harg7 arg8 harg8 k0_h3 v10 v12 X_arg4 G7 G8' k).2)]
    · rw [dif_neg h, dif_neg h]

-- (the run's proof term is large: the definition's epilogue — `abstractNestedProofs` — walks it past the default budget)
set_option maxHeartbeats 1000000 in
/-- What the body's stores leave in each output's staging buffer in this case, as pieces (last first), WITH the proof that the
    body runs from the inputs' blocks and the running sums `xo5` to those pieces. -/
noncomputable def kernelRun0_C (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (hc0 : ¬cond0_0 i) (hc1 : cond0_1 i) (hc2 : cond0_2 i)
    (x0 : Vec F S512x512 .bf16) (x1 : Vec F S512x4096 .bf16) (x2 : Vec F S512x4096 .f32) (x3 : Vec F S1x4096 .f32) (x4 : Vec F S1x4096 .f32) (xo5 : Vec F S512x4096 .f32) :
    Σ' (L5 : List (View.Piece (Elt F) S512x4096 .f32)), { L6 : List (View.Piece (Elt F) S512x4096 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc0_matmul_residual_ln i arg2 harg2 arg3 harg3 arg4 harg4 arg5 harg5 arg6 harg6 arg7 harg7 arg8 harg8) K } := by
  refine ⟨?_, ?_, fun E K => ?run⟩
  case run =>
    simp only [cc0_matmul_residual_ln_eq_skeleton]; unfold cc0_matmul_residual_ln_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2)
    sl_step
    rw [pb_indep _ _ _ _ _ _ _ _ _ _ _ _ _ _ _ _ _ _ _ _ _ _ _ f6 arg8.view.junk]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

end Cert.OutIdeal.Gen

end
-- ==== Proof.Ln.OutIdeal.Frame.lean ====
/- The frame of `OutIdeal`: the accumulation over the points, the body's obligation at every point, the run and the frame. -/
module

public import proofs.«01_k».proof.Proof.Ln.OutIdeal.RunC
public import Idealize.ShloMosaic.Lib.Claim

@[expose] public section

-- membership in a rectangle of production extents (`View.cover_of_tiled`): the elaborator's structural look
-- recurses once per coordinate of the long axes
set_option maxRecDepth 16384

noncomputable section

namespace Cert.OutIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 5 tile its block (8 stores of `S512x512`, checked by the kernel's evaluation: Lib/Ring.lean `Piece.tiledL`, linear in the pieces, through a loop's `@[irreducible]` trip theorem too), so they cover it. -/
theorem cover0_A_5 (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (hc0 : cond0_0 i) (hc1 : ¬cond0_1 i) (hc2 : ¬cond0_2 i)
    (x0 : Vec F S512x512 .bf16) (x1 : Vec F S512x4096 .bf16) (x2 : Vec F S512x4096 .f32) (x3 : Vec F S1x4096 .f32) (x4 : Vec F S1x4096 .f32) (y : S512x4096.Idx) :
    ∃ pc ∈ (kernelRun0_A c i arg2 harg2 arg3 harg3 arg4 harg4 arg5 harg5 arg6 harg6 arg7 harg7 arg8 harg8 hc0 hc1 hc2 x0 x1 x2 x3 x4).1, y ∈ pc.1.set :=
  View.cover_of_tiledL (kernelRun0_A c i arg2 harg2 arg3 harg3 arg4 harg4 arg5 harg5 arg6 harg6 arg7 harg7 arg8 harg8 hc0 hc1 hc2 x0 x1 x2 x3 x4).1 S512x512.size (by sl_kernel_rfl) y

/-- What case A leaves in output 5's staging buffer: its pieces read back over junk. -/
def out0_A_5 (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (hc0 : cond0_0 i) (hc1 : ¬cond0_1 i) (hc2 : ¬cond0_2 i)
    (x0 : Vec F S512x512 .bf16) (x1 : Vec F S512x4096 .bf16) (x2 : Vec F S512x4096 .f32) (x3 : Vec F S1x4096 .f32) (x4 : Vec F S1x4096 .f32) : Vec F S512x4096 .f32 :=
  VO0_5.read (Elt F) (VO0_5.writes (Elt F) VO0_5.junk (kernelRun0_A c i arg2 harg2 arg3 harg3 arg4 harg4 arg5 harg5 arg6 harg6 arg7 harg7 arg8 harg8 hc0 hc1 hc2 x0 x1 x2 x3 x4).1)

/-- Case A stores nothing into output 6 (the window is idle at its points and not written back there):
    no pieces — a placeholder (junk read back) that nothing consults, since at these points the window is neither
    written back nor read at the next point (Lib/Pipeline.lean "Idle points"). -/
def out0_A_6 (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (hc0 : cond0_0 i) (hc1 : ¬cond0_1 i) (hc2 : ¬cond0_2 i)
    (x0 : Vec F S512x512 .bf16) (x1 : Vec F S512x4096 .bf16) (x2 : Vec F S512x4096 .f32) (x3 : Vec F S1x4096 .f32) (x4 : Vec F S1x4096 .f32) : Vec F S512x4096 .bf16 :=
  VO0_6.read (Elt F) (VO0_6.writes (Elt F) VO0_6.junk (kernelRun0_A c i arg2 harg2 arg3 harg3 arg4 harg4 arg5 harg5 arg6 harg6 arg7 harg7 arg8 harg8 hc0 hc1 hc2 x0 x1 x2 x3 x4).2.1)

/-- Case B's pieces for output 5 tile its block (8 stores of `S512x512`, checked by the kernel's evaluation: Lib/Ring.lean `Piece.tiledL`, linear in the pieces, through a loop's `@[irreducible]` trip theorem too), so they cover it. -/
theorem cover0_B_5 (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (hc0 : ¬cond0_0 i) (hc1 : cond0_1 i) (hc2 : ¬cond0_2 i)
    (x0 : Vec F S512x512 .bf16) (x1 : Vec F S512x4096 .bf16) (x2 : Vec F S512x4096 .f32) (x3 : Vec F S1x4096 .f32) (x4 : Vec F S1x4096 .f32) (xo5 : Vec F S512x4096 .f32) (y : S512x4096.Idx) :
    ∃ pc ∈ (kernelRun0_B c i arg2 harg2 arg3 harg3 arg4 harg4 arg5 harg5 arg6 harg6 arg7 harg7 arg8 harg8 hc0 hc1 hc2 x0 x1 x2 x3 x4 xo5).1, y ∈ pc.1.set :=
  View.cover_of_tiledL (kernelRun0_B c i arg2 harg2 arg3 harg3 arg4 harg4 arg5 harg5 arg6 harg6 arg7 harg7 arg8 harg8 hc0 hc1 hc2 x0 x1 x2 x3 x4 xo5).1 S512x512.size (by sl_kernel_rfl) y

/-- What case B leaves in output 5's staging buffer: its pieces read back over junk. -/
def out0_B_5 (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (hc0 : ¬cond0_0 i) (hc1 : cond0_1 i) (hc2 : ¬cond0_2 i)
    (x0 : Vec F S512x512 .bf16) (x1 : Vec F S512x4096 .bf16) (x2 : Vec F S512x4096 .f32) (x3 : Vec F S1x4096 .f32) (x4 : Vec F S1x4096 .f32) (xo5 : Vec F S512x4096 .f32) : Vec F S512x4096 .f32 :=
  VO0_5.read (Elt F) (VO0_5.writes (Elt F) VO0_5.junk (kernelRun0_B c i arg2 harg2 arg3 harg3 arg4 harg4 arg5 harg5 arg6 harg6 arg7 harg7 arg8 harg8 hc0 hc1 hc2 x0 x1 x2 x3 x4 xo5).1)

/-- Case B stores nothing into output 6 (the window is idle at its points and not written back there):
    no pieces — a placeholder (junk read back) that nothing consults, since at these points the window is neither
    written back nor read at the next point (Lib/Pipeline.lean "Idle points"). -/
def out0_B_6 (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (hc0 : ¬cond0_0 i) (hc1 : cond0_1 i) (hc2 : ¬cond0_2 i)
    (x0 : Vec F S512x512 .bf16) (x1 : Vec F S512x4096 .bf16) (x2 : Vec F S512x4096 .f32) (x3 : Vec F S1x4096 .f32) (x4 : Vec F S1x4096 .f32) (xo5 : Vec F S512x4096 .f32) : Vec F S512x4096 .bf16 :=
  VO0_6.read (Elt F) (VO0_6.writes (Elt F) VO0_6.junk (kernelRun0_B c i arg2 harg2 arg3 harg3 arg4 harg4 arg5 harg5 arg6 harg6 arg7 harg7 arg8 harg8 hc0 hc1 hc2 x0 x1 x2 x3 x4 xo5).2.1)

/-- Case C's pieces for output 5 are of SEVERAL sizes (12 stores of `S128x4096`, `S512x512`): cut into blocks of `![128, 512]` they tile its block (checked by the kernel's evaluation: Lib/Ring.lean `Piece.tiledBy`), so they cover it. -/
theorem cover0_C_5 (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (hc0 : ¬cond0_0 i) (hc1 : cond0_1 i) (hc2 : cond0_2 i)
    (x0 : Vec F S512x512 .bf16) (x1 : Vec F S512x4096 .bf16) (x2 : Vec F S512x4096 .f32) (x3 : Vec F S1x4096 .f32) (x4 : Vec F S1x4096 .f32) (xo5 : Vec F S512x4096 .f32) (y : S512x4096.Idx) :
    ∃ pc ∈ (kernelRun0_C c i arg2 harg2 arg3 harg3 arg4 harg4 arg5 harg5 arg6 harg6 arg7 harg7 arg8 harg8 hc0 hc1 hc2 x0 x1 x2 x3 x4 xo5).1, y ∈ pc.1.set :=
  View.cover_of_tiledBy (kernelRun0_C c i arg2 harg2 arg3 harg3 arg4 harg4 arg5 harg5 arg6 harg6 arg7 harg7 arg8 harg8 hc0 hc1 hc2 x0 x1 x2 x3 x4 xo5).1 ![128, 512] (by sl_kernel_rfl) y

/-- What case C leaves in output 5's staging buffer: its pieces read back over junk. -/
def out0_C_5 (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (hc0 : ¬cond0_0 i) (hc1 : cond0_1 i) (hc2 : cond0_2 i)
    (x0 : Vec F S512x512 .bf16) (x1 : Vec F S512x4096 .bf16) (x2 : Vec F S512x4096 .f32) (x3 : Vec F S1x4096 .f32) (x4 : Vec F S1x4096 .f32) (xo5 : Vec F S512x4096 .f32) : Vec F S512x4096 .f32 :=
  VO0_5.read (Elt F) (VO0_5.writes (Elt F) VO0_5.junk (kernelRun0_C c i arg2 harg2 arg3 harg3 arg4 harg4 arg5 harg5 arg6 harg6 arg7 harg7 arg8 harg8 hc0 hc1 hc2 x0 x1 x2 x3 x4 xo5).1)

/-- Case C's pieces for output 6 tile its block (4 stores of `S128x4096`, checked by the kernel's evaluation: Lib/Ring.lean `Piece.tiledL`, linear in the pieces, through a loop's `@[irreducible]` trip theorem too), so they cover it. -/
theorem cover0_C_6 (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (hc0 : ¬cond0_0 i) (hc1 : cond0_1 i) (hc2 : cond0_2 i)
    (x0 : Vec F S512x512 .bf16) (x1 : Vec F S512x4096 .bf16) (x2 : Vec F S512x4096 .f32) (x3 : Vec F S1x4096 .f32) (x4 : Vec F S1x4096 .f32) (xo5 : Vec F S512x4096 .f32) (y : S512x4096.Idx) :
    ∃ pc ∈ (kernelRun0_C c i arg2 harg2 arg3 harg3 arg4 harg4 arg5 harg5 arg6 harg6 arg7 harg7 arg8 harg8 hc0 hc1 hc2 x0 x1 x2 x3 x4 xo5).2.1, y ∈ pc.1.set :=
  View.cover_of_tiledL (kernelRun0_C c i arg2 harg2 arg3 harg3 arg4 harg4 arg5 harg5 arg6 harg6 arg7 harg7 arg8 harg8 hc0 hc1 hc2 x0 x1 x2 x3 x4 xo5).2.1 S128x4096.size (by sl_kernel_rfl) y

/-- What case C leaves in output 6's staging buffer: its pieces read back over junk. -/
def out0_C_6 (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (hc0 : ¬cond0_0 i) (hc1 : cond0_1 i) (hc2 : cond0_2 i)
    (x0 : Vec F S512x512 .bf16) (x1 : Vec F S512x4096 .bf16) (x2 : Vec F S512x4096 .f32) (x3 : Vec F S1x4096 .f32) (x4 : Vec F S1x4096 .f32) (xo5 : Vec F S512x4096 .f32) : Vec F S512x4096 .bf16 :=
  VO0_6.read (Elt F) (VO0_6.writes (Elt F) VO0_6.junk (kernelRun0_C c i arg2 harg2 arg3 harg3 arg4 harg4 arg5 harg5 arg6 harg6 arg7 harg7 arg8 harg8 hc0 hc1 hc2 x0 x1 x2 x3 x4 xo5).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S512x4096 .f32 × Vec F S512x4096 .bf16
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 8 = 0 then
      if h1 : 1 ≤ (n + 1) % 8 then
        False.elim (by have hN : n + 1 < 128 := lt_of_lt_of_eq hn (show cfg0.N = 128 from N_0); omega)
      else
        if h2 : (n + 1) % 8 = 7 then
          False.elim (by have hN : n + 1 < 128 := lt_of_lt_of_eq hn (show cfg0.N = 128 from N_0); omega)
        else
          (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : 1 ≤ (n + 1) % 8 then
        if h2 : (n + 1) % 8 = 7 then
          (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1)
        else
          (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1)
      else
        False.elim (by have hN : n + 1 < 128 := lt_of_lt_of_eq hn (show cfg0.N = 128 from N_0); omega)

/-- `outsAt0` at a point of case A: that case's contents. -/
theorem outsAt0_A (c : Dev nD) (t : Fin cfg0.N) (h0 : t.val % 8 = 0) (h1 : ¬1 ≤ t.val % 8) (h2 : ¬t.val % 8 = 7) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (fun h => h1 ((hcond0_1 t).mp h)) (fun h => h2 ((hcond0_2 t).mp h)) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (fun h => h1 ((hcond0_1 t).mp h)) (fun h => h2 ((hcond0_2 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans ((dif_neg h2).trans rfl))

/-- `outsAt0` at a point of case B: that case's contents, over what the point before left. -/
theorem outsAt0_B (c : Dev nD) (t : Fin cfg0.N) (h0 : ¬t.val % 8 = 0) (h1 : 1 ≤ t.val % 8) (h2 : ¬t.val % 8 = 7) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 8 = 0) (h1 : 1 ≤ t.val % 8) (h2 : t.val % 8 = 7) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).1, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Output 5's contents CARRY through the points that leave it idle: at such a point, its buffer not fresh, the proof data's
    `after` is the point before's (the case there stores nothing into the window and its term says so; a case that stores
    into it is not idle there by `liveAt0_5_κ`) — the hypothesis of Lib/Pipeline/TableIdle.lean `Dat.before_out_traj`. -/
theorem hcarry0_5 (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t _ hi _
  have hN : t.val < 128 := lt_of_lt_of_eq t.isLt (show cfg0.N = 128 from N_0)
  rw [after0_5, after0_5]
  by_cases h0 : t.val % 8 = 0
  · by_cases h1 : 1 ≤ t.val % 8
    · exfalso; omega
    · by_cases h2 : t.val % 8 = 7
      · exfalso; omega
      · rw [liveAt0_5_A t ((hcond0_0 t).mpr h0) (fun h => h1 ((hcond0_1 t).mp h)) (fun h => h2 ((hcond0_2 t).mp h))] at hi
        exact absurd hi Bool.false_ne_true
  · by_cases h1 : 1 ≤ t.val % 8
    · by_cases h2 : t.val % 8 = 7
      · rw [liveAt0_5_C t (fun h => h0 ((hcond0_0 t).mp h)) ((hcond0_1 t).mpr h1) ((hcond0_2 t).mpr h2)] at hi
        exact absurd hi Bool.false_ne_true
      · rw [liveAt0_5_B t (fun h => h0 ((hcond0_0 t).mp h)) ((hcond0_1 t).mpr h1) (fun h => h2 ((hcond0_2 t).mp h))] at hi
        exact absurd hi Bool.false_ne_true
    · exfalso; omega
/-- At a point of case B output 5's current staging buffer holds what the point before left: the buffer is not fresh
    there (`notFresh0_5_B`: stored into since the region's entry or the last write-back, carried through the points that
    leave it idle by `hcarry0_5`; Lib/Pipeline/TableIdle.lean `Dat.before_out_traj`). -/
theorem before0_5_B (c : Dev nD) (t : Fin cfg0.N) (h0 : ¬t.val % 8 = 0) (h1 : 1 ≤ t.val % 8) (h2 : ¬t.val % 8 = 7) (d) :
    (dats m 0 c).before 5 t d = (outsAt0 m c (t.val - 1) (Nat.lt_of_le_of_lt (Nat.sub_le _ _) t.isLt)).1 := by
  rw [Dat.before_out_traj _ 5 rfl (fun _ _ => rfl) (hcarry0_5 m c) t.val t rfl d,
    if_neg (by rw [notFresh0_5_B t (fun h => h0 ((hcond0_0 t).mp h)) ((hcond0_1 t).mpr h1) (fun h => h2 ((hcond0_2 t).mp h))]; exact Bool.false_ne_true)]
  dsimp only [dats]
/-- At a point of case C output 5's current staging buffer holds what the point before left: the buffer is not fresh
    there (`notFresh0_5_C`: stored into since the region's entry or the last write-back, carried through the points that
    leave it idle by `hcarry0_5`; Lib/Pipeline/TableIdle.lean `Dat.before_out_traj`). -/
theorem before0_5_C (c : Dev nD) (t : Fin cfg0.N) (h0 : ¬t.val % 8 = 0) (h1 : 1 ≤ t.val % 8) (h2 : t.val % 8 = 7) (d) :
    (dats m 0 c).before 5 t d = (outsAt0 m c (t.val - 1) (Nat.lt_of_le_of_lt (Nat.sub_le _ _) t.isLt)).1 := by
  rw [Dat.before_out_traj _ 5 rfl (fun _ _ => rfl) (hcarry0_5 m c) t.val t rfl d,
    if_neg (by rw [notFresh0_5_C t (fun h => h0 ((hcond0_0 t).mp h)) ((hcond0_1 t).mpr h1) ((hcond0_2 t).mpr h2)]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1200000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  have hN : t.val < 128 := lt_of_lt_of_eq t.isLt (show cfg0.N = 128 from N_0)
  by_cases h0 : t.val % 8 = 0
  · by_cases h1 : 1 ≤ t.val % 8
    · exfalso; omega
    · by_cases h2 : t.val % 8 = 7
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5_A t ((hcond0_0 t).mpr h0) (fun h => h1 ((hcond0_1 t).mp h)) (fun h => h2 ((hcond0_2 t).mp h))], after0_5]
        rw [Dat.leavesExact_idle (dats m 0 c) 6 t (idleAt0_6_A t ((hcond0_0 t).mpr h0) (fun h => h1 ((hcond0_1 t).mp h)) (fun h => h2 ((hcond0_2 t).mp h))) (noFlush0_6_A t ((hcond0_0 t).mpr h0) (fun h => h1 ((hcond0_1 t).mp h)) (fun h => h2 ((hcond0_2 t).mp h)))]
        rw [outsAt0_A m c t h0 h1 h2]
        unfold out0_A_5; (try dsimp only)
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t)).2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        iintro ⟨H0, H1, H2, H3, H4, ⟨%e5, H5⟩, H6⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_A_5 c _ _ _ _ _ _ _ _ _ _ _ _ _ _ _ _ _ _ _ _ _ _ _)
        iexists _; iexact H6
  · by_cases h1 : 1 ≤ t.val % 8
    · by_cases h2 : t.val % 8 = 7
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5_C t (fun h => h0 ((hcond0_0 t).mp h)) ((hcond0_1 t).mpr h1) ((hcond0_2 t).mpr h2)], after0_5]
        rw [show (dats m 0 c).leavesExact 6 t = owns (c : Thread nD τ) (ms0_6 t) fullShare ((dats m 0 c).after 6 t) from by
      unfold Dat.leavesExact; rw [liveAt0_6_C t (fun h => h0 ((hcond0_0 t).mp h)) ((hcond0_1 t).mpr h1) ((hcond0_2 t).mpr h2)], after0_6]
        rw [outsAt0_C m c t h0 h1 h2]
        simp only [before0_5_C m c t h0 h1 h2]
        unfold out0_C_5 out0_C_6; (try dsimp only)
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ (fun h => h0 ((hcond0_0 t).mp h)) ((hcond0_1 t).mpr h1) ((hcond0_2 t).mpr h2) (iblk m c 0 t) (iblk m c 1 t) (iblk m c 2 t) (iblk m c 3 t) (iblk m c 4 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iintro ⟨H0, H1, H2, H3, H4, ⟨%e5, H5⟩, ⟨%e6, H6⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_C_5 c _ _ _ _ _ _ _ _ _ _ _ _ _ _ _ _ _ _ _ _ _ _ _ _)
        unfold owns; iexists _; isplitr
        swap; · iexact H6
        ipureintro; exact View.read_writes_of_cover _ _ _ _ _ (cover0_C_6 c _ _ _ _ _ _ _ _ _ _ _ _ _ _ _ _ _ _ _ _ _ _ _ _)
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5_B t (fun h => h0 ((hcond0_0 t).mp h)) ((hcond0_1 t).mpr h1) (fun h => h2 ((hcond0_2 t).mp h))], after0_5]
        rw [Dat.leavesExact_idle (dats m 0 c) 6 t (idleAt0_6_B t (fun h => h0 ((hcond0_0 t).mp h)) ((hcond0_1 t).mpr h1) (fun h => h2 ((hcond0_2 t).mp h))) (noFlush0_6_B t (fun h => h0 ((hcond0_0 t).mp h)) ((hcond0_1 t).mpr h1) (fun h => h2 ((hcond0_2 t).mp h)))]
        rw [outsAt0_B m c t h0 h1 h2]
        simp only [before0_5_B m c t h0 h1 h2]
        unfold out0_B_5; (try dsimp only)
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        iintro ⟨H0, H1, H2, H3, H4, ⟨%e5, H5⟩, H6⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_B_5 c _ _ _ _ _ _ _ _ _ _ _ _ _ _ _ _ _ _ _ _ _ _ _ _)
        iexists _; iexact H6
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_OutIdeal`'s statement (Defs.lean) at any `F` — Proof.lean cites it at `Bits`:
    `theorem Cert.Proof.claim : Cert.Claim := ⟨Cert.OutIdeal.Gen.facts, fun m ρ _ => Cert.OutIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.OutIdeal.Gen

end
-- ==== Proof.Mm.Norm.lean ====
module

public import Idealize.ShloMosaic.Lib.ValueIdx
public import Idealize.ShloMosaic.Lib.MatmulPlain

@[expose] public section

/-!
# One row's layer norm, and a sum taken in equal runs

What the two products with a residual and a norm after them share: the norm of one row of 4096 entries over the extended
reals, and the sum over an inner axis that the kernel takes 512 terms at a time.
-/

noncomputable section

open Idealize.ShloMosaic

namespace Cert.Norm

/-- A row's mean: its sum over 4096. -/
def mean (u : Fin 4096 → EReal) : EReal := Ideal.div (∑ k, u k) (Ideal.ofBits .f32 0x45800000#32)

/-- A row's variance: the mean of the squares of what is left after the mean is taken away. -/
def variance (u : Fin 4096 → EReal) : EReal := mean fun k => (u k - mean u) * (u k - mean u)

/-- A row's entry after the norm, its scale and its shift. -/
def norm (u : Fin 4096 → EReal) (g b : EReal) (j : Fin 4096) : EReal :=
  (u j - mean u) * Ideal.rsqrt (variance u + Ideal.ofBits .f32 0x3727C5AC#32) * g + b

/-- The row before the norm: the scaled residual and the product. -/
def row (res y : Fin 4096 → EReal) (j : Fin 4096) : EReal := Ideal.ofBits .f32 0x3FD744FD#32 * res j + y j

/-- A sum taken 512 terms at a time is the sum. -/
theorem sum_runs (f : ℕ → EReal) (n : ℕ) :
    ∑ k ∈ Finset.range n, ∑ l : Fin 512, f (512 * k + l.val) = ∑ k ∈ Finset.range (512 * n), f k := by
  induction n with
  | zero => simp
  | succ n ih =>
    rw [Finset.sum_range_succ, ih, Nat.mul_succ, Finset.sum_range_add, Finset.sum_range (fun l => f (512 * n + l))]

end Cert.Norm

end
-- ==== Proof.Ln.OutIdeal.Steps.lean ====
module

public import proofs.«01_k».proof.Proof.Ln.OutIdeal.Frame
public import proofs.«01_k».proof.Proof.Mm.Norm
public import Idealize.ShloMosaic.Lib.Pipeline.ValueKit.Tiles
public import Idealize.ShloMosaic.Lib.Pipeline.CanonAppend

@[expose] public section

/-!
# What one grid point leaves in its blocks

The first point of a row block stores its product, eight column chunks of 512; the points after it add theirs; the last
then normalises the block in place, 128 rows at a time, and writes it a second time in bf16.
-/

set_option maxRecDepth 16384

noncomputable section

open Idealize.ShloMosaic Idealize.ShloMosaic.TcCoe Idealize.SL.Sem Idealize.ShloMosaic.ValueIdx

namespace Cert.OutIdeal.Result

open Cert.OutIdeal Cert.OutIdeal.Gen

/-- The product of a point's blocks. -/
def prod (x : S512x512.Idx → EReal) (w : S512x4096.Idx → EReal) : S512x4096.Idx → EReal :=
  fun y => ∑ k : Fin 512, x (ix2 (n0 := 512) (n1 := 512) (y 0) k) * w (ix2 (n0 := 512) (n1 := 4096) k (y 1))

/-- A column chunk of the product. -/
theorem chunk (x0 : Vec Ideal S512x512 .bf16) (x1 : Vec Ideal S512x4096 .bf16) (o : ℕ) (inb) (x : S512x512.Idx) (y : S512x4096.Idx)
    (e0 : (y 0).val = (x 0).val) (e1 : (y 1).val = o + (x 1).val) :
    k0_pay8 (F := Ideal) x0 (View.ld x1 (Rect.unit ![0, o] ![512, 512] inb)) x = prod x0 x1 y := by
  unfold k0_pay8
  refine (congrArg _ (eq_ix2 (n0 := 512) (n1 := 512) x)).trans ((Ideal.matmul_plain_apply none x0 _ _ (x 0) (x 1)).trans ?_)
  show Ideal.ofBits .f32 0x00000000#32 + _ = _
  rw [Ideal.ofBits_zero_f32, zero_add]
  refine Finset.sum_congr rfl fun k _ => congrArg₂ (· * ·) (congrArg x0 ?_) (View.ld_unit_apply_of x1 _ _ inb _ _ fun a => ?_)
  · funext a
    match a with
    | ⟨0, _⟩ => exact Fin.ext e0.symm
    | ⟨1, _⟩ => rfl
  · match a with
    | ⟨0, _⟩ => show k.val = 0 + k.val; omega
    | ⟨1, _⟩ => exact e1

/-- A column chunk of the running sums with the point's product added. -/
theorem chunk_add (x0 : Vec Ideal S512x512 .bf16) (x1 : Vec Ideal S512x4096 .bf16) (xo : Vec Ideal S512x4096 .f32) (o : ℕ) (inb inb')
    (x : S512x512.Idx) (y : S512x4096.Idx) (e0 : (y 0).val = (x 0).val) (e1 : (y 1).val = o + (x 1).val) :
    k0_pay15 (F := Ideal) x0 (View.ld xo (Rect.unit ![0, o] ![512, 512] inb')) (View.ld x1 (Rect.unit ![0, o] ![512, 512] inb)) x
      = xo y + prod x0 x1 y := by
  unfold k0_pay15
  simp only [shapeCast_self]
  refine congrArg₂ (· + ·) (View.ld_unit_apply_of xo _ _ inb' _ _ fun a => ?_) (chunk x0 x1 o inb x y e0 e1)
  match a with
  | ⟨0, _⟩ => show (y 0).val = 0 + (x 0).val; omega
  | ⟨1, _⟩ => exact e1

/-- **The first point of a row block leaves its product.** -/
theorem first (c : Dev nD) (i : grid0.Coords) (a2 : Memref sig .tc .vmem S512x512 .bf16) (h2 : a2.IsWhole)
    (a3 : Memref sig .tc .vmem S512x4096 .bf16) (h3 : a3.IsWhole) (a4 : Memref sig .tc .vmem S512x4096 .f32) (h4 : a4.IsWhole)
    (a5 : Memref sig .tc .vmem S1x4096 .f32) (h5 : a5.IsWhole) (a6 : Memref sig .tc .vmem S1x4096 .f32) (h6 : a6.IsWhole)
    (a7 : Memref sig .tc .vmem S512x4096 .f32) (h7 : a7.IsWhole) (a8 : Memref sig .tc .vmem S512x4096 .bf16) (h8 : a8.IsWhole) (hc0 hc1 hc2)
    (x0 : Vec Ideal S512x512 .bf16) (x1 : Vec Ideal S512x4096 .bf16) (x2 : Vec Ideal S512x4096 .f32) (x3 x4 : Vec Ideal S1x4096 .f32) :
    out0_A_5 (F := Ideal) c i a2 h2 a3 h3 a4 h4 a5 h5 a6 h6 a7 h7 a8 h8 hc0 hc1 hc2 x0 x1 x2 x3 x4 = prod x0 x1 := by
  funext y
  frame_out
  canon_tiles x h
  all_goals exact chunk x0 x1 _ _ x y (by omega) (by omega)

/-- **A point after it adds its product.** -/
theorem next (c : Dev nD) (i : grid0.Coords) (a2 : Memref sig .tc .vmem S512x512 .bf16) (h2 : a2.IsWhole)
    (a3 : Memref sig .tc .vmem S512x4096 .bf16) (h3 : a3.IsWhole) (a4 : Memref sig .tc .vmem S512x4096 .f32) (h4 : a4.IsWhole)
    (a5 : Memref sig .tc .vmem S1x4096 .f32) (h5 : a5.IsWhole) (a6 : Memref sig .tc .vmem S1x4096 .f32) (h6 : a6.IsWhole)
    (a7 : Memref sig .tc .vmem S512x4096 .f32) (h7 : a7.IsWhole) (a8 : Memref sig .tc .vmem S512x4096 .bf16) (h8 : a8.IsWhole) (hc0 hc1 hc2)
    (x0 : Vec Ideal S512x512 .bf16) (x1 : Vec Ideal S512x4096 .bf16) (x2 : Vec Ideal S512x4096 .f32) (x3 x4 : Vec Ideal S1x4096 .f32) (xo : Vec Ideal S512x4096 .f32) :
    out0_B_5 (F := Ideal) c i a2 h2 a3 h3 a4 h4 a5 h5 a6 h6 a7 h7 a8 h8 hc0 hc1 hc2 x0 x1 x2 x3 x4 xo = fun y => xo y + prod x0 x1 y := by
  funext y
  frame_out
  canon_tiles x h
  all_goals exact chunk_add x0 x1 xo _ _ _ x y (by omega) (by omega)

/-- A row block after the norm: the residual, the products, the scale and the shift. -/
def normed (res s : S512x4096.Idx → EReal) (g b : S1x4096.Idx → EReal) : S512x4096.Idx → EReal := fun y =>
  Norm.norm (Norm.row (fun j => res (ix2 (n0 := 512) (n1 := 4096) (y 0) j)) fun j => s (ix2 (n0 := 512) (n1 := 4096) (y 0) j))
    (g (ix2 (n0 := 1) (n1 := 4096) 0 (y 1))) (b (ix2 (n0 := 1) (n1 := 4096) 0 (y 1))) (y 1)

/-- What 128 rows of the norm are taken of. -/
def sums (res s : Vec Ideal S128x4096 .f32) : FVec Ideal S128x4096 .f32 :=
  addf (mulf (broadcast S128x4096 (Scalar.ofBits (F := Ideal) .f32 0x3FD744FD#32)) res) s

/-- The rows' means, a column. -/
def means (u : FVec Ideal S128x4096 .f32) : FVec Ideal S128x1 .f32 :=
  divf (shapeCast S128x1 (multiReduction .add [1] S128 u 0x00000000#32 reduces_S128x4096_S128 (.inl rfl) rfl) shapeCasts_S128_S128x1)
    (broadcast S128x1 (Scalar.ofBits (F := Ideal) .f32 0x45800000#32))

/-- The rows with their means taken away. -/
def centred (u : FVec Ideal S128x4096 .f32) : FVec Ideal S128x4096 .f32 :=
  subf u (broadcastTo S128x4096 (means u) broadcasts_S128x1_S128x4096)

theorem column_apply (v : FVec Ideal S128x1 .f32) (r : Fin 128) (j : Fin 4096) :
    broadcastTo S128x4096 v broadcasts_S128x1_S128x4096 (ix2 r j) = v (ix2 (n0 := 128) (n1 := 1) r 0) := by
  refine broadcastTo_apply _ broadcasts_S128x1_S128x4096 _ _ fun a => ?_
  match a with
  | ⟨0, _⟩ => rfl
  | ⟨1, _⟩ => rfl

theorem line_apply (v : FVec Ideal S1x4096 .f32) (r : Fin 128) (j : Fin 4096) :
    broadcastTo S128x4096 v broadcasts_S1x4096_S128x4096 (ix2 r j) = v (ix2 (n0 := 1) (n1 := 4096) 0 j) := by
  refine broadcastTo_apply _ broadcasts_S1x4096_S128x4096 _ _ fun a => ?_
  match a with
  | ⟨0, _⟩ => rfl
  | ⟨1, _⟩ => rfl

theorem means_apply (u : FVec Ideal S128x4096 .f32) (r : Fin 128) (z : Fin 1) :
    means u (ix2 r z) = Norm.mean fun k => u (ix2 r k) := by
  refine congrArg (fun e : EReal => Ideal.div e (Ideal.ofBits .f32 0x45800000#32)) ?_
  refine (shapeCast_apply _ shapeCasts_S128_S128x1 (ix2 r z) (ix1 r) ?_).trans ?_
  · rw [Shape.rowMajor_val_one, Shape.rowMajor_val_two]
    show r.val = r.val * 1 + z.val
    omega
  · refine (Ideal.multiReduction_add_single (φ := .f32) u 0x00000000#32 reduces_S128x4096_S128 (.inl rfl) rfl (ix1 r)).trans ?_
    refine Finset.sum_congr rfl fun j _ => congrArg u (funext fun a => Fin.ext ?_)
    match a with
    | ⟨0, _⟩ => rfl
    | ⟨1, _⟩ => rfl

theorem centred_apply (u : FVec Ideal S128x4096 .f32) (r : Fin 128) (j : Fin 4096) :
    centred u (ix2 r j) = u (ix2 r j) - Norm.mean fun k => u (ix2 r k) :=
  congrArg (fun e : EReal => u (ix2 r j) - e) ((column_apply _ r j).trans (means_apply u r 0))

/-- The stored rows, in those words. -/
theorem pay6_eq (g b : Vec Ideal S1x4096 .f32) (res s : Vec Ideal S128x4096 .f32) :
    k0_pay6 (F := Ideal) g b res s
      = addf (mulf (mulf (centred (sums res s))
          (broadcastTo S128x4096 (rsqrt (addf (means (mulf (centred (sums res s)) (centred (sums res s))))
            (broadcast S128x1 (Scalar.ofBits (F := Ideal) .f32 0x3727C5AC#32)))) broadcasts_S128x1_S128x4096))
          (broadcastTo S128x4096 g broadcasts_S1x4096_S128x4096)) (broadcastTo S128x4096 b broadcasts_S1x4096_S128x4096) := by
  unfold k0_pay6
  simp only [shapeCast_self]
  rfl

/-- **A stored entry is its row's norm.** -/
theorem pay6_apply (g b : Vec Ideal S1x4096 .f32) (res s : Vec Ideal S128x4096 .f32) (r : Fin 128) (j : Fin 4096) :
    k0_pay6 (F := Ideal) g b res s (ix2 r j)
      = Norm.norm (Norm.row (fun k => res (ix2 r k)) fun k => s (ix2 r k)) (g (ix2 (n0 := 1) (n1 := 4096) 0 j))
          (b (ix2 (n0 := 1) (n1 := 4096) 0 j)) j := by
  rw [pay6_eq]
  have hv : means (mulf (centred (sums res s)) (centred (sums res s))) (ix2 (n0 := 128) (n1 := 1) r 0)
      = Norm.variance fun k => sums res s (ix2 r k) := by
    refine (means_apply _ r 0).trans (congrArg Norm.mean (funext fun k => ?_))
    exact congrArg₂ (· * ·) (centred_apply _ r k) (centred_apply _ r k)
  refine congrArg₂ (fun x y : EReal => x + y) (congrArg₂ (fun x y : EReal => x * y) (congrArg₂ (fun x y : EReal => x * y)
    (centred_apply (sums res s) r j) ((column_apply _ r j).trans ?_)) (line_apply g r j)) (line_apply b r j)
  exact congrArg (fun e : EReal => Ideal.rsqrt (e + Ideal.ofBits .f32 0x3727C5AC#32)) hv

theorem trips_eq : k0_t1_loop.trips = 4 := by decide +kernel

/-- What a trip stores, f32. -/
theorem trip_f32 (c : Dev nD) (i : grid0.Coords) (a2 : Memref sig .tc .vmem S512x512 .bf16) (h2 : a2.IsWhole)
    (a3 : Memref sig .tc .vmem S512x4096 .bf16) (h3 : a3.IsWhole) (a4 : Memref sig .tc .vmem S512x4096 .f32) (h4 : a4.IsWhole)
    (a5 : Memref sig .tc .vmem S1x4096 .f32) (h5 : a5.IsWhole) (a6 : Memref sig .tc .vmem S1x4096 .f32) (h6 : a6.IsWhole)
    (a7 : Memref sig .tc .vmem S512x4096 .f32) (h7 : a7.IsWhole) (a8 : Memref sig .tc .vmem S512x4096 .bf16) (h8 : a8.IsWhole) (h) (v10 v12 : Vec Ideal S1x4096 .f32) (X) (k : Fin k0_t1_loop.trips) (f7) (f8) :
    (trip_k0_t1 (F := Ideal) Variants.none c none i a2 h2 a3 h3 a4 h4 a5 h5 a6 h6 a7 h7 a8 h8 h v10 v12 X k).1 f7 f8
      = [⟨Rect.unit (k0_off1 k) S128x4096.size (k0_off1_inb i k h), k0_pay6 v10 v12
          (View.ld (a4.view.read (Elt Ideal) X) (Rect.unit (s := S512x4096) (k0_off1 k) S128x4096.size (k0_off1_inb i k h)))
          (View.ld (a7.view.read (Elt Ideal) f7) (Rect.unit (s := S512x4096) (k0_off1 k) S128x4096.size (k0_off1_inb i k h)))⟩] := by
  unfold trip_k0_t1
  rfl

/-- And bf16. -/
theorem trip_bf16 (c : Dev nD) (i : grid0.Coords) (a2 : Memref sig .tc .vmem S512x512 .bf16) (h2 : a2.IsWhole)
    (a3 : Memref sig .tc .vmem S512x4096 .bf16) (h3 : a3.IsWhole) (a4 : Memref sig .tc .vmem S512x4096 .f32) (h4 : a4.IsWhole)
    (a5 : Memref sig .tc .vmem S1x4096 .f32) (h5 : a5.IsWhole) (a6 : Memref sig .tc .vmem S1x4096 .f32) (h6 : a6.IsWhole)
    (a7 : Memref sig .tc .vmem S512x4096 .f32) (h7 : a7.IsWhole) (a8 : Memref sig .tc .vmem S512x4096 .bf16) (h8 : a8.IsWhole) (h) (v10 v12 : Vec Ideal S1x4096 .f32) (X) (k : Fin k0_t1_loop.trips) (f7) (f8) :
    (trip_k0_t1 (F := Ideal) Variants.none c none i a2 h2 a3 h3 a4 h4 a5 h5 a6 h6 a7 h7 a8 h8 h v10 v12 X k).2.1 f7 f8
      = [⟨Rect.unit (k0_off1 k) S128x4096.size (k0_off1_inb i k h), k0_pay6 (F := Ideal) v10 v12
          (View.ld (a4.view.read (Elt Ideal) X) (Rect.unit (s := S512x4096) (k0_off1 k) S128x4096.size (k0_off1_inb i k h)))
          (View.ld (a7.view.read (Elt Ideal) f7) (Rect.unit (s := S512x4096) (k0_off1 k) S128x4096.size (k0_off1_inb i k h)))⟩] := by
  unfold trip_k0_t1
  rfl

theorem rows_val (k : Fin k0_t1_loop.trips) (inb) (x : S128x4096.Idx) :
    (((Rect.unit (s := S512x4096) (k0_off1 k) S128x4096.size inb).emb x) 0).val = 128 * k.val + (x 0).val ∧
    (((Rect.unit (s := S512x4096) (k0_off1 k) S128x4096.size inb).emb x) 1).val = (x 1).val := by
  refine ⟨(Rect.idx_unit_val _ _ _ _ _).trans ?_, (Rect.idx_unit_val _ _ _ _ _).trans ?_⟩
  · exact congrArg (· + (x 0).val) (congrFun (k0_off1_eq k) 0)
  · exact (congrArg (· + (x 1).val) (congrFun (k0_off1_eq k) 1)).trans (Nat.zero_add _)

theorem rows_mem (k : Fin k0_t1_loop.trips) (inb) (y : S512x4096.Idx) :
    y ∈ (Rect.unit (s := S512x4096) (k0_off1 k) S128x4096.size inb).set ↔ 128 * k.val ≤ (y 0).val ∧ (y 0).val < 128 * k.val + 128 := by
  have h1 : (y 1).val < 4096 := (y 1).isLt
  rw [Rect.mem_set_unit, k0_off1_eq]
  constructor
  · intro h; exact h 0
  · intro h a
    match a with
    | ⟨0, _⟩ => exact h
    | ⟨1, _⟩ => exact ⟨Nat.zero_le _, (Nat.zero_add 4096).symm ▸ h1⟩

/-- The rows a trip stores are the norm of its rows, if the sums it reads there are still `s`. -/
theorem stored (g b : Vec Ideal S1x4096 .f32) (res s s' : Vec Ideal S512x4096 .f32) (k : Fin k0_t1_loop.trips) (inb)
    (hs : ∀ y : S512x4096.Idx, 128 * k.val ≤ (y 0).val → s' y = s y) (x : S128x4096.Idx) :
    k0_pay6 (F := Ideal) g b (View.ld res (Rect.unit (s := S512x4096) (k0_off1 k) S128x4096.size inb))
        (View.ld s' (Rect.unit (s := S512x4096) (k0_off1 k) S128x4096.size inb)) x
      = normed res s g b ((Rect.unit (s := S512x4096) (k0_off1 k) S128x4096.size inb).emb x) := by
  have hr : ∀ j : Fin 4096, (Rect.unit (s := S512x4096) (k0_off1 k) S128x4096.size inb).emb (ix2 (n0 := 128) (n1 := 4096) (x 0) j)
      = ix2 (n0 := 512) (n1 := 4096) (((Rect.unit (s := S512x4096) (k0_off1 k) S128x4096.size inb).emb x) 0) j := by
    intro j
    funext a
    match a with
    | ⟨0, _⟩ => exact Fin.ext ((rows_val k inb _).1.trans (rows_val k inb x).1.symm)
    | ⟨1, _⟩ => exact Fin.ext (rows_val k inb _).2
  have hj : ((Rect.unit (s := S512x4096) (k0_off1 k) S128x4096.size inb).emb x) 1 = x 1 := Fin.ext (rows_val k inb x).2
  refine (congrArg _ (eq_ix2 (n0 := 128) (n1 := 4096) x)).trans ((pay6_apply g b _ _ (x 0) (x 1)).trans ?_)
  unfold normed
  rw [hj]
  have e1 : (fun j : Fin 4096 => View.ld res (Rect.unit (s := S512x4096) (k0_off1 k) S128x4096.size inb) (ix2 (n0 := 128) (n1 := 4096) (x 0) j))
      = fun j => res (ix2 (n0 := 512) (n1 := 4096) (((Rect.unit (s := S512x4096) (k0_off1 k) S128x4096.size inb).emb x) 0) j) :=
    funext fun j => congrArg res (hr j)
  have e2 : (fun j : Fin 4096 => View.ld s' (Rect.unit (s := S512x4096) (k0_off1 k) S128x4096.size inb) (ix2 (n0 := 128) (n1 := 4096) (x 0) j))
      = fun j => s (ix2 (n0 := 512) (n1 := 4096) (((Rect.unit (s := S512x4096) (k0_off1 k) S128x4096.size inb).emb x) 0) j) := by
    funext j
    refine (congrArg s' (hr j)).trans (hs _ ?_)
    show 128 * k.val ≤ (((Rect.unit (s := S512x4096) (k0_off1 k) S128x4096.size inb).emb x) 0).val
    rw [(rows_val k inb x).1]
    omega
  exact congrArg₂ (fun p q => Norm.norm (Norm.row p q) (g (ix2 (n0 := 1) (n1 := 4096) 0 (x 1))) (b (ix2 (n0 := 1) (n1 := 4096) 0 (x 1))) (x 1)) e1 e2

/-- Pieces that hold the first `n` rows of one function, and no more. -/
def Holds {e : EltTy} (G : S512x4096.Idx → Elt Ideal e) (n : ℕ) (L : List (View.Piece (Elt Ideal) S512x4096 e)) : Prop :=
  (∀ p ∈ L, ∀ x : p.1.shape.Idx, p.2 x = G (p.1.emb x)) ∧ (∀ p ∈ L, ∀ y ∈ p.1.set, (y 0).val < n) ∧
    ∀ y : S512x4096.Idx, (y 0).val < n → ∃ p ∈ L, y ∈ p.1.set

theorem holds_cons {e : EltTy} (G : S512x4096.Idx → Elt Ideal e) (k : Fin k0_t1_loop.trips) (L : List (View.Piece (Elt Ideal) S512x4096 e))
    (inb) (w) (hL : Holds G (128 * k.val) L)
    (hw : ∀ x : S128x4096.Idx, w x = G ((Rect.unit (s := S512x4096) (k0_off1 k) S128x4096.size inb).emb x)) :
    Holds G (128 * (k.val + 1)) (⟨Rect.unit (s := S512x4096) (k0_off1 k) S128x4096.size inb, w⟩ :: L) := by
  obtain ⟨h1, h2, h3⟩ := hL
  refine ⟨fun p hp => ?_, fun p hp y hy => ?_, fun y hy => ?_⟩
  · rcases List.mem_cons.mp hp with rfl | hp
    · exact hw
    · exact h1 p hp
  · rcases List.mem_cons.mp hp with rfl | hp
    · have := ((rows_mem k inb y).mp hy).2; omega
    · have := h2 p hp y hy; omega
  · by_cases hk : (y 0).val < 128 * k.val
    · obtain ⟨p, hp, hyp⟩ := h3 y hk
      exact ⟨p, List.mem_cons_of_mem _ hp, hyp⟩
    · exact ⟨_, List.mem_cons_self, (rows_mem k inb y).mpr ⟨by omega, by omega⟩⟩

/-- **The norm's trips**: after `n` of them both outputs hold the norm of the first `128 n` rows; the rows a trip reads are
    still the sums, since the trips before it wrote other rows. -/
theorem trips (c : Dev nD) (i : grid0.Coords) (a2 : Memref sig .tc .vmem S512x512 .bf16) (h2 : a2.IsWhole)
    (a3 : Memref sig .tc .vmem S512x4096 .bf16) (h3 : a3.IsWhole) (a4 : Memref sig .tc .vmem S512x4096 .f32) (h4 : a4.IsWhole)
    (a5 : Memref sig .tc .vmem S1x4096 .f32) (h5 : a5.IsWhole) (a6 : Memref sig .tc .vmem S1x4096 .f32) (h6 : a6.IsWhole)
    (a7 : Memref sig .tc .vmem S512x4096 .f32) (h7 : a7.IsWhole) (a8 : Memref sig .tc .vmem S512x4096 .bf16) (h8 : a8.IsWhole) (h) (v10 v12 : Vec Ideal S1x4096 .f32) (X) (G7) (G8) (res s : Vec Ideal S512x4096 .f32)
    (hX : a4.view.read (Elt Ideal) X = res) (hG : a7.view.read (Elt Ideal) G7 = s) (n : ℕ) (hn : n ≤ k0_t1_loop.trips) :
    Holds (e := .f32) (normed res s v10 v12) (128 * n) (pb_k0_t1 (F := Ideal) Variants.none c none i a2 h2 a3 h3 a4 h4 a5 h5 a6 h6 a7 h7 a8 h8 h v10 v12 X G7 G8 n).1 ∧
      Holds (e := .bf16) (normed res s v10 v12) (128 * n) (pb_k0_t1 (F := Ideal) Variants.none c none i a2 h2 a3 h3 a4 h4 a5 h5 a6 h6 a7 h7 a8 h8 h v10 v12 X G7 G8 n).2 := by
  induction n with
  | zero =>
    constructor <;> exact ⟨fun p hp => absurd hp List.not_mem_nil, fun p hp => absurd hp List.not_mem_nil, fun y hy => absurd hy (Nat.not_lt_zero _)⟩
  | succ n ih =>
    obtain ⟨i5, i6⟩ := ih (by omega)
    have e := pb_k0_t1_succ (F := Ideal) Variants.none c none i a2 h2 a3 h3 a4 h4 a5 h5 a6 h6 a7 h7 a8 h8 h v10 v12 X G7 G8 ⟨n, hn⟩
    have hs : ∀ y : S512x4096.Idx, 128 * n ≤ (y 0).val →
        a7.view.read (Elt Ideal) (a7.view.writes (Elt Ideal) G7 (pb_k0_t1 (F := Ideal) Variants.none c none i a2 h2 a3 h3 a4 h4 a5 h5 a6 h6 a7 h7 a8 h8 h v10 v12 X G7 G8 n).1) y = s y := by
      intro y hy
      rw [View.read_writes_apply_of_forall_not_mem, hG]
      intro p hp hm
      have := i5.2.1 p hp y hm
      omega
    rw [e]
    dsimp only [tripL_k0_t1]
    rw [trip_f32, trip_bf16, hX]
    exact ⟨holds_cons _ ⟨n, hn⟩ _ _ _ i5 (stored v10 v12 res s _ ⟨n, hn⟩ _ hs), holds_cons _ ⟨n, hn⟩ _ _ _ i6 (stored v10 v12 res s _ ⟨n, hn⟩ _ hs)⟩

/-- **The last point normalises the row block.** -/
theorem last (c : Dev nD) (i : grid0.Coords) (a2 : Memref sig .tc .vmem S512x512 .bf16) (h2 : a2.IsWhole)
    (a3 : Memref sig .tc .vmem S512x4096 .bf16) (h3 : a3.IsWhole) (a4 : Memref sig .tc .vmem S512x4096 .f32) (h4 : a4.IsWhole)
    (a5 : Memref sig .tc .vmem S1x4096 .f32) (h5 : a5.IsWhole) (a6 : Memref sig .tc .vmem S1x4096 .f32) (h6 : a6.IsWhole)
    (a7 : Memref sig .tc .vmem S512x4096 .f32) (h7 : a7.IsWhole) (a8 : Memref sig .tc .vmem S512x4096 .bf16) (h8 : a8.IsWhole) (hc0 hc1 hc2)
    (x0 : Vec Ideal S512x512 .bf16) (x1 : Vec Ideal S512x4096 .bf16) (x2 : Vec Ideal S512x4096 .f32) (x3 x4 : Vec Ideal S1x4096 .f32) (xo : Vec Ideal S512x4096 .f32) :
    out0_C_5 (F := Ideal) c i a2 h2 a3 h3 a4 h4 a5 h5 a6 h6 a7 h7 a8 h8 hc0 hc1 hc2 x0 x1 x2 x3 x4 xo = normed x2 (fun y => xo y + prod x0 x1 y) x3 x4 := by
  funext y
  have hy : (y 0).val < 128 * k0_t1_loop.trips := by rw [trips_eq]; exact (y 0).isLt
  have H := fun L hG => trips c i a2 h2 a3 h3 a4 h4 a5 h5 a6 h6 a7 h7 a8 h8 hc2 x3 x4 (h4.unread x2) (a7.view.writes (Elt Ideal) a7.view.junk L)
    a8.view.junk x2 (fun y => xo y + prod x0 x1 y) (h4.read_unread x2) hG k0_t1_loop.trips le_rfl
  frame_out
  refine View.canon_append_of_pieces (normed x2 (fun y => xo y + prod x0 x1 y) x3 x4) _ _ (H _ ?_).1.1 y ((H _ ?_).1.2.2 y hy)
  all_goals
    funext z
    refine (View.read_writes_apply_eq_canon _ _ z _ (View.cover_of_tiledL (s := S512x4096) _ ![512, 512] (by sl_kernel_rfl) z)).trans ?_
    canon_tiles x h
    all_goals exact chunk_add x0 x1 xo _ _ _ x z (by omega) (by omega)

/-- **And writes it in bf16.** -/
theorem last_bf16 (c : Dev nD) (i : grid0.Coords) (a2 : Memref sig .tc .vmem S512x512 .bf16) (h2 : a2.IsWhole)
    (a3 : Memref sig .tc .vmem S512x4096 .bf16) (h3 : a3.IsWhole) (a4 : Memref sig .tc .vmem S512x4096 .f32) (h4 : a4.IsWhole)
    (a5 : Memref sig .tc .vmem S1x4096 .f32) (h5 : a5.IsWhole) (a6 : Memref sig .tc .vmem S1x4096 .f32) (h6 : a6.IsWhole)
    (a7 : Memref sig .tc .vmem S512x4096 .f32) (h7 : a7.IsWhole) (a8 : Memref sig .tc .vmem S512x4096 .bf16) (h8 : a8.IsWhole) (hc0 hc1 hc2)
    (x0 : Vec Ideal S512x512 .bf16) (x1 : Vec Ideal S512x4096 .bf16) (x2 : Vec Ideal S512x4096 .f32) (x3 x4 : Vec Ideal S1x4096 .f32) (xo : Vec Ideal S512x4096 .f32) :
    out0_C_6 (F := Ideal) c i a2 h2 a3 h3 a4 h4 a5 h5 a6 h6 a7 h7 a8 h8 hc0 hc1 hc2 x0 x1 x2 x3 x4 xo = normed x2 (fun y => xo y + prod x0 x1 y) x3 x4 := by
  funext y
  have hy : (y 0).val < 128 * k0_t1_loop.trips := by rw [trips_eq]; exact (y 0).isLt
  have H := fun L hG => trips c i a2 h2 a3 h3 a4 h4 a5 h5 a6 h6 a7 h7 a8 h8 hc2 x3 x4 (h4.unread x2) (a7.view.writes (Elt Ideal) a7.view.junk L)
    a8.view.junk x2 (fun y => xo y + prod x0 x1 y) (h4.read_unread x2) hG k0_t1_loop.trips le_rfl
  frame_out
  refine View.canon_apply_of_pieces (normed x2 (fun y => xo y + prod x0 x1 y) x3 x4) _ (H _ ?_).2.1 y ((H _ ?_).2.2.2 y hy)
  all_goals
    funext z
    refine (View.read_writes_apply_eq_canon _ _ z _ (View.cover_of_tiledL (s := S512x4096) _ ![512, 512] (by sl_kernel_rfl) z)).trans ?_
    canon_tiles x h
    all_goals exact chunk_add x0 x1 xo _ _ _ x z (by omega) (by omega)

end Cert.OutIdeal.Result

end
-- ==== Proof.Ln.OutIdeal.Sums.lean ====
module

public import proofs.«01_k».proof.Proof.Ln.OutIdeal.Steps

@[expose] public section

/-!
# The running sums over the grid

The 8 points of a row block add their products one after another; the last normalises what they come to. Read over the
whole arrays: a row block ends as the norm of the residual's rows and the full products' rows.
-/

set_option maxRecDepth 16384

noncomputable section

open Idealize.ShloMosaic Idealize.ShloMosaic.TcCoe Idealize.SL.Sem Idealize.ShloMosaic.ValueIdx
open Idealize.ShloMosaic.Pipeline (Dat)

namespace Cert.OutIdeal.Result

open Cert.OutIdeal Cert.OutIdeal.Gen

variable (m : (ℓ : Loc nD τ sig) → Buf (Elt Ideal) ℓ)

/-- The rows. -/
abbrev rows (c : Dev nD) : S8192x4096.Idx → EReal := m ((c.tc : Thread nD τ).loc main_arg0)
/-- The weights. -/
abbrev weights (c : Dev nD) : S4096x4096.Idx → EReal := m ((c.tc : Thread nD τ).loc main_arg1)
/-- The residual. -/
abbrev residual (c : Dev nD) : S8192x4096.Idx → EReal := m ((c.tc : Thread nD τ).loc main_arg2)
/-- The norm's scale. -/
abbrev scale (c : Dev nD) : S4096.Idx → EReal := m ((c.tc : Thread nD τ).loc main_arg3)
/-- The norm's shift. -/
abbrev shift (c : Dev nD) : S4096.Idx → EReal := m ((c.tc : Thread nD τ).loc main_arg4)

/-- The product of two arrays, at a row and a column. -/
def product (x : S8192x4096.Idx → EReal) (w : S4096x4096.Idx → EReal) (i : Fin 8192) (j : Fin 4096) : EReal :=
  ∑ k : Fin 4096, x (ix2 (n0 := 8192) (n1 := 4096) i k) * w (ix2 (n0 := 4096) (n1 := 4096) k j)

/-- What the layer computes: the norm of the scaled residual plus the product, row by row. -/
def result (x : S8192x4096.Idx → EReal) (w : S4096x4096.Idx → EReal) (res : S8192x4096.Idx → EReal) (g b : S4096.Idx → EReal) :
    S8192x4096.Idx → EReal := fun y =>
  Norm.norm (Norm.row (fun j => res (ix2 (n0 := 8192) (n1 := 4096) (y 0) j)) (product x w (y 0)))
    (g (ix1 (n := 4096) (y 1))) (b (ix1 (n := 4096) (y 1))) (y 1)

theorem result_apply (x : S8192x4096.Idx → EReal) (w : S4096x4096.Idx → EReal) (res : S8192x4096.Idx → EReal) (g b : S4096.Idx → EReal)
    (y : Fin 8192) (j : Fin 4096) : result x w res g b (ix2 y j)
      = Norm.norm (Norm.row (fun k => res (ix2 y k)) (product x w y)) (g (ix1 j)) (b (ix1 j)) j := rfl

/-- A term of the product's sum, nothing past its end. -/
def term (x : S8192x4096.Idx → EReal) (w : S4096x4096.Idx → EReal) (i : Fin 8192) (j : Fin 4096) (k : ℕ) : EReal :=
  if h : k < 4096 then x (ix2 (n0 := 8192) (n1 := 4096) i ⟨k, h⟩) * w (ix2 (n0 := 4096) (n1 := 4096) ⟨k, h⟩ j) else 0

/-- The sum taken 512 terms at a time is the product. -/
theorem product_eq (x : S8192x4096.Idx → EReal) (w : S4096x4096.Idx → EReal) (i : Fin 8192) (j : Fin 4096) :
    ∑ k ∈ Finset.range 8, ∑ l : Fin 512, term x w i j (512 * k + l.val) = product x w i j := by
  rw [Norm.sum_runs, show 512 * 8 = 4096 from rfl, Finset.sum_range]
  exact Finset.sum_congr rfl fun k _ => dif_pos k.isLt

theorem N_eq : cfg0.N = 128 := N_0

theorem index0 : ∀ t : Fin grid0.N, win0_0.index t 0 = t.val / 8 ∧ win0_0.index t 1 = t.val % 8 := by decide +kernel
theorem index1 : ∀ t : Fin grid0.N, win0_1.index t 0 = t.val % 8 ∧ win0_1.index t 1 = 0 := by decide +kernel
theorem index2 : ∀ t : Fin grid0.N, win0_2.index t 0 = t.val / 8 ∧ win0_2.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = t.val / 8 ∧ win0_5.index t 1 = 0 := by decide +kernel
theorem index6 : ∀ t : Fin grid0.N, win0_6.index t 0 = t.val / 8 ∧ win0_6.index t 1 = 0 := by decide +kernel
theorem flush5 : ∀ t : Fin grid0.N, win0_5.flush t = decide (t.val % 8 = 7) := by decide +kernel
theorem flush6 : ∀ t : Fin grid0.N, win0_6.flush t = decide (t.val % 8 = 7) := by decide +kernel

/-- The block of rows. -/
theorem rows_block (c : Dev nD) (t : Fin cfg0.N) (r k : Fin 512) (y : Fin 8192) (z : Fin 4096) (hy : y.val = 512 * (t.val / 8) + r.val)
    (hz : z.val = 512 * (t.val % 8) + k.val) :
    (iblk m c 0 t : Vec Ideal S512x512 .bf16) (ix2 r k) = rows m c (ix2 y z) := by
  unfold iblk
  rw [View.read_apply]
  show V m c main_arg0 _ = _
  rw [V_main_arg0]
  refine congrArg (rows m c) (funext fun a => Fin.ext ?_)
  match a with
  | ⟨0, _⟩ => show win0_0.index t 0 * 512 + 1 * r.val = y.val; rw [(index0 t).1]; omega
  | ⟨1, _⟩ => show win0_0.index t 1 * 512 + 1 * k.val = z.val; rw [(index0 t).2]; omega

/-- The block of weights. -/
theorem weights_block (c : Dev nD) (t : Fin cfg0.N) (k : Fin 512) (j : Fin 4096) (z : Fin 4096) (hz : z.val = 512 * (t.val % 8) + k.val) :
    (iblk m c 1 t : Vec Ideal S512x4096 .bf16) (ix2 k j) = weights m c (ix2 z j) := by
  unfold iblk
  rw [View.read_apply]
  show V m c main_arg1 _ = _
  rw [V_main_arg1]
  refine congrArg (weights m c) (funext fun a => Fin.ext ?_)
  match a with
  | ⟨0, _⟩ => show win0_1.index t 0 * 512 + 1 * k.val = z.val; rw [(index1 t).1]; omega
  | ⟨1, _⟩ => show win0_1.index t 1 * 4096 + 1 * j.val = j.val; rw [(index1 t).2]; omega

/-- The block of the residual. -/
theorem residual_block (c : Dev nD) (t : Fin cfg0.N) (r : Fin 512) (j : Fin 4096) (y : Fin 8192) (hy : y.val = 512 * (t.val / 8) + r.val) :
    (iblk m c 2 t : Vec Ideal S512x4096 .f32) (ix2 r j) = residual m c (ix2 y j) := by
  unfold iblk
  rw [View.read_apply]
  show V m c main_arg2 _ = _
  rw [V_main_arg2]
  refine congrArg (residual m c) (funext fun a => Fin.ext ?_)
  match a with
  | ⟨0, _⟩ => show win0_2.index t 0 * 512 + 1 * r.val = y.val; rw [(index2 t).1]; omega
  | ⟨1, _⟩ => show win0_2.index t 1 * 4096 + 1 * j.val = j.val; rw [(index2 t).2]; omega

/-- The scale as the kernel finds it: a row of one. -/
theorem V_scale (c : Dev nD) : V m c main_v0 = shapeCast S1x4096 (scale m c) shapeCasts_S4096_S1x4096 := by
  unfold V hostOps0; after_results_simp; rfl

/-- The shift as the kernel finds it. -/
theorem V_shift (c : Dev nD) : V m c main_v1 = shapeCast S1x4096 (shift m c) shapeCasts_S4096_S1x4096 := by
  unfold V hostOps0; after_results_simp; rfl

/-- A row of one, read. -/
theorem line_of (v : S4096.Idx → EReal) (y : S1x4096.Idx) (j : Fin 4096) (h0 : (y 0).val = 0) (h1 : (y 1).val = j.val) :
    shapeCast S1x4096 v shapeCasts_S4096_S1x4096 y = v (ix1 j) := by
  refine shapeCast_apply _ shapeCasts_S4096_S1x4096 y (ix1 j) ?_
  rw [Shape.rowMajor_val_one, Shape.rowMajor_val_two]
  show j.val = (y 0).val * 4096 + (y 1).val
  omega

/-- The block of the scale. -/
theorem scale_block (c : Dev nD) (t : Fin cfg0.N) (j : Fin 4096) :
    (iblk m c 3 t : Vec Ideal S1x4096 .f32) (ix2 (n0 := 1) (n1 := 4096) 0 j) = scale m c (ix1 j) := by
  unfold iblk
  rw [View.read_apply]
  show V m c main_v0 _ = _
  rw [V_scale]
  refine line_of _ _ j ?_ ?_
  · show win0_3.index t 0 * 1 + 1 * 0 = 0; rw [(index3 t).1]
  · show win0_3.index t 1 * 4096 + 1 * j.val = j.val; rw [(index3 t).2]; omega

/-- The block of the shift. -/
theorem shift_block (c : Dev nD) (t : Fin cfg0.N) (j : Fin 4096) :
    (iblk m c 4 t : Vec Ideal S1x4096 .f32) (ix2 (n0 := 1) (n1 := 4096) 0 j) = shift m c (ix1 j) := by
  unfold iblk
  rw [View.read_apply]
  show V m c main_v1 _ = _
  rw [V_shift]
  refine line_of _ _ j ?_ ?_
  · show win0_4.index t 0 * 1 + 1 * 0 = 0; rw [(index4 t).1]
  · show win0_4.index t 1 * 4096 + 1 * j.val = j.val; rw [(index4 t).2]; omega

/-- A point's product, entry by entry. -/
theorem prod_apply (c : Dev nD) (t : Fin cfg0.N) (r : Fin 512) (j : Fin 4096) (y : Fin 8192) (hy : y.val = 512 * (t.val / 8) + r.val) :
    prod (iblk m c 0 t) (iblk m c 1 t) (ix2 r j) = ∑ l : Fin 512, term (rows m c) (weights m c) y j (512 * (t.val % 8) + l.val) := by
  refine Finset.sum_congr rfl fun l _ => ?_
  have hl : l.val < 512 := l.isLt
  have hz : 512 * (t.val % 8) + l.val < 4096 := by omega
  refine (congrArg₂ (fun p q : EReal => p * q) (rows_block m c t r l y ⟨_, hz⟩ hy rfl) (weights_block m c t l j ⟨_, hz⟩ rfl)).trans ?_
  unfold term
  rw [dif_pos hz]

set_option maxHeartbeats 4000000 in
/-- The first point of a row block. -/
theorem at_first (c : Dev nD) (t : Fin cfg0.N) (h0 : t.val % 8 = 0) (r : Fin 512) (j : Fin 4096) :
    (outsAt0 m c t.val t.isLt).1 (ix2 r j) = prod (iblk m c 0 t) (iblk m c 1 t) (ix2 r j) := by
  have h1 : ¬1 ≤ t.val % 8 := by omega
  have h2 : ¬t.val % 8 = 7 := by omega
  exact congrFun ((congrArg Prod.fst (outsAt0_A m c t h0 h1 h2)).trans (first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (fun h => h1 ((hcond0_1 t).mp h)) (fun h => h2 ((hcond0_2 t).mp h)) (iblk m c 0 t) (iblk m c 1 t) (iblk m c 2 t) (iblk m c 3 t) (iblk m c 4 t))) _

set_option maxHeartbeats 4000000 in
/-- The points after it but the last. -/
theorem at_next (c : Dev nD) (t : Fin cfg0.N) (h0 : ¬t.val % 8 = 0) (h2 : ¬t.val % 8 = 7) (r : Fin 512) (j : Fin 4096) :
    (outsAt0 m c t.val t.isLt).1 (ix2 r j) = (outsAt0 m c (t.val - 1) (Nat.lt_of_le_of_lt (Nat.sub_le _ _) t.isLt)).1 (ix2 r j)
      + prod (iblk m c 0 t) (iblk m c 1 t) (ix2 r j) := by
  have h1 : 1 ≤ t.val % 8 := by omega
  exact congrFun ((congrArg Prod.fst (outsAt0_B m c t h0 h1 h2)).trans (next c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1)) _

/-- **The running sums**: before the last point of a row block, the products of the points so far. -/
theorem running (c : Dev nD) : ∀ (n : ℕ) (hn : n < cfg0.N) (_ : n % 8 ≤ 6) (r : Fin 512) (j : Fin 4096) (y : Fin 8192)
    (_ : y.val = 512 * (n / 8) + r.val), (outsAt0 m c n hn).1 (ix2 r j)
      = ∑ k ∈ Finset.range (n % 8 + 1), ∑ l : Fin 512, term (rows m c) (weights m c) y j (512 * k + l.val) := by
  intro n
  induction n with
  | zero =>
    intro hn hr r j y hy
    refine (at_first m c ⟨0, hn⟩ (Nat.zero_mod _) r j).trans ((prod_apply m c ⟨0, hn⟩ r j y hy).trans ?_)
    simp only [Nat.zero_mod, Nat.zero_add, Finset.sum_range_one]
  | succ n ih =>
    intro hn hr r j y hy
    by_cases h0 : (n + 1) % 8 = 0
    · refine (at_first m c ⟨n + 1, hn⟩ h0 r j).trans ((prod_apply m c ⟨n + 1, hn⟩ r j y hy).trans ?_)
      simp only [h0, Nat.zero_add, Finset.sum_range_one]
    · have h2 : ¬(n + 1) % 8 = 7 := by omega
      refine (at_next m c ⟨n + 1, hn⟩ h0 h2 r j).trans ?_
      refine (congrArg₂ (fun p q : EReal => p + q) (ih (Nat.lt_of_succ_lt hn) (by omega) r j y (by omega)) (prod_apply m c ⟨n + 1, hn⟩ r j y hy)).trans ?_
      show _ + (∑ l : Fin 512, term (rows m c) (weights m c) y j (512 * ((n + 1) % 8) + l.val)) = _
      rw [show n % 8 + 1 = (n + 1) % 8 from by omega, Finset.sum_range_succ]

/-- The sums the last point normalises: the whole products. -/
theorem whole (c : Dev nD) (t : Fin cfg0.N) (ht : t.val % 8 = 7) (h) (r : Fin 512) (j : Fin 4096) (y : Fin 8192)
    (hy : y.val = 512 * (t.val / 8) + r.val) :
    (outsAt0 m c (t.val - 1) h).1 (ix2 r j) + prod (iblk m c 0 t) (iblk m c 1 t) (ix2 r j) = product (rows m c) (weights m c) y j := by
  rw [running m c (t.val - 1) h (by omega) r j y (by omega), prod_apply m c t r j y hy, ← product_eq,
    show (t.val - 1) % 8 + 1 = 7 from by omega, ht, Finset.sum_range_succ _ 7]

/-- What the last point leaves, read over the whole arrays. -/
theorem normed_apply (c : Dev nD) (t : Fin cfg0.N) (ht : t.val % 8 = 7) (h) (r : Fin 512) (j : Fin 4096) (y : Fin 8192)
    (hy : y.val = 512 * (t.val / 8) + r.val) :
    normed (iblk m c 2 t) (fun i => (outsAt0 m c (t.val - 1) h).1 i + prod (iblk m c 0 t) (iblk m c 1 t) i) (iblk m c 3 t) (iblk m c 4 t) (ix2 r j)
      = result (rows m c) (weights m c) (residual m c) (scale m c) (shift m c) (ix2 y j) := by
  have e1 : (fun k : Fin 4096 => (iblk m c 2 t : Vec Ideal S512x4096 .f32) (ix2 r k)) = fun k => residual m c (ix2 y k) :=
    funext fun k => residual_block m c t r k y hy
  have e2 : (fun k : Fin 4096 => (outsAt0 m c (t.val - 1) h).1 (ix2 r k) + prod (iblk m c 0 t) (iblk m c 1 t) (ix2 r k))
      = product (rows m c) (weights m c) y := funext fun k => whole m c t ht h r k y hy
  show Norm.norm (Norm.row (fun k : Fin 4096 => (iblk m c 2 t : Vec Ideal S512x4096 .f32) (ix2 r k))
      (fun k : Fin 4096 => (outsAt0 m c (t.val - 1) h).1 (ix2 r k) + prod (iblk m c 0 t) (iblk m c 1 t) (ix2 r k)))
      ((iblk m c 3 t : Vec Ideal S1x4096 .f32) (ix2 (n0 := 1) (n1 := 4096) 0 j))
      ((iblk m c 4 t : Vec Ideal S1x4096 .f32) (ix2 (n0 := 1) (n1 := 4096) 0 j)) j = _
  rw [e1, e2, scale_block, shift_block]
  exact (result_apply _ _ _ _ _ y j).symm

/-- **The last point's f32 block.** -/
theorem leaves5 (c : Dev nD) (t : Fin cfg0.N) (ht : t.val % 8 = 7) (r : Fin 512) (j : Fin 4096) (y : Fin 8192)
    (hy : y.val = 512 * (t.val / 8) + r.val) :
    (outsAt0 m c t.val t.isLt).1 (ix2 r j) = result (rows m c) (weights m c) (residual m c) (scale m c) (shift m c) (ix2 y j) := by
  have h0 : ¬t.val % 8 = 0 := by omega
  have h1 : 1 ≤ t.val % 8 := by omega
  exact (congrFun ((congrArg Prod.fst (outsAt0_C m c t h0 h1 ht)).trans (last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) ((hcond0_2 t).mpr ht) (iblk m c 0 t) (iblk m c 1 t) (iblk m c 2 t) (iblk m c 3 t) (iblk m c 4 t) (outsAt0 m c (t.val - 1) (Nat.lt_of_le_of_lt (Nat.sub_le _ _) t.isLt)).1)) _).trans (normed_apply m c t ht _ r j y hy)

/-- **Its bf16 block.** -/
theorem leaves6 (c : Dev nD) (t : Fin cfg0.N) (ht : t.val % 8 = 7) (r : Fin 512) (j : Fin 4096) (y : Fin 8192)
    (hy : y.val = 512 * (t.val / 8) + r.val) :
    (outsAt0 m c t.val t.isLt).2 (ix2 r j) = result (rows m c) (weights m c) (residual m c) (scale m c) (shift m c) (ix2 y j) := by
  have h0 : ¬t.val % 8 = 0 := by omega
  have h1 : 1 ≤ t.val % 8 := by omega
  exact (congrFun ((congrArg Prod.snd (outsAt0_C m c t h0 h1 ht)).trans (last_bf16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) ((hcond0_2 t).mpr ht) (iblk m c 0 t) (iblk m c 1 t) (iblk m c 2 t) (iblk m c 3 t) (iblk m c 4 t) (outsAt0 m c (t.val - 1) (Nat.lt_of_le_of_lt (Nat.sub_le _ _) t.isLt)).1)) _).trans (normed_apply m c t ht _ r j y hy)

end Cert.OutIdeal.Result

end
-- ==== Proof.Mm.Out.lean ====
module

public import proofs.«01_k».proof.Defs
public import proofs.«01_k».proof.Proof.Gen.Out
public import proofs.«01_k».proof.Proof.Ln.OutIdeal.Sums
public import proofs.«01_k».proof.Proof.Gen.OutRefIdeal.Read

@[expose] public section

/-!
# The output projection with its residual and layer norm

The grid's row blocks tile both results, each written back after the last of its points; the reference's chain of
operations, read at an entry, is the same norm of the same row.
-/

set_option maxRecDepth 16384

noncomputable section

open Idealize.ShloMosaic Idealize.ShloMosaic.TcCoe Idealize.SL.Sem Idealize.ShloMosaic.ValueIdx
open Idealize.ShloMosaic.Pipeline (Dat)

namespace Cert.OutIdeal.Result

open Cert.OutIdeal Cert.OutIdeal.Gen

section Reference

open Cert.OutRefIdeal.Read

variable (x : S8192x4096.Idx → EReal) (w : S4096x4096.Idx → EReal) (res : S8192x4096.Idx → EReal) (g b : S4096.Idx → EReal)

/-- The reference's row before the norm. -/
theorem ref_row (i : Fin 8192) (j : Fin 4096) :
    val_main_v3 (F := Ideal) x w res (ix2 i j) = Norm.row (fun k => res (ix2 i k)) (product x w i) j := by
  refine congrArg₂ (fun p q : EReal => p + q) ?_ ((val_main_v2_apply x w _).trans ?_)
  · exact congrArg (fun e : EReal => e * res (ix2 i j)) (val_main_v0_apply _)
  · refine Finset.sum_congr rfl fun k _ => congrArg₂ (fun p q : EReal => p * q) (congrArg x ?_) (congrArg w ?_)
    all_goals
      funext a
      match a with
      | ⟨0, _⟩ => rfl
      | ⟨1, _⟩ => rfl

/-- The sums start from zero. -/
theorem ref_zero (i : Cert.OutRefIdeal.S_.Idx) : val_main_cst_0 (F := Ideal) i = (0 : EReal) :=
  (val_main_cst_0_apply (F := Ideal) i).trans Ideal.ofBits_zero_f32

theorem ref_zero' (i : Cert.OutRefIdeal.S_.Idx) : val_main_cst_2 (F := Ideal) i = (0 : EReal) :=
  (val_main_cst_2_apply (F := Ideal) i).trans Ideal.ofBits_zero_f32

theorem idx5 (i : Fin 8192) (z : Fin 1) (k : Fin 4096) : idx_main_v4 (idx_main_v5 (ix2 i z)) k = ix2 i k := by
  funext a
  match a with
  | ⟨0, _⟩ => rfl
  | ⟨1, _⟩ => rfl

theorem idx12 (i : Fin 8192) (z : Fin 1) (k : Fin 4096) : idx_main_v11 (idx_main_v12 (ix2 i z)) k = ix2 i k := by
  funext a
  match a with
  | ⟨0, _⟩ => rfl
  | ⟨1, _⟩ => rfl

theorem idx8 (i : Fin 8192) (j : Fin 4096) : idx_main_v8 (ix2 i j) = ix2 i 0 := by
  funext a
  match a with
  | ⟨0, _⟩ => rfl
  | ⟨1, _⟩ => rfl

theorem idx15 (i : Fin 8192) (j : Fin 4096) : idx_main_v15 (ix2 i j) = ix2 i 0 := by
  funext a
  match a with
  | ⟨0, _⟩ => rfl
  | ⟨1, _⟩ => rfl

theorem idx20 (i : Fin 8192) (j : Fin 4096) : idx_main_v20 (ix2 i j) = ix2 i 0 := by
  funext a
  match a with
  | ⟨0, _⟩ => rfl
  | ⟨1, _⟩ => rfl

theorem idx23 (i : Fin 8192) (j : Fin 4096) : idx_main_v22 (idx_main_v23 (ix2 i j)) = ix1 j := by
  funext a
  match a with
  | ⟨0, _⟩ => rfl

theorem idx26 (i : Fin 8192) (j : Fin 4096) : idx_main_v25 (idx_main_v26 (ix2 i j)) = ix1 j := by
  funext a
  match a with
  | ⟨0, _⟩ => rfl

/-- Its sum. -/
theorem ref_sum (i : Fin 8192) (z : Fin 1) :
    val_main_v5 (F := Ideal) x w res (ix2 i z) = (∑ k, Norm.row (fun k => res (ix2 i k)) (product x w i) k : EReal) := by
  rw [val_main_v5_apply, val_main_v4_apply, ref_zero, zero_add]
  exact Finset.sum_congr rfl fun k _ => (congrArg (val_main_v3 (F := Ideal) x w res) (idx5 i z k)).trans (ref_row x w res i k)

theorem ref_count (i : Cert.OutRefIdeal.S8192x1.Idx) : val_main_v6 (F := Ideal) i = Ideal.ofBits .f32 0x45800000#32 :=
  (val_main_v6_apply (F := Ideal) i).trans (val_main_cst_1_apply (F := Ideal) _)

theorem ref_count' (i : Cert.OutRefIdeal.S8192x1.Idx) : val_main_v13 (F := Ideal) i = Ideal.ofBits .f32 0x45800000#32 :=
  (val_main_v13_apply (F := Ideal) i).trans (val_main_cst_3_apply (F := Ideal) _)

/-- Its mean. -/
theorem ref_mean (i : Fin 8192) (z : Fin 1) :
    val_main_v7 (F := Ideal) x w res (ix2 i z) = Norm.mean (Norm.row (fun k => res (ix2 i k)) (product x w i)) := by
  rw [val_main_v7_apply, ref_sum, ref_count]
  rfl

/-- What is left of it without the mean. -/
theorem ref_centred (i : Fin 8192) (j : Fin 4096) :
    val_main_v9 (F := Ideal) x w res (ix2 i j) = Norm.row (fun k => res (ix2 i k)) (product x w i) j
      - Norm.mean (Norm.row (fun k => res (ix2 i k)) (product x w i)) := by
  rw [val_main_v9_apply, val_main_v8_apply, idx8, ref_row, ref_mean]
  rfl

theorem ref_centred' (i : Fin 8192) (j : Fin 4096) :
    val_main_v16 (F := Ideal) x w res (ix2 i j) = Norm.row (fun k => res (ix2 i k)) (product x w i) j
      - Norm.mean (Norm.row (fun k => res (ix2 i k)) (product x w i)) := by
  rw [val_main_v16_apply, val_main_v15_apply, idx15, ref_row, ref_mean]
  rfl

theorem ref_square (i : Fin 8192) (j : Fin 4096) :
    val_main_v10 (F := Ideal) x w res (ix2 i j)
      = (Norm.row (fun k => res (ix2 i k)) (product x w i) j - Norm.mean (Norm.row (fun k => res (ix2 i k)) (product x w i)))
      * (Norm.row (fun k => res (ix2 i k)) (product x w i) j - Norm.mean (Norm.row (fun k => res (ix2 i k)) (product x w i))) := by
  rw [val_main_v10_apply, ref_centred]
  rfl

/-- The sum of the squares. -/
theorem ref_squares (i : Fin 8192) (z : Fin 1) :
    val_main_v12 (F := Ideal) x w res (ix2 i z) = (∑ k,
      (Norm.row (fun k => res (ix2 i k)) (product x w i) k - Norm.mean (Norm.row (fun k => res (ix2 i k)) (product x w i)))
      * (Norm.row (fun k => res (ix2 i k)) (product x w i) k - Norm.mean (Norm.row (fun k => res (ix2 i k)) (product x w i))) : EReal) := by
  rw [val_main_v12_apply, val_main_v11_apply, ref_zero', zero_add]
  exact Finset.sum_congr rfl fun k _ => (congrArg (val_main_v10 (F := Ideal) x w res) (idx12 i z k)).trans (ref_square x w res i k)

/-- Its variance. -/
theorem ref_variance (i : Fin 8192) (z : Fin 1) :
    val_main_v14 (F := Ideal) x w res (ix2 i z) = Norm.variance (Norm.row (fun k => res (ix2 i k)) (product x w i)) := by
  rw [val_main_v14_apply, ref_squares, ref_count']
  rfl

theorem ref_epsilon (i : Cert.OutRefIdeal.S8192x1.Idx) : val_main_v17 (F := Ideal) i = Ideal.ofBits .f32 0x3727C5AC#32 :=
  (val_main_v17_apply (F := Ideal) i).trans (val_main_cst_4_apply (F := Ideal) _)

/-- What the row is divided by. -/
theorem ref_rsqrt (i : Fin 8192) (j : Fin 4096) :
    val_main_v20 (F := Ideal) x w res (ix2 i j)
      = Ideal.rsqrt (Norm.variance (Norm.row (fun k => res (ix2 i k)) (product x w i)) + Ideal.ofBits .f32 0x3727C5AC#32) := by
  rw [val_main_v20_apply, idx20, val_main_v19_apply, val_main_v18_apply, ref_variance, ref_epsilon]
  rfl

theorem ref_scale (i : Fin 8192) (j : Fin 4096) : val_main_v23 (F := Ideal) g (ix2 i j) = g (ix1 j) := by
  rw [val_main_v23_apply, val_main_v22_apply, idx23]

theorem ref_shift (i : Fin 8192) (j : Fin 4096) : val_main_v26 (F := Ideal) b (ix2 i j) = b (ix1 j) := by
  rw [val_main_v26_apply, val_main_v25_apply, idx26]

/-- An entry of the reference's result. -/
theorem ref_entry (i : Fin 8192) (j : Fin 4096) :
    val_main_v27 (F := Ideal) x w res g b (ix2 i j)
      = Norm.norm (Norm.row (fun k => res (ix2 i k)) (product x w i)) (g (ix1 j)) (b (ix1 j)) j := by
  rw [val_main_v27_apply, val_main_v24_apply, val_main_v21_apply, ref_centred', ref_rsqrt, ref_scale, ref_shift]
  rfl

/-- **The reference's result.** -/
theorem reference_eq : val_main_v27 (F := Ideal) x w res g b = result x w res g b := by
  funext y
  rw [eq_ix2 (n0 := 8192) (n1 := 4096) y]
  exact (ref_entry x w res g b (y 0) (y 1)).trans (result_apply x w res g b (y 0) (y 1)).symm

/-- The second is the same, rounding being nothing over the extended reals. -/
theorem reference_bf16_eq : val_main_v28 (F := Ideal) x w res g b = result x w res g b := reference_eq x w res g b

end Reference

variable (m : (ℓ : Loc nD τ sig) → Buf (Elt Ideal) ℓ)

/-- The point that writes a row back. -/
theorem point_of (i : S8192x4096.Idx) : ∃ t : Fin cfg0.N, t.val % 8 = 7 ∧
    512 * (t.val / 8) ≤ (i 0).val ∧ (i 0).val < 512 * (t.val / 8) + 512 := by
  have hi0 : (i 0).val < 8192 := (i 0).isLt
  obtain ⟨n, hn⟩ : ∃ n, n = 8 * ((i 0).val / 512) + 7 := ⟨_, rfl⟩
  refine ⟨⟨n, lt_of_lt_of_eq (by omega) N_eq.symm⟩, ?_⟩
  show n % 8 = 7 ∧ 512 * (n / 8) ≤ (i 0).val ∧ (i 0).val < 512 * (n / 8) + 512
  omega

/-- A block `O` whose entries are those of `A` at the point's rows is what `A`'s block reads (f32). -/
theorem cut5_eq (t : Fin cfg0.N) (O : Vec Ideal S512x4096 .f32) (A : S8192x4096.Idx → EReal)
    (h : ∀ (r : Fin 512) (j : Fin 4096) (y : Fin 8192), y.val = 512 * (t.val / 8) + r.val → O (ix2 r j) = A (ix2 y j)) :
    (cfg0.win 5).cut (grid0.coords t) O = ((cfg0.win 5).blk t).view.read (Elt Ideal) A := by
  have ht : t.val < 128 := lt_of_lt_of_eq t.isLt N_eq
  funext j
  have hj0 : (j 0).val < 512 := (j 0).isLt
  rw [View.read_apply]
  show O j = A _
  refine (congrArg O (eq_ix2 (n0 := 512) (n1 := 4096) j)).trans ((h (j 0) (j 1) ⟨512 * (t.val / 8) + (j 0).val, by omega⟩ rfl).trans ?_)
  refine congrArg A (funext fun a => Fin.ext ?_)
  match a with
  | ⟨0, _⟩ => show 512 * (t.val / 8) + (j 0).val = win0_5.index t 0 * 512 + 1 * (j 0).val; rw [(index5 t).1]; omega
  | ⟨1, _⟩ => show (j 1).val = win0_5.index t 1 * 4096 + 1 * (j 1).val; rw [(index5 t).2]; omega

/-- Which entries of the f32 result a point's block holds. -/
theorem mem_blk5 (t : Fin cfg0.N) (i : S8192x4096.Idx) (h0 : 512 * (t.val / 8) ≤ (i 0).val ∧ (i 0).val < 512 * (t.val / 8) + 512) :
    i ∈ ((cfg0.win 5).blk t).view.set := by
  have h1 : (i 1).val < 4096 := (i 1).isLt
  show i ∈ ((View.whole main_v2_0).slice (win0_5.rect t)).set
  rw [View.set_slice_whole, Rect.mem_set_unit]
  intro a
  match a with
  | ⟨0, _⟩ => show win0_5.index t 0 * 512 ≤ (i 0).val ∧ (i 0).val < win0_5.index t 0 * 512 + 512; rw [(index5 t).1]; omega
  | ⟨1, _⟩ => show win0_5.index t 1 * 4096 ≤ (i 1).val ∧ (i 1).val < win0_5.index t 1 * 4096 + 4096; rw [(index5 t).2]; omega

/-- **The f32 result.** -/
theorem final5 (c : Dev nD) :
    (dats m 0 c).arrAt 5 cfg0.N = (result (rows m c) (weights m c) (residual m c) (scale m c) (shift m c) : Buf (Elt Ideal) ((c.tc : Thread nD τ).loc main_v2_0)) :=
  (dats m 0 c).arrAt_eq_of_cover 5 _ (fun t hf => by
      have ht : t.val % 8 = 7 := of_decide_eq_true ((flush5 t).symm.trans hf)
      show (cfg0.win 5).cut (grid0.coords t) ((dats m 0 c).after 5 t) = _
      rw [after0_5]
      exact cut5_eq t _ _ fun r j y hy => leaves5 m c t ht r j y hy) fun i => by
    obtain ⟨t, ht, h0⟩ := point_of i
    exact ⟨t, (flush5 t).trans (decide_eq_true ht), mem_blk5 t i h0⟩

/-- A block `O` whose entries are those of `A` at the point's rows is what `A`'s block reads (bf16). -/
theorem cut6_eq (t : Fin cfg0.N) (O : Vec Ideal S512x4096 .bf16) (A : S8192x4096.Idx → EReal)
    (h : ∀ (r : Fin 512) (j : Fin 4096) (y : Fin 8192), y.val = 512 * (t.val / 8) + r.val → O (ix2 r j) = A (ix2 y j)) :
    (cfg0.win 6).cut (grid0.coords t) O = ((cfg0.win 6).blk t).view.read (Elt Ideal) A := by
  have ht : t.val < 128 := lt_of_lt_of_eq t.isLt N_eq
  funext j
  have hj0 : (j 0).val < 512 := (j 0).isLt
  rw [View.read_apply]
  show O j = A _
  refine (congrArg O (eq_ix2 (n0 := 512) (n1 := 4096) j)).trans ((h (j 0) (j 1) ⟨512 * (t.val / 8) + (j 0).val, by omega⟩ rfl).trans ?_)
  refine congrArg A (funext fun a => Fin.ext ?_)
  match a with
  | ⟨0, _⟩ => show 512 * (t.val / 8) + (j 0).val = win0_6.index t 0 * 512 + 1 * (j 0).val; rw [(index6 t).1]; omega
  | ⟨1, _⟩ => show (j 1).val = win0_6.index t 1 * 4096 + 1 * (j 1).val; rw [(index6 t).2]; omega

/-- Which entries of the bf16 result a point's block holds. -/
theorem mem_blk6 (t : Fin cfg0.N) (i : S8192x4096.Idx) (h0 : 512 * (t.val / 8) ≤ (i 0).val ∧ (i 0).val < 512 * (t.val / 8) + 512) :
    i ∈ ((cfg0.win 6).blk t).view.set := by
  have h1 : (i 1).val < 4096 := (i 1).isLt
  show i ∈ ((View.whole main_v2_1).slice (win0_6.rect t)).set
  rw [View.set_slice_whole, Rect.mem_set_unit]
  intro a
  match a with
  | ⟨0, _⟩ => show win0_6.index t 0 * 512 ≤ (i 0).val ∧ (i 0).val < win0_6.index t 0 * 512 + 512; rw [(index6 t).1]; omega
  | ⟨1, _⟩ => show win0_6.index t 1 * 4096 ≤ (i 1).val ∧ (i 1).val < win0_6.index t 1 * 4096 + 4096; rw [(index6 t).2]; omega

/-- **The bf16 result.** -/
theorem final6 (c : Dev nD) :
    (dats m 0 c).arrAt 6 cfg0.N = (result (rows m c) (weights m c) (residual m c) (scale m c) (shift m c) : Buf (Elt Ideal) ((c.tc : Thread nD τ).loc main_v2_1)) :=
  (dats m 0 c).arrAt_eq_of_cover 6 _ (fun t hf => by
      have ht : t.val % 8 = 7 := of_decide_eq_true ((flush6 t).symm.trans hf)
      show (cfg0.win 6).cut (grid0.coords t) ((dats m 0 c).after 6 t) = _
      rw [after0_6]
      exact cut6_eq t _ _ fun r j y hy => leaves6 m c t ht r j y hy) fun i => by
    obtain ⟨t, ht, h0⟩ := point_of i
    exact ⟨t, (flush6 t).trans (decide_eq_true ht), mem_blk6 t i h0⟩

/-- The run, read: both results at the layer's, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v2_0) = result (rows m c) (weights m c) (residual m c) (scale m c) (shift m c)
      ∧ r.2.mem ((c.tc : Thread nD τ).loc main_v2_1) = result (rows m c) (weights m c) (residual m c) (scale m c) (shift m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h.1 c).1 5).trans (final5 m c), ((h.1 c).1 6).trans (final6 m c), h.2 c⟩)
    (θ_run_and (run_main m ρ) (unchanged m ρ))

end Cert.OutIdeal.Result

namespace Cert.Proof.OutClaims

section Same

variable {F : FTy → Type} [FloatOps F]

/-- The kernel and its reading over the extended reals are printed as two programs, whose bodies are one. -/
theorem bodies : Cert.Out.defs₀ (F := F) = Cert.OutIdeal.defs₀ (F := F) := by
  unfold Cert.Out.defs₀ Cert.OutIdeal.defs₀
  congr 1
  funext l a
  match l, a with
  | ⟨0, _⟩, (t, s) => exact rfl

/-- So the tables of their bodies are one. -/
theorem tables : Cert.Out.defs (F := F) = Cert.OutIdeal.defs (F := F) := congrArg (Pipeline.defs Cert.Out.pcfgs) bodies

end Same

/-- The kernel runs and leaves its arguments alone: what is proved of the other printing, at any arithmetic. -/
theorem frame_k : Cert.quiescent_Out (hOut := Cert.Out.Gen.facts) := fun m ρ _ => by
  have h := Cert.OutIdeal.Gen.frame (F := Bits) m ρ
  rw [← tables] at h
  exact h

/-- So does its reading over the extended reals. -/
theorem frame_ki : Cert.quiescent_OutIdeal (hOutIdeal := Cert.OutIdeal.Gen.facts) := fun m ρ _ => Cert.OutIdeal.Gen.frame m ρ

/-- So does the reference's. -/
theorem frame_ri : Cert.quiescent_OutRefIdeal (hOutRefIdeal := Cert.OutRefIdeal.Gen.facts) := fun m ρ _ =>
  (θ_run Cert.OutRefIdeal.defs _ _).mono (fun r h => ⟨fun c => (h c).2.2,
      Idealize.ShloMosaic.sem_eq_zero_of_no_sems (by decide) r.2⟩)
    (Cert.OutRefIdeal.Value.run (F := Ideal) m ρ)

/-- **The kernel and the reference end with the same two results.** -/
theorem algebraic : Cert.algebraic_OutIdeal_OutRefIdeal (hOutIdeal := Cert.OutIdeal.Gen.facts)
    (hOutRefIdeal := Cert.OutRefIdeal.Gen.facts) := by
  intro m ρ m' ρ' hpre hagree
  refine ⟨fun c => Cert.OutIdeal.Result.result (Cert.OutIdeal.Result.rows m c) (Cert.OutIdeal.Result.weights m c)
      (Cert.OutIdeal.Result.residual m c) (Cert.OutIdeal.Result.scale m c) (Cert.OutIdeal.Result.shift m c),
    fun c => Cert.OutIdeal.Result.result (Cert.OutIdeal.Result.rows m c) (Cert.OutIdeal.Result.weights m c)
      (Cert.OutIdeal.Result.residual m c) (Cert.OutIdeal.Result.scale m c) (Cert.OutIdeal.Result.shift m c),
    Cert.OutIdeal.Result.run m ρ, ?_⟩
  refine (θ_run Cert.OutRefIdeal.defs _ _).mono (fun _ h c => ⟨(h c).1.trans ?_, (h c).2.1.trans ?_, (h c).2.2⟩)
    (Cert.OutRefIdeal.Value.run (F := Ideal) m' ρ')
  · rw [Cert.OutRefIdeal.Read.val_main_v27_eq, (hagree c).1, (hagree c).2.1, (hagree c).2.2.1, (hagree c).2.2.2.1, (hagree c).2.2.2.2]
    exact Cert.OutIdeal.Result.reference_eq _ _ _ _ _
  · rw [Cert.OutRefIdeal.Read.val_main_v28_eq, (hagree c).1, (hagree c).2.1, (hagree c).2.2.1, (hagree c).2.2.2.1, (hagree c).2.2.2.2]
    exact Cert.OutIdeal.Result.reference_bf16_eq _ _ _ _ _

end Cert.Proof.OutClaims

end
-- ==== Proof.Ln.DownIdeal.RunC.lean ====
/- The last step of `DownIdeal`'s products: the run of its body (the case that adds the last product and then normalises the
   block, 128 rows at a time). The pieces its outputs end with are the witness; what the normalisation stores does not
   depend on what the bf16 output held before, so the run states them over any contents there. -/
module

public import proofs.«01_k».proof.Proof.Gen.DownIdeal.Frame.RunB

@[expose] public section

-- membership in a rectangle of production extents (`View.cover_of_tiled`): the elaborator's structural look
-- recurses once per coordinate of the long axes
set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a trip of the normalisation stores into the f32 output does not depend on what the bf16 output held before: the trip
    reads the residual's rows and the f32 output's, and overwrites the bf16 output's. -/
theorem trip_indep (𝒱 : Variants) (c : Dev nD) (bd : Option 𝒱.V) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (k0_h3 : k0_cond3 i = 1#1) (v10 : Vec F S1x4096 .f32) (v12 : Vec F S1x4096 .f32) (X_arg4 : BufTy.Contents (Elt F) arg4.view.ty) (k : Fin k0_t1_loop.trips) (f7 : BufTy.Contents (Elt F) arg7.view.ty) (f8 f8' : BufTy.Contents (Elt F) arg8.view.ty) :
    tripL_k0_t1 (F := F) 𝒱 c bd i arg2 harg2 arg3 harg3 arg4 harg4 arg5 harg5 arg6 harg6 arg7 harg7 arg8 harg8 k0_h3 v10 v12 X_arg4 k f7 f8 = tripL_k0_t1 (F := F) 𝒱 c bd i arg2 harg2 arg3 harg3 arg4 harg4 arg5 harg5 arg6 harg6 arg7 harg7 arg8 harg8 k0_h3 v10 v12 X_arg4 k f7 f8' := by
  unfold tripL_k0_t1 trip_k0_t1
  rfl

/-- Nor does what the trips before the `n`-th store. -/
theorem pb_indep (𝒱 : Variants) (c : Dev nD) (bd : Option 𝒱.V) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (k0_h3 : k0_cond3 i = 1#1) (v10 : Vec F S1x4096 .f32) (v12 : Vec F S1x4096 .f32) (X_arg4 : BufTy.Contents (Elt F) arg4.view.ty) (G7 : BufTy.Contents (Elt F) arg7.view.ty) (G8 G8' : BufTy.Contents (Elt F) arg8.view.ty) (n : ℕ) :
    pb_k0_t1 (F := F) 𝒱 c bd i arg2 harg2 arg3 harg3 arg4 harg4 arg5 harg5 arg6 harg6 arg7 harg7 arg8 harg8 k0_h3 v10 v12 X_arg4 G7 G8 n = pb_k0_t1 (F := F) 𝒱 c bd i arg2 harg2 arg3 harg3 arg4 harg4 arg5 harg5 arg6 harg6 arg7 harg7 arg8 harg8 k0_h3 v10 v12 X_arg4 G7 G8' n := by
  induction n with
  | zero => rfl
  | succ k ih =>
    rw [pb_k0_t1.eq_2, pb_k0_t1.eq_2, ih]
    unfold pb_k0_t1Step
    by_cases h : k < k0_t1_loop.trips
    · rw [dif_pos h, dif_pos h, trip_indep 𝒱 c bd i arg2 harg2 arg3 harg3 arg4 harg4 arg5 harg5 arg6 harg6 arg7 harg7 arg8 harg8 k0_h3 v10 v12 X_arg4 ⟨k, h⟩ _ _ (arg8.view.writes (Elt F) G8' (pb_k0_t1 (F := F) 𝒱 c bd i arg2 harg2 arg3 harg3 arg4 harg4 arg5 harg5 arg6 harg6 arg7 harg7 arg8 harg8 k0_h3 v10 v12 X_arg4 G7 G8' k).2)]
    · rw [dif_neg h, dif_neg h]

-- (the run's proof term is large: the definition's epilogue — `abstractNestedProofs` — walks it past the default budget)
set_option maxHeartbeats 1000000 in
/-- What the body's stores leave in each output's staging buffer in this case, as pieces (last first), WITH the proof that the
    body runs from the inputs' blocks and the running sums `xo5` to those pieces. -/
noncomputable def kernelRun0_C (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (hc0 : ¬cond0_0 i) (hc1 : cond0_1 i) (hc2 : cond0_2 i)
    (x0 : Vec F S512x512 .bf16) (x1 : Vec F S512x4096 .bf16) (x2 : Vec F S512x4096 .f32) (x3 : Vec F S1x4096 .f32) (x4 : Vec F S1x4096 .f32) (xo5 : Vec F S512x4096 .f32) :
    Σ' (L5 : List (View.Piece (Elt F) S512x4096 .f32)), { L6 : List (View.Piece (Elt F) S512x4096 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc0_matmul_residual_ln i arg2 harg2 arg3 harg3 arg4 harg4 arg5 harg5 arg6 harg6 arg7 harg7 arg8 harg8) K } := by
  refine ⟨?_, ?_, fun E K => ?run⟩
  case run =>
    simp only [cc0_matmul_residual_ln_eq_skeleton]; unfold cc0_matmul_residual_ln_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2)
    sl_step
    rw [pb_indep _ _ _ _ _ _ _ _ _ _ _ _ _ _ _ _ _ _ _ _ _ _ _ f6 arg8.view.junk]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

end Cert.DownIdeal.Gen

end
-- ==== Proof.Ln.DownIdeal.Frame.lean ====
/- The frame of `DownIdeal`: the accumulation over the points, the body's obligation at every point, the run and the frame. -/
module

public import proofs.«01_k».proof.Proof.Ln.DownIdeal.RunC
public import Idealize.ShloMosaic.Lib.Claim

@[expose] public section

-- membership in a rectangle of production extents (`View.cover_of_tiled`): the elaborator's structural look
-- recurses once per coordinate of the long axes
set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 5 tile its block (8 stores of `S512x512`, checked by the kernel's evaluation: Lib/Ring.lean `Piece.tiledL`, linear in the pieces, through a loop's `@[irreducible]` trip theorem too), so they cover it. -/
theorem cover0_A_5 (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (hc0 : cond0_0 i) (hc1 : ¬cond0_1 i) (hc2 : ¬cond0_2 i)
    (x0 : Vec F S512x512 .bf16) (x1 : Vec F S512x4096 .bf16) (x2 : Vec F S512x4096 .f32) (x3 : Vec F S1x4096 .f32) (x4 : Vec F S1x4096 .f32) (y : S512x4096.Idx) :
    ∃ pc ∈ (kernelRun0_A c i arg2 harg2 arg3 harg3 arg4 harg4 arg5 harg5 arg6 harg6 arg7 harg7 arg8 harg8 hc0 hc1 hc2 x0 x1 x2 x3 x4).1, y ∈ pc.1.set :=
  View.cover_of_tiledL (kernelRun0_A c i arg2 harg2 arg3 harg3 arg4 harg4 arg5 harg5 arg6 harg6 arg7 harg7 arg8 harg8 hc0 hc1 hc2 x0 x1 x2 x3 x4).1 S512x512.size (by sl_kernel_rfl) y

/-- What case A leaves in output 5's staging buffer: its pieces read back over junk. -/
def out0_A_5 (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (hc0 : cond0_0 i) (hc1 : ¬cond0_1 i) (hc2 : ¬cond0_2 i)
    (x0 : Vec F S512x512 .bf16) (x1 : Vec F S512x4096 .bf16) (x2 : Vec F S512x4096 .f32) (x3 : Vec F S1x4096 .f32) (x4 : Vec F S1x4096 .f32) : Vec F S512x4096 .f32 :=
  VO0_5.read (Elt F) (VO0_5.writes (Elt F) VO0_5.junk (kernelRun0_A c i arg2 harg2 arg3 harg3 arg4 harg4 arg5 harg5 arg6 harg6 arg7 harg7 arg8 harg8 hc0 hc1 hc2 x0 x1 x2 x3 x4).1)

/-- Case A stores nothing into output 6 (the window is idle at its points and not written back there):
    no pieces — a placeholder (junk read back) that nothing consults, since at these points the window is neither
    written back nor read at the next point (Lib/Pipeline.lean "Idle points"). -/
def out0_A_6 (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (hc0 : cond0_0 i) (hc1 : ¬cond0_1 i) (hc2 : ¬cond0_2 i)
    (x0 : Vec F S512x512 .bf16) (x1 : Vec F S512x4096 .bf16) (x2 : Vec F S512x4096 .f32) (x3 : Vec F S1x4096 .f32) (x4 : Vec F S1x4096 .f32) : Vec F S512x4096 .bf16 :=
  VO0_6.read (Elt F) (VO0_6.writes (Elt F) VO0_6.junk (kernelRun0_A c i arg2 harg2 arg3 harg3 arg4 harg4 arg5 harg5 arg6 harg6 arg7 harg7 arg8 harg8 hc0 hc1 hc2 x0 x1 x2 x3 x4).2.1)

/-- Case B's pieces for output 5 tile its block (8 stores of `S512x512`, checked by the kernel's evaluation: Lib/Ring.lean `Piece.tiledL`, linear in the pieces, through a loop's `@[irreducible]` trip theorem too), so they cover it. -/
theorem cover0_B_5 (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (hc0 : ¬cond0_0 i) (hc1 : cond0_1 i) (hc2 : ¬cond0_2 i)
    (x0 : Vec F S512x512 .bf16) (x1 : Vec F S512x4096 .bf16) (x2 : Vec F S512x4096 .f32) (x3 : Vec F S1x4096 .f32) (x4 : Vec F S1x4096 .f32) (xo5 : Vec F S512x4096 .f32) (y : S512x4096.Idx) :
    ∃ pc ∈ (kernelRun0_B c i arg2 harg2 arg3 harg3 arg4 harg4 arg5 harg5 arg6 harg6 arg7 harg7 arg8 harg8 hc0 hc1 hc2 x0 x1 x2 x3 x4 xo5).1, y ∈ pc.1.set :=
  View.cover_of_tiledL (kernelRun0_B c i arg2 harg2 arg3 harg3 arg4 harg4 arg5 harg5 arg6 harg6 arg7 harg7 arg8 harg8 hc0 hc1 hc2 x0 x1 x2 x3 x4 xo5).1 S512x512.size (by sl_kernel_rfl) y

/-- What case B leaves in output 5's staging buffer: its pieces read back over junk. -/
def out0_B_5 (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (hc0 : ¬cond0_0 i) (hc1 : cond0_1 i) (hc2 : ¬cond0_2 i)
    (x0 : Vec F S512x512 .bf16) (x1 : Vec F S512x4096 .bf16) (x2 : Vec F S512x4096 .f32) (x3 : Vec F S1x4096 .f32) (x4 : Vec F S1x4096 .f32) (xo5 : Vec F S512x4096 .f32) : Vec F S512x4096 .f32 :=
  VO0_5.read (Elt F) (VO0_5.writes (Elt F) VO0_5.junk (kernelRun0_B c i arg2 harg2 arg3 harg3 arg4 harg4 arg5 harg5 arg6 harg6 arg7 harg7 arg8 harg8 hc0 hc1 hc2 x0 x1 x2 x3 x4 xo5).1)

/-- Case B stores nothing into output 6 (the window is idle at its points and not written back there):
    no pieces — a placeholder (junk read back) that nothing consults, since at these points the window is neither
    written back nor read at the next point (Lib/Pipeline.lean "Idle points"). -/
def out0_B_6 (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (hc0 : ¬cond0_0 i) (hc1 : cond0_1 i) (hc2 : ¬cond0_2 i)
    (x0 : Vec F S512x512 .bf16) (x1 : Vec F S512x4096 .bf16) (x2 : Vec F S512x4096 .f32) (x3 : Vec F S1x4096 .f32) (x4 : Vec F S1x4096 .f32) (xo5 : Vec F S512x4096 .f32) : Vec F S512x4096 .bf16 :=
  VO0_6.read (Elt F) (VO0_6.writes (Elt F) VO0_6.junk (kernelRun0_B c i arg2 harg2 arg3 harg3 arg4 harg4 arg5 harg5 arg6 harg6 arg7 harg7 arg8 harg8 hc0 hc1 hc2 x0 x1 x2 x3 x4 xo5).2.1)

/-- Case C's pieces for output 5 are of SEVERAL sizes (12 stores of `S128x4096`, `S512x512`): cut into blocks of `![128, 512]` they tile its block (checked by the kernel's evaluation: Lib/Ring.lean `Piece.tiledBy`), so they cover it. -/
theorem cover0_C_5 (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (hc0 : ¬cond0_0 i) (hc1 : cond0_1 i) (hc2 : cond0_2 i)
    (x0 : Vec F S512x512 .bf16) (x1 : Vec F S512x4096 .bf16) (x2 : Vec F S512x4096 .f32) (x3 : Vec F S1x4096 .f32) (x4 : Vec F S1x4096 .f32) (xo5 : Vec F S512x4096 .f32) (y : S512x4096.Idx) :
    ∃ pc ∈ (kernelRun0_C c i arg2 harg2 arg3 harg3 arg4 harg4 arg5 harg5 arg6 harg6 arg7 harg7 arg8 harg8 hc0 hc1 hc2 x0 x1 x2 x3 x4 xo5).1, y ∈ pc.1.set :=
  View.cover_of_tiledBy (kernelRun0_C c i arg2 harg2 arg3 harg3 arg4 harg4 arg5 harg5 arg6 harg6 arg7 harg7 arg8 harg8 hc0 hc1 hc2 x0 x1 x2 x3 x4 xo5).1 ![128, 512] (by sl_kernel_rfl) y

/-- What case C leaves in output 5's staging buffer: its pieces read back over junk. -/
def out0_C_5 (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (hc0 : ¬cond0_0 i) (hc1 : cond0_1 i) (hc2 : cond0_2 i)
    (x0 : Vec F S512x512 .bf16) (x1 : Vec F S512x4096 .bf16) (x2 : Vec F S512x4096 .f32) (x3 : Vec F S1x4096 .f32) (x4 : Vec F S1x4096 .f32) (xo5 : Vec F S512x4096 .f32) : Vec F S512x4096 .f32 :=
  VO0_5.read (Elt F) (VO0_5.writes (Elt F) VO0_5.junk (kernelRun0_C c i arg2 harg2 arg3 harg3 arg4 harg4 arg5 harg5 arg6 harg6 arg7 harg7 arg8 harg8 hc0 hc1 hc2 x0 x1 x2 x3 x4 xo5).1)

/-- Case C's pieces for output 6 tile its block (4 stores of `S128x4096`, checked by the kernel's evaluation: Lib/Ring.lean `Piece.tiledL`, linear in the pieces, through a loop's `@[irreducible]` trip theorem too), so they cover it. -/
theorem cover0_C_6 (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (hc0 : ¬cond0_0 i) (hc1 : cond0_1 i) (hc2 : cond0_2 i)
    (x0 : Vec F S512x512 .bf16) (x1 : Vec F S512x4096 .bf16) (x2 : Vec F S512x4096 .f32) (x3 : Vec F S1x4096 .f32) (x4 : Vec F S1x4096 .f32) (xo5 : Vec F S512x4096 .f32) (y : S512x4096.Idx) :
    ∃ pc ∈ (kernelRun0_C c i arg2 harg2 arg3 harg3 arg4 harg4 arg5 harg5 arg6 harg6 arg7 harg7 arg8 harg8 hc0 hc1 hc2 x0 x1 x2 x3 x4 xo5).2.1, y ∈ pc.1.set :=
  View.cover_of_tiledL (kernelRun0_C c i arg2 harg2 arg3 harg3 arg4 harg4 arg5 harg5 arg6 harg6 arg7 harg7 arg8 harg8 hc0 hc1 hc2 x0 x1 x2 x3 x4 xo5).2.1 S128x4096.size (by sl_kernel_rfl) y

/-- What case C leaves in output 6's staging buffer: its pieces read back over junk. -/
def out0_C_6 (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (hc0 : ¬cond0_0 i) (hc1 : cond0_1 i) (hc2 : cond0_2 i)
    (x0 : Vec F S512x512 .bf16) (x1 : Vec F S512x4096 .bf16) (x2 : Vec F S512x4096 .f32) (x3 : Vec F S1x4096 .f32) (x4 : Vec F S1x4096 .f32) (xo5 : Vec F S512x4096 .f32) : Vec F S512x4096 .bf16 :=
  VO0_6.read (Elt F) (VO0_6.writes (Elt F) VO0_6.junk (kernelRun0_C c i arg2 harg2 arg3 harg3 arg4 harg4 arg5 harg5 arg6 harg6 arg7 harg7 arg8 harg8 hc0 hc1 hc2 x0 x1 x2 x3 x4 xo5).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S512x4096 .f32 × Vec F S512x4096 .bf16
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 22 = 0 then
      if h1 : 1 ≤ (n + 1) % 22 then
        False.elim (by have hN : n + 1 < 352 := lt_of_lt_of_eq hn (show cfg0.N = 352 from N_0); omega)
      else
        if h2 : (n + 1) % 22 = 21 then
          False.elim (by have hN : n + 1 < 352 := lt_of_lt_of_eq hn (show cfg0.N = 352 from N_0); omega)
        else
          (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : 1 ≤ (n + 1) % 22 then
        if h2 : (n + 1) % 22 = 21 then
          (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1)
        else
          (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1)
      else
        False.elim (by have hN : n + 1 < 352 := lt_of_lt_of_eq hn (show cfg0.N = 352 from N_0); omega)

/-- `outsAt0` at a point of case A: that case's contents. -/
theorem outsAt0_A (c : Dev nD) (t : Fin cfg0.N) (h0 : t.val % 22 = 0) (h1 : ¬1 ≤ t.val % 22) (h2 : ¬t.val % 22 = 21) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (fun h => h1 ((hcond0_1 t).mp h)) (fun h => h2 ((hcond0_2 t).mp h)) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (fun h => h1 ((hcond0_1 t).mp h)) (fun h => h2 ((hcond0_2 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans ((dif_neg h2).trans rfl))

/-- `outsAt0` at a point of case B: that case's contents, over what the point before left. -/
theorem outsAt0_B (c : Dev nD) (t : Fin cfg0.N) (h0 : ¬t.val % 22 = 0) (h1 : 1 ≤ t.val % 22) (h2 : ¬t.val % 22 = 21) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 22 = 0) (h1 : 1 ≤ t.val % 22) (h2 : t.val % 22 = 21) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).1, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Output 5's contents CARRY through the points that leave it idle: at such a point, its buffer not fresh, the proof data's
    `after` is the point before's (the case there stores nothing into the window and its term says so; a case that stores
    into it is not idle there by `liveAt0_5_κ`) — the hypothesis of Lib/Pipeline/TableIdle.lean `Dat.before_out_traj`. -/
theorem hcarry0_5 (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t _ hi _
  have hN : t.val < 352 := lt_of_lt_of_eq t.isLt (show cfg0.N = 352 from N_0)
  rw [after0_5, after0_5]
  by_cases h0 : t.val % 22 = 0
  · by_cases h1 : 1 ≤ t.val % 22
    · exfalso; omega
    · by_cases h2 : t.val % 22 = 21
      · exfalso; omega
      · rw [liveAt0_5_A t ((hcond0_0 t).mpr h0) (fun h => h1 ((hcond0_1 t).mp h)) (fun h => h2 ((hcond0_2 t).mp h))] at hi
        exact absurd hi Bool.false_ne_true
  · by_cases h1 : 1 ≤ t.val % 22
    · by_cases h2 : t.val % 22 = 21
      · rw [liveAt0_5_C t (fun h => h0 ((hcond0_0 t).mp h)) ((hcond0_1 t).mpr h1) ((hcond0_2 t).mpr h2)] at hi
        exact absurd hi Bool.false_ne_true
      · rw [liveAt0_5_B t (fun h => h0 ((hcond0_0 t).mp h)) ((hcond0_1 t).mpr h1) (fun h => h2 ((hcond0_2 t).mp h))] at hi
        exact absurd hi Bool.false_ne_true
    · exfalso; omega
/-- At a point of case B output 5's current staging buffer holds what the point before left: the buffer is not fresh
    there (`notFresh0_5_B`: stored into since the region's entry or the last write-back, carried through the points that
    leave it idle by `hcarry0_5`; Lib/Pipeline/TableIdle.lean `Dat.before_out_traj`). -/
theorem before0_5_B (c : Dev nD) (t : Fin cfg0.N) (h0 : ¬t.val % 22 = 0) (h1 : 1 ≤ t.val % 22) (h2 : ¬t.val % 22 = 21) (d) :
    (dats m 0 c).before 5 t d = (outsAt0 m c (t.val - 1) (Nat.lt_of_le_of_lt (Nat.sub_le _ _) t.isLt)).1 := by
  rw [Dat.before_out_traj _ 5 rfl (fun _ _ => rfl) (hcarry0_5 m c) t.val t rfl d,
    if_neg (by rw [notFresh0_5_B t (fun h => h0 ((hcond0_0 t).mp h)) ((hcond0_1 t).mpr h1) (fun h => h2 ((hcond0_2 t).mp h))]; exact Bool.false_ne_true)]
  dsimp only [dats]
/-- At a point of case C output 5's current staging buffer holds what the point before left: the buffer is not fresh
    there (`notFresh0_5_C`: stored into since the region's entry or the last write-back, carried through the points that
    leave it idle by `hcarry0_5`; Lib/Pipeline/TableIdle.lean `Dat.before_out_traj`). -/
theorem before0_5_C (c : Dev nD) (t : Fin cfg0.N) (h0 : ¬t.val % 22 = 0) (h1 : 1 ≤ t.val % 22) (h2 : t.val % 22 = 21) (d) :
    (dats m 0 c).before 5 t d = (outsAt0 m c (t.val - 1) (Nat.lt_of_le_of_lt (Nat.sub_le _ _) t.isLt)).1 := by
  rw [Dat.before_out_traj _ 5 rfl (fun _ _ => rfl) (hcarry0_5 m c) t.val t rfl d,
    if_neg (by rw [notFresh0_5_C t (fun h => h0 ((hcond0_0 t).mp h)) ((hcond0_1 t).mpr h1) ((hcond0_2 t).mpr h2)]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1200000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  have hN : t.val < 352 := lt_of_lt_of_eq t.isLt (show cfg0.N = 352 from N_0)
  by_cases h0 : t.val % 22 = 0
  · by_cases h1 : 1 ≤ t.val % 22
    · exfalso; omega
    · by_cases h2 : t.val % 22 = 21
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5_A t ((hcond0_0 t).mpr h0) (fun h => h1 ((hcond0_1 t).mp h)) (fun h => h2 ((hcond0_2 t).mp h))], after0_5]
        rw [Dat.leavesExact_idle (dats m 0 c) 6 t (idleAt0_6_A t ((hcond0_0 t).mpr h0) (fun h => h1 ((hcond0_1 t).mp h)) (fun h => h2 ((hcond0_2 t).mp h))) (noFlush0_6_A t ((hcond0_0 t).mpr h0) (fun h => h1 ((hcond0_1 t).mp h)) (fun h => h2 ((hcond0_2 t).mp h)))]
        rw [outsAt0_A m c t h0 h1 h2]
        unfold out0_A_5; (try dsimp only)
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t)).2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        iintro ⟨H0, H1, H2, H3, H4, ⟨%e5, H5⟩, H6⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_A_5 c _ _ _ _ _ _ _ _ _ _ _ _ _ _ _ _ _ _ _ _ _ _ _)
        iexists _; iexact H6
  · by_cases h1 : 1 ≤ t.val % 22
    · by_cases h2 : t.val % 22 = 21
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5_C t (fun h => h0 ((hcond0_0 t).mp h)) ((hcond0_1 t).mpr h1) ((hcond0_2 t).mpr h2)], after0_5]
        rw [show (dats m 0 c).leavesExact 6 t = owns (c : Thread nD τ) (ms0_6 t) fullShare ((dats m 0 c).after 6 t) from by
      unfold Dat.leavesExact; rw [liveAt0_6_C t (fun h => h0 ((hcond0_0 t).mp h)) ((hcond0_1 t).mpr h1) ((hcond0_2 t).mpr h2)], after0_6]
        rw [outsAt0_C m c t h0 h1 h2]
        simp only [before0_5_C m c t h0 h1 h2]
        unfold out0_C_5 out0_C_6; (try dsimp only)
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ (fun h => h0 ((hcond0_0 t).mp h)) ((hcond0_1 t).mpr h1) ((hcond0_2 t).mpr h2) (iblk m c 0 t) (iblk m c 1 t) (iblk m c 2 t) (iblk m c 3 t) (iblk m c 4 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iintro ⟨H0, H1, H2, H3, H4, ⟨%e5, H5⟩, ⟨%e6, H6⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_C_5 c _ _ _ _ _ _ _ _ _ _ _ _ _ _ _ _ _ _ _ _ _ _ _ _)
        unfold owns; iexists _; isplitr
        swap; · iexact H6
        ipureintro; exact View.read_writes_of_cover _ _ _ _ _ (cover0_C_6 c _ _ _ _ _ _ _ _ _ _ _ _ _ _ _ _ _ _ _ _ _ _ _ _)
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5_B t (fun h => h0 ((hcond0_0 t).mp h)) ((hcond0_1 t).mpr h1) (fun h => h2 ((hcond0_2 t).mp h))], after0_5]
        rw [Dat.leavesExact_idle (dats m 0 c) 6 t (idleAt0_6_B t (fun h => h0 ((hcond0_0 t).mp h)) ((hcond0_1 t).mpr h1) (fun h => h2 ((hcond0_2 t).mp h))) (noFlush0_6_B t (fun h => h0 ((hcond0_0 t).mp h)) ((hcond0_1 t).mpr h1) (fun h => h2 ((hcond0_2 t).mp h)))]
        rw [outsAt0_B m c t h0 h1 h2]
        simp only [before0_5_B m c t h0 h1 h2]
        unfold out0_B_5; (try dsimp only)
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        iintro ⟨H0, H1, H2, H3, H4, ⟨%e5, H5⟩, H6⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_B_5 c _ _ _ _ _ _ _ _ _ _ _ _ _ _ _ _ _ _ _ _ _ _ _ _)
        iexists _; iexact H6
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_DownIdeal`'s statement (Defs.lean) at any `F` — Proof.lean cites it at `Bits`:
    `theorem Cert.Proof.claim : Cert.Claim := ⟨Cert.DownIdeal.Gen.facts, fun m ρ _ => Cert.DownIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.DownIdeal.Gen

end
-- ==== Proof.Ln.DownIdeal.Steps.lean ====
module

public import proofs.«01_k».proof.Proof.Ln.DownIdeal.Frame
public import proofs.«01_k».proof.Proof.Mm.Norm
public import Idealize.ShloMosaic.Lib.Pipeline.ValueKit.Tiles
public import Idealize.ShloMosaic.Lib.Pipeline.CanonAppend

@[expose] public section

/-!
# What one grid point leaves in its blocks

The first point of a row block stores its product, eight column chunks of 512; the points after it add theirs; the last
then normalises the block in place, 128 rows at a time, and writes it a second time in bf16.
-/

set_option maxRecDepth 16384

noncomputable section

open Idealize.ShloMosaic Idealize.ShloMosaic.TcCoe Idealize.SL.Sem Idealize.ShloMosaic.ValueIdx

namespace Cert.DownIdeal.Result

open Cert.DownIdeal Cert.DownIdeal.Gen

/-- The product of a point's blocks. -/
def prod (x : S512x512.Idx → EReal) (w : S512x4096.Idx → EReal) : S512x4096.Idx → EReal :=
  fun y => ∑ k : Fin 512, x (ix2 (n0 := 512) (n1 := 512) (y 0) k) * w (ix2 (n0 := 512) (n1 := 4096) k (y 1))

/-- A column chunk of the product. -/
theorem chunk (x0 : Vec Ideal S512x512 .bf16) (x1 : Vec Ideal S512x4096 .bf16) (o : ℕ) (inb) (x : S512x512.Idx) (y : S512x4096.Idx)
    (e0 : (y 0).val = (x 0).val) (e1 : (y 1).val = o + (x 1).val) :
    k0_pay8 (F := Ideal) x0 (View.ld x1 (Rect.unit ![0, o] ![512, 512] inb)) x = prod x0 x1 y := by
  unfold k0_pay8
  refine (congrArg _ (eq_ix2 (n0 := 512) (n1 := 512) x)).trans ((Ideal.matmul_plain_apply none x0 _ _ (x 0) (x 1)).trans ?_)
  show Ideal.ofBits .f32 0x00000000#32 + _ = _
  rw [Ideal.ofBits_zero_f32, zero_add]
  refine Finset.sum_congr rfl fun k _ => congrArg₂ (· * ·) (congrArg x0 ?_) (View.ld_unit_apply_of x1 _ _ inb _ _ fun a => ?_)
  · funext a
    match a with
    | ⟨0, _⟩ => exact Fin.ext e0.symm
    | ⟨1, _⟩ => rfl
  · match a with
    | ⟨0, _⟩ => show k.val = 0 + k.val; omega
    | ⟨1, _⟩ => exact e1

/-- A column chunk of the running sums with the point's product added. -/
theorem chunk_add (x0 : Vec Ideal S512x512 .bf16) (x1 : Vec Ideal S512x4096 .bf16) (xo : Vec Ideal S512x4096 .f32) (o : ℕ) (inb inb')
    (x : S512x512.Idx) (y : S512x4096.Idx) (e0 : (y 0).val = (x 0).val) (e1 : (y 1).val = o + (x 1).val) :
    k0_pay15 (F := Ideal) x0 (View.ld xo (Rect.unit ![0, o] ![512, 512] inb')) (View.ld x1 (Rect.unit ![0, o] ![512, 512] inb)) x
      = xo y + prod x0 x1 y := by
  unfold k0_pay15
  simp only [shapeCast_self]
  refine congrArg₂ (· + ·) (View.ld_unit_apply_of xo _ _ inb' _ _ fun a => ?_) (chunk x0 x1 o inb x y e0 e1)
  match a with
  | ⟨0, _⟩ => show (y 0).val = 0 + (x 0).val; omega
  | ⟨1, _⟩ => exact e1

/-- **The first point of a row block leaves its product.** -/
theorem first (c : Dev nD) (i : grid0.Coords) (a2 : Memref sig .tc .vmem S512x512 .bf16) (h2 : a2.IsWhole)
    (a3 : Memref sig .tc .vmem S512x4096 .bf16) (h3 : a3.IsWhole) (a4 : Memref sig .tc .vmem S512x4096 .f32) (h4 : a4.IsWhole)
    (a5 : Memref sig .tc .vmem S1x4096 .f32) (h5 : a5.IsWhole) (a6 : Memref sig .tc .vmem S1x4096 .f32) (h6 : a6.IsWhole)
    (a7 : Memref sig .tc .vmem S512x4096 .f32) (h7 : a7.IsWhole) (a8 : Memref sig .tc .vmem S512x4096 .bf16) (h8 : a8.IsWhole) (hc0 hc1 hc2)
    (x0 : Vec Ideal S512x512 .bf16) (x1 : Vec Ideal S512x4096 .bf16) (x2 : Vec Ideal S512x4096 .f32) (x3 x4 : Vec Ideal S1x4096 .f32) :
    out0_A_5 (F := Ideal) c i a2 h2 a3 h3 a4 h4 a5 h5 a6 h6 a7 h7 a8 h8 hc0 hc1 hc2 x0 x1 x2 x3 x4 = prod x0 x1 := by
  funext y
  frame_out
  canon_tiles x h
  all_goals exact chunk x0 x1 _ _ x y (by omega) (by omega)

/-- **A point after it adds its product.** -/
theorem next (c : Dev nD) (i : grid0.Coords) (a2 : Memref sig .tc .vmem S512x512 .bf16) (h2 : a2.IsWhole)
    (a3 : Memref sig .tc .vmem S512x4096 .bf16) (h3 : a3.IsWhole) (a4 : Memref sig .tc .vmem S512x4096 .f32) (h4 : a4.IsWhole)
    (a5 : Memref sig .tc .vmem S1x4096 .f32) (h5 : a5.IsWhole) (a6 : Memref sig .tc .vmem S1x4096 .f32) (h6 : a6.IsWhole)
    (a7 : Memref sig .tc .vmem S512x4096 .f32) (h7 : a7.IsWhole) (a8 : Memref sig .tc .vmem S512x4096 .bf16) (h8 : a8.IsWhole) (hc0 hc1 hc2)
    (x0 : Vec Ideal S512x512 .bf16) (x1 : Vec Ideal S512x4096 .bf16) (x2 : Vec Ideal S512x4096 .f32) (x3 x4 : Vec Ideal S1x4096 .f32) (xo : Vec Ideal S512x4096 .f32) :
    out0_B_5 (F := Ideal) c i a2 h2 a3 h3 a4 h4 a5 h5 a6 h6 a7 h7 a8 h8 hc0 hc1 hc2 x0 x1 x2 x3 x4 xo = fun y => xo y + prod x0 x1 y := by
  funext y
  frame_out
  canon_tiles x h
  all_goals exact chunk_add x0 x1 xo _ _ _ x y (by omega) (by omega)

/-- A row block after the norm: the residual, the products, the scale and the shift. -/
def normed (res s : S512x4096.Idx → EReal) (g b : S1x4096.Idx → EReal) : S512x4096.Idx → EReal := fun y =>
  Norm.norm (Norm.row (fun j => res (ix2 (n0 := 512) (n1 := 4096) (y 0) j)) fun j => s (ix2 (n0 := 512) (n1 := 4096) (y 0) j))
    (g (ix2 (n0 := 1) (n1 := 4096) 0 (y 1))) (b (ix2 (n0 := 1) (n1 := 4096) 0 (y 1))) (y 1)

/-- What 128 rows of the norm are taken of. -/
def sums (res s : Vec Ideal S128x4096 .f32) : FVec Ideal S128x4096 .f32 :=
  addf (mulf (broadcast S128x4096 (Scalar.ofBits (F := Ideal) .f32 0x3FD744FD#32)) res) s

/-- The rows' means, a column. -/
def means (u : FVec Ideal S128x4096 .f32) : FVec Ideal S128x1 .f32 :=
  divf (shapeCast S128x1 (multiReduction .add [1] S128 u 0x00000000#32 reduces_S128x4096_S128 (.inl rfl) rfl) shapeCasts_S128_S128x1)
    (broadcast S128x1 (Scalar.ofBits (F := Ideal) .f32 0x45800000#32))

/-- The rows with their means taken away. -/
def centred (u : FVec Ideal S128x4096 .f32) : FVec Ideal S128x4096 .f32 :=
  subf u (broadcastTo S128x4096 (means u) broadcasts_S128x1_S128x4096)

theorem column_apply (v : FVec Ideal S128x1 .f32) (r : Fin 128) (j : Fin 4096) :
    broadcastTo S128x4096 v broadcasts_S128x1_S128x4096 (ix2 r j) = v (ix2 (n0 := 128) (n1 := 1) r 0) := by
  refine broadcastTo_apply _ broadcasts_S128x1_S128x4096 _ _ fun a => ?_
  match a with
  | ⟨0, _⟩ => rfl
  | ⟨1, _⟩ => rfl

theorem line_apply (v : FVec Ideal S1x4096 .f32) (r : Fin 128) (j : Fin 4096) :
    broadcastTo S128x4096 v broadcasts_S1x4096_S128x4096 (ix2 r j) = v (ix2 (n0 := 1) (n1 := 4096) 0 j) := by
  refine broadcastTo_apply _ broadcasts_S1x4096_S128x4096 _ _ fun a => ?_
  match a with
  | ⟨0, _⟩ => rfl
  | ⟨1, _⟩ => rfl

theorem means_apply (u : FVec Ideal S128x4096 .f32) (r : Fin 128) (z : Fin 1) :
    means u (ix2 r z) = Norm.mean fun k => u (ix2 r k) := by
  refine congrArg (fun e : EReal => Ideal.div e (Ideal.ofBits .f32 0x45800000#32)) ?_
  refine (shapeCast_apply _ shapeCasts_S128_S128x1 (ix2 r z) (ix1 r) ?_).trans ?_
  · rw [Shape.rowMajor_val_one, Shape.rowMajor_val_two]
    show r.val = r.val * 1 + z.val
    omega
  · refine (Ideal.multiReduction_add_single (φ := .f32) u 0x00000000#32 reduces_S128x4096_S128 (.inl rfl) rfl (ix1 r)).trans ?_
    refine Finset.sum_congr rfl fun j _ => congrArg u (funext fun a => Fin.ext ?_)
    match a with
    | ⟨0, _⟩ => rfl
    | ⟨1, _⟩ => rfl

theorem centred_apply (u : FVec Ideal S128x4096 .f32) (r : Fin 128) (j : Fin 4096) :
    centred u (ix2 r j) = u (ix2 r j) - Norm.mean fun k => u (ix2 r k) :=
  congrArg (fun e : EReal => u (ix2 r j) - e) ((column_apply _ r j).trans (means_apply u r 0))

/-- The stored rows, in those words. -/
theorem pay6_eq (g b : Vec Ideal S1x4096 .f32) (res s : Vec Ideal S128x4096 .f32) :
    k0_pay6 (F := Ideal) g b res s
      = addf (mulf (mulf (centred (sums res s))
          (broadcastTo S128x4096 (rsqrt (addf (means (mulf (centred (sums res s)) (centred (sums res s))))
            (broadcast S128x1 (Scalar.ofBits (F := Ideal) .f32 0x3727C5AC#32)))) broadcasts_S128x1_S128x4096))
          (broadcastTo S128x4096 g broadcasts_S1x4096_S128x4096)) (broadcastTo S128x4096 b broadcasts_S1x4096_S128x4096) := by
  unfold k0_pay6
  simp only [shapeCast_self]
  rfl

/-- **A stored entry is its row's norm.** -/
theorem pay6_apply (g b : Vec Ideal S1x4096 .f32) (res s : Vec Ideal S128x4096 .f32) (r : Fin 128) (j : Fin 4096) :
    k0_pay6 (F := Ideal) g b res s (ix2 r j)
      = Norm.norm (Norm.row (fun k => res (ix2 r k)) fun k => s (ix2 r k)) (g (ix2 (n0 := 1) (n1 := 4096) 0 j))
          (b (ix2 (n0 := 1) (n1 := 4096) 0 j)) j := by
  rw [pay6_eq]
  have hv : means (mulf (centred (sums res s)) (centred (sums res s))) (ix2 (n0 := 128) (n1 := 1) r 0)
      = Norm.variance fun k => sums res s (ix2 r k) := by
    refine (means_apply _ r 0).trans (congrArg Norm.mean (funext fun k => ?_))
    exact congrArg₂ (· * ·) (centred_apply _ r k) (centred_apply _ r k)
  refine congrArg₂ (fun x y : EReal => x + y) (congrArg₂ (fun x y : EReal => x * y) (congrArg₂ (fun x y : EReal => x * y)
    (centred_apply (sums res s) r j) ((column_apply _ r j).trans ?_)) (line_apply g r j)) (line_apply b r j)
  exact congrArg (fun e : EReal => Ideal.rsqrt (e + Ideal.ofBits .f32 0x3727C5AC#32)) hv

theorem trips_eq : k0_t1_loop.trips = 4 := by decide +kernel

/-- What a trip stores, f32. -/
theorem trip_f32 (c : Dev nD) (i : grid0.Coords) (a2 : Memref sig .tc .vmem S512x512 .bf16) (h2 : a2.IsWhole)
    (a3 : Memref sig .tc .vmem S512x4096 .bf16) (h3 : a3.IsWhole) (a4 : Memref sig .tc .vmem S512x4096 .f32) (h4 : a4.IsWhole)
    (a5 : Memref sig .tc .vmem S1x4096 .f32) (h5 : a5.IsWhole) (a6 : Memref sig .tc .vmem S1x4096 .f32) (h6 : a6.IsWhole)
    (a7 : Memref sig .tc .vmem S512x4096 .f32) (h7 : a7.IsWhole) (a8 : Memref sig .tc .vmem S512x4096 .bf16) (h8 : a8.IsWhole) (h) (v10 v12 : Vec Ideal S1x4096 .f32) (X) (k : Fin k0_t1_loop.trips) (f7) (f8) :
    (trip_k0_t1 (F := Ideal) Variants.none c none i a2 h2 a3 h3 a4 h4 a5 h5 a6 h6 a7 h7 a8 h8 h v10 v12 X k).1 f7 f8
      = [⟨Rect.unit (k0_off1 k) S128x4096.size (k0_off1_inb i k h), k0_pay6 v10 v12
          (View.ld (a4.view.read (Elt Ideal) X) (Rect.unit (s := S512x4096) (k0_off1 k) S128x4096.size (k0_off1_inb i k h)))
          (View.ld (a7.view.read (Elt Ideal) f7) (Rect.unit (s := S512x4096) (k0_off1 k) S128x4096.size (k0_off1_inb i k h)))⟩] := by
  unfold trip_k0_t1
  rfl

/-- And bf16. -/
theorem trip_bf16 (c : Dev nD) (i : grid0.Coords) (a2 : Memref sig .tc .vmem S512x512 .bf16) (h2 : a2.IsWhole)
    (a3 : Memref sig .tc .vmem S512x4096 .bf16) (h3 : a3.IsWhole) (a4 : Memref sig .tc .vmem S512x4096 .f32) (h4 : a4.IsWhole)
    (a5 : Memref sig .tc .vmem S1x4096 .f32) (h5 : a5.IsWhole) (a6 : Memref sig .tc .vmem S1x4096 .f32) (h6 : a6.IsWhole)
    (a7 : Memref sig .tc .vmem S512x4096 .f32) (h7 : a7.IsWhole) (a8 : Memref sig .tc .vmem S512x4096 .bf16) (h8 : a8.IsWhole) (h) (v10 v12 : Vec Ideal S1x4096 .f32) (X) (k : Fin k0_t1_loop.trips) (f7) (f8) :
    (trip_k0_t1 (F := Ideal) Variants.none c none i a2 h2 a3 h3 a4 h4 a5 h5 a6 h6 a7 h7 a8 h8 h v10 v12 X k).2.1 f7 f8
      = [⟨Rect.unit (k0_off1 k) S128x4096.size (k0_off1_inb i k h), k0_pay6 (F := Ideal) v10 v12
          (View.ld (a4.view.read (Elt Ideal) X) (Rect.unit (s := S512x4096) (k0_off1 k) S128x4096.size (k0_off1_inb i k h)))
          (View.ld (a7.view.read (Elt Ideal) f7) (Rect.unit (s := S512x4096) (k0_off1 k) S128x4096.size (k0_off1_inb i k h)))⟩] := by
  unfold trip_k0_t1
  rfl

theorem rows_val (k : Fin k0_t1_loop.trips) (inb) (x : S128x4096.Idx) :
    (((Rect.unit (s := S512x4096) (k0_off1 k) S128x4096.size inb).emb x) 0).val = 128 * k.val + (x 0).val ∧
    (((Rect.unit (s := S512x4096) (k0_off1 k) S128x4096.size inb).emb x) 1).val = (x 1).val := by
  refine ⟨(Rect.idx_unit_val _ _ _ _ _).trans ?_, (Rect.idx_unit_val _ _ _ _ _).trans ?_⟩
  · exact congrArg (· + (x 0).val) (congrFun (k0_off1_eq k) 0)
  · exact (congrArg (· + (x 1).val) (congrFun (k0_off1_eq k) 1)).trans (Nat.zero_add _)

theorem rows_mem (k : Fin k0_t1_loop.trips) (inb) (y : S512x4096.Idx) :
    y ∈ (Rect.unit (s := S512x4096) (k0_off1 k) S128x4096.size inb).set ↔ 128 * k.val ≤ (y 0).val ∧ (y 0).val < 128 * k.val + 128 := by
  have h1 : (y 1).val < 4096 := (y 1).isLt
  rw [Rect.mem_set_unit, k0_off1_eq]
  constructor
  · intro h; exact h 0
  · intro h a
    match a with
    | ⟨0, _⟩ => exact h
    | ⟨1, _⟩ => exact ⟨Nat.zero_le _, (Nat.zero_add 4096).symm ▸ h1⟩

/-- The rows a trip stores are the norm of its rows, if the sums it reads there are still `s`. -/
theorem stored (g b : Vec Ideal S1x4096 .f32) (res s s' : Vec Ideal S512x4096 .f32) (k : Fin k0_t1_loop.trips) (inb)
    (hs : ∀ y : S512x4096.Idx, 128 * k.val ≤ (y 0).val → s' y = s y) (x : S128x4096.Idx) :
    k0_pay6 (F := Ideal) g b (View.ld res (Rect.unit (s := S512x4096) (k0_off1 k) S128x4096.size inb))
        (View.ld s' (Rect.unit (s := S512x4096) (k0_off1 k) S128x4096.size inb)) x
      = normed res s g b ((Rect.unit (s := S512x4096) (k0_off1 k) S128x4096.size inb).emb x) := by
  have hr : ∀ j : Fin 4096, (Rect.unit (s := S512x4096) (k0_off1 k) S128x4096.size inb).emb (ix2 (n0 := 128) (n1 := 4096) (x 0) j)
      = ix2 (n0 := 512) (n1 := 4096) (((Rect.unit (s := S512x4096) (k0_off1 k) S128x4096.size inb).emb x) 0) j := by
    intro j
    funext a
    match a with
    | ⟨0, _⟩ => exact Fin.ext ((rows_val k inb _).1.trans (rows_val k inb x).1.symm)
    | ⟨1, _⟩ => exact Fin.ext (rows_val k inb _).2
  have hj : ((Rect.unit (s := S512x4096) (k0_off1 k) S128x4096.size inb).emb x) 1 = x 1 := Fin.ext (rows_val k inb x).2
  refine (congrArg _ (eq_ix2 (n0 := 128) (n1 := 4096) x)).trans ((pay6_apply g b _ _ (x 0) (x 1)).trans ?_)
  unfold normed
  rw [hj]
  have e1 : (fun j : Fin 4096 => View.ld res (Rect.unit (s := S512x4096) (k0_off1 k) S128x4096.size inb) (ix2 (n0 := 128) (n1 := 4096) (x 0) j))
      = fun j => res (ix2 (n0 := 512) (n1 := 4096) (((Rect.unit (s := S512x4096) (k0_off1 k) S128x4096.size inb).emb x) 0) j) :=
    funext fun j => congrArg res (hr j)
  have e2 : (fun j : Fin 4096 => View.ld s' (Rect.unit (s := S512x4096) (k0_off1 k) S128x4096.size inb) (ix2 (n0 := 128) (n1 := 4096) (x 0) j))
      = fun j => s (ix2 (n0 := 512) (n1 := 4096) (((Rect.unit (s := S512x4096) (k0_off1 k) S128x4096.size inb).emb x) 0) j) := by
    funext j
    refine (congrArg s' (hr j)).trans (hs _ ?_)
    show 128 * k.val ≤ (((Rect.unit (s := S512x4096) (k0_off1 k) S128x4096.size inb).emb x) 0).val
    rw [(rows_val k inb x).1]
    omega
  exact congrArg₂ (fun p q => Norm.norm (Norm.row p q) (g (ix2 (n0 := 1) (n1 := 4096) 0 (x 1))) (b (ix2 (n0 := 1) (n1 := 4096) 0 (x 1))) (x 1)) e1 e2

/-- Pieces that hold the first `n` rows of one function, and no more. -/
def Holds {e : EltTy} (G : S512x4096.Idx → Elt Ideal e) (n : ℕ) (L : List (View.Piece (Elt Ideal) S512x4096 e)) : Prop :=
  (∀ p ∈ L, ∀ x : p.1.shape.Idx, p.2 x = G (p.1.emb x)) ∧ (∀ p ∈ L, ∀ y ∈ p.1.set, (y 0).val < n) ∧
    ∀ y : S512x4096.Idx, (y 0).val < n → ∃ p ∈ L, y ∈ p.1.set

theorem holds_cons {e : EltTy} (G : S512x4096.Idx → Elt Ideal e) (k : Fin k0_t1_loop.trips) (L : List (View.Piece (Elt Ideal) S512x4096 e))
    (inb) (w) (hL : Holds G (128 * k.val) L)
    (hw : ∀ x : S128x4096.Idx, w x = G ((Rect.unit (s := S512x4096) (k0_off1 k) S128x4096.size inb).emb x)) :
    Holds G (128 * (k.val + 1)) (⟨Rect.unit (s := S512x4096) (k0_off1 k) S128x4096.size inb, w⟩ :: L) := by
  obtain ⟨h1, h2, h3⟩ := hL
  refine ⟨fun p hp => ?_, fun p hp y hy => ?_, fun y hy => ?_⟩
  · rcases List.mem_cons.mp hp with rfl | hp
    · exact hw
    · exact h1 p hp
  · rcases List.mem_cons.mp hp with rfl | hp
    · have := ((rows_mem k inb y).mp hy).2; omega
    · have := h2 p hp y hy; omega
  · by_cases hk : (y 0).val < 128 * k.val
    · obtain ⟨p, hp, hyp⟩ := h3 y hk
      exact ⟨p, List.mem_cons_of_mem _ hp, hyp⟩
    · exact ⟨_, List.mem_cons_self, (rows_mem k inb y).mpr ⟨by omega, by omega⟩⟩

/-- **The norm's trips**: after `n` of them both outputs hold the norm of the first `128 n` rows; the rows a trip reads are
    still the sums, since the trips before it wrote other rows. -/
theorem trips (c : Dev nD) (i : grid0.Coords) (a2 : Memref sig .tc .vmem S512x512 .bf16) (h2 : a2.IsWhole)
    (a3 : Memref sig .tc .vmem S512x4096 .bf16) (h3 : a3.IsWhole) (a4 : Memref sig .tc .vmem S512x4096 .f32) (h4 : a4.IsWhole)
    (a5 : Memref sig .tc .vmem S1x4096 .f32) (h5 : a5.IsWhole) (a6 : Memref sig .tc .vmem S1x4096 .f32) (h6 : a6.IsWhole)
    (a7 : Memref sig .tc .vmem S512x4096 .f32) (h7 : a7.IsWhole) (a8 : Memref sig .tc .vmem S512x4096 .bf16) (h8 : a8.IsWhole) (h) (v10 v12 : Vec Ideal S1x4096 .f32) (X) (G7) (G8) (res s : Vec Ideal S512x4096 .f32)
    (hX : a4.view.read (Elt Ideal) X = res) (hG : a7.view.read (Elt Ideal) G7 = s) (n : ℕ) (hn : n ≤ k0_t1_loop.trips) :
    Holds (e := .f32) (normed res s v10 v12) (128 * n) (pb_k0_t1 (F := Ideal) Variants.none c none i a2 h2 a3 h3 a4 h4 a5 h5 a6 h6 a7 h7 a8 h8 h v10 v12 X G7 G8 n).1 ∧
      Holds (e := .bf16) (normed res s v10 v12) (128 * n) (pb_k0_t1 (F := Ideal) Variants.none c none i a2 h2 a3 h3 a4 h4 a5 h5 a6 h6 a7 h7 a8 h8 h v10 v12 X G7 G8 n).2 := by
  induction n with
  | zero =>
    constructor <;> exact ⟨fun p hp => absurd hp List.not_mem_nil, fun p hp => absurd hp List.not_mem_nil, fun y hy => absurd hy (Nat.not_lt_zero _)⟩
  | succ n ih =>
    obtain ⟨i5, i6⟩ := ih (by omega)
    have e := pb_k0_t1_succ (F := Ideal) Variants.none c none i a2 h2 a3 h3 a4 h4 a5 h5 a6 h6 a7 h7 a8 h8 h v10 v12 X G7 G8 ⟨n, hn⟩
    have hs : ∀ y : S512x4096.Idx, 128 * n ≤ (y 0).val →
        a7.view.read (Elt Ideal) (a7.view.writes (Elt Ideal) G7 (pb_k0_t1 (F := Ideal) Variants.none c none i a2 h2 a3 h3 a4 h4 a5 h5 a6 h6 a7 h7 a8 h8 h v10 v12 X G7 G8 n).1) y = s y := by
      intro y hy
      rw [View.read_writes_apply_of_forall_not_mem, hG]
      intro p hp hm
      have := i5.2.1 p hp y hm
      omega
    rw [e]
    dsimp only [tripL_k0_t1]
    rw [trip_f32, trip_bf16, hX]
    exact ⟨holds_cons _ ⟨n, hn⟩ _ _ _ i5 (stored v10 v12 res s _ ⟨n, hn⟩ _ hs), holds_cons _ ⟨n, hn⟩ _ _ _ i6 (stored v10 v12 res s _ ⟨n, hn⟩ _ hs)⟩

/-- **The last point normalises the row block.** -/
theorem last (c : Dev nD) (i : grid0.Coords) (a2 : Memref sig .tc .vmem S512x512 .bf16) (h2 : a2.IsWhole)
    (a3 : Memref sig .tc .vmem S512x4096 .bf16) (h3 : a3.IsWhole) (a4 : Memref sig .tc .vmem S512x4096 .f32) (h4 : a4.IsWhole)
    (a5 : Memref sig .tc .vmem S1x4096 .f32) (h5 : a5.IsWhole) (a6 : Memref sig .tc .vmem S1x4096 .f32) (h6 : a6.IsWhole)
    (a7 : Memref sig .tc .vmem S512x4096 .f32) (h7 : a7.IsWhole) (a8 : Memref sig .tc .vmem S512x4096 .bf16) (h8 : a8.IsWhole) (hc0 hc1 hc2)
    (x0 : Vec Ideal S512x512 .bf16) (x1 : Vec Ideal S512x4096 .bf16) (x2 : Vec Ideal S512x4096 .f32) (x3 x4 : Vec Ideal S1x4096 .f32) (xo : Vec Ideal S512x4096 .f32) :
    out0_C_5 (F := Ideal) c i a2 h2 a3 h3 a4 h4 a5 h5 a6 h6 a7 h7 a8 h8 hc0 hc1 hc2 x0 x1 x2 x3 x4 xo = normed x2 (fun y => xo y + prod x0 x1 y) x3 x4 := by
  funext y
  have hy : (y 0).val < 128 * k0_t1_loop.trips := by rw [trips_eq]; exact (y 0).isLt
  have H := fun L hG => trips c i a2 h2 a3 h3 a4 h4 a5 h5 a6 h6 a7 h7 a8 h8 hc2 x3 x4 (h4.unread x2) (a7.view.writes (Elt Ideal) a7.view.junk L)
    a8.view.junk x2 (fun y => xo y + prod x0 x1 y) (h4.read_unread x2) hG k0_t1_loop.trips le_rfl
  frame_out
  refine View.canon_append_of_pieces (normed x2 (fun y => xo y + prod x0 x1 y) x3 x4) _ _ (H _ ?_).1.1 y ((H _ ?_).1.2.2 y hy)
  all_goals
    funext z
    refine (View.read_writes_apply_eq_canon _ _ z _ (View.cover_of_tiledL (s := S512x4096) _ ![512, 512] (by sl_kernel_rfl) z)).trans ?_
    canon_tiles x h
    all_goals exact chunk_add x0 x1 xo _ _ _ x z (by omega) (by omega)

/-- **And writes it in bf16.** -/
theorem last_bf16 (c : Dev nD) (i : grid0.Coords) (a2 : Memref sig .tc .vmem S512x512 .bf16) (h2 : a2.IsWhole)
    (a3 : Memref sig .tc .vmem S512x4096 .bf16) (h3 : a3.IsWhole) (a4 : Memref sig .tc .vmem S512x4096 .f32) (h4 : a4.IsWhole)
    (a5 : Memref sig .tc .vmem S1x4096 .f32) (h5 : a5.IsWhole) (a6 : Memref sig .tc .vmem S1x4096 .f32) (h6 : a6.IsWhole)
    (a7 : Memref sig .tc .vmem S512x4096 .f32) (h7 : a7.IsWhole) (a8 : Memref sig .tc .vmem S512x4096 .bf16) (h8 : a8.IsWhole) (hc0 hc1 hc2)
    (x0 : Vec Ideal S512x512 .bf16) (x1 : Vec Ideal S512x4096 .bf16) (x2 : Vec Ideal S512x4096 .f32) (x3 x4 : Vec Ideal S1x4096 .f32) (xo : Vec Ideal S512x4096 .f32) :
    out0_C_6 (F := Ideal) c i a2 h2 a3 h3 a4 h4 a5 h5 a6 h6 a7 h7 a8 h8 hc0 hc1 hc2 x0 x1 x2 x3 x4 xo = normed x2 (fun y => xo y + prod x0 x1 y) x3 x4 := by
  funext y
  have hy : (y 0).val < 128 * k0_t1_loop.trips := by rw [trips_eq]; exact (y 0).isLt
  have H := fun L hG => trips c i a2 h2 a3 h3 a4 h4 a5 h5 a6 h6 a7 h7 a8 h8 hc2 x3 x4 (h4.unread x2) (a7.view.writes (Elt Ideal) a7.view.junk L)
    a8.view.junk x2 (fun y => xo y + prod x0 x1 y) (h4.read_unread x2) hG k0_t1_loop.trips le_rfl
  frame_out
  refine View.canon_apply_of_pieces (normed x2 (fun y => xo y + prod x0 x1 y) x3 x4) _ (H _ ?_).2.1 y ((H _ ?_).2.2.2 y hy)
  all_goals
    funext z
    refine (View.read_writes_apply_eq_canon _ _ z _ (View.cover_of_tiledL (s := S512x4096) _ ![512, 512] (by sl_kernel_rfl) z)).trans ?_
    canon_tiles x h
    all_goals exact chunk_add x0 x1 xo _ _ _ x z (by omega) (by omega)

end Cert.DownIdeal.Result

end
-- ==== Proof.Ln.DownIdeal.Sums.lean ====
module

public import proofs.«01_k».proof.Proof.Ln.DownIdeal.Steps

@[expose] public section

/-!
# The running sums over the grid

The 22 points of a row block add their products one after another; the last normalises what they come to. Read over the
whole arrays: a row block ends as the norm of the residual's rows and the full products' rows.
-/

set_option maxRecDepth 16384

noncomputable section

open Idealize.ShloMosaic Idealize.ShloMosaic.TcCoe Idealize.SL.Sem Idealize.ShloMosaic.ValueIdx
open Idealize.ShloMosaic.Pipeline (Dat)

namespace Cert.DownIdeal.Result

open Cert.DownIdeal Cert.DownIdeal.Gen

variable (m : (ℓ : Loc nD τ sig) → Buf (Elt Ideal) ℓ)

/-- The rows. -/
abbrev rows (c : Dev nD) : S8192x11264.Idx → EReal := m ((c.tc : Thread nD τ).loc main_arg0)
/-- The weights. -/
abbrev weights (c : Dev nD) : S11264x4096.Idx → EReal := m ((c.tc : Thread nD τ).loc main_arg1)
/-- The residual. -/
abbrev residual (c : Dev nD) : S8192x4096.Idx → EReal := m ((c.tc : Thread nD τ).loc main_arg2)
/-- The norm's scale. -/
abbrev scale (c : Dev nD) : S4096.Idx → EReal := m ((c.tc : Thread nD τ).loc main_arg3)
/-- The norm's shift. -/
abbrev shift (c : Dev nD) : S4096.Idx → EReal := m ((c.tc : Thread nD τ).loc main_arg4)

/-- The product of two arrays, at a row and a column. -/
def product (x : S8192x11264.Idx → EReal) (w : S11264x4096.Idx → EReal) (i : Fin 8192) (j : Fin 4096) : EReal :=
  ∑ k : Fin 11264, x (ix2 (n0 := 8192) (n1 := 11264) i k) * w (ix2 (n0 := 11264) (n1 := 4096) k j)

/-- What the layer computes: the norm of the scaled residual plus the product, row by row. -/
def result (x : S8192x11264.Idx → EReal) (w : S11264x4096.Idx → EReal) (res : S8192x4096.Idx → EReal) (g b : S4096.Idx → EReal) :
    S8192x4096.Idx → EReal := fun y =>
  Norm.norm (Norm.row (fun j => res (ix2 (n0 := 8192) (n1 := 4096) (y 0) j)) (product x w (y 0)))
    (g (ix1 (n := 4096) (y 1))) (b (ix1 (n := 4096) (y 1))) (y 1)

theorem result_apply (x : S8192x11264.Idx → EReal) (w : S11264x4096.Idx → EReal) (res : S8192x4096.Idx → EReal) (g b : S4096.Idx → EReal)
    (y : Fin 8192) (j : Fin 4096) : result x w res g b (ix2 y j)
      = Norm.norm (Norm.row (fun k => res (ix2 y k)) (product x w y)) (g (ix1 j)) (b (ix1 j)) j := rfl

/-- A term of the product's sum, nothing past its end. -/
def term (x : S8192x11264.Idx → EReal) (w : S11264x4096.Idx → EReal) (i : Fin 8192) (j : Fin 4096) (k : ℕ) : EReal :=
  if h : k < 11264 then x (ix2 (n0 := 8192) (n1 := 11264) i ⟨k, h⟩) * w (ix2 (n0 := 11264) (n1 := 4096) ⟨k, h⟩ j) else 0

/-- The sum taken 512 terms at a time is the product. -/
theorem product_eq (x : S8192x11264.Idx → EReal) (w : S11264x4096.Idx → EReal) (i : Fin 8192) (j : Fin 4096) :
    ∑ k ∈ Finset.range 22, ∑ l : Fin 512, term x w i j (512 * k + l.val) = product x w i j := by
  rw [Norm.sum_runs, show 512 * 22 = 11264 from rfl, Finset.sum_range]
  exact Finset.sum_congr rfl fun k _ => dif_pos k.isLt

theorem N_eq : cfg0.N = 352 := N_0

theorem index0 : ∀ t : Fin grid0.N, win0_0.index t 0 = t.val / 22 ∧ win0_0.index t 1 = t.val % 22 := by decide +kernel
theorem index1 : ∀ t : Fin grid0.N, win0_1.index t 0 = t.val % 22 ∧ win0_1.index t 1 = 0 := by decide +kernel
theorem index2 : ∀ t : Fin grid0.N, win0_2.index t 0 = t.val / 22 ∧ win0_2.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = t.val / 22 ∧ win0_5.index t 1 = 0 := by decide +kernel
theorem index6 : ∀ t : Fin grid0.N, win0_6.index t 0 = t.val / 22 ∧ win0_6.index t 1 = 0 := by decide +kernel
theorem flush5 : ∀ t : Fin grid0.N, win0_5.flush t = decide (t.val % 22 = 21) := by decide +kernel
theorem flush6 : ∀ t : Fin grid0.N, win0_6.flush t = decide (t.val % 22 = 21) := by decide +kernel

/-- The block of rows. -/
theorem rows_block (c : Dev nD) (t : Fin cfg0.N) (r k : Fin 512) (y : Fin 8192) (z : Fin 11264) (hy : y.val = 512 * (t.val / 22) + r.val)
    (hz : z.val = 512 * (t.val % 22) + k.val) :
    (iblk m c 0 t : Vec Ideal S512x512 .bf16) (ix2 r k) = rows m c (ix2 y z) := by
  unfold iblk
  rw [View.read_apply]
  show V m c main_arg0 _ = _
  rw [V_main_arg0]
  refine congrArg (rows m c) (funext fun a => Fin.ext ?_)
  match a with
  | ⟨0, _⟩ => show win0_0.index t 0 * 512 + 1 * r.val = y.val; rw [(index0 t).1]; omega
  | ⟨1, _⟩ => show win0_0.index t 1 * 512 + 1 * k.val = z.val; rw [(index0 t).2]; omega

/-- The block of weights. -/
theorem weights_block (c : Dev nD) (t : Fin cfg0.N) (k : Fin 512) (j : Fin 4096) (z : Fin 11264) (hz : z.val = 512 * (t.val % 22) + k.val) :
    (iblk m c 1 t : Vec Ideal S512x4096 .bf16) (ix2 k j) = weights m c (ix2 z j) := by
  unfold iblk
  rw [View.read_apply]
  show V m c main_arg1 _ = _
  rw [V_main_arg1]
  refine congrArg (weights m c) (funext fun a => Fin.ext ?_)
  match a with
  | ⟨0, _⟩ => show win0_1.index t 0 * 512 + 1 * k.val = z.val; rw [(index1 t).1]; omega
  | ⟨1, _⟩ => show win0_1.index t 1 * 4096 + 1 * j.val = j.val; rw [(index1 t).2]; omega

/-- The block of the residual. -/
theorem residual_block (c : Dev nD) (t : Fin cfg0.N) (r : Fin 512) (j : Fin 4096) (y : Fin 8192) (hy : y.val = 512 * (t.val / 22) + r.val) :
    (iblk m c 2 t : Vec Ideal S512x4096 .f32) (ix2 r j) = residual m c (ix2 y j) := by
  unfold iblk
  rw [View.read_apply]
  show V m c main_arg2 _ = _
  rw [V_main_arg2]
  refine congrArg (residual m c) (funext fun a => Fin.ext ?_)
  match a with
  | ⟨0, _⟩ => show win0_2.index t 0 * 512 + 1 * r.val = y.val; rw [(index2 t).1]; omega
  | ⟨1, _⟩ => show win0_2.index t 1 * 4096 + 1 * j.val = j.val; rw [(index2 t).2]; omega

/-- The scale as the kernel finds it: a row of one. -/
theorem V_scale (c : Dev nD) : V m c main_v0 = shapeCast S1x4096 (scale m c) shapeCasts_S4096_S1x4096 := by
  unfold V hostOps0; after_results_simp; rfl

/-- The shift as the kernel finds it. -/
theorem V_shift (c : Dev nD) : V m c main_v1 = shapeCast S1x4096 (shift m c) shapeCasts_S4096_S1x4096 := by
  unfold V hostOps0; after_results_simp; rfl

/-- A row of one, read. -/
theorem line_of (v : S4096.Idx → EReal) (y : S1x4096.Idx) (j : Fin 4096) (h0 : (y 0).val = 0) (h1 : (y 1).val = j.val) :
    shapeCast S1x4096 v shapeCasts_S4096_S1x4096 y = v (ix1 j) := by
  refine shapeCast_apply _ shapeCasts_S4096_S1x4096 y (ix1 j) ?_
  rw [Shape.rowMajor_val_one, Shape.rowMajor_val_two]
  show j.val = (y 0).val * 4096 + (y 1).val
  omega

/-- The block of the scale. -/
theorem scale_block (c : Dev nD) (t : Fin cfg0.N) (j : Fin 4096) :
    (iblk m c 3 t : Vec Ideal S1x4096 .f32) (ix2 (n0 := 1) (n1 := 4096) 0 j) = scale m c (ix1 j) := by
  unfold iblk
  rw [View.read_apply]
  show V m c main_v0 _ = _
  rw [V_scale]
  refine line_of _ _ j ?_ ?_
  · show win0_3.index t 0 * 1 + 1 * 0 = 0; rw [(index3 t).1]
  · show win0_3.index t 1 * 4096 + 1 * j.val = j.val; rw [(index3 t).2]; omega

/-- The block of the shift. -/
theorem shift_block (c : Dev nD) (t : Fin cfg0.N) (j : Fin 4096) :
    (iblk m c 4 t : Vec Ideal S1x4096 .f32) (ix2 (n0 := 1) (n1 := 4096) 0 j) = shift m c (ix1 j) := by
  unfold iblk
  rw [View.read_apply]
  show V m c main_v1 _ = _
  rw [V_shift]
  refine line_of _ _ j ?_ ?_
  · show win0_4.index t 0 * 1 + 1 * 0 = 0; rw [(index4 t).1]
  · show win0_4.index t 1 * 4096 + 1 * j.val = j.val; rw [(index4 t).2]; omega

/-- A point's product, entry by entry. -/
theorem prod_apply (c : Dev nD) (t : Fin cfg0.N) (r : Fin 512) (j : Fin 4096) (y : Fin 8192) (hy : y.val = 512 * (t.val / 22) + r.val) :
    prod (iblk m c 0 t) (iblk m c 1 t) (ix2 r j) = ∑ l : Fin 512, term (rows m c) (weights m c) y j (512 * (t.val % 22) + l.val) := by
  refine Finset.sum_congr rfl fun l _ => ?_
  have hl : l.val < 512 := l.isLt
  have hz : 512 * (t.val % 22) + l.val < 11264 := by omega
  refine (congrArg₂ (fun p q : EReal => p * q) (rows_block m c t r l y ⟨_, hz⟩ hy rfl) (weights_block m c t l j ⟨_, hz⟩ rfl)).trans ?_
  unfold term
  rw [dif_pos hz]

set_option maxHeartbeats 4000000 in
/-- The first point of a row block. -/
theorem at_first (c : Dev nD) (t : Fin cfg0.N) (h0 : t.val % 22 = 0) (r : Fin 512) (j : Fin 4096) :
    (outsAt0 m c t.val t.isLt).1 (ix2 r j) = prod (iblk m c 0 t) (iblk m c 1 t) (ix2 r j) := by
  have h1 : ¬1 ≤ t.val % 22 := by omega
  have h2 : ¬t.val % 22 = 21 := by omega
  exact congrFun ((congrArg Prod.fst (outsAt0_A m c t h0 h1 h2)).trans (first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (fun h => h1 ((hcond0_1 t).mp h)) (fun h => h2 ((hcond0_2 t).mp h)) (iblk m c 0 t) (iblk m c 1 t) (iblk m c 2 t) (iblk m c 3 t) (iblk m c 4 t))) _

set_option maxHeartbeats 4000000 in
/-- The points after it but the last. -/
theorem at_next (c : Dev nD) (t : Fin cfg0.N) (h0 : ¬t.val % 22 = 0) (h2 : ¬t.val % 22 = 21) (r : Fin 512) (j : Fin 4096) :
    (outsAt0 m c t.val t.isLt).1 (ix2 r j) = (outsAt0 m c (t.val - 1) (Nat.lt_of_le_of_lt (Nat.sub_le _ _) t.isLt)).1 (ix2 r j)
      + prod (iblk m c 0 t) (iblk m c 1 t) (ix2 r j) := by
  have h1 : 1 ≤ t.val % 22 := by omega
  exact congrFun ((congrArg Prod.fst (outsAt0_B m c t h0 h1 h2)).trans (next c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1)) _

/-- **The running sums**: before the last point of a row block, the products of the points so far. -/
theorem running (c : Dev nD) : ∀ (n : ℕ) (hn : n < cfg0.N) (_ : n % 22 ≤ 20) (r : Fin 512) (j : Fin 4096) (y : Fin 8192)
    (_ : y.val = 512 * (n / 22) + r.val), (outsAt0 m c n hn).1 (ix2 r j)
      = ∑ k ∈ Finset.range (n % 22 + 1), ∑ l : Fin 512, term (rows m c) (weights m c) y j (512 * k + l.val) := by
  intro n
  induction n with
  | zero =>
    intro hn hr r j y hy
    refine (at_first m c ⟨0, hn⟩ (Nat.zero_mod _) r j).trans ((prod_apply m c ⟨0, hn⟩ r j y hy).trans ?_)
    simp only [Nat.zero_mod, Nat.zero_add, Finset.sum_range_one]
  | succ n ih =>
    intro hn hr r j y hy
    by_cases h0 : (n + 1) % 22 = 0
    · refine (at_first m c ⟨n + 1, hn⟩ h0 r j).trans ((prod_apply m c ⟨n + 1, hn⟩ r j y hy).trans ?_)
      simp only [h0, Nat.zero_add, Finset.sum_range_one]
    · have h2 : ¬(n + 1) % 22 = 21 := by omega
      refine (at_next m c ⟨n + 1, hn⟩ h0 h2 r j).trans ?_
      refine (congrArg₂ (fun p q : EReal => p + q) (ih (Nat.lt_of_succ_lt hn) (by omega) r j y (by omega)) (prod_apply m c ⟨n + 1, hn⟩ r j y hy)).trans ?_
      show _ + (∑ l : Fin 512, term (rows m c) (weights m c) y j (512 * ((n + 1) % 22) + l.val)) = _
      rw [show n % 22 + 1 = (n + 1) % 22 from by omega, Finset.sum_range_succ]

/-- The sums the last point normalises: the whole products. -/
theorem whole (c : Dev nD) (t : Fin cfg0.N) (ht : t.val % 22 = 21) (h) (r : Fin 512) (j : Fin 4096) (y : Fin 8192)
    (hy : y.val = 512 * (t.val / 22) + r.val) :
    (outsAt0 m c (t.val - 1) h).1 (ix2 r j) + prod (iblk m c 0 t) (iblk m c 1 t) (ix2 r j) = product (rows m c) (weights m c) y j := by
  rw [running m c (t.val - 1) h (by omega) r j y (by omega), prod_apply m c t r j y hy, ← product_eq,
    show (t.val - 1) % 22 + 1 = 21 from by omega, ht, Finset.sum_range_succ _ 21]

/-- What the last point leaves, read over the whole arrays. -/
theorem normed_apply (c : Dev nD) (t : Fin cfg0.N) (ht : t.val % 22 = 21) (h) (r : Fin 512) (j : Fin 4096) (y : Fin 8192)
    (hy : y.val = 512 * (t.val / 22) + r.val) :
    normed (iblk m c 2 t) (fun i => (outsAt0 m c (t.val - 1) h).1 i + prod (iblk m c 0 t) (iblk m c 1 t) i) (iblk m c 3 t) (iblk m c 4 t) (ix2 r j)
      = result (rows m c) (weights m c) (residual m c) (scale m c) (shift m c) (ix2 y j) := by
  have e1 : (fun k : Fin 4096 => (iblk m c 2 t : Vec Ideal S512x4096 .f32) (ix2 r k)) = fun k => residual m c (ix2 y k) :=
    funext fun k => residual_block m c t r k y hy
  have e2 : (fun k : Fin 4096 => (outsAt0 m c (t.val - 1) h).1 (ix2 r k) + prod (iblk m c 0 t) (iblk m c 1 t) (ix2 r k))
      = product (rows m c) (weights m c) y := funext fun k => whole m c t ht h r k y hy
  show Norm.norm (Norm.row (fun k : Fin 4096 => (iblk m c 2 t : Vec Ideal S512x4096 .f32) (ix2 r k))
      (fun k : Fin 4096 => (outsAt0 m c (t.val - 1) h).1 (ix2 r k) + prod (iblk m c 0 t) (iblk m c 1 t) (ix2 r k)))
      ((iblk m c 3 t : Vec Ideal S1x4096 .f32) (ix2 (n0 := 1) (n1 := 4096) 0 j))
      ((iblk m c 4 t : Vec Ideal S1x4096 .f32) (ix2 (n0 := 1) (n1 := 4096) 0 j)) j = _
  rw [e1, e2, scale_block, shift_block]
  exact (result_apply _ _ _ _ _ y j).symm

/-- **The last point's f32 block.** -/
theorem leaves5 (c : Dev nD) (t : Fin cfg0.N) (ht : t.val % 22 = 21) (r : Fin 512) (j : Fin 4096) (y : Fin 8192)
    (hy : y.val = 512 * (t.val / 22) + r.val) :
    (outsAt0 m c t.val t.isLt).1 (ix2 r j) = result (rows m c) (weights m c) (residual m c) (scale m c) (shift m c) (ix2 y j) := by
  have h0 : ¬t.val % 22 = 0 := by omega
  have h1 : 1 ≤ t.val % 22 := by omega
  exact (congrFun ((congrArg Prod.fst (outsAt0_C m c t h0 h1 ht)).trans (last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) ((hcond0_2 t).mpr ht) (iblk m c 0 t) (iblk m c 1 t) (iblk m c 2 t) (iblk m c 3 t) (iblk m c 4 t) (outsAt0 m c (t.val - 1) (Nat.lt_of_le_of_lt (Nat.sub_le _ _) t.isLt)).1)) _).trans (normed_apply m c t ht _ r j y hy)

/-- **Its bf16 block.** -/
theorem leaves6 (c : Dev nD) (t : Fin cfg0.N) (ht : t.val % 22 = 21) (r : Fin 512) (j : Fin 4096) (y : Fin 8192)
    (hy : y.val = 512 * (t.val / 22) + r.val) :
    (outsAt0 m c t.val t.isLt).2 (ix2 r j) = result (rows m c) (weights m c) (residual m c) (scale m c) (shift m c) (ix2 y j) := by
  have h0 : ¬t.val % 22 = 0 := by omega
  have h1 : 1 ≤ t.val % 22 := by omega
  exact (congrFun ((congrArg Prod.snd (outsAt0_C m c t h0 h1 ht)).trans (last_bf16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) ((hcond0_2 t).mpr ht) (iblk m c 0 t) (iblk m c 1 t) (iblk m c 2 t) (iblk m c 3 t) (iblk m c 4 t) (outsAt0 m c (t.val - 1) (Nat.lt_of_le_of_lt (Nat.sub_le _ _) t.isLt)).1)) _).trans (normed_apply m c t ht _ r j y hy)

end Cert.DownIdeal.Result

end
-- ==== Proof.Mm.Down.lean ====
module

public import proofs.«01_k».proof.Defs
public import proofs.«01_k».proof.Proof.Gen.Down
public import proofs.«01_k».proof.Proof.Ln.DownIdeal.Sums
public import proofs.«01_k».proof.Proof.Gen.DownRefIdeal.Read

@[expose] public section

/-!
# The down projection with its residual and layer norm

The grid's row blocks tile both results, each written back after the last of its points; the reference's chain of
operations, read at an entry, is the same norm of the same row.
-/

set_option maxRecDepth 16384

noncomputable section

open Idealize.ShloMosaic Idealize.ShloMosaic.TcCoe Idealize.SL.Sem Idealize.ShloMosaic.ValueIdx
open Idealize.ShloMosaic.Pipeline (Dat)

namespace Cert.DownIdeal.Result

open Cert.DownIdeal Cert.DownIdeal.Gen

section Reference

open Cert.DownRefIdeal.Read

variable (x : S8192x11264.Idx → EReal) (w : S11264x4096.Idx → EReal) (res : S8192x4096.Idx → EReal) (g b : S4096.Idx → EReal)

/-- The reference's row before the norm. -/
theorem ref_row (i : Fin 8192) (j : Fin 4096) :
    val_main_v3 (F := Ideal) x w res (ix2 i j) = Norm.row (fun k => res (ix2 i k)) (product x w i) j := by
  refine congrArg₂ (fun p q : EReal => p + q) ?_ ((val_main_v2_apply x w _).trans ?_)
  · exact congrArg (fun e : EReal => e * res (ix2 i j)) (val_main_v0_apply _)
  · refine Finset.sum_congr rfl fun k _ => congrArg₂ (fun p q : EReal => p * q) (congrArg x ?_) (congrArg w ?_)
    all_goals
      funext a
      match a with
      | ⟨0, _⟩ => rfl
      | ⟨1, _⟩ => rfl

/-- The sums start from zero. -/
theorem ref_zero (i : Cert.DownRefIdeal.S_.Idx) : val_main_cst_0 (F := Ideal) i = (0 : EReal) :=
  (val_main_cst_0_apply (F := Ideal) i).trans Ideal.ofBits_zero_f32

theorem ref_zero' (i : Cert.DownRefIdeal.S_.Idx) : val_main_cst_2 (F := Ideal) i = (0 : EReal) :=
  (val_main_cst_2_apply (F := Ideal) i).trans Ideal.ofBits_zero_f32

theorem idx5 (i : Fin 8192) (z : Fin 1) (k : Fin 4096) : idx_main_v4 (idx_main_v5 (ix2 i z)) k = ix2 i k := by
  funext a
  match a with
  | ⟨0, _⟩ => rfl
  | ⟨1, _⟩ => rfl

theorem idx12 (i : Fin 8192) (z : Fin 1) (k : Fin 4096) : idx_main_v11 (idx_main_v12 (ix2 i z)) k = ix2 i k := by
  funext a
  match a with
  | ⟨0, _⟩ => rfl
  | ⟨1, _⟩ => rfl

theorem idx8 (i : Fin 8192) (j : Fin 4096) : idx_main_v8 (ix2 i j) = ix2 i 0 := by
  funext a
  match a with
  | ⟨0, _⟩ => rfl
  | ⟨1, _⟩ => rfl

theorem idx15 (i : Fin 8192) (j : Fin 4096) : idx_main_v15 (ix2 i j) = ix2 i 0 := by
  funext a
  match a with
  | ⟨0, _⟩ => rfl
  | ⟨1, _⟩ => rfl

theorem idx20 (i : Fin 8192) (j : Fin 4096) : idx_main_v20 (ix2 i j) = ix2 i 0 := by
  funext a
  match a with
  | ⟨0, _⟩ => rfl
  | ⟨1, _⟩ => rfl

theorem idx23 (i : Fin 8192) (j : Fin 4096) : idx_main_v22 (idx_main_v23 (ix2 i j)) = ix1 j := by
  funext a
  match a with
  | ⟨0, _⟩ => rfl

theorem idx26 (i : Fin 8192) (j : Fin 4096) : idx_main_v25 (idx_main_v26 (ix2 i j)) = ix1 j := by
  funext a
  match a with
  | ⟨0, _⟩ => rfl

/-- Its sum. -/
theorem ref_sum (i : Fin 8192) (z : Fin 1) :
    val_main_v5 (F := Ideal) x w res (ix2 i z) = (∑ k, Norm.row (fun k => res (ix2 i k)) (product x w i) k : EReal) := by
  rw [val_main_v5_apply, val_main_v4_apply, ref_zero, zero_add]
  exact Finset.sum_congr rfl fun k _ => (congrArg (val_main_v3 (F := Ideal) x w res) (idx5 i z k)).trans (ref_row x w res i k)

theorem ref_count (i : Cert.DownRefIdeal.S8192x1.Idx) : val_main_v6 (F := Ideal) i = Ideal.ofBits .f32 0x45800000#32 :=
  (val_main_v6_apply (F := Ideal) i).trans (val_main_cst_1_apply (F := Ideal) _)

theorem ref_count' (i : Cert.DownRefIdeal.S8192x1.Idx) : val_main_v13 (F := Ideal) i = Ideal.ofBits .f32 0x45800000#32 :=
  (val_main_v13_apply (F := Ideal) i).trans (val_main_cst_3_apply (F := Ideal) _)

/-- Its mean. -/
theorem ref_mean (i : Fin 8192) (z : Fin 1) :
    val_main_v7 (F := Ideal) x w res (ix2 i z) = Norm.mean (Norm.row (fun k => res (ix2 i k)) (product x w i)) := by
  rw [val_main_v7_apply, ref_sum, ref_count]
  rfl

/-- What is left of it without the mean. -/
theorem ref_centred (i : Fin 8192) (j : Fin 4096) :
    val_main_v9 (F := Ideal) x w res (ix2 i j) = Norm.row (fun k => res (ix2 i k)) (product x w i) j
      - Norm.mean (Norm.row (fun k => res (ix2 i k)) (product x w i)) := by
  rw [val_main_v9_apply, val_main_v8_apply, idx8, ref_row, ref_mean]
  rfl

theorem ref_centred' (i : Fin 8192) (j : Fin 4096) :
    val_main_v16 (F := Ideal) x w res (ix2 i j) = Norm.row (fun k => res (ix2 i k)) (product x w i) j
      - Norm.mean (Norm.row (fun k => res (ix2 i k)) (product x w i)) := by
  rw [val_main_v16_apply, val_main_v15_apply, idx15, ref_row, ref_mean]
  rfl

theorem ref_square (i : Fin 8192) (j : Fin 4096) :
    val_main_v10 (F := Ideal) x w res (ix2 i j)
      = (Norm.row (fun k => res (ix2 i k)) (product x w i) j - Norm.mean (Norm.row (fun k => res (ix2 i k)) (product x w i)))
      * (Norm.row (fun k => res (ix2 i k)) (product x w i) j - Norm.mean (Norm.row (fun k => res (ix2 i k)) (product x w i))) := by
  rw [val_main_v10_apply, ref_centred]
  rfl

/-- The sum of the squares. -/
theorem ref_squares (i : Fin 8192) (z : Fin 1) :
    val_main_v12 (F := Ideal) x w res (ix2 i z) = (∑ k,
      (Norm.row (fun k => res (ix2 i k)) (product x w i) k - Norm.mean (Norm.row (fun k => res (ix2 i k)) (product x w i)))
      * (Norm.row (fun k => res (ix2 i k)) (product x w i) k - Norm.mean (Norm.row (fun k => res (ix2 i k)) (product x w i))) : EReal) := by
  rw [val_main_v12_apply, val_main_v11_apply, ref_zero', zero_add]
  exact Finset.sum_congr rfl fun k _ => (congrArg (val_main_v10 (F := Ideal) x w res) (idx12 i z k)).trans (ref_square x w res i k)

/-- Its variance. -/
theorem ref_variance (i : Fin 8192) (z : Fin 1) :
    val_main_v14 (F := Ideal) x w res (ix2 i z) = Norm.variance (Norm.row (fun k => res (ix2 i k)) (product x w i)) := by
  rw [val_main_v14_apply, ref_squares, ref_count']
  rfl

theorem ref_epsilon (i : Cert.DownRefIdeal.S8192x1.Idx) : val_main_v17 (F := Ideal) i = Ideal.ofBits .f32 0x3727C5AC#32 :=
  (val_main_v17_apply (F := Ideal) i).trans (val_main_cst_4_apply (F := Ideal) _)

/-- What the row is divided by. -/
theorem ref_rsqrt (i : Fin 8192) (j : Fin 4096) :
    val_main_v20 (F := Ideal) x w res (ix2 i j)
      = Ideal.rsqrt (Norm.variance (Norm.row (fun k => res (ix2 i k)) (product x w i)) + Ideal.ofBits .f32 0x3727C5AC#32) := by
  rw [val_main_v20_apply, idx20, val_main_v19_apply, val_main_v18_apply, ref_variance, ref_epsilon]
  rfl

theorem ref_scale (i : Fin 8192) (j : Fin 4096) : val_main_v23 (F := Ideal) g (ix2 i j) = g (ix1 j) := by
  rw [val_main_v23_apply, val_main_v22_apply, idx23]

theorem ref_shift (i : Fin 8192) (j : Fin 4096) : val_main_v26 (F := Ideal) b (ix2 i j) = b (ix1 j) := by
  rw [val_main_v26_apply, val_main_v25_apply, idx26]

/-- An entry of the reference's result. -/
theorem ref_entry (i : Fin 8192) (j : Fin 4096) :
    val_main_v27 (F := Ideal) x w res g b (ix2 i j)
      = Norm.norm (Norm.row (fun k => res (ix2 i k)) (product x w i)) (g (ix1 j)) (b (ix1 j)) j := by
  rw [val_main_v27_apply, val_main_v24_apply, val_main_v21_apply, ref_centred', ref_rsqrt, ref_scale, ref_shift]
  rfl

/-- **The reference's result.** -/
theorem reference_eq : val_main_v27 (F := Ideal) x w res g b = result x w res g b := by
  funext y
  rw [eq_ix2 (n0 := 8192) (n1 := 4096) y]
  exact (ref_entry x w res g b (y 0) (y 1)).trans (result_apply x w res g b (y 0) (y 1)).symm

/-- The second is the same, rounding being nothing over the extended reals. -/
theorem reference_bf16_eq : val_main_v28 (F := Ideal) x w res g b = result x w res g b := reference_eq x w res g b

end Reference

variable (m : (ℓ : Loc nD τ sig) → Buf (Elt Ideal) ℓ)

/-- The point that writes a row back. -/
theorem point_of (i : S8192x4096.Idx) : ∃ t : Fin cfg0.N, t.val % 22 = 21 ∧
    512 * (t.val / 22) ≤ (i 0).val ∧ (i 0).val < 512 * (t.val / 22) + 512 := by
  have hi0 : (i 0).val < 8192 := (i 0).isLt
  obtain ⟨n, hn⟩ : ∃ n, n = 22 * ((i 0).val / 512) + 21 := ⟨_, rfl⟩
  refine ⟨⟨n, lt_of_lt_of_eq (by omega) N_eq.symm⟩, ?_⟩
  show n % 22 = 21 ∧ 512 * (n / 22) ≤ (i 0).val ∧ (i 0).val < 512 * (n / 22) + 512
  omega

/-- A block `O` whose entries are those of `A` at the point's rows is what `A`'s block reads (f32). -/
theorem cut5_eq (t : Fin cfg0.N) (O : Vec Ideal S512x4096 .f32) (A : S8192x4096.Idx → EReal)
    (h : ∀ (r : Fin 512) (j : Fin 4096) (y : Fin 8192), y.val = 512 * (t.val / 22) + r.val → O (ix2 r j) = A (ix2 y j)) :
    (cfg0.win 5).cut (grid0.coords t) O = ((cfg0.win 5).blk t).view.read (Elt Ideal) A := by
  have ht : t.val < 352 := lt_of_lt_of_eq t.isLt N_eq
  funext j
  have hj0 : (j 0).val < 512 := (j 0).isLt
  rw [View.read_apply]
  show O j = A _
  refine (congrArg O (eq_ix2 (n0 := 512) (n1 := 4096) j)).trans ((h (j 0) (j 1) ⟨512 * (t.val / 22) + (j 0).val, by omega⟩ rfl).trans ?_)
  refine congrArg A (funext fun a => Fin.ext ?_)
  match a with
  | ⟨0, _⟩ => show 512 * (t.val / 22) + (j 0).val = win0_5.index t 0 * 512 + 1 * (j 0).val; rw [(index5 t).1]; omega
  | ⟨1, _⟩ => show (j 1).val = win0_5.index t 1 * 4096 + 1 * (j 1).val; rw [(index5 t).2]; omega

/-- Which entries of the f32 result a point's block holds. -/
theorem mem_blk5 (t : Fin cfg0.N) (i : S8192x4096.Idx) (h0 : 512 * (t.val / 22) ≤ (i 0).val ∧ (i 0).val < 512 * (t.val / 22) + 512) :
    i ∈ ((cfg0.win 5).blk t).view.set := by
  have h1 : (i 1).val < 4096 := (i 1).isLt
  show i ∈ ((View.whole main_v2_0).slice (win0_5.rect t)).set
  rw [View.set_slice_whole, Rect.mem_set_unit]
  intro a
  match a with
  | ⟨0, _⟩ => show win0_5.index t 0 * 512 ≤ (i 0).val ∧ (i 0).val < win0_5.index t 0 * 512 + 512; rw [(index5 t).1]; omega
  | ⟨1, _⟩ => show win0_5.index t 1 * 4096 ≤ (i 1).val ∧ (i 1).val < win0_5.index t 1 * 4096 + 4096; rw [(index5 t).2]; omega

/-- **The f32 result.** -/
theorem final5 (c : Dev nD) :
    (dats m 0 c).arrAt 5 cfg0.N = (result (rows m c) (weights m c) (residual m c) (scale m c) (shift m c) : Buf (Elt Ideal) ((c.tc : Thread nD τ).loc main_v2_0)) :=
  (dats m 0 c).arrAt_eq_of_cover 5 _ (fun t hf => by
      have ht : t.val % 22 = 21 := of_decide_eq_true ((flush5 t).symm.trans hf)
      show (cfg0.win 5).cut (grid0.coords t) ((dats m 0 c).after 5 t) = _
      rw [after0_5]
      exact cut5_eq t _ _ fun r j y hy => leaves5 m c t ht r j y hy) fun i => by
    obtain ⟨t, ht, h0⟩ := point_of i
    exact ⟨t, (flush5 t).trans (decide_eq_true ht), mem_blk5 t i h0⟩

/-- A block `O` whose entries are those of `A` at the point's rows is what `A`'s block reads (bf16). -/
theorem cut6_eq (t : Fin cfg0.N) (O : Vec Ideal S512x4096 .bf16) (A : S8192x4096.Idx → EReal)
    (h : ∀ (r : Fin 512) (j : Fin 4096) (y : Fin 8192), y.val = 512 * (t.val / 22) + r.val → O (ix2 r j) = A (ix2 y j)) :
    (cfg0.win 6).cut (grid0.coords t) O = ((cfg0.win 6).blk t).view.read (Elt Ideal) A := by
  have ht : t.val < 352 := lt_of_lt_of_eq t.isLt N_eq
  funext j
  have hj0 : (j 0).val < 512 := (j 0).isLt
  rw [View.read_apply]
  show O j = A _
  refine (congrArg O (eq_ix2 (n0 := 512) (n1 := 4096) j)).trans ((h (j 0) (j 1) ⟨512 * (t.val / 22) + (j 0).val, by omega⟩ rfl).trans ?_)
  refine congrArg A (funext fun a => Fin.ext ?_)
  match a with
  | ⟨0, _⟩ => show 512 * (t.val / 22) + (j 0).val = win0_6.index t 0 * 512 + 1 * (j 0).val; rw [(index6 t).1]; omega
  | ⟨1, _⟩ => show (j 1).val = win0_6.index t 1 * 4096 + 1 * (j 1).val; rw [(index6 t).2]; omega

/-- Which entries of the bf16 result a point's block holds. -/
theorem mem_blk6 (t : Fin cfg0.N) (i : S8192x4096.Idx) (h0 : 512 * (t.val / 22) ≤ (i 0).val ∧ (i 0).val < 512 * (t.val / 22) + 512) :
    i ∈ ((cfg0.win 6).blk t).view.set := by
  have h1 : (i 1).val < 4096 := (i 1).isLt
  show i ∈ ((View.whole main_v2_1).slice (win0_6.rect t)).set
  rw [View.set_slice_whole, Rect.mem_set_unit]
  intro a
  match a with
  | ⟨0, _⟩ => show win0_6.index t 0 * 512 ≤ (i 0).val ∧ (i 0).val < win0_6.index t 0 * 512 + 512; rw [(index6 t).1]; omega
  | ⟨1, _⟩ => show win0_6.index t 1 * 4096 ≤ (i 1).val ∧ (i 1).val < win0_6.index t 1 * 4096 + 4096; rw [(index6 t).2]; omega

/-- **The bf16 result.** -/
theorem final6 (c : Dev nD) :
    (dats m 0 c).arrAt 6 cfg0.N = (result (rows m c) (weights m c) (residual m c) (scale m c) (shift m c) : Buf (Elt Ideal) ((c.tc : Thread nD τ).loc main_v2_1)) :=
  (dats m 0 c).arrAt_eq_of_cover 6 _ (fun t hf => by
      have ht : t.val % 22 = 21 := of_decide_eq_true ((flush6 t).symm.trans hf)
      show (cfg0.win 6).cut (grid0.coords t) ((dats m 0 c).after 6 t) = _
      rw [after0_6]
      exact cut6_eq t _ _ fun r j y hy => leaves6 m c t ht r j y hy) fun i => by
    obtain ⟨t, ht, h0⟩ := point_of i
    exact ⟨t, (flush6 t).trans (decide_eq_true ht), mem_blk6 t i h0⟩

/-- The run, read: both results at the layer's, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v2_0) = result (rows m c) (weights m c) (residual m c) (scale m c) (shift m c)
      ∧ r.2.mem ((c.tc : Thread nD τ).loc main_v2_1) = result (rows m c) (weights m c) (residual m c) (scale m c) (shift m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h.1 c).1 5).trans (final5 m c), ((h.1 c).1 6).trans (final6 m c), h.2 c⟩)
    (θ_run_and (run_main m ρ) (unchanged m ρ))

end Cert.DownIdeal.Result

namespace Cert.Proof.DownClaims

section Same

variable {F : FTy → Type} [FloatOps F]

/-- The kernel and its reading over the extended reals are printed as two programs, whose bodies are one. -/
theorem bodies : Cert.Down.defs₀ (F := F) = Cert.DownIdeal.defs₀ (F := F) := by
  unfold Cert.Down.defs₀ Cert.DownIdeal.defs₀
  congr 1
  funext l a
  match l, a with
  | ⟨0, _⟩, (t, s) => exact rfl

/-- So the tables of their bodies are one. -/
theorem tables : Cert.Down.defs (F := F) = Cert.DownIdeal.defs (F := F) := congrArg (Pipeline.defs Cert.Down.pcfgs) bodies

end Same

/-- The kernel runs and leaves its arguments alone: what is proved of the other printing, at any arithmetic. -/
theorem frame_k : Cert.quiescent_Down (hDown := Cert.Down.Gen.facts) := fun m ρ _ => by
  have h := Cert.DownIdeal.Gen.frame (F := Bits) m ρ
  rw [← tables] at h
  exact h

/-- So does its reading over the extended reals. -/
theorem frame_ki : Cert.quiescent_DownIdeal (hDownIdeal := Cert.DownIdeal.Gen.facts) := fun m ρ _ => Cert.DownIdeal.Gen.frame m ρ

/-- So does the reference's. -/
theorem frame_ri : Cert.quiescent_DownRefIdeal (hDownRefIdeal := Cert.DownRefIdeal.Gen.facts) := fun m ρ _ =>
  (θ_run Cert.DownRefIdeal.defs _ _).mono (fun r h => ⟨fun c => (h c).2.2,
      Idealize.ShloMosaic.sem_eq_zero_of_no_sems (by decide) r.2⟩)
    (Cert.DownRefIdeal.Value.run (F := Ideal) m ρ)

/-- **The kernel and the reference end with the same two results.** -/
theorem algebraic : Cert.algebraic_DownIdeal_DownRefIdeal (hDownIdeal := Cert.DownIdeal.Gen.facts)
    (hDownRefIdeal := Cert.DownRefIdeal.Gen.facts) := by
  intro m ρ m' ρ' hpre hagree
  refine ⟨fun c => Cert.DownIdeal.Result.result (Cert.DownIdeal.Result.rows m c) (Cert.DownIdeal.Result.weights m c)
      (Cert.DownIdeal.Result.residual m c) (Cert.DownIdeal.Result.scale m c) (Cert.DownIdeal.Result.shift m c),
    fun c => Cert.DownIdeal.Result.result (Cert.DownIdeal.Result.rows m c) (Cert.DownIdeal.Result.weights m c)
      (Cert.DownIdeal.Result.residual m c) (Cert.DownIdeal.Result.scale m c) (Cert.DownIdeal.Result.shift m c),
    Cert.DownIdeal.Result.run m ρ, ?_⟩
  refine (θ_run Cert.DownRefIdeal.defs _ _).mono (fun _ h c => ⟨(h c).1.trans ?_, (h c).2.1.trans ?_, (h c).2.2⟩)
    (Cert.DownRefIdeal.Value.run (F := Ideal) m' ρ')
  · rw [Cert.DownRefIdeal.Read.val_main_v27_eq, (hagree c).1, (hagree c).2.1, (hagree c).2.2.1, (hagree c).2.2.2.1, (hagree c).2.2.2.2]
    exact Cert.DownIdeal.Result.reference_eq _ _ _ _ _
  · rw [Cert.DownRefIdeal.Read.val_main_v28_eq, (hagree c).1, (hagree c).2.1, (hagree c).2.2.1, (hagree c).2.2.2.1, (hagree c).2.2.2.2]
    exact Cert.DownIdeal.Result.reference_bf16_eq _ _ _ _ _

end Cert.Proof.DownClaims

end
-- ==== Proof.Up.FfnIdeal.Runs.lean ====
/- What the runs of `FfnIdeal`'s body share: its conditions over the points, where its windows are idle, and the memrefs it is called with. -/
module

public import proofs.«01_k».proof.Proof.Gen.FfnIdeal.Frame
public import proofs.«01_k».proof.Proof.Gen.FfnIdeal.Skeleton

@[expose] public section

-- membership in a rectangle of production extents (`View.cover_of_tiled`): the elaborator's structural look
-- recurses once per coordinate of the long axes
set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The condition of the body's first conditional: a real column block. -/
theorem hcond0_0 : ∀ t : Fin cfg0.N, k0_cond1 (grid0.coords t) = 1#1 ↔ t.val % 44 < 43 :=
  (by decide +kernel : ∀ t : Fin grid0.N, k0_cond1 (grid0.coords t) = 1#1 ↔ t.val % 44 < 43)
/-- The condition of its inner conditional: the first row block of a sequence. -/
theorem hcond0_1 : ∀ t : Fin cfg0.N, k0_cond2 (grid0.coords t) = 1#1 ↔ t.val / 44 % 2 = 0 :=
  (by decide +kernel : ∀ t : Fin grid0.N, k0_cond2 (grid0.coords t) = 1#1 ↔ t.val / 44 % 2 = 0)
/-- The condition of the body's last conditional: the block of padding columns. -/
theorem hcond0_2 : ∀ t : Fin cfg0.N, k0_cond3 (grid0.coords t) = 1#1 ↔ ¬t.val % 44 < 43 :=
  (by decide +kernel : ∀ t : Fin grid0.N, k0_cond3 (grid0.coords t) = 1#1 ↔ ¬t.val % 44 < 43)
/-- The carry slot a point uses is its column block's. -/
theorem off2_eq : ∀ t : Fin cfg0.N, k0_off2 (grid0.coords t) = ![t.val % 44, 0, 0] :=
  (by decide +kernel : ∀ t : Fin grid0.N, k0_off2 (grid0.coords t) = ![t.val % 44, 0, 0])

/-- Window 0 is never idle. -/
theorem liveAt0_0 : ∀ t : Fin cfg0.N, cfg0.idle 0 (grid0.coords t) = false := fun _ => rfl
/-- Window 1 is never idle. -/
theorem liveAt0_1 : ∀ t : Fin cfg0.N, cfg0.idle 1 (grid0.coords t) = false := fun _ => rfl
/-- Window 2 is never idle. -/
theorem liveAt0_2 : ∀ t : Fin cfg0.N, cfg0.idle 2 (grid0.coords t) = false := fun _ => rfl
/-- Window 3 is never idle. -/
theorem liveAt0_3 : ∀ t : Fin cfg0.N, cfg0.idle 3 (grid0.coords t) = false := fun _ => rfl
/-- Window 4 is never idle. -/
theorem liveAt0_4 : ∀ t : Fin cfg0.N, cfg0.idle 4 (grid0.coords t) = false := fun _ => rfl
/-- Window 5 is never idle. -/
theorem liveAt0_5 : ∀ t : Fin cfg0.N, cfg0.idle 5 (grid0.coords t) = false := fun _ => rfl
/-- Window 6 is never idle. -/
theorem liveAt0_6 : ∀ t : Fin cfg0.N, cfg0.idle 6 (grid0.coords t) = false := fun _ => rfl
/-- Window 7 is never idle. -/
theorem liveAt0_7 : ∀ t : Fin cfg0.N, cfg0.idle 7 (grid0.coords t) = false := by decide +kernel
/-- Output 8 is stored into at the points of the real column blocks. -/
theorem liveAt0_8 : ∀ t : Fin cfg0.N, t.val % 44 < 43 → cfg0.idle 8 (grid0.coords t) = false := by decide +kernel
/-- Output 8 is left alone at the points of the padding columns. -/
theorem idleAt0_8 : ∀ t : Fin cfg0.N, ¬t.val % 44 < 43 → cfg0.idle 8 (grid0.coords t) = true := by decide +kernel
/-- Output 9 is stored into at the points of the real column blocks. -/
theorem liveAt0_9 : ∀ t : Fin cfg0.N, t.val % 44 < 43 → cfg0.idle 9 (grid0.coords t) = false := by decide +kernel
/-- Output 9 is left alone at the points of the padding columns. -/
theorem idleAt0_9 : ∀ t : Fin cfg0.N, ¬t.val % 44 < 43 → cfg0.idle 9 (grid0.coords t) = true := by decide +kernel
/-- One staging buffer of output window 7, through which its contents are stated (`View.read_writes_of_cover`: the
    choice does not matter). -/
abbrev VO0_7 : View sig .tc .vmem S2048x256 .bf16 := (Memref.whole cc0_stg7_0 : Memref sig .tc .vmem S2048x256 .bf16).view
/-- One staging buffer of output window 8, through which its contents are stated (`View.read_writes_of_cover`: the
    choice does not matter). -/
abbrev VO0_8 : View sig .tc .vmem S1x2x256 .f32 := (Memref.whole cc0_stg8_0 : Memref sig .tc .vmem S1x2x256 .f32).view
/-- One staging buffer of output window 9, through which its contents are stated (`View.read_writes_of_cover`: the
    choice does not matter). -/
abbrev VO0_9 : View sig .tc .vmem S1x2x256 .f32 := (Memref.whole cc0_stg9_0 : Memref sig .tc .vmem S1x2x256 .f32).view
/-- Each window's current staging memref at point `t`, spelled as the pipeline passes it (`bodyAt0`), and its wholeness. -/
abbrev ms0_0 (t : Fin cfg0.N) : Memref sig .tc .vmem S2048x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2x256 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S43x2x512 .f32 := Memref.whole cc0_scratch0
abbrev scM0_1 : Memref sig .tc .vmem S264x512 .f32 := Memref.whole cc0_scratch1
abbrev scM0_2 : Memref sig .tc .vmem S264x512 .f32 := Memref.whole cc0_scratch2
/-- The scratch `arg12` the kernel carries between points, as a view: what it holds is stated through it. -/
abbrev VS0_0 : View sig .tc .vmem S43x2x512 .f32 := scM0_0.view

/-- The scratch operands as memrefs owned at some contents, and the generator's register: what a point hands the body and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.FfnIdeal.Gen

end
-- ==== Proof.Up.FfnIdeal.RunA.lean ====
/- The body's run at a real column block in the first row block of a sequence, where the carry's slot is zeroed first. -/
module

public import proofs.«01_k».proof.Proof.Up.FfnIdeal.Runs

@[expose] public section

-- membership in a rectangle of production extents (`View.cover_of_tiled`): the elaborator's structural look
-- recurses once per coordinate of the long axes
set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 4000000 in
/-- The body's run at a real column block in the first row block of a sequence, where the carry's slot is zeroed first. The inputs' buffers are held at
    their contents, the outputs' at anything, the carry at `xs0` and the two work buffers at anything; the body
    leaves the inputs as they were and the other buffers with the named pieces written into them. -/
noncomputable def kernelRun0_A (c : Dev nD) (i : grid0.Coords) (arg2 : Memref sig .tc .vmem S2048x4096 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S3x256 .f32) (harg5 : arg5.IsWhole) (arg6 : Memref sig .tc .vmem S3x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S2048x256 .bf16) (harg9 : arg9.IsWhole) (arg10 : Memref sig .tc .vmem S1x2x256 .f32) (harg10 : arg10.IsWhole) (arg11 : Memref sig .tc .vmem S1x2x256 .f32) (harg11 : arg11.IsWhole) (arg12 : Memref sig .tc .vmem S43x2x512 .f32) (harg12 : arg12.IsWhole) (arg13 : Memref sig .tc .vmem S264x512 .f32) (harg13 : arg13.IsWhole) (arg14 : Memref sig .tc .vmem S264x512 .f32) (harg14 : arg14.IsWhole) (hc0 : k0_cond1 i = 1#1) (hc1 : k0_cond2 i = 1#1) (hc2 : ¬k0_cond3 i = 1#1)
    (x0 : Vec F S2048x4096 .bf16) (x1 : Vec F S4096x256 .bf16) (x2 : Vec F S4096x256 .bf16) (x3 : Vec F S3x256 .f32) (x4 : Vec F S3x256 .f32) (x5 : Vec F S1x256 .f32) (x6 : Vec F S1x256 .f32) (xs0 : Vec F S43x2x512 .f32) :
    Σ' (L7 : List (View.Piece (Elt F) S2048x256 .bf16)), Σ' (L8 : List (View.Piece (Elt F) S1x2x256 .f32)), Σ' (L9 : List (View.Piece (Elt F) S1x2x256 .f32)), Σ' (LS0 : List (View.Piece (Elt F) S43x2x512 .f32)), Σ' (LT1 : List (View.Piece (Elt F) S264x512 .f32)), { LT2 : List (View.Piece (Elt F) S264x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (arg12.view.loc (c : Thread nD τ) ↦[arg12.view.set]{fullShare} arg12.view.writes (Elt F) (harg12.unread xs0) LS0) ∗ (∃ f, arg13.view.loc (c : Thread nD τ) ↦[arg13.view.set]{fullShare} arg13.view.writes (Elt F) f LT1) ∗ (∃ f, arg14.view.loc (c : Thread nD τ) ↦[arg14.view.set]{fullShare} arg14.view.writes (Elt F) f LT2)) -∗ K ⟨⟩))
          ⊢ wp frame (wpE (defs₀ (F := F)) Variants.none c none) E (cc0_ffn_up_conv_gate i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun E K => ?run⟩
  case run =>
    simp only [cc0_ffn_up_conv_gate_eq_skeleton]; unfold cc0_ffn_up_conv_gate_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg12.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    isplitl [HS0]; · iexact HS0
    isplitl [HS1]; · iexists _; iexact HS1
    iexists _; iexact HS2

end Cert.FfnIdeal.Gen

end
-- ==== Proof.Up.FfnIdeal.RunC.lean ====
/- The body's run at a real column block in a later row block of a sequence, where the carry's slot is read as left. -/
module

public import proofs.«01_k».proof.Proof.Up.FfnIdeal.RunA

@[expose] public section

-- membership in a rectangle of production extents (`View.cover_of_tiled`): the elaborator's structural look
-- recurses once per coordinate of the long axes
set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 4000000 in
/-- The body's run at a real column block in a later row block of a sequence, where the carry's slot is read as left. The inputs' buffers are held at
    their contents, the outputs' at anything, the carry at `xs0` and the two work buffers at anything; the body
    leaves the inputs as they were and the other buffers with the named pieces written into them. -/
noncomputable def kernelRun0_C (c : Dev nD) (i : grid0.Coords) (arg2 : Memref sig .tc .vmem S2048x4096 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S3x256 .f32) (harg5 : arg5.IsWhole) (arg6 : Memref sig .tc .vmem S3x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S2048x256 .bf16) (harg9 : arg9.IsWhole) (arg10 : Memref sig .tc .vmem S1x2x256 .f32) (harg10 : arg10.IsWhole) (arg11 : Memref sig .tc .vmem S1x2x256 .f32) (harg11 : arg11.IsWhole) (arg12 : Memref sig .tc .vmem S43x2x512 .f32) (harg12 : arg12.IsWhole) (arg13 : Memref sig .tc .vmem S264x512 .f32) (harg13 : arg13.IsWhole) (arg14 : Memref sig .tc .vmem S264x512 .f32) (harg14 : arg14.IsWhole) (hc0 : k0_cond1 i = 1#1) (hc1 : ¬k0_cond2 i = 1#1) (hc2 : ¬k0_cond3 i = 1#1)
    (x0 : Vec F S2048x4096 .bf16) (x1 : Vec F S4096x256 .bf16) (x2 : Vec F S4096x256 .bf16) (x3 : Vec F S3x256 .f32) (x4 : Vec F S3x256 .f32) (x5 : Vec F S1x256 .f32) (x6 : Vec F S1x256 .f32) (xs0 : Vec F S43x2x512 .f32) :
    Σ' (L7 : List (View.Piece (Elt F) S2048x256 .bf16)), Σ' (L8 : List (View.Piece (Elt F) S1x2x256 .f32)), Σ' (L9 : List (View.Piece (Elt F) S1x2x256 .f32)), Σ' (LS0 : List (View.Piece (Elt F) S43x2x512 .f32)), Σ' (LT1 : List (View.Piece (Elt F) S264x512 .f32)), { LT2 : List (View.Piece (Elt F) S264x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (arg12.view.loc (c : Thread nD τ) ↦[arg12.view.set]{fullShare} arg12.view.writes (Elt F) (harg12.unread xs0) LS0) ∗ (∃ f, arg13.view.loc (c : Thread nD τ) ↦[arg13.view.set]{fullShare} arg13.view.writes (Elt F) f LT1) ∗ (∃ f, arg14.view.loc (c : Thread nD τ) ↦[arg14.view.set]{fullShare} arg14.view.writes (Elt F) f LT2)) -∗ K ⟨⟩))
          ⊢ wp frame (wpE (defs₀ (F := F)) Variants.none c none) E (cc0_ffn_up_conv_gate i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun E K => ?run⟩
  case run =>
    simp only [cc0_ffn_up_conv_gate_eq_skeleton]; unfold cc0_ffn_up_conv_gate_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg12.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    isplitl [HS0]; · iexact HS0
    isplitl [HS1]; · iexists _; iexact HS1
    iexists _; iexact HS2

end Cert.FfnIdeal.Gen

end
-- ==== Proof.Up.FfnIdeal.RunD.lean ====
/- The body's run at the block of padding columns, where only the activation's buffer is touched. -/
module

public import proofs.«01_k».proof.Proof.Up.FfnIdeal.RunC

@[expose] public section

-- membership in a rectangle of production extents (`View.cover_of_tiled`): the elaborator's structural look
-- recurses once per coordinate of the long axes
set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The body's run at the block of padding columns, where only the activation's buffer is touched. -/
noncomputable def kernelRun0_D (c : Dev nD) (i : grid0.Coords) (arg2 : Memref sig .tc .vmem S2048x4096 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S3x256 .f32) (harg5 : arg5.IsWhole) (arg6 : Memref sig .tc .vmem S3x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S2048x256 .bf16) (harg9 : arg9.IsWhole) (arg10 : Memref sig .tc .vmem S1x2x256 .f32) (harg10 : arg10.IsWhole) (arg11 : Memref sig .tc .vmem S1x2x256 .f32) (harg11 : arg11.IsWhole) (arg12 : Memref sig .tc .vmem S43x2x512 .f32) (harg12 : arg12.IsWhole) (arg13 : Memref sig .tc .vmem S264x512 .f32) (harg13 : arg13.IsWhole) (arg14 : Memref sig .tc .vmem S264x512 .f32) (harg14 : arg14.IsWhole) (hc0 : ¬k0_cond1 i = 1#1) (hc2 : k0_cond3 i = 1#1)
 :
    { L7 : List (View.Piece (Elt F) S2048x256 .bf16) //
      ∀ (E : Set ℕ) (K : PUnit → sProp 𝕄),
        iprop((∃ d, owns (c : Thread nD τ) arg9 fullShare d)
            ∗ ((∃ f, arg9.view.loc (c : Thread nD τ) ↦[arg9.view.set]{fullShare} arg9.view.writes (Elt F) f L7) -∗ K ⟨⟩))
          ⊢ wp frame (wpE (defs₀ (F := F)) Variants.none c none) E (cc0_ffn_up_conv_gate i arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0_ffn_up_conv_gate_eq_skeleton]; unfold cc0_ffn_up_conv_gate_skel
    unfold owns
    iintro ⟨⟨%d7, %f7, -, H7⟩, Hk⟩
    sl_exec (disch := first | sl_exact hc0 | sl_exact hc2)
    sl_step
    iapply Hk
    iexists _; iexact H7

end Cert.FfnIdeal.Gen

end
-- ==== Proof.Up.Strip.lean ====
module

public import Idealize.ShloMosaic.Lib.ValueIdxCore
public import Idealize.ShloMosaic.Lib.Pipeline.FrameBody

@[expose] public section

/-!
# A row block worked through in strips

The feed-forward layer's first product works a block of 2048 rows through in eight strips of 256. A work buffer holds
a strip's products under the two rows that precede it, so that the causal convolution of three taps reads the strip at
three offsets. Here the contents of the work buffer and of the tiled result are stated as functions of the row.
-/

set_option maxRecDepth 16384

noncomputable section

namespace Cert.Up

open Idealize.ShloMosaic Idealize.ShloMosaic.ValueIdx

/-- A number as a coordinate of an axis, wrapping around. -/
def pt (n : ℕ) [NeZero n] (k : ℕ) : Fin n := Fin.ofNat n k

theorem pt_val (n : ℕ) [NeZero n] (k : ℕ) : (pt n k).val = k % n := rfl

variable {V : Type}

/-- A row block's products, from the eight strips' products of either column block. -/
def upOf (D1 D2 : Fin 8 → (⟨2, ![256, 256]⟩ : Shape).Idx → V) (r q : ℕ) : V :=
  if q < 256 then D1 (pt 8 (r / 256)) (ix2 (pt 256 r) (pt 256 q)) else D2 (pt 8 (r / 256)) (ix2 (pt 256 r) (pt 256 q))

/-- The products under the two rows carried in. -/
def extOf (C : (⟨2, ![2, 512]⟩ : Shape).Idx → V) (D1 D2 : Fin 8 → (⟨2, ![256, 256]⟩ : Shape).Idx → V) (r q : ℕ) : V :=
  if r < 2 then C (ix2 (pt 2 r) (pt 512 q)) else upOf D1 D2 (r - 2) q

/-- A strip's rows, `o` rows from the first of the two that precede it. -/
def lines (C : (⟨2, ![2, 512]⟩ : Shape).Idx → V) (D1 D2 : Fin 8 → (⟨2, ![256, 256]⟩ : Shape).Idx → V) (s o : ℕ) :
    (⟨2, ![256, 512]⟩ : Shape).Idx → V := fun y => extOf C D1 D2 (256 * s + o + (y 0).val) (y 1).val

/-- The two rows that precede a strip. -/
def before (C : (⟨2, ![2, 512]⟩ : Shape).Idx → V) (D1 D2 : Fin 8 → (⟨2, ![256, 256]⟩ : Shape).Idx → V) (s : ℕ) :
    (⟨2, ![2, 512]⟩ : Shape).Idx → V := fun y => extOf C D1 D2 (256 * s + (y 0).val) (y 1).val

/-- The first strip is preceded by the two rows carried in. -/
theorem before_zero (C : (⟨2, ![2, 512]⟩ : Shape).Idx → V) (D1 D2 : Fin 8 → (⟨2, ![256, 256]⟩ : Shape).Idx → V) :
    before C D1 D2 0 = C := by
  funext y
  have h0 : (y 0).val < 2 := (y 0).isLt
  have h1 : (y 1).val < 512 := (y 1).isLt
  unfold before extOf
  rw [if_pos (by omega)]
  refine congrArg C (funext fun a => Fin.ext ?_)
  match a with
  | ⟨0, _⟩ => show (256 * 0 + (y 0).val) % 2 = (y 0).val; omega
  | ⟨1, _⟩ => show (y 1).val % 512 = (y 1).val; omega

/-- The last two rows of a block. -/
def last (D1 D2 : Fin 8 → (⟨2, ![256, 256]⟩ : Shape).Idx → V) : (⟨2, ![2, 512]⟩ : Shape).Idx → V :=
  fun y => upOf D1 D2 (2046 + (y 0).val) (y 1).val

/-- They are the two rows after the last strip. -/
theorem before_eight (C : (⟨2, ![2, 512]⟩ : Shape).Idx → V) (D1 D2 : Fin 8 → (⟨2, ![256, 256]⟩ : Shape).Idx → V) :
    before C D1 D2 8 = last D1 D2 := by
  funext y
  unfold before extOf last
  rw [if_neg (by omega)]
  exact congrArg (fun r => upOf D1 D2 r (y 1).val) (by omega)

/-- Equal products and equal carried rows give equal coordinates' values. -/
theorem upOf_congr (D1 D2 : Fin 8 → (⟨2, ![256, 256]⟩ : Shape).Idx → V) (r q : ℕ) (s : Fin 8) (x : (⟨2, ![256, 256]⟩ : Shape).Idx)
    (hs : s.val = r / 256) (h0 : (x 0).val = r % 256) (h1 : (x 1).val = q % 256) :
    upOf D1 D2 r q = if q < 256 then D1 s x else D2 s x := by
  have es : pt 8 (r / 256) = s := Fin.ext (by rw [pt_val]; have := s.isLt; omega)
  have ex : (ix2 (pt 256 r) (pt 256 q) : (⟨2, ![256, 256]⟩ : Shape).Idx) = x := by
    funext a
    refine Fin.ext ?_
    match a with
    | ⟨0, _⟩ => exact h0.symm
    | ⟨1, _⟩ => exact h1.symm
  unfold upOf
  rw [es, ex]

section Canon

variable {Val : EltTy → Type} {e : EltTy} [∀ e, Nonempty (Val e)]

/-- Under the last piece written, the contents are the piece's. -/
theorem canon_hit {s : Shape} (off size : Fin s.rank → ℕ) (inb) (w : (Rect.unit (s := s) off size inb).shape.Idx → Val e)
    (L : List (View.Piece Val s e)) (y : s.Idx) (x : (Rect.unit (s := s) off size inb).shape.Idx)
    (h : ∀ a, (y a).val = off a + (x a).val) : View.canon (⟨Rect.unit (s := s) off size inb, w⟩ :: L) y = w x := by
  have e : y = (Rect.unit (s := s) off size inb).emb x := by
    funext a
    refine Fin.ext ?_
    show (y a).val = off a + 1 * (x a).val
    rw [h a]; omega
  rw [e]
  exact View.canon_cons_emb _ w L x

/-- Off it, they are the earlier pieces'. -/
theorem canon_miss {s : Shape} (off size : Fin s.rank → ℕ) (inb) (w : (Rect.unit (s := s) off size inb).shape.Idx → Val e)
    (L : List (View.Piece Val s e)) (y : s.Idx) (a : Fin s.rank) (h : (y a).val < off a ∨ off a + size a ≤ (y a).val) :
    View.canon (⟨Rect.unit (s := s) off size inb, w⟩ :: L) y = View.canon L y :=
  View.canon_cons_of_not_mem _ L fun hm => by
    have := (Rect.mem_set_unit (inb := inb)).mp hm a
    omega

/-- What a work buffer holds: the two preceding rows from row 6 on and the strip's products from row 8 on. -/
theorem canon_strip (C : (⟨2, ![2, 512]⟩ : Shape).Idx → Val e) (D1 D2 : Fin 8 → (⟨2, ![256, 256]⟩ : Shape).Idx → Val e) (s : Fin 8)
    (inb2 inb1 inb0) (rest : List (View.Piece Val ⟨2, ![264, 512]⟩ e)) (y : (⟨2, ![264, 512]⟩ : Shape).Idx) (h : 6 ≤ (y 0).val) :
    View.canon (⟨Rect.unit (s := ⟨2, ![264, 512]⟩) ![8, 256] ![256, 256] inb2, D2 s⟩ ::
      ⟨Rect.unit (s := ⟨2, ![264, 512]⟩) ![8, 0] ![256, 256] inb1, D1 s⟩ ::
      ⟨Rect.unit (s := ⟨2, ![264, 512]⟩) ![6, 0] ![2, 512] inb0, before C D1 D2 s.val⟩ :: rest) y
      = extOf C D1 D2 (256 * s.val + ((y 0).val - 6)) (y 1).val := by
  have y0 : (y 0).val < 264 := (y 0).isLt
  have y1 : (y 1).val < 512 := (y 1).isLt
  by_cases h8 : (y 0).val < 8
  · refine (canon_miss _ _ _ _ _ y 0 (.inl h8)).trans ((canon_miss _ _ _ _ _ y 0 (.inl h8)).trans ((canon_hit _ _ _ _ _ y
      (ix2 (n0 := 2) (n1 := 512) (pt 2 ((y 0).val - 6)) (pt 512 (y 1).val)) ?_).trans ?_))
    · intro a
      match a with
      | ⟨0, _⟩ => show (y 0).val = 6 + ((y 0).val - 6) % 2; omega
      | ⟨1, _⟩ => show (y 1).val = 0 + (y 1).val % 512; omega
    · show extOf C D1 D2 (256 * s.val + ((y 0).val - 6) % 2) ((y 1).val % 512) = _
      rw [Nat.mod_eq_of_lt y1, Nat.mod_eq_of_lt (by omega : (y 0).val - 6 < 2)]
  · have he : extOf C D1 D2 (256 * s.val + ((y 0).val - 6)) (y 1).val = upOf D1 D2 (256 * s.val + ((y 0).val - 8)) (y 1).val := by
      unfold extOf
      rw [if_neg (by omega)]
      exact congrArg (fun r => upOf D1 D2 r (y 1).val) (by omega)
    rw [he, upOf_congr D1 D2 _ _ s (ix2 (n0 := 256) (n1 := 256) (pt 256 ((y 0).val - 8)) (pt 256 (y 1).val)) (by omega)
      (by show ((y 0).val - 8) % 256 = _; omega) rfl]
    by_cases hq : (y 1).val < 256
    · rw [if_pos hq]
      refine (canon_miss _ _ _ _ _ y 1 (.inl hq)).trans (canon_hit _ _ _ _ _ y _ ?_)
      intro a
      match a with
      | ⟨0, _⟩ => show (y 0).val = 8 + ((y 0).val - 8) % 256; omega
      | ⟨1, _⟩ => show (y 1).val = 0 + (y 1).val % 256; omega
    · rw [if_neg hq]
      refine canon_hit _ _ _ _ _ y _ ?_
      intro a
      match a with
      | ⟨0, _⟩ => show (y 0).val = 8 + ((y 0).val - 8) % 256; omega
      | ⟨1, _⟩ => show (y 1).val = 256 + (y 1).val % 256; omega

variable {sig : RefSig} {κ : Kind} {sp : Space}

/-- A strip read from row `6 + o` of a work buffer. -/
theorem load_lines (v : View sig κ sp ⟨2, ![264, 512]⟩ e) (C : (⟨2, ![2, 512]⟩ : Shape).Idx → Val e)
    (D1 D2 : Fin 8 → (⟨2, ![256, 256]⟩ : Shape).Idx → Val e) (s : Fin 8) (o : ℕ) (inb2 inb1 inb0)
    (w2 w1 : (⟨2, ![256, 256]⟩ : Shape).Idx → Val e) (w0 : (⟨2, ![2, 512]⟩ : Shape).Idx → Val e)
    (h2 : w2 = D2 s) (h1 : w1 = D1 s) (h0 : w0 = before C D1 D2 s.val) (rest) (off : Fin 2 → ℕ) (inb) (hoff : off = ![6 + o, 0]) :
    v.readCov (⟨Rect.unit (s := ⟨2, ![264, 512]⟩) ![8, 256] ![256, 256] inb2, w2⟩ ::
      ⟨Rect.unit (s := ⟨2, ![264, 512]⟩) ![8, 0] ![256, 256] inb1, w1⟩ ::
      ⟨Rect.unit (s := ⟨2, ![264, 512]⟩) ![6, 0] ![2, 512] inb0, w0⟩ :: rest)
      (Rect.unit (s := ⟨2, ![264, 512]⟩) off ![256, 512] inb).toLoadRect = lines C D1 D2 s.val o := by
  subst h2 h1 h0 hoff
  rw [View.readCov_eq_canon']
  funext j
  refine (canon_strip C D1 D2 s inb2 inb1 inb0 rest _ ?_).trans ?_
  · show 6 ≤ 6 + o + 1 * (j 0).val; omega
  · show extOf C D1 D2 (256 * s.val + (6 + o + 1 * (j 0).val - 6)) (0 + 1 * (j 1).val) = extOf C D1 D2 (256 * s.val + o + (j 0).val) (j 1).val
    rw [show 256 * s.val + (6 + o + 1 * (j 0).val - 6) = 256 * s.val + o + (j 0).val by omega, show 0 + 1 * (j 1).val = (j 1).val by omega]

/-- The last two rows of a work buffer precede the next strip. -/
theorem load_last (v : View sig κ sp ⟨2, ![264, 512]⟩ e) (C : (⟨2, ![2, 512]⟩ : Shape).Idx → Val e)
    (D1 D2 : Fin 8 → (⟨2, ![256, 256]⟩ : Shape).Idx → Val e) (s : Fin 8) (n : ℕ) (hn : n = s.val + 1) (inb2 inb1 inb0)
    (w2 w1 : (⟨2, ![256, 256]⟩ : Shape).Idx → Val e) (w0 : (⟨2, ![2, 512]⟩ : Shape).Idx → Val e)
    (h2 : w2 = D2 s) (h1 : w1 = D1 s) (h0 : w0 = before C D1 D2 s.val) (rest) (inb) :
    v.readCov (⟨Rect.unit (s := ⟨2, ![264, 512]⟩) ![8, 256] ![256, 256] inb2, w2⟩ ::
      ⟨Rect.unit (s := ⟨2, ![264, 512]⟩) ![8, 0] ![256, 256] inb1, w1⟩ ::
      ⟨Rect.unit (s := ⟨2, ![264, 512]⟩) ![6, 0] ![2, 512] inb0, w0⟩ :: rest)
      (Rect.unit (s := ⟨2, ![264, 512]⟩) ![262, 0] ![2, 512] inb).toLoadRect = before C D1 D2 n := by
  subst h2 h1 h0 hn
  rw [View.readCov_eq_canon']
  funext j
  refine (canon_strip C D1 D2 s inb2 inb1 inb0 rest _ ?_).trans ?_
  · show 6 ≤ 262 + 1 * (j 0).val; omega
  · show extOf C D1 D2 (256 * s.val + (262 + 1 * (j 0).val - 6)) (0 + 1 * (j 1).val) = extOf C D1 D2 (256 * (s.val + 1) + (j 0).val) (j 1).val
    rw [show 256 * s.val + (262 + 1 * (j 0).val - 6) = 256 * (s.val + 1) + (j 0).val by omega, show 0 + 1 * (j 1).val = (j 1).val by omega]

/-- The eight strips of a result's block, last first. -/
def tiles (inb : ∀ s : Fin 8, ∀ a, (![256 * s.val, 0] : Fin 2 → ℕ) a + (![256, 256] : Fin 2 → ℕ) a ≤ (⟨2, ![2048, 256]⟩ : Shape).size a)
    (g : Fin 8 → (⟨2, ![256, 256]⟩ : Shape).Idx → Val e) : ℕ → List (View.Piece Val ⟨2, ![2048, 256]⟩ e)
  | 0 => []
  | n + 1 => if h : n < 8 then
      ⟨Rect.unit (s := ⟨2, ![2048, 256]⟩) ![256 * n, 0] ![256, 256] (inb ⟨n, h⟩), g ⟨n, h⟩⟩ :: tiles inb g n else []

/-- Strips tile the block's rows. -/
theorem canon_tiles (inb) (g : Fin 8 → (⟨2, ![256, 256]⟩ : Shape).Idx → Val e) (y : (⟨2, ![2048, 256]⟩ : Shape).Idx) :
    ∀ n, n ≤ 8 → (y 0).val < 256 * n →
      View.canon (tiles inb g n) y = g (pt 8 ((y 0).val / 256)) (ix2 (pt 256 (y 0).val) (pt 256 (y 1).val))
  | 0, _, h => absurd h (by omega)
  | n + 1, hn, h => by
    have y1 : (y 1).val < 256 := (y 1).isLt
    have h8 : n < 8 := by omega
    unfold tiles
    rw [dif_pos h8]
    by_cases hy : (y 0).val < 256 * n
    · exact (canon_miss _ _ _ _ _ y 0 (.inl hy)).trans (canon_tiles inb g y n (by omega) hy)
    · have e : pt 8 ((y 0).val / 256) = ⟨n, h8⟩ := Fin.ext (by rw [pt_val]; show _ = n; omega)
      rw [e]
      refine canon_hit _ _ _ _ _ y _ ?_
      intro a
      match a with
      | ⟨0, _⟩ => show (y 0).val = 256 * n + (y 0).val % 256; omega
      | ⟨1, _⟩ => show (y 1).val = 0 + (y 1).val % 256; omega

/-- A list of eight strips' pieces is the tiling by them. -/
theorem tiles_of (inb) (g : Fin 8 → (⟨2, ![256, 256]⟩ : Shape).Idx → Val e) (i7 i6 i5 i4 i3 i2 i1 i0)
    (w7 w6 w5 w4 w3 w2 w1 w0 : (⟨2, ![256, 256]⟩ : Shape).Idx → Val e) (h7 : w7 = g 7) (h6 : w6 = g 6) (h5 : w5 = g 5) (h4 : w4 = g 4)
    (h3 : w3 = g 3) (h2 : w2 = g 2) (h1 : w1 = g 1) (h0 : w0 = g 0) :
    ([⟨Rect.unit (s := ⟨2, ![2048, 256]⟩) ![1792, 0] ![256, 256] i7, w7⟩, ⟨Rect.unit (s := ⟨2, ![2048, 256]⟩) ![1536, 0] ![256, 256] i6, w6⟩,
      ⟨Rect.unit (s := ⟨2, ![2048, 256]⟩) ![1280, 0] ![256, 256] i5, w5⟩, ⟨Rect.unit (s := ⟨2, ![2048, 256]⟩) ![1024, 0] ![256, 256] i4, w4⟩,
      ⟨Rect.unit (s := ⟨2, ![2048, 256]⟩) ![768, 0] ![256, 256] i3, w3⟩, ⟨Rect.unit (s := ⟨2, ![2048, 256]⟩) ![512, 0] ![256, 256] i2, w2⟩,
      ⟨Rect.unit (s := ⟨2, ![2048, 256]⟩) ![256, 0] ![256, 256] i1, w1⟩, ⟨Rect.unit (s := ⟨2, ![2048, 256]⟩) ![0, 0] ![256, 256] i0, w0⟩] :
        List (View.Piece Val ⟨2, ![2048, 256]⟩ e)) = tiles inb g 8 := by
  subst h7 h6 h5 h4 h3 h2 h1 h0
  rfl

end Canon

end Cert.Up

end
-- ==== Proof.Up.FfnIdeal.Read.lean ====
/- What `FfnIdeal`'s body leaves in its buffers, as functions of the blocks it reads and of the rows carried in. -/
module

public import proofs.«01_k».proof.Proof.Up.FfnIdeal.RunD
public import proofs.«01_k».proof.Proof.Up.Strip
public import Idealize.ShloMosaic.Lib.ValueIdx
public import Idealize.ShloMosaic.Lib.Pipeline.Value

@[expose] public section

-- membership in a rectangle of production extents (`View.cover_of_tiled`): the elaborator's structural look
-- recurses once per coordinate of the long axes
set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Cert.Up
open Idealize.ShloMosaic.Pipeline (Dat Cfg Window BodyObligation cellOf)

variable {F : FTy → Type} [FloatOps F]

local notation "𝕄" => MT nD τ sig Unit (Elt F) ℕ (UR sig nD τ) ℕ

/-- Strip `s` of the block of rows. -/
def rowsOf (x0 : Vec F S2048x4096 .bf16) (s : Fin 8) : Vec F S256x4096 .bf16 := fun y =>
  x0 (ix2 (n0 := 2048) (n1 := 4096) (pt 2048 (256 * s.val + (y 0).val)) (y 1))

/-- Its products with the first half's column block. -/
def D1 (x0 : Vec F S2048x4096 .bf16) (x1 : Vec F S4096x256 .bf16) (s : Fin 8) : Vec F S256x256 .f32 := k0_pay5 (rowsOf x0 s) x1
/-- Its products with the second half's. -/
def D2 (x0 : Vec F S2048x4096 .bf16) (x2 : Vec F S4096x256 .bf16) (s : Fin 8) : Vec F S256x256 .f32 := k0_pay6 (rowsOf x0 s) x2

/-- A strip of the result: the convolution of the strip's rows, gated. -/
def gate (x0 : Vec F S2048x4096 .bf16) (x1 x2 : Vec F S4096x256 .bf16) (x3 x4 : Vec F S3x256 .f32) (x5 x6 : Vec F S1x256 .f32)
    (C : Vec F S2x512 .f32) (s : Fin 8) : Vec F S256x256 .bf16 :=
  k0_pay7 x3 x4 x5 x6 (lines C (D1 x0 x1) (D2 x0 x2) s.val 2) (lines C (D1 x0 x1) (D2 x0 x2) s.val 1) (lines C (D1 x0 x1) (D2 x0 x2) s.val 0)

/-- A block of the result. -/
def actOf (x0 : Vec F S2048x4096 .bf16) (x1 x2 : Vec F S4096x256 .bf16) (x3 x4 : Vec F S3x256 .f32) (x5 x6 : Vec F S1x256 .f32)
    (C : Vec F S2x512 .f32) : Vec F S2048x256 .bf16 := fun y =>
  gate x0 x1 x2 x3 x4 x5 x6 C (pt 8 ((y 0).val / 256)) (ix2 (n0 := 256) (n1 := 256) (pt 256 (y 0).val) (pt 256 (y 1).val))

/-- The last two rows of a block's products. -/
def lastOf (x0 : Vec F S2048x4096 .bf16) (x1 x2 : Vec F S4096x256 .bf16) : Vec F S2x512 .f32 := last (D1 x0 x1) (D2 x0 x2)

/-- The two rows a carry holds at a column block's slot. -/
def carried (i : grid0.Coords) (hc0 : k0_cond1 i = 1#1) (xs0 : Vec F S43x2x512 .f32) : Vec F S1x2x512 .f32 :=
  View.ld xs0 (Rect.unit (s := S43x2x512) (k0_off2 i) S1x2x512.size (k0_off2_inb i hc0))

theorem tiles_inb : ∀ s : Fin 8, ∀ a, (![256 * s.val, 0] : Fin 2 → ℕ) a + (![256, 256] : Fin 2 → ℕ) a ≤ (⟨2, ![2048, 256]⟩ : Shape).size a := by
  decide

/-- A strip's rows, as the body reads them. -/
theorem rows_ld (m : Memref sig .tc .vmem S2048x4096 .bf16) (hm : m.IsWhole) (x0 : Vec F S2048x4096 .bf16) (s : Fin 8)
    (off : Fin 2 → ℕ) (hoff : off = ![256 * s.val, 0]) (inb) :
    View.readAt (Elt F) m.view (Rect.unit (s := S2048x4096) off S256x4096.size inb).toLoadRect (hm.unread x0) = rowsOf x0 s := by
  subst hoff
  rw [View.readAt_eq_ld, hm.read_unread]
  funext y
  have y0 : (y 0).val < 256 := (y 0).isLt
  have hs := s.isLt
  refine congrArg x0 (funext fun a => Fin.ext ?_)
  match a with
  | ⟨0, _⟩ => show 256 * s.val + 1 * (y 0).val = (256 * s.val + (y 0).val) % 2048; omega
  | ⟨1, _⟩ => show 0 + 1 * (y 1).val = (y 1).val; omega

/-- An operand read whole. -/
theorem whole_ld {s : Shape} {e : EltTy} (m : Memref sig .tc .vmem s e) (hm : m.IsWhole) (x : Vec F s e)
    (off : Fin s.rank → ℕ) (hoff : off = fun _ => 0) (inb) :
    View.readAt (Elt F) m.view (Rect.unit (s := s) off s.size inb).toLoadRect (hm.unread x) = x := by
  rw [View.readAt_eq_ld, hm.read_unread, View.ld_unit_zero hoff]

theorem zero2 : (![0, 0] : Fin 2 → ℕ) = fun _ => 0 := by decide

section Operands

variable (c : Dev nD) (i : grid0.Coords) (arg2 : Memref sig .tc .vmem S2048x4096 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S3x256 .f32) (harg5 : arg5.IsWhole) (arg6 : Memref sig .tc .vmem S3x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S2048x256 .bf16) (harg9 : arg9.IsWhole) (arg10 : Memref sig .tc .vmem S1x2x256 .f32) (harg10 : arg10.IsWhole) (arg11 : Memref sig .tc .vmem S1x2x256 .f32) (harg11 : arg11.IsWhole) (arg12 : Memref sig .tc .vmem S43x2x512 .f32) (harg12 : arg12.IsWhole) (arg13 : Memref sig .tc .vmem S264x512 .f32) (harg13 : arg13.IsWhole) (arg14 : Memref sig .tc .vmem S264x512 .f32) (harg14 : arg14.IsWhole)
variable (x0 : Vec F S2048x4096 .bf16) (x1 x2 : Vec F S4096x256 .bf16) (x3 x4 : Vec F S3x256 .f32) (x5 x6 : Vec F S1x256 .f32) (xs0 : Vec F S43x2x512 .f32)

/-- A strip's products with the first half's column block, as the body computes them. -/
theorem dot1 (s : Fin 8) (off : Fin 2 → ℕ) (hoff : off = ![256 * s.val, 0]) (inb inb') :
    k0_pay5 (View.readAt (Elt F) arg2.view (Rect.unit (s := S2048x4096) off S256x4096.size inb).toLoadRect (harg2.unread x0))
      (View.readAt (Elt F) arg3.view (Rect.unit (s := S4096x256) ![0, 0] S4096x256.size inb').toLoadRect (harg3.unread x1)) = D1 x0 x1 s := by
  rw [rows_ld arg2 harg2 x0 s off hoff, whole_ld arg3 harg3 x1 _ zero2]; rfl

/-- And with the second half's. -/
theorem dot2 (s : Fin 8) (off : Fin 2 → ℕ) (hoff : off = ![256 * s.val, 0]) (inb inb') :
    k0_pay6 (View.readAt (Elt F) arg2.view (Rect.unit (s := S2048x4096) off S256x4096.size inb).toLoadRect (harg2.unread x0))
      (View.readAt (Elt F) arg4.view (Rect.unit (s := S4096x256) ![0, 0] S4096x256.size inb').toLoadRect (harg4.unread x2)) = D2 x0 x2 s := by
  rw [rows_ld arg2 harg2 x0 s off hoff, whole_ld arg4 harg4 x2 _ zero2]; rfl

/-- A strip of the result, as the body computes it. -/
theorem gate_ld (C : Vec F S2x512 .f32) (s : Fin 8) (e2 e1 e0 : Vec F S256x512 .f32) (inb3 inb4 inb5 inb6)
    (h2 : e2 = lines C (D1 x0 x1) (D2 x0 x2) s.val 2) (h1 : e1 = lines C (D1 x0 x1) (D2 x0 x2) s.val 1) (h0 : e0 = lines C (D1 x0 x1) (D2 x0 x2) s.val 0) :
    k0_pay7 (View.readAt (Elt F) arg5.view (Rect.unit (s := S3x256) ![0, 0] S3x256.size inb3).toLoadRect (harg5.unread x3))
      (View.readAt (Elt F) arg6.view (Rect.unit (s := S3x256) ![0, 0] S3x256.size inb4).toLoadRect (harg6.unread x4))
      (View.readAt (Elt F) arg7.view (Rect.unit (s := S1x256) ![0, 0] S1x256.size inb5).toLoadRect (harg7.unread x5))
      (View.readAt (Elt F) arg8.view (Rect.unit (s := S1x256) ![0, 0] S1x256.size inb6).toLoadRect (harg8.unread x6)) e2 e1 e0
      = gate x0 x1 x2 x3 x4 x5 x6 C s := by
  rw [whole_ld arg5 harg5 x3 _ zero2, whole_ld arg6 harg6 x4 _ zero2, whole_ld arg7 harg7 x5 _ zero2, whole_ld arg8 harg8 x6 _ zero2, h2, h1, h0]; rfl

/-- Two rows passed on unchanged. -/
theorem pass (v : Vec F S2x512 .f32) : k0_pay8 v = v := by unfold k0_pay8; exact Idealize.ShloMosaic.shapeCast_self v _

/-! ### Where a sequence begins -/

/-- The last two rows of strip 0, where a sequence begins. -/
theorem lastA1 (hc0 : k0_cond1 i = 1#1) (hc1 : k0_cond2 i = 1#1) : kernelRun0_A.sl.v72 c i arg2 harg2 arg3 harg3 arg4 harg4 arg12 arg13 hc0 hc1 x0 x1 x2 = before (k0_pay4 k0_pay3) (D1 x0 x1) (D2 x0 x2) 1 :=
  load_last _ _ _ _ 0 _ rfl _ _ _ _ _ _ (dot2 _ _ _ _ _ _ 0 _ rfl _ _) (dot1 _ _ _ _ _ _ 0 _ rfl _ _) ((congrArg k0_pay4 (View.readCov_cons_toLoadRect _ _ _ _)).trans (before_zero _ _ _).symm) _ _
/-- The last two rows of strip 1, where a sequence begins. -/
theorem lastA2 (hc0 : k0_cond1 i = 1#1) (hc1 : k0_cond2 i = 1#1) : kernelRun0_A.sl.v123 c i arg2 harg2 arg3 harg3 arg4 harg4 arg12 arg13 arg14 hc0 hc1 x0 x1 x2 = before (k0_pay4 k0_pay3) (D1 x0 x1) (D2 x0 x2) 2 :=
  load_last _ _ _ _ 1 _ rfl _ _ _ _ _ _ (dot2 _ _ _ _ _ _ 1 _ rfl _ _) (dot1 _ _ _ _ _ _ 1 _ rfl _ _) ((pass _).trans (lastA1 ..)) _ _
/-- The last two rows of strip 2, where a sequence begins. -/
theorem lastA3 (hc0 : k0_cond1 i = 1#1) (hc1 : k0_cond2 i = 1#1) : kernelRun0_A.sl.v174 c i arg2 harg2 arg3 harg3 arg4 harg4 arg12 arg13 arg14 hc0 hc1 x0 x1 x2 = before (k0_pay4 k0_pay3) (D1 x0 x1) (D2 x0 x2) 3 :=
  load_last _ _ _ _ 2 _ rfl _ _ _ _ _ _ (dot2 _ _ _ _ _ _ 2 _ rfl _ _) (dot1 _ _ _ _ _ _ 2 _ rfl _ _) ((pass _).trans (lastA2 ..)) _ _
/-- The last two rows of strip 3, where a sequence begins. -/
theorem lastA4 (hc0 : k0_cond1 i = 1#1) (hc1 : k0_cond2 i = 1#1) : kernelRun0_A.sl.v225 c i arg2 harg2 arg3 harg3 arg4 harg4 arg12 arg13 arg14 hc0 hc1 x0 x1 x2 = before (k0_pay4 k0_pay3) (D1 x0 x1) (D2 x0 x2) 4 :=
  load_last _ _ _ _ 3 _ rfl _ _ _ _ _ _ (dot2 _ _ _ _ _ _ 3 _ rfl _ _) (dot1 _ _ _ _ _ _ 3 _ rfl _ _) ((pass _).trans (lastA3 ..)) _ _
/-- The last two rows of strip 4, where a sequence begins. -/
theorem lastA5 (hc0 : k0_cond1 i = 1#1) (hc1 : k0_cond2 i = 1#1) : kernelRun0_A.sl.v276 c i arg2 harg2 arg3 harg3 arg4 harg4 arg12 arg13 arg14 hc0 hc1 x0 x1 x2 = before (k0_pay4 k0_pay3) (D1 x0 x1) (D2 x0 x2) 5 :=
  load_last _ _ _ _ 4 _ rfl _ _ _ _ _ _ (dot2 _ _ _ _ _ _ 4 _ rfl _ _) (dot1 _ _ _ _ _ _ 4 _ rfl _ _) ((pass _).trans (lastA4 ..)) _ _
/-- The last two rows of strip 5, where a sequence begins. -/
theorem lastA6 (hc0 : k0_cond1 i = 1#1) (hc1 : k0_cond2 i = 1#1) : kernelRun0_A.sl.v327 c i arg2 harg2 arg3 harg3 arg4 harg4 arg12 arg13 arg14 hc0 hc1 x0 x1 x2 = before (k0_pay4 k0_pay3) (D1 x0 x1) (D2 x0 x2) 6 :=
  load_last _ _ _ _ 5 _ rfl _ _ _ _ _ _ (dot2 _ _ _ _ _ _ 5 _ rfl _ _) (dot1 _ _ _ _ _ _ 5 _ rfl _ _) ((pass _).trans (lastA5 ..)) _ _
/-- The last two rows of strip 6, where a sequence begins. -/
theorem lastA7 (hc0 : k0_cond1 i = 1#1) (hc1 : k0_cond2 i = 1#1) : kernelRun0_A.sl.v378 c i arg2 harg2 arg3 harg3 arg4 harg4 arg12 arg13 arg14 hc0 hc1 x0 x1 x2 = before (k0_pay4 k0_pay3) (D1 x0 x1) (D2 x0 x2) 7 :=
  load_last _ _ _ _ 6 _ rfl _ _ _ _ _ _ (dot2 _ _ _ _ _ _ 6 _ rfl _ _) (dot1 _ _ _ _ _ _ 6 _ rfl _ _) ((pass _).trans (lastA6 ..)) _ _
/-- The last two rows of strip 7, where a sequence begins. -/
theorem lastA8 (hc0 : k0_cond1 i = 1#1) (hc1 : k0_cond2 i = 1#1) : kernelRun0_A.sl.v429 c i arg2 harg2 arg3 harg3 arg4 harg4 arg12 arg13 arg14 hc0 hc1 x0 x1 x2 = before (k0_pay4 k0_pay3) (D1 x0 x1) (D2 x0 x2) 8 :=
  load_last _ _ _ _ 7 _ rfl _ _ _ _ _ _ (dot2 _ _ _ _ _ _ 7 _ rfl _ _) (dot1 _ _ _ _ _ _ 7 _ rfl _ _) ((pass _).trans (lastA7 ..)) _ _

set_option maxHeartbeats 4000000 in
/-- What the body leaves in the result's buffer, where a sequence begins. -/
theorem piecesA (hc0 : k0_cond1 i = 1#1) (hc1 : k0_cond2 i = 1#1) (hc2 : ¬k0_cond3 i = 1#1) :
    (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xs0).1
      = tiles tiles_inb (gate x0 x1 x2 x3 x4 x5 x6 (k0_pay4 k0_pay3)) 8 := by
  unfold kernelRun0_A
  dsimp only
  refine tiles_of (Val := Elt F) (e := .bf16) _ _ _ _ _ _ _ _ _ _ _ _ _ _ _ _ _ _ ?_ ?_ ?_ ?_ ?_ ?_ ?_ ?_
  · exact gate_ld _ _ _ _ _ _ _ _ _ _ _ _ _ _ _ _ 7 _ _ _ _ _ _ _
      (load_lines _ _ _ _ 7 2 _ _ _ _ _ _ (dot2 _ _ _ _ _ _ 7 _ rfl _ _) (dot1 _ _ _ _ _ _ 7 _ rfl _ _) ((pass _).trans (lastA7 ..)) _ _ _ rfl)
      (load_lines _ _ _ _ 7 1 _ _ _ _ _ _ (dot2 _ _ _ _ _ _ 7 _ rfl _ _) (dot1 _ _ _ _ _ _ 7 _ rfl _ _) ((pass _).trans (lastA7 ..)) _ _ _ rfl)
      (load_lines _ _ _ _ 7 0 _ _ _ _ _ _ (dot2 _ _ _ _ _ _ 7 _ rfl _ _) (dot1 _ _ _ _ _ _ 7 _ rfl _ _) ((pass _).trans (lastA7 ..)) _ _ _ rfl)
  · exact gate_ld _ _ _ _ _ _ _ _ _ _ _ _ _ _ _ _ 6 _ _ _ _ _ _ _
      (load_lines _ _ _ _ 6 2 _ _ _ _ _ _ (dot2 _ _ _ _ _ _ 6 _ rfl _ _) (dot1 _ _ _ _ _ _ 6 _ rfl _ _) ((pass _).trans (lastA6 ..)) _ _ _ rfl)
      (load_lines _ _ _ _ 6 1 _ _ _ _ _ _ (dot2 _ _ _ _ _ _ 6 _ rfl _ _) (dot1 _ _ _ _ _ _ 6 _ rfl _ _) ((pass _).trans (lastA6 ..)) _ _ _ rfl)
      (load_lines _ _ _ _ 6 0 _ _ _ _ _ _ (dot2 _ _ _ _ _ _ 6 _ rfl _ _) (dot1 _ _ _ _ _ _ 6 _ rfl _ _) ((pass _).trans (lastA6 ..)) _ _ _ rfl)
  · exact gate_ld _ _ _ _ _ _ _ _ _ _ _ _ _ _ _ _ 5 _ _ _ _ _ _ _
      (load_lines _ _ _ _ 5 2 _ _ _ _ _ _ (dot2 _ _ _ _ _ _ 5 _ rfl _ _) (dot1 _ _ _ _ _ _ 5 _ rfl _ _) ((pass _).trans (lastA5 ..)) _ _ _ rfl)
      (load_lines _ _ _ _ 5 1 _ _ _ _ _ _ (dot2 _ _ _ _ _ _ 5 _ rfl _ _) (dot1 _ _ _ _ _ _ 5 _ rfl _ _) ((pass _).trans (lastA5 ..)) _ _ _ rfl)
      (load_lines _ _ _ _ 5 0 _ _ _ _ _ _ (dot2 _ _ _ _ _ _ 5 _ rfl _ _) (dot1 _ _ _ _ _ _ 5 _ rfl _ _) ((pass _).trans (lastA5 ..)) _ _ _ rfl)
  · exact gate_ld _ _ _ _ _ _ _ _ _ _ _ _ _ _ _ _ 4 _ _ _ _ _ _ _
      (load_lines _ _ _ _ 4 2 _ _ _ _ _ _ (dot2 _ _ _ _ _ _ 4 _ rfl _ _) (dot1 _ _ _ _ _ _ 4 _ rfl _ _) ((pass _).trans (lastA4 ..)) _ _ _ rfl)
      (load_lines _ _ _ _ 4 1 _ _ _ _ _ _ (dot2 _ _ _ _ _ _ 4 _ rfl _ _) (dot1 _ _ _ _ _ _ 4 _ rfl _ _) ((pass _).trans (lastA4 ..)) _ _ _ rfl)
      (load_lines _ _ _ _ 4 0 _ _ _ _ _ _ (dot2 _ _ _ _ _ _ 4 _ rfl _ _) (dot1 _ _ _ _ _ _ 4 _ rfl _ _) ((pass _).trans (lastA4 ..)) _ _ _ rfl)
  · exact gate_ld _ _ _ _ _ _ _ _ _ _ _ _ _ _ _ _ 3 _ _ _ _ _ _ _
      (load_lines _ _ _ _ 3 2 _ _ _ _ _ _ (dot2 _ _ _ _ _ _ 3 _ rfl _ _) (dot1 _ _ _ _ _ _ 3 _ rfl _ _) ((pass _).trans (lastA3 ..)) _ _ _ rfl)
      (load_lines _ _ _ _ 3 1 _ _ _ _ _ _ (dot2 _ _ _ _ _ _ 3 _ rfl _ _) (dot1 _ _ _ _ _ _ 3 _ rfl _ _) ((pass _).trans (lastA3 ..)) _ _ _ rfl)
      (load_lines _ _ _ _ 3 0 _ _ _ _ _ _ (dot2 _ _ _ _ _ _ 3 _ rfl _ _) (dot1 _ _ _ _ _ _ 3 _ rfl _ _) ((pass _).trans (lastA3 ..)) _ _ _ rfl)
  · exact gate_ld _ _ _ _ _ _ _ _ _ _ _ _ _ _ _ _ 2 _ _ _ _ _ _ _
      (load_lines _ _ _ _ 2 2 _ _ _ _ _ _ (dot2 _ _ _ _ _ _ 2 _ rfl _ _) (dot1 _ _ _ _ _ _ 2 _ rfl _ _) ((pass _).trans (lastA2 ..)) _ _ _ rfl)
      (load_lines _ _ _ _ 2 1 _ _ _ _ _ _ (dot2 _ _ _ _ _ _ 2 _ rfl _ _) (dot1 _ _ _ _ _ _ 2 _ rfl _ _) ((pass _).trans (lastA2 ..)) _ _ _ rfl)
      (load_lines _ _ _ _ 2 0 _ _ _ _ _ _ (dot2 _ _ _ _ _ _ 2 _ rfl _ _) (dot1 _ _ _ _ _ _ 2 _ rfl _ _) ((pass _).trans (lastA2 ..)) _ _ _ rfl)
  · exact gate_ld _ _ _ _ _ _ _ _ _ _ _ _ _ _ _ _ 1 _ _ _ _ _ _ _
      (load_lines _ _ _ _ 1 2 _ _ _ _ _ _ (dot2 _ _ _ _ _ _ 1 _ rfl _ _) (dot1 _ _ _ _ _ _ 1 _ rfl _ _) ((pass _).trans (lastA1 ..)) _ _ _ rfl)
      (load_lines _ _ _ _ 1 1 _ _ _ _ _ _ (dot2 _ _ _ _ _ _ 1 _ rfl _ _) (dot1 _ _ _ _ _ _ 1 _ rfl _ _) ((pass _).trans (lastA1 ..)) _ _ _ rfl)
      (load_lines _ _ _ _ 1 0 _ _ _ _ _ _ (dot2 _ _ _ _ _ _ 1 _ rfl _ _) (dot1 _ _ _ _ _ _ 1 _ rfl _ _) ((pass _).trans (lastA1 ..)) _ _ _ rfl)
  · exact gate_ld _ _ _ _ _ _ _ _ _ _ _ _ _ _ _ _ 0 _ _ _ _ _ _ _
      (load_lines _ _ _ _ 0 2 _ _ _ _ _ _ (dot2 _ _ _ _ _ _ 0 _ rfl _ _) (dot1 _ _ _ _ _ _ 0 _ rfl _ _) ((congrArg k0_pay4 (View.readCov_cons_toLoadRect _ _ _ _)).trans (before_zero _ _ _).symm) _ _ _ rfl)
      (load_lines _ _ _ _ 0 1 _ _ _ _ _ _ (dot2 _ _ _ _ _ _ 0 _ rfl _ _) (dot1 _ _ _ _ _ _ 0 _ rfl _ _) ((congrArg k0_pay4 (View.readCov_cons_toLoadRect _ _ _ _)).trans (before_zero _ _ _).symm) _ _ _ rfl)
      (load_lines _ _ _ _ 0 0 _ _ _ _ _ _ (dot2 _ _ _ _ _ _ 0 _ rfl _ _) (dot1 _ _ _ _ _ _ 0 _ rfl _ _) ((congrArg k0_pay4 (View.readCov_cons_toLoadRect _ _ _ _)).trans (before_zero _ _ _).symm) _ _ _ rfl)

/-! ### Inside a sequence -/

/-- The last two rows of strip 0, inside a sequence. -/
theorem lastC1 (hc0 : k0_cond1 i = 1#1) : kernelRun0_C.sl.v72 c i arg2 harg2 arg3 harg3 arg4 harg4 arg12 harg12 arg13 hc0 x0 x1 x2 xs0 = before (k0_pay4 (carried i hc0 xs0)) (D1 x0 x1) (D2 x0 x2) 1 :=
  load_last _ _ _ _ 0 _ rfl _ _ _ _ _ _ (dot2 _ _ _ _ _ _ 0 _ rfl _ _) (dot1 _ _ _ _ _ _ 0 _ rfl _ _) ((congrArg k0_pay4 (congrFun (congrArg View.ld (harg12.read_unread xs0)) _)).trans (before_zero _ _ _).symm) _ _
/-- The last two rows of strip 1, inside a sequence. -/
theorem lastC2 (hc0 : k0_cond1 i = 1#1) : kernelRun0_C.sl.v123 c i arg2 harg2 arg3 harg3 arg4 harg4 arg12 harg12 arg13 arg14 hc0 x0 x1 x2 xs0 = before (k0_pay4 (carried i hc0 xs0)) (D1 x0 x1) (D2 x0 x2) 2 :=
  load_last _ _ _ _ 1 _ rfl _ _ _ _ _ _ (dot2 _ _ _ _ _ _ 1 _ rfl _ _) (dot1 _ _ _ _ _ _ 1 _ rfl _ _) ((pass _).trans (lastC1 ..)) _ _
/-- The last two rows of strip 2, inside a sequence. -/
theorem lastC3 (hc0 : k0_cond1 i = 1#1) : kernelRun0_C.sl.v174 c i arg2 harg2 arg3 harg3 arg4 harg4 arg12 harg12 arg13 arg14 hc0 x0 x1 x2 xs0 = before (k0_pay4 (carried i hc0 xs0)) (D1 x0 x1) (D2 x0 x2) 3 :=
  load_last _ _ _ _ 2 _ rfl _ _ _ _ _ _ (dot2 _ _ _ _ _ _ 2 _ rfl _ _) (dot1 _ _ _ _ _ _ 2 _ rfl _ _) ((pass _).trans (lastC2 ..)) _ _
/-- The last two rows of strip 3, inside a sequence. -/
theorem lastC4 (hc0 : k0_cond1 i = 1#1) : kernelRun0_C.sl.v225 c i arg2 harg2 arg3 harg3 arg4 harg4 arg12 harg12 arg13 arg14 hc0 x0 x1 x2 xs0 = before (k0_pay4 (carried i hc0 xs0)) (D1 x0 x1) (D2 x0 x2) 4 :=
  load_last _ _ _ _ 3 _ rfl _ _ _ _ _ _ (dot2 _ _ _ _ _ _ 3 _ rfl _ _) (dot1 _ _ _ _ _ _ 3 _ rfl _ _) ((pass _).trans (lastC3 ..)) _ _
/-- The last two rows of strip 4, inside a sequence. -/
theorem lastC5 (hc0 : k0_cond1 i = 1#1) : kernelRun0_C.sl.v276 c i arg2 harg2 arg3 harg3 arg4 harg4 arg12 harg12 arg13 arg14 hc0 x0 x1 x2 xs0 = before (k0_pay4 (carried i hc0 xs0)) (D1 x0 x1) (D2 x0 x2) 5 :=
  load_last _ _ _ _ 4 _ rfl _ _ _ _ _ _ (dot2 _ _ _ _ _ _ 4 _ rfl _ _) (dot1 _ _ _ _ _ _ 4 _ rfl _ _) ((pass _).trans (lastC4 ..)) _ _
/-- The last two rows of strip 5, inside a sequence. -/
theorem lastC6 (hc0 : k0_cond1 i = 1#1) : kernelRun0_C.sl.v327 c i arg2 harg2 arg3 harg3 arg4 harg4 arg12 harg12 arg13 arg14 hc0 x0 x1 x2 xs0 = before (k0_pay4 (carried i hc0 xs0)) (D1 x0 x1) (D2 x0 x2) 6 :=
  load_last _ _ _ _ 5 _ rfl _ _ _ _ _ _ (dot2 _ _ _ _ _ _ 5 _ rfl _ _) (dot1 _ _ _ _ _ _ 5 _ rfl _ _) ((pass _).trans (lastC5 ..)) _ _
/-- The last two rows of strip 6, inside a sequence. -/
theorem lastC7 (hc0 : k0_cond1 i = 1#1) : kernelRun0_C.sl.v378 c i arg2 harg2 arg3 harg3 arg4 harg4 arg12 harg12 arg13 arg14 hc0 x0 x1 x2 xs0 = before (k0_pay4 (carried i hc0 xs0)) (D1 x0 x1) (D2 x0 x2) 7 :=
  load_last _ _ _ _ 6 _ rfl _ _ _ _ _ _ (dot2 _ _ _ _ _ _ 6 _ rfl _ _) (dot1 _ _ _ _ _ _ 6 _ rfl _ _) ((pass _).trans (lastC6 ..)) _ _
/-- The last two rows of strip 7, inside a sequence. -/
theorem lastC8 (hc0 : k0_cond1 i = 1#1) : kernelRun0_C.sl.v429 c i arg2 harg2 arg3 harg3 arg4 harg4 arg12 harg12 arg13 arg14 hc0 x0 x1 x2 xs0 = before (k0_pay4 (carried i hc0 xs0)) (D1 x0 x1) (D2 x0 x2) 8 :=
  load_last _ _ _ _ 7 _ rfl _ _ _ _ _ _ (dot2 _ _ _ _ _ _ 7 _ rfl _ _) (dot1 _ _ _ _ _ _ 7 _ rfl _ _) ((pass _).trans (lastC7 ..)) _ _

set_option maxHeartbeats 4000000 in
/-- What the body leaves in the result's buffer, inside a sequence. -/
theorem piecesC (hc0 : k0_cond1 i = 1#1) (hc1 : ¬k0_cond2 i = 1#1) (hc2 : ¬k0_cond3 i = 1#1) :
    (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xs0).1
      = tiles tiles_inb (gate x0 x1 x2 x3 x4 x5 x6 (k0_pay4 (carried i hc0 xs0))) 8 := by
  unfold kernelRun0_C
  dsimp only
  refine tiles_of (Val := Elt F) (e := .bf16) _ _ _ _ _ _ _ _ _ _ _ _ _ _ _ _ _ _ ?_ ?_ ?_ ?_ ?_ ?_ ?_ ?_
  · exact gate_ld _ _ _ _ _ _ _ _ _ _ _ _ _ _ _ _ 7 _ _ _ _ _ _ _
      (load_lines _ _ _ _ 7 2 _ _ _ _ _ _ (dot2 _ _ _ _ _ _ 7 _ rfl _ _) (dot1 _ _ _ _ _ _ 7 _ rfl _ _) ((pass _).trans (lastC7 ..)) _ _ _ rfl)
      (load_lines _ _ _ _ 7 1 _ _ _ _ _ _ (dot2 _ _ _ _ _ _ 7 _ rfl _ _) (dot1 _ _ _ _ _ _ 7 _ rfl _ _) ((pass _).trans (lastC7 ..)) _ _ _ rfl)
      (load_lines _ _ _ _ 7 0 _ _ _ _ _ _ (dot2 _ _ _ _ _ _ 7 _ rfl _ _) (dot1 _ _ _ _ _ _ 7 _ rfl _ _) ((pass _).trans (lastC7 ..)) _ _ _ rfl)
  · exact gate_ld _ _ _ _ _ _ _ _ _ _ _ _ _ _ _ _ 6 _ _ _ _ _ _ _
      (load_lines _ _ _ _ 6 2 _ _ _ _ _ _ (dot2 _ _ _ _ _ _ 6 _ rfl _ _) (dot1 _ _ _ _ _ _ 6 _ rfl _ _) ((pass _).trans (lastC6 ..)) _ _ _ rfl)
      (load_lines _ _ _ _ 6 1 _ _ _ _ _ _ (dot2 _ _ _ _ _ _ 6 _ rfl _ _) (dot1 _ _ _ _ _ _ 6 _ rfl _ _) ((pass _).trans (lastC6 ..)) _ _ _ rfl)
      (load_lines _ _ _ _ 6 0 _ _ _ _ _ _ (dot2 _ _ _ _ _ _ 6 _ rfl _ _) (dot1 _ _ _ _ _ _ 6 _ rfl _ _) ((pass _).trans (lastC6 ..)) _ _ _ rfl)
  · exact gate_ld _ _ _ _ _ _ _ _ _ _ _ _ _ _ _ _ 5 _ _ _ _ _ _ _
      (load_lines _ _ _ _ 5 2 _ _ _ _ _ _ (dot2 _ _ _ _ _ _ 5 _ rfl _ _) (dot1 _ _ _ _ _ _ 5 _ rfl _ _) ((pass _).trans (lastC5 ..)) _ _ _ rfl)
      (load_lines _ _ _ _ 5 1 _ _ _ _ _ _ (dot2 _ _ _ _ _ _ 5 _ rfl _ _) (dot1 _ _ _ _ _ _ 5 _ rfl _ _) ((pass _).trans (lastC5 ..)) _ _ _ rfl)
      (load_lines _ _ _ _ 5 0 _ _ _ _ _ _ (dot2 _ _ _ _ _ _ 5 _ rfl _ _) (dot1 _ _ _ _ _ _ 5 _ rfl _ _) ((pass _).trans (lastC5 ..)) _ _ _ rfl)
  · exact gate_ld _ _ _ _ _ _ _ _ _ _ _ _ _ _ _ _ 4 _ _ _ _ _ _ _
      (load_lines _ _ _ _ 4 2 _ _ _ _ _ _ (dot2 _ _ _ _ _ _ 4 _ rfl _ _) (dot1 _ _ _ _ _ _ 4 _ rfl _ _) ((pass _).trans (lastC4 ..)) _ _ _ rfl)
      (load_lines _ _ _ _ 4 1 _ _ _ _ _ _ (dot2 _ _ _ _ _ _ 4 _ rfl _ _) (dot1 _ _ _ _ _ _ 4 _ rfl _ _) ((pass _).trans (lastC4 ..)) _ _ _ rfl)
      (load_lines _ _ _ _ 4 0 _ _ _ _ _ _ (dot2 _ _ _ _ _ _ 4 _ rfl _ _) (dot1 _ _ _ _ _ _ 4 _ rfl _ _) ((pass _).trans (lastC4 ..)) _ _ _ rfl)
  · exact gate_ld _ _ _ _ _ _ _ _ _ _ _ _ _ _ _ _ 3 _ _ _ _ _ _ _
      (load_lines _ _ _ _ 3 2 _ _ _ _ _ _ (dot2 _ _ _ _ _ _ 3 _ rfl _ _) (dot1 _ _ _ _ _ _ 3 _ rfl _ _) ((pass _).trans (lastC3 ..)) _ _ _ rfl)
      (load_lines _ _ _ _ 3 1 _ _ _ _ _ _ (dot2 _ _ _ _ _ _ 3 _ rfl _ _) (dot1 _ _ _ _ _ _ 3 _ rfl _ _) ((pass _).trans (lastC3 ..)) _ _ _ rfl)
      (load_lines _ _ _ _ 3 0 _ _ _ _ _ _ (dot2 _ _ _ _ _ _ 3 _ rfl _ _) (dot1 _ _ _ _ _ _ 3 _ rfl _ _) ((pass _).trans (lastC3 ..)) _ _ _ rfl)
  · exact gate_ld _ _ _ _ _ _ _ _ _ _ _ _ _ _ _ _ 2 _ _ _ _ _ _ _
      (load_lines _ _ _ _ 2 2 _ _ _ _ _ _ (dot2 _ _ _ _ _ _ 2 _ rfl _ _) (dot1 _ _ _ _ _ _ 2 _ rfl _ _) ((pass _).trans (lastC2 ..)) _ _ _ rfl)
      (load_lines _ _ _ _ 2 1 _ _ _ _ _ _ (dot2 _ _ _ _ _ _ 2 _ rfl _ _) (dot1 _ _ _ _ _ _ 2 _ rfl _ _) ((pass _).trans (lastC2 ..)) _ _ _ rfl)
      (load_lines _ _ _ _ 2 0 _ _ _ _ _ _ (dot2 _ _ _ _ _ _ 2 _ rfl _ _) (dot1 _ _ _ _ _ _ 2 _ rfl _ _) ((pass _).trans (lastC2 ..)) _ _ _ rfl)
  · exact gate_ld _ _ _ _ _ _ _ _ _ _ _ _ _ _ _ _ 1 _ _ _ _ _ _ _
      (load_lines _ _ _ _ 1 2 _ _ _ _ _ _ (dot2 _ _ _ _ _ _ 1 _ rfl _ _) (dot1 _ _ _ _ _ _ 1 _ rfl _ _) ((pass _).trans (lastC1 ..)) _ _ _ rfl)
      (load_lines _ _ _ _ 1 1 _ _ _ _ _ _ (dot2 _ _ _ _ _ _ 1 _ rfl _ _) (dot1 _ _ _ _ _ _ 1 _ rfl _ _) ((pass _).trans (lastC1 ..)) _ _ _ rfl)
      (load_lines _ _ _ _ 1 0 _ _ _ _ _ _ (dot2 _ _ _ _ _ _ 1 _ rfl _ _) (dot1 _ _ _ _ _ _ 1 _ rfl _ _) ((pass _).trans (lastC1 ..)) _ _ _ rfl)
  · exact gate_ld _ _ _ _ _ _ _ _ _ _ _ _ _ _ _ _ 0 _ _ _ _ _ _ _
      (load_lines _ _ _ _ 0 2 _ _ _ _ _ _ (dot2 _ _ _ _ _ _ 0 _ rfl _ _) (dot1 _ _ _ _ _ _ 0 _ rfl _ _) ((congrArg k0_pay4 (congrFun (congrArg View.ld (harg12.read_unread xs0)) _)).trans (before_zero _ _ _).symm) _ _ _ rfl)
      (load_lines _ _ _ _ 0 1 _ _ _ _ _ _ (dot2 _ _ _ _ _ _ 0 _ rfl _ _) (dot1 _ _ _ _ _ _ 0 _ rfl _ _) ((congrArg k0_pay4 (congrFun (congrArg View.ld (harg12.read_unread xs0)) _)).trans (before_zero _ _ _).symm) _ _ _ rfl)
      (load_lines _ _ _ _ 0 0 _ _ _ _ _ _ (dot2 _ _ _ _ _ _ 0 _ rfl _ _) (dot1 _ _ _ _ _ _ 0 _ rfl _ _) ((congrArg k0_pay4 (congrFun (congrArg View.ld (harg12.read_unread xs0)) _)).trans (before_zero _ _ _).symm) _ _ _ rfl)

end Operands

end Cert.FfnIdeal.Gen

end
-- ==== Proof.Up.Slot.lean ====
module

public import proofs.«01_k».proof.Proof.Up.Strip

@[expose] public section

/-!
# Reading a buffer back after its stores

The stores of one step are a list of pieces, last first. Here a buffer stored whole, one stored in eight strips, and
one of which a single slot is stored are read back.
-/

set_option maxRecDepth 16384

noncomputable section

namespace Cert.Up

open Idealize.ShloMosaic Idealize.ShloMosaic.ValueIdx

variable {Val : EltTy → Type} {e : EltTy} {sig : RefSig} {κ : Kind} {sp : Space}

/-- A buffer stored whole holds what was stored. -/
theorem read_whole {s : Shape} (v : View sig κ sp s e) (f : v.ty.Contents Val) (off : Fin s.rank → ℕ) (hoff : off = fun _ => 0) (inb)
    (w : s.Idx → Val e) (L : List (View.Piece Val s e)) :
    v.read Val (v.writes Val f (⟨Rect.unit (s := s) off s.size inb, w⟩ :: L)) = w := by
  funext y
  have h : y = (Rect.unit (s := s) off s.size inb).emb y := by
    funext a
    refine Fin.ext ?_
    show (y a).val = off a + 1 * (y a).val
    rw [hoff]; simp
  exact (congrArg (v.read Val (v.writes Val f (⟨Rect.unit (s := s) off s.size inb, w⟩ :: L))) h).trans
    (View.read_writes_cons_emb (v := v) (f := f) (Rect.unit (s := s) off s.size inb) w L y)

/-- Eight strips cover the block. -/
theorem cover_tiles (inb) (g : Fin 8 → (⟨2, ![256, 256]⟩ : Shape).Idx → Val e) (y : (⟨2, ![2048, 256]⟩ : Shape).Idx) :
    ∀ n, n ≤ 8 → (y 0).val < 256 * n → ∃ p ∈ tiles inb g n, y ∈ p.1.set
  | 0, _, h => absurd h (by omega)
  | n + 1, hn, h => by
    have y1 : (y 1).val < 256 := (y 1).isLt
    have h8 : n < 8 := by omega
    unfold tiles
    rw [dif_pos h8]
    by_cases hy : (y 0).val < 256 * n
    · obtain ⟨p, hp, hm⟩ := cover_tiles inb g y n (by omega) hy
      exact ⟨p, List.mem_cons_of_mem _ hp, hm⟩
    · refine ⟨_, List.mem_cons_self, (Rect.mem_set_unit (inb := inb ⟨n, h8⟩)).mpr fun a => ?_⟩
      match a with
      | ⟨0, _⟩ => exact ⟨by show 256 * n ≤ (y 0).val; omega, by show (y 0).val < 256 * n + 256; omega⟩
      | ⟨1, _⟩ => exact ⟨Nat.zero_le _, by show (y 1).val < 0 + 256; omega⟩

/-- A block stored in eight strips. -/
theorem read_tiles [∀ e, Nonempty (Val e)] (v : View sig κ sp ⟨2, ![2048, 256]⟩ e) (f : v.ty.Contents Val) (inb)
    (g : Fin 8 → (⟨2, ![256, 256]⟩ : Shape).Idx → Val e) (L : List (View.Piece Val ⟨2, ![2048, 256]⟩ e)) (hL : L = tiles inb g 8) :
    v.read Val (v.writes Val f L) = fun y => g (pt 8 ((y 0).val / 256)) (ix2 (pt 256 (y 0).val) (pt 256 (y 1).val)) := by
  subst hL
  funext y
  have y0 : (y 0).val < 2048 := (y 0).isLt
  rw [View.read_writes_apply_eq_canon v f y _ (cover_tiles inb g y 8 le_rfl (by omega))]
  exact canon_tiles inb g y 8 le_rfl (by omega)

/-- A carry of which one slot is stored last, after stores to that slot alone. -/
theorem read_slot (v : View sig κ sp ⟨3, ![43, 2, 512]⟩ e) (f : v.ty.Contents Val) (j : ℕ) (off : Fin 3 → ℕ) (hoff : off = ![j, 0, 0])
    (inb) (w : (⟨3, ![1, 2, 512]⟩ : Shape).Idx → Val e) (L : List (View.Piece Val ⟨3, ![43, 2, 512]⟩ e))
    (hL : ∀ p ∈ L, ∀ y : (⟨3, ![43, 2, 512]⟩ : Shape).Idx, y ∈ p.1.set → (y 0).val = j) (y : (⟨3, ![43, 2, 512]⟩ : Shape).Idx) :
    v.read Val (v.writes Val f (⟨Rect.unit (s := ⟨3, ![43, 2, 512]⟩) off ![1, 2, 512] inb, w⟩ :: L)) y
      = if (y 0).val = j then w (ix3 (n0 := 1) (n1 := 2) (n2 := 512) 0 (y 1) (y 2)) else v.read Val f y := by
  subst hoff
  by_cases h : (y 0).val = j
  · rw [if_pos h]
    have e : y = (Rect.unit (s := ⟨3, ![43, 2, 512]⟩) ![j, 0, 0] ![1, 2, 512] inb).emb (ix3 (n0 := 1) (n1 := 2) (n2 := 512) 0 (y 1) (y 2)) := by
      funext a
      refine Fin.ext ?_
      match a with
      | ⟨0, _⟩ => show (y 0).val = j + 1 * 0; omega
      | ⟨1, _⟩ => show (y 1).val = 0 + 1 * (y 1).val; omega
      | ⟨2, _⟩ => show (y 2).val = 0 + 1 * (y 2).val; omega
    have key := View.read_writes_cons_emb (v := v) (f := f) (Rect.unit (s := ⟨3, ![43, 2, 512]⟩) ![j, 0, 0] ![1, 2, 512] inb) w L
      (ix3 (n0 := 1) (n1 := 2) (n2 := 512) 0 (y 1) (y 2))
    rw [← e] at key
    exact key
  · rw [if_neg h]
    refine View.read_writes_apply_of_forall_not_mem (v := v) (f := f) y _ fun p hp hm => ?_
    rcases List.mem_cons.mp hp with rfl | hp
    · have := (Rect.mem_set_unit (inb := inb)).mp hm 0
      have h1 : j ≤ (y 0).val := this.1
      have h2 : (y 0).val < j + 1 := this.2
      omega
    · exact h (hL p hp y hm)

/-- A store to one slot alone. -/
theorem slot_mem (j : ℕ) (off : Fin 3 → ℕ) (hoff : off = ![j, 0, 0]) (inb) (y : (⟨3, ![43, 2, 512]⟩ : Shape).Idx)
    (hm : y ∈ (Rect.unit (s := ⟨3, ![43, 2, 512]⟩) off ![1, 2, 512] inb).set) : (y 0).val = j := by
  subst hoff
  have := (Rect.mem_set_unit (inb := inb)).mp hm 0
  have h1 : j ≤ (y 0).val := this.1
  have h2 : (y 0).val < j + 1 := this.2
  omega

end Cert.Up

end
-- ==== Proof.Up.FfnIdeal.Leave.lean ====
/- What `FfnIdeal`'s buffers hold after the body, read back. -/
module

public import proofs.«01_k».proof.Proof.Up.FfnIdeal.Read
public import proofs.«01_k».proof.Proof.Up.Slot

@[expose] public section

-- membership in a rectangle of production extents (`View.cover_of_tiled`): the elaborator's structural look
-- recurses once per coordinate of the long axes
set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Cert.Up
open Idealize.ShloMosaic.Pipeline (Dat Cfg Window BodyObligation cellOf)

variable {F : FTy → Type} [FloatOps F]

local notation "𝕄" => MT nD τ sig Unit (Elt F) ℕ (UR sig nD τ) ℕ

theorem zero3 : (![0, 0, 0] : Fin 3 → ℕ) = fun _ => 0 := by decide

/-- Where the slot of a column block is cleared. -/
theorem off1_eq : ∀ t : Fin cfg0.N, k0_off1 (grid0.coords t) = ![t.val % 44, 0, 0] :=
  (by decide +kernel : ∀ t : Fin grid0.N, k0_off1 (grid0.coords t) = ![t.val % 44, 0, 0])

section Operands

variable (c : Dev nD) (i : grid0.Coords) (arg2 : Memref sig .tc .vmem S2048x4096 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S3x256 .f32) (harg5 : arg5.IsWhole) (arg6 : Memref sig .tc .vmem S3x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S2048x256 .bf16) (harg9 : arg9.IsWhole) (arg10 : Memref sig .tc .vmem S1x2x256 .f32) (harg10 : arg10.IsWhole) (arg11 : Memref sig .tc .vmem S1x2x256 .f32) (harg11 : arg11.IsWhole) (arg12 : Memref sig .tc .vmem S43x2x512 .f32) (harg12 : arg12.IsWhole) (arg13 : Memref sig .tc .vmem S264x512 .f32) (harg13 : arg13.IsWhole) (arg14 : Memref sig .tc .vmem S264x512 .f32) (harg14 : arg14.IsWhole)
variable (x0 : Vec F S2048x4096 .bf16) (x1 x2 : Vec F S4096x256 .bf16) (x3 x4 : Vec F S3x256 .f32) (x5 x6 : Vec F S1x256 .f32) (xs0 : Vec F S43x2x512 .f32)

/-- The result's block, where a sequence begins. -/
theorem actA (hc0 : k0_cond1 i = 1#1) (hc1 : k0_cond2 i = 1#1) (hc2 : ¬k0_cond3 i = 1#1) (f) :
    arg9.view.read (Elt F) (arg9.view.writes (Elt F) f (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xs0).1) = actOf x0 x1 x2 x3 x4 x5 x6 (k0_pay4 k0_pay3) :=
  read_tiles _ _ tiles_inb _ _ (piecesA ..)

/-- The first half's two rows, where a sequence begins. -/
theorem firstA (hc0 : k0_cond1 i = 1#1) (hc1 : k0_cond2 i = 1#1) (hc2 : ¬k0_cond3 i = 1#1) (f) :
    arg10.view.read (Elt F) (arg10.view.writes (Elt F) f (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xs0).2.1) = k0_pay55 (lastOf x0 x1 x2) := by
  unfold kernelRun0_A
  dsimp only
  refine (read_whole _ _ _ zero3 _ _ _).trans (congrArg k0_pay55 ?_)
  exact (lastA8 ..).trans (before_eight _ _ _)

/-- The second half's two rows, where a sequence begins. -/
theorem secondA (hc0 : k0_cond1 i = 1#1) (hc1 : k0_cond2 i = 1#1) (hc2 : ¬k0_cond3 i = 1#1) (f) :
    arg11.view.read (Elt F) (arg11.view.writes (Elt F) f (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xs0).2.2.1) = k0_pay1 (k0_pay56 (lastOf x0 x1 x2)) := by
  unfold kernelRun0_A
  dsimp only
  refine (read_whole _ _ _ zero3 _ _ _).trans (congrArg (fun v => k0_pay1 (k0_pay56 v)) ?_)
  exact (lastA8 ..).trans (before_eight _ _ _)

/-- The carry, where a sequence begins: the column block's slot at the block's last two rows, the others as they were. -/
theorem carryA (hc0 : k0_cond1 i = 1#1) (hc1 : k0_cond2 i = 1#1) (hc2 : ¬k0_cond3 i = 1#1) (j : ℕ) (hoff : k0_off2 i = ![j, 0, 0]) (hoff1 : k0_off1 i = ![j, 0, 0]) (y : S43x2x512.Idx) :
    arg12.view.read (Elt F) (arg12.view.writes (Elt F) (harg12.unread xs0) (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xs0).2.2.2.1) y
      = if (y 0).val = j then k0_pay54 (lastOf x0 x1 x2) (ix3 (n0 := 1) (n1 := 2) (n2 := 512) 0 (y 1) (y 2)) else xs0 y := by
  unfold kernelRun0_A
  dsimp only
  refine (read_slot _ _ j _ hoff _ _ _ (fun p hp y hm => ?_) y).trans ?_
  · obtain rfl := List.mem_singleton.mp hp
    exact slot_mem j _ hoff1 (k0_off1_inb i hc0 hc1) y hm
  · rw [harg12.read_unread]
    refine if_congr Iff.rfl (congrFun (congrArg k0_pay54 ?_) _) rfl
    exact (lastA8 ..).trans (before_eight _ _ _)

/-- The result's block, inside a sequence. -/
theorem actC (hc0 : k0_cond1 i = 1#1) (hc1 : ¬k0_cond2 i = 1#1) (hc2 : ¬k0_cond3 i = 1#1) (f) :
    arg9.view.read (Elt F) (arg9.view.writes (Elt F) f (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xs0).1) = actOf x0 x1 x2 x3 x4 x5 x6 (k0_pay4 (carried i hc0 xs0)) :=
  read_tiles _ _ tiles_inb _ _ (piecesC ..)

/-- The first half's two rows, inside a sequence. -/
theorem firstC (hc0 : k0_cond1 i = 1#1) (hc1 : ¬k0_cond2 i = 1#1) (hc2 : ¬k0_cond3 i = 1#1) (f) :
    arg10.view.read (Elt F) (arg10.view.writes (Elt F) f (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xs0).2.1) = k0_pay55 (lastOf x0 x1 x2) := by
  unfold kernelRun0_C
  dsimp only
  refine (read_whole _ _ _ zero3 _ _ _).trans (congrArg k0_pay55 ?_)
  exact (lastC8 ..).trans (before_eight _ _ _)

/-- The second half's two rows, inside a sequence. -/
theorem secondC (hc0 : k0_cond1 i = 1#1) (hc1 : ¬k0_cond2 i = 1#1) (hc2 : ¬k0_cond3 i = 1#1) (f) :
    arg11.view.read (Elt F) (arg11.view.writes (Elt F) f (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xs0).2.2.1) = k0_pay1 (k0_pay56 (lastOf x0 x1 x2)) := by
  unfold kernelRun0_C
  dsimp only
  refine (read_whole _ _ _ zero3 _ _ _).trans (congrArg (fun v => k0_pay1 (k0_pay56 v)) ?_)
  exact (lastC8 ..).trans (before_eight _ _ _)

/-- The carry, inside a sequence: the column block's slot at the block's last two rows, the others as they were. -/
theorem carryC (hc0 : k0_cond1 i = 1#1) (hc1 : ¬k0_cond2 i = 1#1) (hc2 : ¬k0_cond3 i = 1#1) (j : ℕ) (hoff : k0_off2 i = ![j, 0, 0]) (y : S43x2x512.Idx) :
    arg12.view.read (Elt F) (arg12.view.writes (Elt F) (harg12.unread xs0) (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xs0).2.2.2.1) y
      = if (y 0).val = j then k0_pay54 (lastOf x0 x1 x2) (ix3 (n0 := 1) (n1 := 2) (n2 := 512) 0 (y 1) (y 2)) else xs0 y := by
  unfold kernelRun0_C
  dsimp only
  refine (read_slot _ _ j _ hoff _ _ [] (fun p hp => absurd hp List.not_mem_nil) y).trans ?_
  rw [harg12.read_unread]
  refine if_congr Iff.rfl (congrFun (congrArg k0_pay54 ?_) _) rfl
  exact (lastC8 ..).trans (before_eight _ _ _)

/-- The block of padding columns. -/
theorem actD (hc0 : ¬k0_cond1 i = 1#1) (hc2 : k0_cond3 i = 1#1) (f) :
    arg9.view.read (Elt F) (arg9.view.writes (Elt F) f (kernelRun0_D (F := F) c i arg2 harg2 arg3 harg3 arg4 harg4 arg5 harg5 arg6 harg6 arg7 harg7 arg8 harg8 arg9 harg9 arg10 harg10 arg11 harg11 arg12 harg12 arg13 harg13 arg14 harg14 hc0 hc2).1) = k0_pay2 := by
  unfold kernelRun0_D
  dsimp only
  exact read_whole _ _ _ zero2 _ _ _

end Operands

end Cert.FfnIdeal.Gen

end
-- ==== Proof.Up.FfnIdeal.Frame.lean ====
/- The run of `FfnIdeal`: what its carry holds between the points, what each point leaves, and what the run leaves in memory.

   The grid goes over the row blocks and, within one, over the column blocks. The carry has a slot for each column
   block: the last two rows of the products of the row block before. So what a point needs to know of the carry is
   what the points up to one row block earlier stored there. -/
module

public import proofs.«01_k».proof.Proof.Up.FfnIdeal.Leave
public import Idealize.ShloMosaic.Lib.Claim

@[expose] public section

-- membership in a rectangle of production extents (`View.cover_of_tiled`): the elaborator's structural look
-- recurses once per coordinate of the long axes
set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Cert.Up
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a point stores in its column block's slot: the last two rows of its products. -/
def slotOf (c : Dev nD) (t : Fin cfg0.N) : Vec F S1x2x512 .f32 := k0_pay54 (lastOf (iblk m c 0 t) (iblk m c 1 t) (iblk m c 2 t))

/-- The two rows that precede a point's row block: zeros where a sequence begins, else what the point one row block
    earlier stored. -/
def carryIn (c : Dev nD) (t : Fin cfg0.N) : Vec F S2x512 .f32 :=
  if t.val / 44 % 2 = 0 then k0_pay4 k0_pay3 else k0_pay4 (slotOf m c ⟨t.val - 44, Nat.lt_of_le_of_lt (Nat.sub_le _ _) t.isLt⟩)

/-- The last point of a real column block, up to a point. -/
def realPt (t : Fin cfg0.N) : Fin cfg0.N := if t.val % 44 < 43 then t else ⟨t.val - 1, Nat.lt_of_le_of_lt (Nat.sub_le _ _) t.isLt⟩

/-- What a point leaves in the result's buffer. -/
def out7 (c : Dev nD) (t : Fin cfg0.N) : Vec F S2048x256 .bf16 :=
  if t.val % 44 < 43 then actOf (iblk m c 0 t) (iblk m c 1 t) (iblk m c 2 t) (iblk m c 3 t) (iblk m c 4 t) (iblk m c 5 t) (iblk m c 6 t) (carryIn m c t) else k0_pay2

/-- What is in the first half's two rows' buffer after a point. -/
def out8 (c : Dev nD) (t : Fin cfg0.N) : Vec F S1x2x256 .f32 :=
  k0_pay55 (lastOf (iblk m c 0 (realPt t)) (iblk m c 1 (realPt t)) (iblk m c 2 (realPt t)))

/-- And in the second half's. -/
def out9 (c : Dev nD) (t : Fin cfg0.N) : Vec F S1x2x256 .f32 :=
  k0_pay1 (k0_pay56 (lastOf (iblk m c 0 (realPt t)) (iblk m c 1 (realPt t)) (iblk m c 2 (realPt t))))

/-- The carry before position `n`: each slot stored within the last row block of points holds what was stored. -/
def Inv (c : Dev nD) (n : ℕ) (d : Vec F S43x2x512 .f32) : Prop :=
  ∀ t' : Fin cfg0.N, t'.val < n → n ≤ t'.val + 44 → t'.val % 44 < 43 → ∀ y : S43x2x512.Idx, (y 0).val = t'.val % 44 →
    d y = slotOf m c t' (ix3 (n0 := 1) (n1 := 2) (n2 := 512) 0 (y 1) (y 2))

theorem inv_zero (c : Dev nD) (d : Vec F S43x2x512 .f32) : Inv m c 0 d := fun _ h => absurd h (Nat.not_lt_zero _)

/-- A point of a real column block stores its slot and no other. -/
theorem inv_real (c : Dev nD) (t : Fin cfg0.N) (d d' : Vec F S43x2x512 .f32) (h : Inv m c t.val d)
    (hd : ∀ y, d' y = if (y 0).val = t.val % 44 then slotOf m c t (ix3 (n0 := 1) (n1 := 2) (n2 := 512) 0 (y 1) (y 2)) else d y) :
    Inv m c (t.val + 1) d' := by
  intro t' h1 h2 h3 y hy
  rw [hd y]
  by_cases e : t' = t
  · subst e; rw [if_pos hy]
  · have hne : t'.val ≠ t.val := fun h => e (Fin.ext h)
    rw [if_neg (by omega)]
    exact h t' (by omega) (by omega) h3 y hy

/-- A point of padding stores none. -/
theorem inv_pad (c : Dev nD) (t : Fin cfg0.N) (ht : ¬t.val % 44 < 43) (d : Vec F S43x2x512 .f32) (h : Inv m c t.val d) :
    Inv m c (t.val + 1) d := fun t' h1 h2 h3 y hy =>
  h t' (Nat.lt_of_le_of_ne (Nat.le_of_lt_succ h1) fun e => ht (e ▸ h3)) (by omega) h3 y hy

/-- Inside a sequence a point finds in its slot what the point one row block earlier stored. -/
theorem carried_eq (c : Dev nD) (t : Fin cfg0.N) (h0 : t.val % 44 < 43) (h1 : ¬t.val / 44 % 2 = 0) (d : Vec F S43x2x512 .f32) (h : Inv m c t.val d)
    (hc0 : k0_cond1 (grid0.coords t) = 1#1) :
    carried (grid0.coords t) hc0 d = slotOf m c ⟨t.val - 44, Nat.lt_of_le_of_lt (Nat.sub_le _ _) t.isLt⟩ := by
  funext y
  have y0 : (y 0).val < 1 := (y 0).isLt
  have o0 : k0_off2 (grid0.coords t) 0 = t.val % 44 := congrFun (off2_eq t) 0
  have o1 : k0_off2 (grid0.coords t) 1 = 0 := congrFun (off2_eq t) 1
  have o2 : k0_off2 (grid0.coords t) 2 = 0 := congrFun (off2_eq t) 2
  refine (h ⟨t.val - 44, Nat.lt_of_le_of_lt (Nat.sub_le _ _) t.isLt⟩ ?_ ?_ ?_ ((Rect.unit (s := S43x2x512) (k0_off2 (grid0.coords t)) S1x2x512.size (k0_off2_inb _ hc0)).idx y) ?_).trans ?_
  · show t.val - 44 < t.val; omega
  · show t.val ≤ t.val - 44 + 44; omega
  · show (t.val - 44) % 44 < 43; omega
  · show k0_off2 (grid0.coords t) 0 + 1 * (y 0).val = (t.val - 44) % 44; omega
  · refine congrArg _ (funext fun a => Fin.ext ?_)
    match a with
    | ⟨0, _⟩ => show 0 = (y 0).val; omega
    | ⟨1, _⟩ => show k0_off2 (grid0.coords t) 1 + 1 * (y 1).val = (y 1).val; omega
    | ⟨2, _⟩ => show k0_off2 (grid0.coords t) 2 + 1 * (y 2).val = (y 2).val; omega

/-- The invariant before position `n`. -/
def PhiS (c : Dev nD) (n : ℕ) : sProp 𝕄 :=
  iprop(iprop((∃ d, owns (c : Thread nD τ) scM0_0 fullShare d ∗ ⌜Inv m c n d⌝) ∗ (∃ d, owns (c : Thread nD τ) scM0_1 fullShare d) ∗ (∃ d, owns (c : Thread nD τ) scM0_2 fullShare d)) ∗ (∃ r, prngReg c r))

/-- The pipeline's data: the arrays as the region finds them, what each point leaves, and the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 m c t
    | ⟨8, _⟩ => out8 m c t
    | ⟨9, _⟩ => out9 m c t
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out7 m c t := by dsimp only [dats]
theorem after0_8 (c : Dev nD) (t : Fin cfg0.N) : (dats m 0 c).after 8 t = out8 m c t := by dsimp only [dats]
theorem after0_9 (c : Dev nD) (t : Fin cfg0.N) : (dats m 0 c).after 9 t = out9 m c t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d

/-- The two rows' buffer is not written back before the block of padding. -/
theorem keep8 : ∀ t : Fin cfg0.N, ¬t.val % 44 < 43 → (cfg0.win 8).flush ⟨t.val - 1, Nat.lt_of_le_of_lt (Nat.sub_le _ _) t.isLt⟩ = false := by decide +kernel
/-- It is written back there. -/
theorem flush8 : ∀ t : Fin cfg0.N, ¬t.val % 44 < 43 → (cfg0.win 8).flush t = true := by decide +kernel

/-- At a point of padding it holds what the point before left. -/
theorem pad8 (c : Dev nD) (t : Fin cfg0.N) (ht : ¬t.val % 44 < 43) (d) : (dats m 0 c).before 8 t d = out8 m c t := by
  have hz : t.val ≠ 0 := by omega
  have hl : (t.val - 1) % 44 < 43 := by omega
  rw [(dats m 0 c).before_of_pos 8 t hz ((cfg0.win 8).fetch_out rfl _) d, keep8 t ht, if_neg Bool.false_ne_true]
  unfold Dat.left
  rw [liveAt0_8 ⟨t.val - 1, Nat.lt_of_le_of_lt (Nat.sub_le _ _) t.isLt⟩ hl]
  refine (show _ = (dats m 0 c).after 8 ⟨t.val - 1, Nat.lt_of_le_of_lt (Nat.sub_le _ _) t.isLt⟩ from rfl).trans ?_
  rw [after0_8]
  unfold out8 realPt
  rw [if_neg ht, if_pos hl]

/-- The two rows' buffer is not written back before the block of padding. -/
theorem keep9 : ∀ t : Fin cfg0.N, ¬t.val % 44 < 43 → (cfg0.win 9).flush ⟨t.val - 1, Nat.lt_of_le_of_lt (Nat.sub_le _ _) t.isLt⟩ = false := by decide +kernel
/-- It is written back there. -/
theorem flush9 : ∀ t : Fin cfg0.N, ¬t.val % 44 < 43 → (cfg0.win 9).flush t = true := by decide +kernel

/-- At a point of padding it holds what the point before left. -/
theorem pad9 (c : Dev nD) (t : Fin cfg0.N) (ht : ¬t.val % 44 < 43) (d) : (dats m 0 c).before 9 t d = out9 m c t := by
  have hz : t.val ≠ 0 := by omega
  have hl : (t.val - 1) % 44 < 43 := by omega
  rw [(dats m 0 c).before_of_pos 9 t hz ((cfg0.win 9).fetch_out rfl _) d, keep9 t ht, if_neg Bool.false_ne_true]
  unfold Dat.left
  rw [liveAt0_9 ⟨t.val - 1, Nat.lt_of_le_of_lt (Nat.sub_le _ _) t.isLt⟩ hl]
  refine (show _ = (dats m 0 c).after 9 ⟨t.val - 1, Nat.lt_of_le_of_lt (Nat.sub_le _ _) t.isLt⟩ from rfl).trans ?_
  rw [after0_9]
  unfold out9 realPt
  rw [if_neg ht, if_pos hl]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 9600000 in
/-- The body at a point of a real column block. Where a sequence begins. -/
theorem sound_A (c : Dev nD) (t : Fin cfg0.N) (h0 : t.val % 44 < 43) (h1 : t.val / 44 % 2 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  unfold PhiS
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t h0], after0_8]
  rw [show (dats m 0 c).leavesExact 9 t = owns (c : Thread nD τ) (ms0_9 t) fullShare ((dats m 0 c).after 9 t) from by
    unfold Dat.leavesExact; rw [liveAt0_9 t h0], after0_9]
  iintro ⟨⟨⟨⟨%ds, HS0, %hinv⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hr : realPt t = t := if_pos h0
  iapply ((kernelRun0_A c (grid0.coords t) _ _ _ _ _ _ _ _ _ _ _ _ _ _ _ _ _ _ _ _ _ _ _ _ _ _ ((hcond0_0 t).mpr h0) ((hcond0_1 t).mpr h1) (fun h => (hcond0_2 t).mp h h0) (iblk m c 0 t) (iblk m c 1 t) (iblk m c 2 t) (iblk m c 3 t) (iblk m c 4 t) (iblk m c 5 t) (iblk m c 6 t) ds).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  iintro ⟨H0, H1, H2, H3, H4, H5, H6, ⟨%e7, H7⟩, ⟨%e8, H8⟩, ⟨%e9, H9⟩, HS0, ⟨%fT1, HS1⟩, ⟨%fT2, HS2⟩⟩
  isplitl [HS0 HS1 HS2 Hg]
  · isplitl [HS0 HS1 HS2]
    · isplitl [HS0]
      · iexists _
        isplitl [HS0]
        · unfold owns; iexists _; isplitr
          swap; · iexact HS0
          ipureintro; rfl
        ipureintro
        exact inv_real m c t ds _ hinv fun y => carryA (xs0 := ds) (hc0 := (hcond0_0 t).mpr h0) (hc1 := ((hcond0_1 t).mpr h1)) (hc2 := fun h => (hcond0_2 t).mp h h0) (j := t.val % 44) (hoff := off2_eq t) (hoff1 := off1_eq t) (y := y) ..
      isplitl [HS1]
      · iexists _; unfold owns; iexists _; isplitr
        swap; · iexact HS1
        ipureintro; rfl
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; refine (actA ..).trans ?_
    unfold out7 carryIn; rw [if_pos h0]; exact congrArg _ (if_pos h1).symm
  isplitl [H8]
  · unfold owns; iexists _; isplitr
    swap; · iexact H8
    ipureintro; refine (firstA ..).trans ?_
    unfold out8; rw [hr]
  unfold owns; iexists _; isplitr
  swap; · iexact H9
  ipureintro; refine (secondA ..).trans ?_
  unfold out9; rw [hr]

set_option maxHeartbeats 9600000 in
/-- The body at a point of a real column block. Inside a sequence. -/
theorem sound_C (c : Dev nD) (t : Fin cfg0.N) (h0 : t.val % 44 < 43) (h1 : ¬t.val / 44 % 2 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  unfold PhiS
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t h0], after0_8]
  rw [show (dats m 0 c).leavesExact 9 t = owns (c : Thread nD τ) (ms0_9 t) fullShare ((dats m 0 c).after 9 t) from by
    unfold Dat.leavesExact; rw [liveAt0_9 t h0], after0_9]
  iintro ⟨⟨⟨⟨%ds, HS0, %hinv⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hr : realPt t = t := if_pos h0
  iapply ((kernelRun0_C c (grid0.coords t) _ _ _ _ _ _ _ _ _ _ _ _ _ _ _ _ _ _ _ _ _ _ _ _ _ _ ((hcond0_0 t).mpr h0) (fun h => h1 ((hcond0_1 t).mp h)) (fun h => (hcond0_2 t).mp h h0) (iblk m c 0 t) (iblk m c 1 t) (iblk m c 2 t) (iblk m c 3 t) (iblk m c 4 t) (iblk m c 5 t) (iblk m c 6 t) ds).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  iintro ⟨H0, H1, H2, H3, H4, H5, H6, ⟨%e7, H7⟩, ⟨%e8, H8⟩, ⟨%e9, H9⟩, HS0, ⟨%fT1, HS1⟩, ⟨%fT2, HS2⟩⟩
  isplitl [HS0 HS1 HS2 Hg]
  · isplitl [HS0 HS1 HS2]
    · isplitl [HS0]
      · iexists _
        isplitl [HS0]
        · unfold owns; iexists _; isplitr
          swap; · iexact HS0
          ipureintro; rfl
        ipureintro
        exact inv_real m c t ds _ hinv fun y => carryC (xs0 := ds) (hc0 := (hcond0_0 t).mpr h0) (hc1 := (fun h => h1 ((hcond0_1 t).mp h))) (hc2 := fun h => (hcond0_2 t).mp h h0) (j := t.val % 44) (hoff := off2_eq t) (y := y) ..
      isplitl [HS1]
      · iexists _; unfold owns; iexists _; isplitr
        swap; · iexact HS1
        ipureintro; rfl
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; refine (actC ..).trans ?_
    unfold out7 carryIn; rw [if_pos h0]; exact congrArg _ ((if_neg h1).trans (congrArg k0_pay4 (carried_eq m c t h0 h1 ds hinv ((hcond0_0 t).mpr h0)).symm)).symm
  isplitl [H8]
  · unfold owns; iexists _; isplitr
    swap; · iexact H8
    ipureintro; refine (firstC ..).trans ?_
    unfold out8; rw [hr]
  unfold owns; iexists _; isplitr
  swap; · iexact H9
  ipureintro; refine (secondC ..).trans ?_
  unfold out9; rw [hr]

set_option maxHeartbeats 9600000 in
/-- The body at the point of padding columns. -/
theorem sound_D (c : Dev nD) (t : Fin cfg0.N) (h0 : ¬t.val % 44 < 43) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, pad8 m c t h0, pad9 m c t h0]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  unfold PhiS
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [idleAt0_8 t h0, flush8 t h0], after0_8]
  rw [show (dats m 0 c).leavesExact 9 t = owns (c : Thread nD τ) (ms0_9 t) fullShare ((dats m 0 c).after 9 t) from by
    unfold Dat.leavesExact; rw [idleAt0_9 t h0, flush9 t h0], after0_9]
  iintro ⟨⟨⟨⟨%ds, HS0, %hinv⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_D (F := F) c (grid0.coords t) _ _ _ _ _ _ _ _ _ _ _ _ _ _ _ _ _ _ _ _ _ _ _ _ _ _ (fun h => h0 ((hcond0_0 t).mp h)) ((hcond0_2 t).mpr h0)).2 Set.univ _)
  isplitl [H7]; · iexists _; iexact H7
  iintro ⟨%e7, H7⟩
  isplitl [HS0 HS1 HS2 Hg]
  · isplitl [HS0 HS1 HS2]
    · isplitl [HS0]
      · iexists _
        isplitl [HS0]; · iexact HS0
        ipureintro
        exact inv_pad m c t h0 ds hinv
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; refine (actD ..).trans ?_
    unfold out7; rw [if_neg h0]
  isplitl [H8]; · iexact H8
  iexact H9

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 44 < 43
  · by_cases h1 : t.val / 44 % 2 = 0
    · exact sound_A m c t h0 h1
    · exact sound_C m c t h0 h1
  · exact sound_D m c t h0

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

/-- The pipeline's obligation of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region gives the invariant before the first point. -/
theorem hin (c : Dev nD) : Pipeline.ΦA spec0 c ⊢ (dats m 0 c).Φ 0 := by
  rw [show (dats m 0 c).Φ 0 = PhiS m c 0 from rfl, PhiA0_eq]
  unfold PhiS
  iintro ⟨⟨⟨%ds, HS0⟩, HS1, HS2⟩, Hg⟩
  isplitl [HS0 HS1 HS2]
  · isplitl [HS0]
    · iexists _
      isplitl [HS0]; · iexact HS0
      ipureintro
      exact inv_zero m c ds
    isplitl [HS1]; · iexact HS1
    iexact HS2
  iexact Hg

/-- After the last point the carry's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨⟨⟨%ds, HS0, -⟩, HS1, HS2⟩, Hg⟩
  isplitl [HS0 HS1 HS2]
  · isplitl [HS0]
    · iexists _; iexact HS0
    isplitl [HS1]; · iexact HS1
    iexact HS2
  iexact Hg

-- the run theorem's implicit arguments are found by unifying its conclusion, which takes unfolding plain definitions
set_option backward.isDefEq.respectTransparency.types false in
/-- The run from the launch, every semaphore at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- Every run ends with every array of the pipeline at what its data says. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame claim, for any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.FfnIdeal.Gen

end
-- ==== Proof.Up.Target.lean ====
module

public import Idealize.ShloMosaic.Lib.ValueIdx
public import proofs.«01_k».proof.Proof.Up.Strip

@[expose] public section

/-!
# What the feed-forward layer's first call computes

Each half's product, the causal convolution of three taps down its columns, and the gate. A sequence has 4096 rows; what
precedes it counts as zeros. All of it over the extended reals, at a row's and a column's number.
-/

set_option maxRecDepth 16384

noncomputable section

namespace Cert.Up

open Idealize.ShloMosaic Idealize.ShloMosaic.ValueIdx

variable (x : (⟨2, ![8192, 4096]⟩ : Shape).Idx → EReal) (w w' : (⟨2, ![4096, 11008]⟩ : Shape).Idx → EReal)
  (cw : (⟨2, ![3, 22016]⟩ : Shape).Idx → EReal) (cb : (⟨2, ![1, 22016]⟩ : Shape).Idx → EReal)

/-- A product's entry. -/
def prod (r q : ℕ) : EReal := ∑ k : Fin 4096, x (ix2 (pt 8192 r) k) * w (ix2 k (pt 11008 q))

/-- The entry `d` rows earlier in the same sequence, zero where there is none. -/
def past (r d q : ℕ) : EReal := if r % 4096 < d then 0 else prod x w (r - d) q

/-- The convolution of a half whose columns are those from `h` on of the taps and of the bias. -/
def conv (h r q : ℕ) : EReal :=
  ((past x w r 0 q * cw (ix2 (2 : Fin 3) (pt 22016 (h + q))) + past x w r 1 q * cw (ix2 (1 : Fin 3) (pt 22016 (h + q))))
    + past x w r 2 q * cw (ix2 (0 : Fin 3) (pt 22016 (h + q)))) + cb (ix2 (0 : Fin 1) (pt 22016 (h + q)))

/-- The gate: the first half's entry times the second half's through the exact gelu. -/
def gated (a g : EReal) : EReal :=
  a * ((Ideal.ofBits .f32 0x3F000000#32 * g) * (Ideal.ofBits .f32 0x3F800000#32 + Ideal.erf (g * Ideal.ofBits .f32 0x3F3504F3#32)))

/-- The call's result, whose columns from 11008 on are padding. -/
def act : (⟨2, ![8192, 11264]⟩ : Shape).Idx → EReal := fun y =>
  if (y 1).val < 11008 then gated (conv x w cw cb 0 (y 0).val (y 1).val) (conv x w' cw cb 11008 (y 0).val (y 1).val) else 0

/-- The last two rows of each block of 2048 rows of a product. -/
def state : (⟨3, ![4, 2, 11008]⟩ : Shape).Idx → EReal := fun y => prod x w (2048 * (y 0).val + 2046 + (y 1).val) (y 2).val

/-- The entries before a block of rows `i`, from the two rows that precede it on. -/
def ahead (i r q : ℕ) : EReal := if r < 2 ∧ i % 2 = 0 then 0 else prod x w (2048 * i + r - 2) q

/-- They are the rows' earlier entries. -/
theorem ahead_eq (i r d q : ℕ) (hd : d ≤ 2) (hr : r < 2048) : ahead x w i (r + 2 - d) q = past x w (2048 * i + r) d q := by
  unfold ahead past
  by_cases h : (2048 * i + r) % 4096 < d
  · rw [if_pos h, if_pos (by omega)]
  · rw [if_neg h, if_neg (by omega)]
    exact congrArg (fun n => prod x w n q) (by omega)

end Cert.Up

end
-- ==== Proof.Up.Product.lean ====
module

public import proofs.«01_k».proof.Proof.Up.FfnIdeal.Frame
public import proofs.«01_k».proof.Proof.Up.Target
public import Idealize.ShloMosaic.Lib.ValueIdx
public import Idealize.ShloMosaic.Lib.MatmulPlain

@[expose] public section

/-!
# The feed-forward layer's first call, point by point, over the extended reals

A point's blocks are blocks of the arguments, so its strips' products are entries of the halves' products, the rows
carried in are the entries of the rows before its row block, and its block of the result is the gated convolution's.
-/

set_option maxRecDepth 16384

noncomputable section

namespace Cert.FfnIdeal.Result

open Idealize.ShloMosaic Idealize.ShloMosaic.TcCoe Idealize.SL.Sem Idealize.ShloMosaic.ValueIdx
open Cert.FfnIdeal Cert.FfnIdeal.Gen Cert.Up

/-! ## The body's values -/

/-- A strip's product with a column block. -/
theorem strip_apply (x0 : Vec Ideal S2048x4096 .bf16) (x1 : Vec Ideal S4096x256 .bf16) (s : Fin 8) (a b : Fin 256) :
    D1 (F := Ideal) x0 x1 s (ix2 a b) = ∑ k : Fin 4096, x0 (ix2 (pt 2048 (256 * s.val + a.val)) k) * x1 (ix2 k b) := by
  unfold D1 k0_pay5
  refine (shapeCast_apply _ shapeCasts_S256x256_S256x256 (ix2 a b) (ix2 a b) rfl).trans ?_
  refine (Ideal.matmul_plain_apply none _ _ _ a b).trans ?_
  show Ideal.ofBits .f32 0x00000000#32 + _ = _
  rw [Ideal.ofBits_zero_f32, zero_add]
  rfl

/-- A row of taps, over every row of a strip. -/
theorem tap_apply (u : FVec Ideal S3x512 .f32) (o : Nat) (h : S3x512.Slices ![o, 0] S1x512) (ho : o < 3) (y : S256x512.Idx) :
    broadcastTo S256x512 (extractStridedSlice S1x512 ![o, 0] u h) broadcasts_S1x512_S256x512 y = u (ix2 (⟨o, ho⟩ : Fin 3) (y 1)) := by
  refine (broadcastTo_apply _ broadcasts_S1x512_S256x512 y (ix2 (0 : Fin 1) (y 1)) fun a => ?_).trans ?_
  · match a with
    | ⟨0, _⟩ => rfl
    | ⟨1, _⟩ => rfl
  · refine extractStridedSlice_apply _ u h _ _ fun a => ?_
    match a with
    | ⟨0, _⟩ => rfl
    | ⟨1, _⟩ => show (y 1).val = 0 + (y 1).val; omega

/-- A strip convolved, both halves side by side. -/
def convolved (u : FVec Ideal S3x512 .f32) (b : FVec Ideal S1x512 .f32) (e2 e1 e0 : FVec Ideal S256x512 .f32) : FVec Ideal S256x512 .f32 :=
  addf (addf (addf (mulf e2 (broadcastTo S256x512 (extractStridedSlice S1x512 ![2, 0] u slices_S3x512_o2_0_S1x512) broadcasts_S1x512_S256x512))
    (mulf e1 (broadcastTo S256x512 (extractStridedSlice S1x512 ![1, 0] u slices_S3x512_o1_0_S1x512) broadcasts_S1x512_S256x512)))
    (mulf e0 (broadcastTo S256x512 (extractStridedSlice S1x512 ![0, 0] u slices_S3x512_o0_0_S1x512) broadcasts_S1x512_S256x512)))
    (broadcastTo S256x512 b broadcasts_S1x512_S256x512)

theorem convolved_apply (u : FVec Ideal S3x512 .f32) (b : FVec Ideal S1x512 .f32) (e2 e1 e0 : FVec Ideal S256x512 .f32) (y : S256x512.Idx) :
    (convolved u b e2 e1 e0 y : EReal) = ((e2 y * u (ix2 (2 : Fin 3) (y 1)) + e1 y * u (ix2 (1 : Fin 3) (y 1))) + e0 y * u (ix2 (0 : Fin 3) (y 1)))
      + b (ix2 (0 : Fin 1) (y 1)) := by
  refine congrArg₂ (fun p q : EReal => p + q) (congrArg₂ (fun p q : EReal => p + q) (congrArg₂ (fun p q : EReal => p + q)
    (congrArg (fun q : EReal => e2 y * q) (tap_apply u 2 _ (by decide) y)) (congrArg (fun q : EReal => e1 y * q) (tap_apply u 1 _ (by decide) y)))
    (congrArg (fun q : EReal => e0 y * q) (tap_apply u 0 _ (by decide) y)))
    (broadcastTo_apply _ broadcasts_S1x512_S256x512 y (ix2 (0 : Fin 1) (y 1)) fun a => ?_)
  match a with
  | ⟨0, _⟩ => rfl
  | ⟨1, _⟩ => rfl

/-- Two blocks of taps side by side: the left one's columns, -/
theorem taps_left (x3 x4 : FVec Ideal S3x256 .f32) (o : Fin 3) (q : Fin 256) (z : Fin 512) (hz : z.val = q.val) :
    concatenate S3x512 1 [⟨S3x256, x3⟩, ⟨S3x256, x4⟩] concatenates_S3x256_S3x256_S3x512_d1 (ix2 o z) = x3 (ix2 o q) := by
  refine concatenate_pair_apply_left (t := S3x512) (s₁ := S3x256) (s₂ := S3x256) 1 _ _ _ _ rfl _ fun a => ?_
  match a with
  | ⟨0, _⟩ => rfl
  | ⟨1, _⟩ => exact hz.symm

/-- and the right one's. -/
theorem taps_right (x3 x4 : FVec Ideal S3x256 .f32) (o : Fin 3) (q : Fin 256) (z : Fin 512) (hz : z.val = 256 + q.val) :
    concatenate S3x512 1 [⟨S3x256, x3⟩, ⟨S3x256, x4⟩] concatenates_S3x256_S3x256_S3x512_d1 (ix2 o z) = x4 (ix2 o q) := by
  refine concatenate_pair_apply_right (t := S3x512) (s₁ := S3x256) (s₂ := S3x256) 1 _ _ _ _ rfl rfl _ (fun a ha => ?_) ?_
  · match a with
    | ⟨0, _⟩ => rfl
    | ⟨1, _⟩ => exact absurd rfl ha
  · show q.val + 256 = z.val; omega

/-- Two blocks of the bias likewise. -/
theorem bias_left (x5 x6 : FVec Ideal S1x256 .f32) (q : Fin 256) (z : Fin 512) (hz : z.val = q.val) :
    concatenate S1x512 1 [⟨S1x256, x5⟩, ⟨S1x256, x6⟩] concatenates_S1x256_S1x256_S1x512_d1 (ix2 (0 : Fin 1) z) = x5 (ix2 (0 : Fin 1) q) := by
  refine concatenate_pair_apply_left (t := S1x512) (s₁ := S1x256) (s₂ := S1x256) 1 _ _ _ _ rfl _ fun a => ?_
  match a with
  | ⟨0, _⟩ => rfl
  | ⟨1, _⟩ => exact hz.symm

theorem bias_right (x5 x6 : FVec Ideal S1x256 .f32) (q : Fin 256) (z : Fin 512) (hz : z.val = 256 + q.val) :
    concatenate S1x512 1 [⟨S1x256, x5⟩, ⟨S1x256, x6⟩] concatenates_S1x256_S1x256_S1x512_d1 (ix2 (0 : Fin 1) z) = x6 (ix2 (0 : Fin 1) q) := by
  refine concatenate_pair_apply_right (t := S1x512) (s₁ := S1x256) (s₂ := S1x256) 1 _ _ _ _ rfl rfl _ (fun a ha => ?_) ?_
  · match a with
    | ⟨0, _⟩ => rfl
    | ⟨1, _⟩ => exact absurd rfl ha
  · show q.val + 256 = z.val; omega

/-- A strip of the result: the two halves of the convolved strip, gated. -/
theorem strip_gated (x3 x4 : Vec Ideal S3x256 .f32) (x5 x6 : Vec Ideal S1x256 .f32) (e2 e1 e0 : Vec Ideal S256x512 .f32) (r s : Fin 256) :
    (k0_pay7 (F := Ideal) x3 x4 x5 x6 e2 e1 e0 (ix2 r s) : EReal)
      = gated (((e2 (ix2 r (pt 512 s.val)) * x3 (ix2 (2 : Fin 3) s) + e1 (ix2 r (pt 512 s.val)) * x3 (ix2 (1 : Fin 3) s))
          + e0 (ix2 r (pt 512 s.val)) * x3 (ix2 (0 : Fin 3) s)) + x5 (ix2 (0 : Fin 1) s))
        (((e2 (ix2 r (pt 512 (256 + s.val))) * x4 (ix2 (2 : Fin 3) s) + e1 (ix2 r (pt 512 (256 + s.val))) * x4 (ix2 (1 : Fin 3) s))
          + e0 (ix2 r (pt 512 (256 + s.val))) * x4 (ix2 (0 : Fin 3) s)) + x6 (ix2 (0 : Fin 1) s)) := by
  have hs : s.val < 256 := s.isLt
  have hl : (pt 512 s.val).val = s.val := Nat.mod_eq_of_lt (by omega)
  have hr : (pt 512 (256 + s.val)).val = 256 + s.val := Nat.mod_eq_of_lt (by omega)
  let U : FVec Ideal S3x512 .f32 := concatenate S3x512 1 [⟨S3x256, x3⟩, ⟨S3x256, x4⟩] concatenates_S3x256_S3x256_S3x512_d1
  let B : FVec Ideal S1x512 .f32 := concatenate S1x512 1 [⟨S1x256, x5⟩, ⟨S1x256, x6⟩] concatenates_S1x256_S1x256_S1x512_d1
  show gated (extractStridedSlice S256x256 ![0, 0] (convolved U B e2 e1 e0) slices_S256x512_o0_0_S256x256 (ix2 r s))
    (extractStridedSlice S256x256 ![0, 256] (convolved U B e2 e1 e0) slices_S256x512_o0_256_S256x256 (ix2 r s)) = _
  refine congrArg₂ gated ((extractStridedSlice_apply _ _ _ _ (ix2 r (pt 512 s.val)) fun a => ?_).trans ((convolved_apply ..).trans ?_))
    ((extractStridedSlice_apply _ _ _ _ (ix2 r (pt 512 (256 + s.val))) fun a => ?_).trans ((convolved_apply ..).trans ?_))
  · match a with
    | ⟨0, _⟩ => show r.val = 0 + r.val; omega
    | ⟨1, _⟩ => show (pt 512 s.val).val = 0 + s.val; omega
  · rw [show U (ix2 (2 : Fin 3) (pt 512 s.val)) = x3 (ix2 (2 : Fin 3) s) from taps_left x3 x4 2 s _ hl,
      show U (ix2 (1 : Fin 3) (pt 512 s.val)) = x3 (ix2 (1 : Fin 3) s) from taps_left x3 x4 1 s _ hl,
      show U (ix2 (0 : Fin 3) (pt 512 s.val)) = x3 (ix2 (0 : Fin 3) s) from taps_left x3 x4 0 s _ hl,
      show B (ix2 (0 : Fin 1) (pt 512 s.val)) = x5 (ix2 (0 : Fin 1) s) from bias_left x5 x6 s _ hl]
  · match a with
    | ⟨0, _⟩ => show r.val = 0 + r.val; omega
    | ⟨1, _⟩ => show (pt 512 (256 + s.val)).val = 256 + s.val; omega
  · rw [show U (ix2 (2 : Fin 3) (pt 512 (256 + s.val))) = x4 (ix2 (2 : Fin 3) s) from taps_right x3 x4 2 s _ hr,
      show U (ix2 (1 : Fin 3) (pt 512 (256 + s.val))) = x4 (ix2 (1 : Fin 3) s) from taps_right x3 x4 1 s _ hr,
      show U (ix2 (0 : Fin 3) (pt 512 (256 + s.val))) = x4 (ix2 (0 : Fin 3) s) from taps_right x3 x4 0 s _ hr,
      show B (ix2 (0 : Fin 1) (pt 512 (256 + s.val))) = x6 (ix2 (0 : Fin 1) s) from bias_right x5 x6 s _ hr]

/-- A slot read back is what was stored. -/
theorem slot_read (v : Vec Ideal S2x512 .f32) : k0_pay4 (F := Ideal) (k0_pay54 (F := Ideal) v) = v := by
  funext y
  unfold k0_pay4 k0_pay54
  refine (shapeCast_apply _ shapeCasts_S2x512_S2x512 y y rfl).trans ?_
  refine (shapeCast_apply _ shapeCasts_S1x2x512_S2x512 y (ix3 (n0 := 1) (n1 := 2) (n2 := 512) 0 (y 0) (y 1)) ?_).trans
    (shapeCast_apply v shapeCasts_S2x512_S1x2x512 _ y ?_)
  all_goals
    rw [Shape.rowMajor_val_three, Shape.rowMajor_val_two]
    first
    | (show (0 * 2 + (y 0).val) * 512 + (y 1).val = (y 0).val * 512 + (y 1).val; omega)
    | (show (y 0).val * 512 + (y 1).val = (0 * 2 + (y 0).val) * 512 + (y 1).val; omega)

/-- Where a sequence begins, zeros are carried in. -/
theorem zeros_read (y : S2x512.Idx) : (k0_pay4 (F := Ideal) (k0_pay3 (F := Ideal)) y : EReal) = 0 := Ideal.ofBits_zero_f32

/-- The first half's two rows, as they are stored. -/
theorem first_read (v : Vec Ideal S2x512 .f32) (y : S1x2x256.Idx) : k0_pay55 (F := Ideal) v y = v (ix2 (y 1) (pt 512 (y 2).val)) := by
  have h0 : (y 0).val < 1 := (y 0).isLt
  have h2 : (y 2).val < 256 := (y 2).isLt
  unfold k0_pay55
  refine (shapeCast_apply _ shapeCasts_S2x256_S1x2x256 y (ix2 (n0 := 2) (n1 := 256) (y 1) (y 2)) ?_).trans
    (extractStridedSlice_apply _ v _ _ _ fun a => ?_)
  · rw [Shape.rowMajor_val_three, Shape.rowMajor_val_two]
    show (y 1).val * 256 + (y 2).val = ((y 0).val * 2 + (y 1).val) * 256 + (y 2).val; omega
  · match a with
    | ⟨0, _⟩ => show (y 1).val = 0 + (y 1).val; omega
    | ⟨1, _⟩ => show (y 2).val % 512 = 0 + (y 2).val; omega

/-- The second half's. -/
theorem second_read (v : Vec Ideal S2x512 .f32) (y : S1x2x256.Idx) :
    k0_pay1 (F := Ideal) (k0_pay56 (F := Ideal) v) y = v (ix2 (y 1) (pt 512 (256 + (y 2).val))) := by
  have h0 : (y 0).val < 1 := (y 0).isLt
  have h2 : (y 2).val < 256 := (y 2).isLt
  unfold k0_pay1 k0_pay56
  refine (shapeCast_apply _ shapeCasts_S2x256_S1x2x256 y (ix2 (n0 := 2) (n1 := 256) (y 1) (y 2)) ?_).trans
    (extractStridedSlice_apply _ v _ _ _ fun a => ?_)
  · rw [Shape.rowMajor_val_three, Shape.rowMajor_val_two]
    show (y 1).val * 256 + (y 2).val = ((y 0).val * 2 + (y 1).val) * 256 + (y 2).val; omega
  · match a with
    | ⟨0, _⟩ => show (y 1).val = 0 + (y 1).val; omega
    | ⟨1, _⟩ => show (256 + (y 2).val) % 512 = 256 + (y 2).val; omega

end Cert.FfnIdeal.Result

end
-- ==== Proof.Up.Points.lean ====
module

public import proofs.«01_k».proof.Proof.Up.Product

@[expose] public section

/-!
# The feed-forward layer's first call: its points' blocks, and the whole results

Point `t` takes the row block `t / 44` and the column block `t % 44`; the last of the 44 is padding.
-/

set_option maxRecDepth 16384

noncomputable section

namespace Cert.FfnIdeal.Result

open Idealize.ShloMosaic Idealize.ShloMosaic.TcCoe Idealize.SL.Sem Idealize.ShloMosaic.ValueIdx
open Cert.FfnIdeal Cert.FfnIdeal.Gen Cert.Up

variable (m : (ℓ : Loc nD τ sig) → Buf (Elt Ideal) ℓ)

/-- The rows as launched. -/
abbrev rows (c : Dev nD) : S8192x4096.Idx → EReal := m ((c.tc : Thread nD τ).loc main_arg0)
/-- The first half's weights. -/
abbrev weightsA (c : Dev nD) : S4096x11008.Idx → EReal := m ((c.tc : Thread nD τ).loc main_arg1)
/-- The second half's. -/
abbrev weightsG (c : Dev nD) : S4096x11008.Idx → EReal := m ((c.tc : Thread nD τ).loc main_arg2)
/-- The taps. -/
abbrev taps (c : Dev nD) : S3x22016.Idx → EReal := m ((c.tc : Thread nD τ).loc main_arg3)
/-- The bias. -/
abbrev bias (c : Dev nD) : S1x22016.Idx → EReal := m ((c.tc : Thread nD τ).loc main_arg4)

theorem index0 : ∀ t : Fin grid0.N, win0_0.index t 0 = t.val / 44 ∧ win0_0.index t 1 = 0 := by decide +kernel
theorem index1 : ∀ t : Fin grid0.N, t.val % 44 < 43 → win0_1.index t 0 = 0 ∧ win0_1.index t 1 = t.val % 44 := by decide +kernel
theorem index2 : ∀ t : Fin grid0.N, t.val % 44 < 43 → win0_2.index t 0 = 0 ∧ win0_2.index t 1 = t.val % 44 := by decide +kernel
theorem index3 : ∀ t : Fin grid0.N, t.val % 44 < 43 → win0_3.index t 0 = 0 ∧ win0_3.index t 1 = t.val % 44 := by decide +kernel
theorem index4 : ∀ t : Fin grid0.N, t.val % 44 < 43 → win0_4.index t 0 = 0 ∧ win0_4.index t 1 = 43 + t.val % 44 := by decide +kernel
theorem index5 : ∀ t : Fin grid0.N, t.val % 44 < 43 → win0_5.index t 0 = 0 ∧ win0_5.index t 1 = t.val % 44 := by decide +kernel
theorem index6 : ∀ t : Fin grid0.N, t.val % 44 < 43 → win0_6.index t 0 = 0 ∧ win0_6.index t 1 = 43 + t.val % 44 := by decide +kernel
theorem index7 : ∀ t : Fin grid0.N, win0_7.index t 0 = t.val / 44 ∧ win0_7.index t 1 = t.val % 44 := by decide +kernel
theorem index8 : ∀ t : Fin grid0.N, win0_8.index t 0 = t.val / 44 ∧ win0_8.index t 1 = 0 ∧ win0_8.index t 2 = min (t.val % 44) 42 := by decide +kernel
theorem index9 : ∀ t : Fin grid0.N, win0_9.index t 0 = t.val / 44 ∧ win0_9.index t 1 = 0 ∧ win0_9.index t 2 = min (t.val % 44) 42 := by decide +kernel
/-- The two rows' buffers are written back after each column block but the last, and after the padding. -/
theorem flushed8 : ∀ t : Fin grid0.N, t.val % 44 ≠ 42 → win0_8.flush t = true := by decide +kernel
theorem flushed9 : ∀ t : Fin grid0.N, t.val % 44 ≠ 42 → win0_9.flush t = true := by decide +kernel

section Blocks

variable (c : Dev nD) (t : Fin cfg0.N)

/-- The block of rows. -/
theorem block0 (r : Fin 2048) (k : Fin 4096) : (iblk m c 0 t : Vec Ideal S2048x4096 .bf16) (ix2 r k)
    = rows m c (ix2 (pt 8192 (2048 * (t.val / 44) + r.val)) k) := by
  have ht : t.val < 176 := lt_of_lt_of_eq t.isLt N_0
  have hr : r.val < 2048 := r.isLt
  unfold iblk
  rw [View.read_apply]
  show V m c main_arg0 _ = _
  refine congrArg (rows m c) (funext fun a => Fin.ext ?_)
  match a with
  | ⟨0, _⟩ => show win0_0.index t 0 * 2048 + 1 * r.val = (2048 * (t.val / 44) + r.val) % 8192; rw [(index0 t).1]; omega
  | ⟨1, _⟩ => show win0_0.index t 1 * 4096 + 1 * k.val = k.val; rw [(index0 t).2]; omega

variable (h : t.val % 44 < 43)
include h

/-- The blocks of weights, -/
theorem block1 (k : Fin 4096) (b : Fin 256) : (iblk m c 1 t : Vec Ideal S4096x256 .bf16) (ix2 k b)
    = weightsA m c (ix2 k (pt 11008 (256 * (t.val % 44) + b.val))) := by
  have hb : b.val < 256 := b.isLt
  unfold iblk
  rw [View.read_apply]
  show V m c main_arg1 _ = _
  refine congrArg (weightsA m c) (funext fun a => Fin.ext ?_)
  match a with
  | ⟨0, _⟩ => show win0_1.index t 0 * 4096 + 1 * k.val = k.val; rw [(index1 t h).1]; omega
  | ⟨1, _⟩ => show win0_1.index t 1 * 256 + 1 * b.val = (256 * (t.val % 44) + b.val) % 11008; rw [(index1 t h).2]; omega

theorem block2 (k : Fin 4096) (b : Fin 256) : (iblk m c 2 t : Vec Ideal S4096x256 .bf16) (ix2 k b)
    = weightsG m c (ix2 k (pt 11008 (256 * (t.val % 44) + b.val))) := by
  have hb : b.val < 256 := b.isLt
  unfold iblk
  rw [View.read_apply]
  show V m c main_arg2 _ = _
  refine congrArg (weightsG m c) (funext fun a => Fin.ext ?_)
  match a with
  | ⟨0, _⟩ => show win0_2.index t 0 * 4096 + 1 * k.val = k.val; rw [(index2 t h).1]; omega
  | ⟨1, _⟩ => show win0_2.index t 1 * 256 + 1 * b.val = (256 * (t.val % 44) + b.val) % 11008; rw [(index2 t h).2]; omega

/-- of taps, -/
theorem block3 (o : Fin 3) (b : Fin 256) : (iblk m c 3 t : Vec Ideal S3x256 .f32) (ix2 o b)
    = taps m c (ix2 o (pt 22016 (0 + (256 * (t.val % 44) + b.val)))) := by
  have hb : b.val < 256 := b.isLt
  unfold iblk
  rw [View.read_apply]
  show V m c main_arg3 _ = _
  refine congrArg (taps m c) (funext fun a => Fin.ext ?_)
  match a with
  | ⟨0, _⟩ => show win0_3.index t 0 * 3 + 1 * o.val = o.val; rw [(index3 t h).1]; omega
  | ⟨1, _⟩ => show win0_3.index t 1 * 256 + 1 * b.val = (0 + (256 * (t.val % 44) + b.val)) % 22016; rw [(index3 t h).2]; omega

theorem block4 (o : Fin 3) (b : Fin 256) : (iblk m c 4 t : Vec Ideal S3x256 .f32) (ix2 o b)
    = taps m c (ix2 o (pt 22016 (11008 + (256 * (t.val % 44) + b.val)))) := by
  have hb : b.val < 256 := b.isLt
  unfold iblk
  rw [View.read_apply]
  show V m c main_arg3 _ = _
  refine congrArg (taps m c) (funext fun a => Fin.ext ?_)
  match a with
  | ⟨0, _⟩ => show win0_4.index t 0 * 3 + 1 * o.val = o.val; rw [(index4 t h).1]; omega
  | ⟨1, _⟩ => show win0_4.index t 1 * 256 + 1 * b.val = (11008 + (256 * (t.val % 44) + b.val)) % 22016; rw [(index4 t h).2]; omega

/-- and of the bias. -/
theorem block5 (b : Fin 256) : (iblk m c 5 t : Vec Ideal S1x256 .f32) (ix2 (0 : Fin 1) b)
    = bias m c (ix2 (0 : Fin 1) (pt 22016 (0 + (256 * (t.val % 44) + b.val)))) := by
  have hb : b.val < 256 := b.isLt
  unfold iblk
  rw [View.read_apply]
  show V m c main_arg4 _ = _
  refine congrArg (bias m c) (funext fun a => Fin.ext ?_)
  match a with
  | ⟨0, _⟩ => show win0_5.index t 0 * 1 + 1 * 0 = 0; rw [(index5 t h).1]
  | ⟨1, _⟩ => show win0_5.index t 1 * 256 + 1 * b.val = (0 + (256 * (t.val % 44) + b.val)) % 22016; rw [(index5 t h).2]; omega

theorem block6 (b : Fin 256) : (iblk m c 6 t : Vec Ideal S1x256 .f32) (ix2 (0 : Fin 1) b)
    = bias m c (ix2 (0 : Fin 1) (pt 22016 (11008 + (256 * (t.val % 44) + b.val)))) := by
  have hb : b.val < 256 := b.isLt
  unfold iblk
  rw [View.read_apply]
  show V m c main_arg4 _ = _
  refine congrArg (bias m c) (funext fun a => Fin.ext ?_)
  match a with
  | ⟨0, _⟩ => show win0_6.index t 0 * 1 + 1 * 0 = 0; rw [(index6 t h).1]
  | ⟨1, _⟩ => show win0_6.index t 1 * 256 + 1 * b.val = (11008 + (256 * (t.val % 44) + b.val)) % 22016; rw [(index6 t h).2]; omega

/-- The weights of the half that a column of the two side by side belongs to. -/
abbrev side (q : ℕ) : S4096x11008.Idx → EReal := if q < 256 then weightsA m c else weightsG m c

omit h in
/-- Equal rows and equal columns give equal products. -/
theorem product_block (x : S8192x4096.Idx → EReal) (w : S4096x11008.Idx → EReal) (x0 : Vec Ideal S2048x4096 .bf16) (x1 : Vec Ideal S4096x256 .bf16)
    (i j : ℕ) (h0 : ∀ r k, x0 (ix2 r k) = x (ix2 (pt 8192 (2048 * i + r.val)) k)) (h1 : ∀ k b, x1 (ix2 k b) = w (ix2 k (pt 11008 (256 * j + b.val))))
    (r q : ℕ) (hr : r < 2048) :
    D1 (F := Ideal) x0 x1 (pt 8 (r / 256)) (ix2 (pt 256 r) (pt 256 q)) = prod x w (2048 * i + r) (256 * j + q % 256) := by
  refine (strip_apply x0 x1 _ _ _).trans (Finset.sum_congr rfl fun k _ => congrArg₂ (fun p q : EReal => p * q) ((h0 _ k).trans ?_) (h1 k _))
  refine congrArg (fun n => x (ix2 (pt 8192 (2048 * i + n)) k)) ?_
  show (256 * (r / 256 % 8) + r % 256) % 2048 = r
  omega

/-- A point's products are the two halves' entries in its row block and column block. -/
theorem up_eq (r q : ℕ) (hr : r < 2048) : upOf (D1 (F := Ideal) (iblk m c 0 t) (iblk m c 1 t)) (D2 (F := Ideal) (iblk m c 0 t) (iblk m c 2 t)) r q
    = prod (rows m c) (side m c q) (2048 * (t.val / 44) + r) (256 * (t.val % 44) + q % 256) := by
  unfold upOf side
  by_cases hq : q < 256
  · rw [if_pos hq, if_pos hq]
    exact product_block _ _ (iblk m c 0 t) (iblk m c 1 t) _ _ (block0 m c t) (block1 m c t h) r q hr
  · rw [if_neg hq, if_neg hq]
    exact product_block _ _ (iblk m c 0 t) (iblk m c 2 t) _ _ (block0 m c t) (block2 m c t h) r q hr

/-- The last two rows of them. -/
theorem last_eq (y : S2x512.Idx) : lastOf (F := Ideal) (iblk m c 0 t) (iblk m c 1 t) (iblk m c 2 t) y
    = prod (rows m c) (side m c (y 1).val) (2048 * (t.val / 44) + (2046 + (y 0).val)) (256 * (t.val % 44) + (y 1).val % 256) := by
  have h0 : (y 0).val < 2 := (y 0).isLt
  exact up_eq m c t h (2046 + (y 0).val) (y 1).val (by omega)

end Blocks

/-- The two rows carried in are the entries of the rows before. -/
theorem carry_eq (c : Dev nD) (t : Fin cfg0.N) (h : t.val % 44 < 43) (y : S2x512.Idx) :
    carryIn (F := Ideal) m c t y = ahead (rows m c) (side m c (y 1).val) (t.val / 44) (y 0).val (256 * (t.val % 44) + (y 1).val % 256) := by
  have h0 : (y 0).val < 2 := (y 0).isLt
  unfold carryIn ahead
  by_cases e : t.val / 44 % 2 = 0
  · rw [if_pos e, if_pos ⟨h0, e⟩]
    exact zeros_read y
  · rw [if_neg e, if_neg fun hh => e hh.2]
    unfold slotOf
    rw [slot_read]
    refine (last_eq m c ⟨t.val - 44, Nat.lt_of_le_of_lt (Nat.sub_le _ _) t.isLt⟩ (by show (t.val - 44) % 44 < 43; omega) y).trans ?_
    refine congrArg₂ (prod (rows m c) (side m c (y 1).val)) ?_ ?_
    · show 2048 * ((t.val - 44) / 44) + (2046 + (y 0).val) = 2048 * (t.val / 44) + (y 0).val - 2; omega
    · show 256 * ((t.val - 44) % 44) + (y 1).val % 256 = 256 * (t.val % 44) + (y 1).val % 256; omega

/-- The products under the two rows carried in. -/
theorem ext_eq (c : Dev nD) (t : Fin cfg0.N) (h : t.val % 44 < 43) (r q : ℕ) (hr : r < 2050) (hq : q < 512) :
    extOf (carryIn (F := Ideal) m c t) (D1 (F := Ideal) (iblk m c 0 t) (iblk m c 1 t)) (D2 (F := Ideal) (iblk m c 0 t) (iblk m c 2 t)) r q
      = ahead (rows m c) (side m c q) (t.val / 44) r (256 * (t.val % 44) + q % 256) := by
  unfold extOf
  by_cases e : r < 2
  · rw [if_pos e]
    refine (carry_eq m c t h _).trans ?_
    show ahead (rows m c) (side m c (q % 512)) (t.val / 44) (r % 2) (256 * (t.val % 44) + q % 512 % 256) = _
    rw [Nat.mod_eq_of_lt e, Nat.mod_eq_of_lt hq]
  · rw [if_neg e, up_eq m c t h (r - 2) q (by omega)]
    unfold ahead
    rw [if_neg fun hh => e hh.1]
    exact congrArg (fun n => prod (rows m c) (side m c q) n (256 * (t.val % 44) + q % 256)) (by omega)

/-- A strip's rows, at the three offsets that the convolution reads them at. -/
theorem lines_eq (c : Dev nD) (t : Fin cfg0.N) (h : t.val % 44 < 43) (s : Fin 8) (o d : ℕ) (ho : o + d = 2) (r : Fin 256) (z : Fin 512) :
    lines (carryIn (F := Ideal) m c t) (D1 (F := Ideal) (iblk m c 0 t) (iblk m c 1 t)) (D2 (F := Ideal) (iblk m c 0 t) (iblk m c 2 t)) s.val o (ix2 r z)
      = past (rows m c) (side m c z.val) (2048 * (t.val / 44) + (256 * s.val + r.val)) d (256 * (t.val % 44) + z.val % 256) := by
  have hs : s.val < 8 := s.isLt
  have hr : r.val < 256 := r.isLt
  refine (ext_eq m c t h (256 * s.val + o + r.val) z.val (by omega) z.isLt).trans ?_
  refine (congrArg (fun n => ahead (rows m c) (side m c z.val) (t.val / 44) n (256 * (t.val % 44) + z.val % 256)) ?_).trans
    (ahead_eq (rows m c) (side m c z.val) (t.val / 44) (256 * s.val + r.val) d (256 * (t.val % 44) + z.val % 256) (by omega) (by omega))
  omega

/-- A strip of a point's block of the result is the result's. -/
theorem gate_eq (c : Dev nD) (t : Fin cfg0.N) (h : t.val % 44 < 43) (s : Fin 8) (r q : Fin 256) :
    (gate (F := Ideal) (iblk m c 0 t) (iblk m c 1 t) (iblk m c 2 t) (iblk m c 3 t) (iblk m c 4 t) (iblk m c 5 t) (iblk m c 6 t) (carryIn m c t) s (ix2 r q) : EReal)
      = gated (conv (rows m c) (weightsA m c) (taps m c) (bias m c) 0 (2048 * (t.val / 44) + (256 * s.val + r.val)) (256 * (t.val % 44) + q.val))
        (conv (rows m c) (weightsG m c) (taps m c) (bias m c) 11008 (2048 * (t.val / 44) + (256 * s.val + r.val)) (256 * (t.val % 44) + q.val)) := by
  have hq : q.val < 256 := q.isLt
  have l : ∀ o d, o + d = 2 → lines (carryIn (F := Ideal) m c t) (D1 (F := Ideal) (iblk m c 0 t) (iblk m c 1 t)) (D2 (F := Ideal) (iblk m c 0 t) (iblk m c 2 t)) s.val o (ix2 r (pt 512 q.val))
      = past (rows m c) (weightsA m c) (2048 * (t.val / 44) + (256 * s.val + r.val)) d (256 * (t.val % 44) + q.val) := fun o d hod => by
    have hz : (pt 512 q.val).val = q.val := Nat.mod_eq_of_lt (by omega)
    rw [lines_eq m c t h s o d hod, hz, Nat.mod_eq_of_lt hq]
    unfold side
    rw [if_pos hq]
  have g : ∀ o d, o + d = 2 → lines (carryIn (F := Ideal) m c t) (D1 (F := Ideal) (iblk m c 0 t) (iblk m c 1 t)) (D2 (F := Ideal) (iblk m c 0 t) (iblk m c 2 t)) s.val o (ix2 r (pt 512 (256 + q.val)))
      = past (rows m c) (weightsG m c) (2048 * (t.val / 44) + (256 * s.val + r.val)) d (256 * (t.val % 44) + q.val) := fun o d hod => by
    have hz : (pt 512 (256 + q.val)).val = 256 + q.val := Nat.mod_eq_of_lt (by omega)
    rw [lines_eq m c t h s o d hod, hz, show (256 + q.val) % 256 = q.val by omega]
    unfold side
    rw [if_neg (by omega)]
  unfold gate
  rw [strip_gated, l 2 0 rfl, l 1 1 rfl, l 0 2 rfl, g 2 0 rfl, g 1 1 rfl, g 0 2 rfl, block3 m c t h 2 q, block3 m c t h 1 q, block3 m c t h 0 q,
    block4 m c t h 2 q, block4 m c t h 1 q, block4 m c t h 0 q, block5 m c t h q, block6 m c t h q]
  rfl

end Cert.FfnIdeal.Result

end
-- ==== Proof.Up.Reference.lean ====
module

public import proofs.«01_k».proof.Proof.Gen.FfnRefIdeal.Read
public import proofs.«01_k».proof.Proof.Up.Target
public import Idealize.ShloMosaic.Lib.IdealHost
public import Idealize.ShloMosaic.Lib.KernelVsHost
public import Idealize.ShloMosaic.Lib.Pipeline.Value

@[expose] public section

/-!
# The reference of the feed-forward layer's first call, read off entry by entry
-/

set_option maxRecDepth 16384

noncomputable section

namespace Cert.Up.Reference

open Idealize.ShloMosaic Idealize.ShloMosaic.TcCoe Idealize.ShloMosaic.ValueIdx
open Cert.FfnRefIdeal Cert.FfnRefIdeal.Gen Cert.FfnRefIdeal.Read

variable (x : S8192x4096.Idx → EReal) (w w' : S4096x11008.Idx → EReal) (cw : S3x22016.Idx → EReal) (cb : S1x22016.Idx → EReal)

/-- The first half's product. -/
theorem product_a (i : S8192x11008.Idx) (r q : ℕ) (hr : (i 0).val = r) (hq : (i 1).val = q) :
    val_main_v3 (F := Ideal) x w i = prod x w r q := by
  have h0 : (i 0).val < 8192 := (i 0).isLt
  have h1 : (i 1).val < 11008 := (i 1).isLt
  refine (val_main_v3_apply x w i).trans (Finset.sum_congr rfl fun k _ =>
    congrArg₂ (fun p q : EReal => p * q) (congrArg x (funext fun a => Fin.ext ?_)) (congrArg w (funext fun a => Fin.ext ?_)))
  · match a with
    | ⟨0, _⟩ => show (i 0).val = r % 8192; omega
    | ⟨1, _⟩ => rfl
  · match a with
    | ⟨0, _⟩ => rfl
    | ⟨1, _⟩ => show (i 1).val = q % 11008; omega

/-- The second half's, which is computed alike. -/
theorem product_g (i : S8192x11008.Idx) (r q : ℕ) (hr : (i 0).val = r) (hq : (i 1).val = q) :
    val_main_v36 (F := Ideal) x w i = prod x w r q := product_a x w i r q hr hq

/-- The product under two rows of zeros, a sequence at a time: `d` rows before a row. -/
theorem under_zeros (i : S2x4098x11008.Idx) (r d q : ℕ) (h0 : (i 0).val = r / 4096) (h1 : (i 1).val + d = r % 4096 + 2)
    (h2 : (i 2).val = q) : val_main_v6 (F := Ideal) x w i = past x w r d q := by
  have b0 : (i 0).val < 2 := (i 0).isLt
  have b1 : (i 1).val < 4098 := (i 1).isLt
  have b2 : (i 2).val < 11008 := (i 2).isLt
  unfold val_main_v6 past
  by_cases h : r % 4096 < d
  · rw [if_pos h]
    refine (concatenate_pair_apply_left (t := S2x4098x11008) (s₁ := S2x2x11008) (s₂ := S2x4096x11008) 1 _ _ _ i rfl
      (ix3 (n0 := 2) (n1 := 2) (n2 := 11008) (i 0) ⟨(i 1).val, by omega⟩ (i 2)) fun a => ?_).trans ?_
    · match a with
      | ⟨0, _⟩ => rfl
      | ⟨1, _⟩ => rfl
      | ⟨2, _⟩ => rfl
    · rw [val_main_v4_apply, val_main_cst_apply]
      exact Ideal.ofBits_zero_f32
  · rw [if_neg h]
    refine (concatenate_pair_apply_right (t := S2x4098x11008) (s₁ := S2x2x11008) (s₂ := S2x4096x11008) 1 _ _ _ i rfl rfl
      (ix3 (n0 := 2) (n1 := 4096) (n2 := 11008) (i 0) ⟨(i 1).val - 2, by omega⟩ (i 2)) (fun a ha => ?_) ?_).trans ?_
    · match a with
      | ⟨0, _⟩ => rfl
      | ⟨1, _⟩ => exact absurd rfl ha
      | ⟨2, _⟩ => rfl
    · show (i 1).val - 2 + 2 = (i 1).val; omega
    · rw [val_main_v5_apply]
      refine product_a x w _ _ _ ?_ ?_
      · show (((i 0).val * 4096 + ((i 1).val - 2)) * 11008 + (i 2).val) / 11008 = r - d; omega
      · show (((i 0).val * 4096 + ((i 1).val - 2)) * 11008 + (i 2).val) % 11008 = q; omega

/-- The same of the second half. -/
theorem under_zeros' (i : S2x4098x11008.Idx) (r d q : ℕ) (h0 : (i 0).val = r / 4096) (h1 : (i 1).val + d = r % 4096 + 2)
    (h2 : (i 2).val = q) : val_main_v39 (F := Ideal) x w i = past x w r d q := under_zeros x w i r d q h0 h1 h2

/-- Sums of four in the reference's order and in ours. -/
theorem reorder (a b c d : EReal) : ((d + c) + b) + a = ((a + b) + c) + d := by
  rw [add_comm _ a, add_comm _ b, add_comm d c, ← add_assoc, ← add_assoc]

/-- The first half, convolved. -/
theorem conv_a (i : S2x4096x11008.Idx) (r q : ℕ) (h0 : (i 0).val = r / 4096) (h1 : (i 1).val = r % 4096) (h2 : (i 2).val = q) :
    val_main_v29 (F := Ideal) x w cw cb i = conv x w cw cb 0 r q := by
  have b2 : (i 2).val < 11008 := (i 2).isLt
  have e0 : val_main_v11 (F := Ideal) cw i = cw (ix2 (0 : Fin 3) (pt 22016 (0 + q))) := by
    rw [val_main_v11_apply, val_main_v10_apply, val_main_v9_apply, val_main_v8_apply, val_main_v0_apply]
    refine congrArg cw (funext fun a => Fin.ext ?_)
    match a with
    | ⟨0, _⟩ => rfl
    | ⟨1, _⟩ => show (i 2).val % 11008 = (0 + q) % 22016; omega
  have e1 : val_main_v20 (F := Ideal) cw i = cw (ix2 (1 : Fin 3) (pt 22016 (0 + q))) := by
    rw [val_main_v20_apply, val_main_v19_apply, val_main_v18_apply, val_main_v17_apply, val_main_v0_apply]
    refine congrArg cw (funext fun a => Fin.ext ?_)
    match a with
    | ⟨0, _⟩ => rfl
    | ⟨1, _⟩ => show (i 2).val % 11008 = (0 + q) % 22016; omega
  have e2 : val_main_v27 (F := Ideal) cw i = cw (ix2 (2 : Fin 3) (pt 22016 (0 + q))) := by
    rw [val_main_v27_apply, val_main_v26_apply, val_main_v25_apply, val_main_v24_apply, val_main_v0_apply]
    refine congrArg cw (funext fun a => Fin.ext ?_)
    match a with
    | ⟨0, _⟩ => rfl
    | ⟨1, _⟩ => show (i 2).val % 11008 = (0 + q) % 22016; omega
  have eb : val_main_v14 (F := Ideal) cb i = cb (ix2 (0 : Fin 1) (pt 22016 (0 + q))) := by
    rw [val_main_v14_apply, val_main_v13_apply, val_main_v2_apply, val_main_v1_apply]
    refine congrArg cb (funext fun a => Fin.ext ?_)
    match a with
    | ⟨0, _⟩ => rfl
    | ⟨1, _⟩ => show (i 2).val % 11008 = (0 + q) % 22016; omega
  rw [val_main_v29_apply, val_main_v22_apply, val_main_v15_apply, val_main_v12_apply, val_main_v7_apply, val_main_v21_apply, val_main_v16_apply, val_main_v28_apply, val_main_v23_apply, e0, e1, e2, eb,
    under_zeros x w _ r 2 q (by exact h0) (by show (i 1).val + 2 = r % 4096 + 2; omega) (by exact h2),
    under_zeros x w _ r 1 q (by exact h0) (by show 1 + (i 1).val + 1 = r % 4096 + 2; omega) (by exact h2),
    under_zeros x w _ r 0 q (by exact h0) (by show 2 + (i 1).val + 0 = r % 4096 + 2; omega) (by exact h2)]
  exact reorder _ _ _ _

/-- The second half, convolved. -/
theorem conv_g (i : S2x4096x11008.Idx) (r q : ℕ) (h0 : (i 0).val = r / 4096) (h1 : (i 1).val = r % 4096) (h2 : (i 2).val = q) :
    val_main_v62 (F := Ideal) x w cw cb i = conv x w cw cb 11008 r q := by
  have b2 : (i 2).val < 11008 := (i 2).isLt
  have e0 : val_main_v44 (F := Ideal) cw i = cw (ix2 (0 : Fin 3) (pt 22016 (11008 + q))) := by
    rw [val_main_v44_apply, val_main_v43_apply, val_main_v42_apply, val_main_v41_apply, val_main_v33_apply]
    refine congrArg cw (funext fun a => Fin.ext ?_)
    match a with
    | ⟨0, _⟩ => rfl
    | ⟨1, _⟩ => show 11008 + (i 2).val % 11008 = (11008 + q) % 22016; omega
  have e1 : val_main_v53 (F := Ideal) cw i = cw (ix2 (1 : Fin 3) (pt 22016 (11008 + q))) := by
    rw [val_main_v53_apply, val_main_v52_apply, val_main_v51_apply, val_main_v50_apply, val_main_v33_apply]
    refine congrArg cw (funext fun a => Fin.ext ?_)
    match a with
    | ⟨0, _⟩ => rfl
    | ⟨1, _⟩ => show 11008 + (i 2).val % 11008 = (11008 + q) % 22016; omega
  have e2 : val_main_v60 (F := Ideal) cw i = cw (ix2 (2 : Fin 3) (pt 22016 (11008 + q))) := by
    rw [val_main_v60_apply, val_main_v59_apply, val_main_v58_apply, val_main_v57_apply, val_main_v33_apply]
    refine congrArg cw (funext fun a => Fin.ext ?_)
    match a with
    | ⟨0, _⟩ => rfl
    | ⟨1, _⟩ => show 11008 + (i 2).val % 11008 = (11008 + q) % 22016; omega
  have eb : val_main_v47 (F := Ideal) cb i = cb (ix2 (0 : Fin 1) (pt 22016 (11008 + q))) := by
    rw [val_main_v47_apply, val_main_v46_apply, val_main_v35_apply, val_main_v34_apply]
    refine congrArg cb (funext fun a => Fin.ext ?_)
    match a with
    | ⟨0, _⟩ => rfl
    | ⟨1, _⟩ => show 11008 + (i 2).val % 11008 = (11008 + q) % 22016; omega
  rw [val_main_v62_apply, val_main_v55_apply, val_main_v48_apply, val_main_v45_apply, val_main_v40_apply, val_main_v54_apply, val_main_v49_apply, val_main_v61_apply, val_main_v56_apply, e0, e1, e2, eb,
    under_zeros' x w _ r 2 q (by exact h0) (by show (i 1).val + 2 = r % 4096 + 2; omega) (by exact h2),
    under_zeros' x w _ r 1 q (by exact h0) (by show 1 + (i 1).val + 1 = r % 4096 + 2; omega) (by exact h2),
    under_zeros' x w _ r 0 q (by exact h0) (by show 2 + (i 1).val + 0 = r % 4096 + 2; omega) (by exact h2)]
  exact reorder _ _ _ _

/-- The first half's last two rows. -/
theorem state_a : val_main_v31 (F := Ideal) x w = state x w := by
  funext i
  have b2 : (i 2).val < 11008 := (i 2).isLt
  rw [val_main_v31_apply, val_main_v30_apply]
  refine product_a x w _ _ _ ?_ ?_
  · show (((i 0).val * 2048 + (2046 + (i 1).val)) * 11008 + (i 2).val) / 11008 = 2048 * (i 0).val + 2046 + (i 1).val; omega
  · show (((i 0).val * 2048 + (2046 + (i 1).val)) * 11008 + (i 2).val) % 11008 = (i 2).val; omega

/-- The second half's. -/
theorem state_g : val_main_v64 (F := Ideal) x w = state x w := state_a x w

/-- The gate as the reference writes it, with the complement of the error function at the negated argument. -/
theorem gate (a g : EReal) :
    a * ((Ideal.ofBits .f32 0x3F000000#32 * g) * Ideal.erfc (-g * Ideal.ofBits .f32 0x3F3504F3#32)) = gated a g := by
  rw [gated, neg_mul, Ideal.erfc_neg, Ideal.ofBits_one_f32]

/-- The gated product, before the padding. -/
theorem gated_eq (i : S8192x11008.Idx) : val_main_v73 (F := Ideal) x w w' cw cb i
    = gated (conv x w cw cb 0 (i 0).val (i 1).val) (conv x w' cw cb 11008 (i 0).val (i 1).val) := by
  have b0 : (i 0).val < 8192 := (i 0).isLt
  have b1 : (i 1).val < 11008 := (i 1).isLt
  rw [val_main_v73_apply, val_main_v72_apply, val_main_v71_apply, val_main_v70_apply, val_main_v69_apply,
    val_main_v68_apply, val_main_v67_apply, val_main_v66_apply, val_main_v65_apply, val_main_v32_apply,
    conv_a x w cw cb _ (i 0).val (i 1).val ?_ ?_ ?_, conv_g x w' cw cb _ (i 0).val (i 1).val ?_ ?_ ?_]
  · exact gate _ _
  all_goals first
    | (show ((i 0).val * 11008 + (i 1).val) / 45088768 = (i 0).val / 4096; omega)
    | (show ((i 0).val * 11008 + (i 1).val) / 11008 % 4096 = (i 0).val % 4096; omega)
    | (show ((i 0).val * 11008 + (i 1).val) % 11008 = (i 1).val; omega)

/-- **The result.** -/
theorem act_eq : val_main_v75 (F := Ideal) x w w' cw cb = act x w w' cw cb := by
  funext i
  rw [val_main_v75_apply]
  show val_main_v74 (F := Ideal) x w w' cw cb i = _
  unfold val_main_v74 act
  by_cases h : (i 1).val < 11008
  · rw [if_pos h]
    refine (pad_apply_of_inside _ _ _ _ _ _ _ i (ix2 (n0 := 8192) (n1 := 11008) (i 0) ⟨(i 1).val, h⟩) fun a => ?_).trans
      (gated_eq x w w' cw cb _)
    match a with
    | ⟨0, _⟩ => show (i 0).val = 0 + (i 0).val * (0 + 1); omega
    | ⟨1, _⟩ => show (i 1).val = 0 + (i 1).val * (0 + 1); omega
  · rw [if_neg h]
    refine (pad_apply_of_not_inside _ _ _ _ _ _ _ i (1 : Fin 2) fun hin => h ?_).trans ?_
    · have := hin.2.2
      show (i 1).val < 11008
      have e : ((i 1).val - 0) / (0 + 1) < 11008 := this
      omega
    · rw [val_main_call0_v0_apply, val_main_c_apply]
      exact sitofp_zero (φ := .f32)

end Cert.Up.Reference

end
-- ==== Proof.Mm.Ffn.lean ====
module

public import proofs.«01_k».proof.Defs
public import proofs.«01_k».proof.Proof.Gen.Ffn
public import proofs.«01_k».proof.Proof.Up.Points
public import proofs.«01_k».proof.Proof.Up.Reference
public import Idealize.ShloMosaic.Lib.IdealHost

@[expose] public section

/-!
# The feed-forward layer's first call: its claims

The points' blocks tile the three results: the gated convolution, and the last two rows of each row block of either
half's product.
-/

set_option maxRecDepth 16384

noncomputable section

open Idealize.ShloMosaic Idealize.ShloMosaic.TcCoe Idealize.SL.Sem Idealize.ShloMosaic.ValueIdx

namespace Cert.FfnIdeal.Result

open Cert.FfnIdeal Cert.FfnIdeal.Gen Cert.Up

variable (m : (ℓ : Loc nD τ sig) → Buf (Elt Ideal) ℓ) (ρ : Dev nD → PrngReg)

/-- The gated convolution of the arguments. -/
abbrev gatedConv (c : Dev nD) : S8192x11264.Idx → EReal := act (rows m c) (weightsA m c) (weightsG m c) (taps m c) (bias m c)

/-- A point's block of the result. -/
theorem out7_eq (c : Dev nD) (t : Fin cfg0.N) (j : S2048x256.Idx) (y : S8192x11264.Idx) (h0 : (y 0).val = 2048 * (t.val / 44) + (j 0).val)
    (h1 : (y 1).val = 256 * (t.val % 44) + (j 1).val) : out7 (F := Ideal) m c t j = gatedConv m c y := by
  have b0 : (j 0).val < 2048 := (j 0).isLt
  have b1 : (j 1).val < 256 := (j 1).isLt
  unfold out7 gatedConv act
  by_cases h : t.val % 44 < 43
  · rw [if_pos h, if_pos (by omega)]
    unfold actOf
    refine (gate_eq m c t h _ _ _).trans ?_
    have e0 : 2048 * (t.val / 44) + (256 * (pt 8 ((j 0).val / 256)).val + (pt 256 (j 0).val).val) = (y 0).val := by
      show 2048 * (t.val / 44) + (256 * ((j 0).val / 256 % 8) + (j 0).val % 256) = (y 0).val; omega
    have e1 : 256 * (t.val % 44) + (pt 256 (j 1).val).val = (y 1).val := by
      show 256 * (t.val % 44) + (j 1).val % 256 = (y 1).val; omega
    rw [e0, e1]
  · rw [if_neg h, if_neg (by omega)]
    exact Ideal.ofBits_zero_bf16

/-- The column block whose two rows a buffer holds after a point. -/
theorem real_point (t : Fin cfg0.N) : (realPt t).val / 44 = t.val / 44 ∧ (realPt t).val % 44 = min (t.val % 44) 42 ∧ (realPt t).val % 44 < 43 := by
  unfold realPt
  by_cases h : t.val % 44 < 43
  · rw [if_pos h]; omega
  · rw [if_neg h]
    show (t.val - 1) / 44 = t.val / 44 ∧ (t.val - 1) % 44 = min (t.val % 44) 42 ∧ (t.val - 1) % 44 < 43
    omega

/-- A point's block of the first half's rows. -/
theorem out8_eq (c : Dev nD) (t : Fin cfg0.N) (j : S1x2x256.Idx) (y : S4x2x11008.Idx) (h0 : (y 0).val = t.val / 44) (h1 : (y 1).val = (j 1).val)
    (h2 : (y 2).val = 256 * min (t.val % 44) 42 + (j 2).val) : out8 (F := Ideal) m c t j = state (rows m c) (weightsA m c) y := by
  have b2 : (j 2).val < 256 := (j 2).isLt
  obtain ⟨r0, r1, r2⟩ := real_point t
  unfold out8 state
  rw [first_read]
  refine (last_eq m c (realPt t) r2 _).trans ?_
  show prod (rows m c) (side m c ((j 2).val % 512)) (2048 * ((realPt t).val / 44) + (2046 + (j 1).val)) (256 * ((realPt t).val % 44) + (j 2).val % 512 % 256) = _
  unfold side
  rw [if_pos (by omega)]
  exact congrArg₂ (prod (rows m c) (weightsA m c)) (by omega) (by omega)

/-- And of the second half's. -/
theorem out9_eq (c : Dev nD) (t : Fin cfg0.N) (j : S1x2x256.Idx) (y : S4x2x11008.Idx) (h0 : (y 0).val = t.val / 44) (h1 : (y 1).val = (j 1).val)
    (h2 : (y 2).val = 256 * min (t.val % 44) 42 + (j 2).val) : out9 (F := Ideal) m c t j = state (rows m c) (weightsG m c) y := by
  have b2 : (j 2).val < 256 := (j 2).isLt
  obtain ⟨r0, r1, r2⟩ := real_point t
  unfold out9 state
  rw [second_read]
  refine (last_eq m c (realPt t) r2 _).trans ?_
  show prod (rows m c) (side m c ((256 + (j 2).val) % 512)) (2048 * ((realPt t).val / 44) + (2046 + (j 1).val)) (256 * ((realPt t).val % 44) + (256 + (j 2).val) % 512 % 256) = _
  unfold side
  rw [if_neg (by omega)]
  exact congrArg₂ (prod (rows m c) (weightsG m c)) (by omega) (by omega)

/-- What a point writes back of the result. -/
theorem cut7 (c : Dev nD) (t : Fin cfg0.N) : (cfg0.win 7).cut (grid0.coords t) (out7 (F := Ideal) m c t)
    = ((cfg0.win 7).blk t).view.read (Elt Ideal) (gatedConv m c) := by
  funext j
  rw [View.read_apply]
  refine out7_eq m c t j _ ?_ ?_
  · show win0_7.index t 0 * 2048 + 1 * (j 0).val = _; rw [(index7 t).1]; omega
  · show win0_7.index t 1 * 256 + 1 * (j 1).val = _; rw [(index7 t).2]; omega

/-- Of the first half's rows. -/
theorem cut8 (c : Dev nD) (t : Fin cfg0.N) : (cfg0.win 8).cut (grid0.coords t) (out8 (F := Ideal) m c t)
    = ((cfg0.win 8).blk t).view.read (Elt Ideal) (state (rows m c) (weightsA m c)) := by
  funext j
  have b0 : (j 0).val < 1 := (j 0).isLt
  rw [View.read_apply]
  refine out8_eq m c t j _ ?_ ?_ ?_
  · show win0_8.index t 0 * 1 + 1 * (j 0).val = _; rw [(index8 t).1]; omega
  · show win0_8.index t 1 * 2 + 1 * (j 1).val = _; rw [(index8 t).2.1]; omega
  · show win0_8.index t 2 * 256 + 1 * (j 2).val = _; rw [(index8 t).2.2]; omega

/-- Of the second half's. -/
theorem cut9 (c : Dev nD) (t : Fin cfg0.N) : (cfg0.win 9).cut (grid0.coords t) (out9 (F := Ideal) m c t)
    = ((cfg0.win 9).blk t).view.read (Elt Ideal) (state (rows m c) (weightsG m c)) := by
  funext j
  have b0 : (j 0).val < 1 := (j 0).isLt
  rw [View.read_apply]
  refine out9_eq m c t j _ ?_ ?_ ?_
  · show win0_9.index t 0 * 1 + 1 * (j 0).val = _; rw [(index9 t).1]; omega
  · show win0_9.index t 1 * 2 + 1 * (j 1).val = _; rw [(index9 t).2.1]; omega
  · show win0_9.index t 2 * 256 + 1 * (j 2).val = _; rw [(index9 t).2.2]; omega

/-- The points' blocks tile the result. -/
theorem covered7 (i : S8192x11264.Idx) : ∃ t : Fin cfg0.N, i ∈ ((cfg0.win 7).blk t).view.set := by
  have h0 : (i 0).val < 8192 := (i 0).isLt
  have h1 : (i 1).val < 11264 := (i 1).isLt
  obtain ⟨n, hn⟩ : ∃ n, n = 44 * ((i 0).val / 2048) + (i 1).val / 256 := ⟨_, rfl⟩
  let t : Fin cfg0.N := ⟨n, lt_of_lt_of_eq (by omega) N_0.symm⟩
  refine ⟨t, ?_⟩
  show i ∈ ((View.whole main_v0_0).slice (win0_7.rect t)).set
  rw [View.set_slice_whole, Rect.mem_set_unit]
  intro a
  match a with
  | ⟨0, _⟩ =>
    show win0_7.index t 0 * 2048 ≤ (i 0).val ∧ (i 0).val < win0_7.index t 0 * 2048 + 2048; rw [(index7 t).1]
    show n / 44 * 2048 ≤ (i 0).val ∧ (i 0).val < n / 44 * 2048 + 2048; omega
  | ⟨1, _⟩ =>
    show win0_7.index t 1 * 256 ≤ (i 1).val ∧ (i 1).val < win0_7.index t 1 * 256 + 256; rw [(index7 t).2]
    show n % 44 * 256 ≤ (i 1).val ∧ (i 1).val < n % 44 * 256 + 256; omega

/-- The point after which an entry of the two rows is written back. -/
theorem state_point (i : S4x2x11008.Idx) : ∃ t : Fin cfg0.N, t.val % 44 ≠ 42 ∧ t.val / 44 = (i 0).val ∧ min (t.val % 44) 42 = (i 2).val / 256 := by
  have h0 : (i 0).val < 4 := (i 0).isLt
  have h2 : (i 2).val < 11008 := (i 2).isLt
  by_cases h : (i 2).val / 256 = 42
  · refine ⟨⟨44 * (i 0).val + 43, lt_of_lt_of_eq (by omega) N_0.symm⟩, ?_⟩
    show (44 * (i 0).val + 43) % 44 ≠ 42 ∧ (44 * (i 0).val + 43) / 44 = (i 0).val ∧ min ((44 * (i 0).val + 43) % 44) 42 = (i 2).val / 256
    omega
  · refine ⟨⟨44 * (i 0).val + (i 2).val / 256, lt_of_lt_of_eq (by omega) N_0.symm⟩, ?_⟩
    show (44 * (i 0).val + (i 2).val / 256) % 44 ≠ 42 ∧ (44 * (i 0).val + (i 2).val / 256) / 44 = (i 0).val
      ∧ min ((44 * (i 0).val + (i 2).val / 256) % 44) 42 = (i 2).val / 256
    omega

/-- The points' blocks tile the first half's rows, -/
theorem covered8 (i : S4x2x11008.Idx) : ∃ t : Fin cfg0.N, win0_8.flush t = true ∧ i ∈ ((cfg0.win 8).blk t).view.set := by
  obtain ⟨t, e, e0, e2⟩ := state_point i
  have h1 : (i 1).val < 2 := (i 1).isLt
  refine ⟨t, flushed8 t e, ?_⟩
  show i ∈ ((View.whole main_v0_1).slice (win0_8.rect t)).set
  rw [View.set_slice_whole, Rect.mem_set_unit]
  intro a
  match a with
  | ⟨0, _⟩ => show win0_8.index t 0 * 1 ≤ (i 0).val ∧ (i 0).val < win0_8.index t 0 * 1 + 1; rw [(index8 t).1]; omega
  | ⟨1, _⟩ => show win0_8.index t 1 * 2 ≤ (i 1).val ∧ (i 1).val < win0_8.index t 1 * 2 + 2; rw [(index8 t).2.1]; omega
  | ⟨2, _⟩ => show win0_8.index t 2 * 256 ≤ (i 2).val ∧ (i 2).val < win0_8.index t 2 * 256 + 256; rw [(index8 t).2.2]; omega

/-- and the second half's. -/
theorem covered9 (i : S4x2x11008.Idx) : ∃ t : Fin cfg0.N, win0_9.flush t = true ∧ i ∈ ((cfg0.win 9).blk t).view.set := by
  obtain ⟨t, e, e0, e2⟩ := state_point i
  have h1 : (i 1).val < 2 := (i 1).isLt
  refine ⟨t, flushed9 t e, ?_⟩
  show i ∈ ((View.whole main_v0_2).slice (win0_9.rect t)).set
  rw [View.set_slice_whole, Rect.mem_set_unit]
  intro a
  match a with
  | ⟨0, _⟩ => show win0_9.index t 0 * 1 ≤ (i 0).val ∧ (i 0).val < win0_9.index t 0 * 1 + 1; rw [(index9 t).1]; omega
  | ⟨1, _⟩ => show win0_9.index t 1 * 2 ≤ (i 1).val ∧ (i 1).val < win0_9.index t 1 * 2 + 2; rw [(index9 t).2.1]; omega
  | ⟨2, _⟩ => show win0_9.index t 2 * 256 ≤ (i 2).val ∧ (i 2).val < win0_9.index t 2 * 256 + 256; rw [(index9 t).2.2]; omega

/-- **The result is the gated convolution.** -/
theorem final7 (c : Dev nD) : (dats m 0 c).arrAt 7 cfg0.N = (gatedConv m c : Buf (Elt Ideal) ((c.tc : Thread nD τ).loc main_v0_0)) :=
  (dats m 0 c).arrAt_eq_of_cover 7 _ (fun t _ => by
      show (cfg0.win 7).cut (grid0.coords t) ((dats m 0 c).after 7 t) = _
      rw [after0_7]
      exact cut7 m c t) fun i => by
    obtain ⟨t, h⟩ := covered7 i
    exact ⟨t, flush0_7 t, h⟩

/-- **The first half's last two rows.** -/
theorem final8 (c : Dev nD) : (dats m 0 c).arrAt 8 cfg0.N
    = (state (rows m c) (weightsA m c) : Buf (Elt Ideal) ((c.tc : Thread nD τ).loc main_v0_1)) :=
  (dats m 0 c).arrAt_eq_of_cover 8 _ (fun t _ => by
      show (cfg0.win 8).cut (grid0.coords t) ((dats m 0 c).after 8 t) = _
      rw [after0_8]
      exact cut8 m c t) fun i => by
    obtain ⟨t, hf, h⟩ := covered8 i
    exact ⟨t, hf, h⟩

/-- **The second half's.** -/
theorem final9 (c : Dev nD) : (dats m 0 c).arrAt 9 cfg0.N
    = (state (rows m c) (weightsG m c) : Buf (Elt Ideal) ((c.tc : Thread nD τ).loc main_v0_2)) :=
  (dats m 0 c).arrAt_eq_of_cover 9 _ (fun t _ => by
      show (cfg0.win 9).cut (grid0.coords t) ((dats m 0 c).after 9 t) = _
      rw [after0_9]
      exact cut9 m c t) fun i => by
    obtain ⟨t, hf, h⟩ := covered9 i
    exact ⟨t, hf, h⟩

end Cert.FfnIdeal.Result

namespace Cert.Proof.FfnClaims

open Cert.Up

section Same

variable {F : FTy → Type} [FloatOps F]

/-- The kernel and its reading over the extended reals are printed as two programs, whose bodies are one. -/
theorem bodies : Cert.Ffn.defs₀ (F := F) = Cert.FfnIdeal.defs₀ (F := F) := by
  unfold Cert.Ffn.defs₀ Cert.FfnIdeal.defs₀
  congr 1
  funext l a
  match l, a with
  | ⟨0, _⟩, (t, s) => exact rfl

/-- So the tables of their bodies are one. -/
theorem tables : Cert.Ffn.defs (F := F) = Cert.FfnIdeal.defs (F := F) := congrArg (Pipeline.defs Cert.Ffn.pcfgs) bodies

end Same

/-- The kernel runs and leaves its arguments alone: what is proved of the other printing, at any arithmetic. -/
theorem frame_k : Cert.quiescent_Ffn (hFfn := Cert.Ffn.Gen.facts) := fun m ρ _ => by
  have h := Cert.FfnIdeal.Gen.frame (F := Bits) m ρ
  rw [← tables] at h
  exact h

/-- So does its reading over the extended reals. -/
theorem frame_ki : Cert.quiescent_FfnIdeal (hFfnIdeal := Cert.FfnIdeal.Gen.facts) := fun m ρ _ => Cert.FfnIdeal.Gen.frame m ρ

/-- So does the reference's. -/
theorem frame_ri : Cert.quiescent_FfnRefIdeal (hFfnRefIdeal := Cert.FfnRefIdeal.Gen.facts) := fun m ρ _ =>
  (θ_run Cert.FfnRefIdeal.defs _ _).mono (fun r h => ⟨fun c => (h c).2.2.2,
      Idealize.ShloMosaic.sem_eq_zero_of_no_sems (by decide) r.2⟩)
    (Cert.FfnRefIdeal.Value.run (F := Ideal) m ρ)

/-- **The kernel and the reference end with the same three results.** -/
theorem algebraic : Cert.algebraic_FfnIdeal_FfnRefIdeal (hFfnIdeal := Cert.FfnIdeal.Gen.facts)
    (hFfnRefIdeal := Cert.FfnRefIdeal.Gen.facts) := by
  intro m ρ m' ρ' hpre hagree
  refine ⟨fun c => Cert.FfnIdeal.Result.gatedConv m c,
    fun c => state (Cert.FfnIdeal.Result.rows m c) (Cert.FfnIdeal.Result.weightsA m c),
    fun c => state (Cert.FfnIdeal.Result.rows m c) (Cert.FfnIdeal.Result.weightsG m c), ?_, ?_⟩
  · refine (θ_run Cert.FfnIdeal.defs _ _).mono (fun r h c => ⟨((h.1 c).1 7).trans (Cert.FfnIdeal.Result.final7 m c),
        ((h.1 c).1 8).trans (Cert.FfnIdeal.Result.final8 m c), ((h.1 c).1 9).trans (Cert.FfnIdeal.Result.final9 m c), h.2 c⟩)
      (θ_run_and (Cert.FfnIdeal.Gen.run_main (F := Ideal) m ρ) (Cert.FfnIdeal.Gen.unchanged (F := Ideal) m ρ))
  · refine (θ_run Cert.FfnRefIdeal.defs _ _).mono (fun _ h c => ⟨(h c).1.trans ?_, (h c).2.1.trans ?_, (h c).2.2.1.trans ?_, (h c).2.2.2⟩)
      (Cert.FfnRefIdeal.Value.run (F := Ideal) m' ρ')
    · rw [Cert.FfnRefIdeal.Read.val_main_v75_eq, (hagree c).1, (hagree c).2.1, (hagree c).2.2.1, (hagree c).2.2.2.1, (hagree c).2.2.2.2]
      exact Reference.act_eq _ _ _ _ _
    · rw [Cert.FfnRefIdeal.Read.val_main_v31_eq, (hagree c).1, (hagree c).2.1]
      exact Reference.state_a _ _
    · rw [Cert.FfnRefIdeal.Read.val_main_v64_eq, (hagree c).1, (hagree c).2.2.1]
      exact Reference.state_g _ _

end Cert.Proof.FfnClaims

end
-- ==== Proof.lean ====
module

public import proofs.«01_k».proof.Defs
public import proofs.«01_k».proof.Proof.Band.Claims
public import proofs.«01_k».proof.Proof.Mm.Even
public import proofs.«01_k».proof.Proof.Mm.Odd
public import proofs.«01_k».proof.Proof.Mm.Memory
public import proofs.«01_k».proof.Proof.Mm.Out
public import proofs.«01_k».proof.Proof.Mm.Down
public import proofs.«01_k».proof.Proof.Mm.Ffn

@[expose] public section

noncomputable section

namespace Cert.Proof

/-- Everything the certificate claims. -/
theorem claim : Cert.Claim :=
  ⟨Cert.Band.Gen.facts, Cert.BandIdeal.Gen.facts, Cert.BandRefIdeal.Gen.facts,
    Cert.Even.Gen.facts, Cert.EvenIdeal.Gen.facts, Cert.EvenRefIdeal.Gen.facts,
    Cert.Odd.Gen.facts, Cert.OddIdeal.Gen.facts, Cert.OddRefIdeal.Gen.facts,
    Cert.Memory.Gen.facts, Cert.MemoryIdeal.Gen.facts, Cert.MemoryRefIdeal.Gen.facts,
    Cert.Out.Gen.facts, Cert.OutIdeal.Gen.facts, Cert.OutRefIdeal.Gen.facts,
    Cert.Down.Gen.facts, Cert.DownIdeal.Gen.facts, Cert.DownRefIdeal.Gen.facts,
    Cert.Ffn.Gen.facts, Cert.FfnIdeal.Gen.facts, Cert.FfnRefIdeal.Gen.facts, BandClaims.pre_facts,
    BandClaims.frame_k, BandClaims.frame_ki, fun m ρ _ => BandClaims.frame_ki m ρ trivial,
    BandClaims.frame_ri, fun m ρ _ => BandClaims.frame_ri m ρ trivial,
    EvenClaims.frame_k, EvenClaims.frame_ki, EvenClaims.frame_ri,
    OddClaims.frame_k, OddClaims.frame_ki, OddClaims.frame_ri,
    MemoryClaims.frame_k, MemoryClaims.frame_ki, MemoryClaims.frame_ri,
    OutClaims.frame_k, OutClaims.frame_ki, OutClaims.frame_ri,
    DownClaims.frame_k, DownClaims.frame_ki, DownClaims.frame_ri,
    FfnClaims.frame_k, FfnClaims.frame_ki, FfnClaims.frame_ri,
    BandClaims.preserves, BandClaims.algebraic,
    trivial, EvenClaims.algebraic,
    trivial, OddClaims.algebraic,
    trivial, MemoryClaims.algebraic,
    trivial, OutClaims.algebraic,
    trivial, DownClaims.algebraic,
    trivial, FfnClaims.algebraic⟩

end Cert.Proof

end
